-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v85) = v0 c
          ∧ r.2.mem ((c.tc : Thread Cert.Reference2Ideal.nD Cert.Reference2Ideal.τ).loc Cert.Reference2Ideal.main_v86) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_2)) (v2 : (c : Dev Cert.Kernel3Ideal.nD) → Buf (Elt Ideal) ((c.tc : Thread Cert.Kernel3Ideal.nD Cert.Kernel3Ideal.τ).loc Cert.Kernel3Ideal.main_v13_3)) (v3 : (c : Dev Cert.Kernel3Ideal.nD) → Buf (Elt Ideal) ((c.tc : Thread Cert.Kernel3Ideal.nD Cert.Kernel3Ideal.τ).loc Cert.Kernel3Ideal.main_v13_4)) (v4 : (c : Dev Cert.Kernel3Ideal.nD) → Buf (Elt Ideal) ((c.tc : Thread Cert.Kernel3Ideal.nD Cert.Kernel3Ideal.τ).loc Cert.Kernel3Ideal.main_v13_5)) (v5 : (c : Dev Cert.Kernel3Ideal.nD) → Buf (Elt Ideal) ((c.tc : Thread Cert.Kernel3Ideal.nD Cert.Kernel3Ideal.τ).loc Cert.Kernel3Ideal.main_v13_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_2) = v1 c
          ∧ r.2.mem ((c.tc : Thread Cert.Kernel3Ideal.nD Cert.Kernel3Ideal.τ).loc Cert.Kernel3Ideal.main_v13_3) = v2 c
          ∧ r.2.mem ((c.tc : Thread Cert.Kernel3Ideal.nD Cert.Kernel3Ideal.τ).loc Cert.Kernel3Ideal.main_v13_4) = v3 c
          ∧ r.2.mem ((c.tc : Thread Cert.Kernel3Ideal.nD Cert.Kernel3Ideal.τ).loc Cert.Kernel3Ideal.main_v13_5) = v4 c
          ∧ r.2.mem ((c.tc : Thread Cert.Kernel3Ideal.nD Cert.Kernel3Ideal.τ).loc Cert.Kernel3Ideal.main_v13_6) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_v47) = v2 c
          ∧ r.2.mem ((c.tc : Thread Cert.Reference3Ideal.nD Cert.Reference3Ideal.τ).loc Cert.Reference3Ideal.main_v48) = v3 c
          ∧ r.2.mem ((c.tc : Thread Cert.Reference3Ideal.nD Cert.Reference3Ideal.τ).loc Cert.Reference3Ideal.main_v49) = v4 c
          ∧ r.2.mem ((c.tc : Thread Cert.Reference3Ideal.nD Cert.Reference3Ideal.τ).loc Cert.Reference3Ideal.main_v50) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_2)) (v2 : (c : Dev Cert.Kernel4Ideal.nD) → Buf (Elt Ideal) ((c.tc : Thread Cert.Kernel4Ideal.nD Cert.Kernel4Ideal.τ).loc Cert.Kernel4Ideal.main_v11_3)) (v3 : (c : Dev Cert.Kernel4Ideal.nD) → Buf (Elt Ideal) ((c.tc : Thread Cert.Kernel4Ideal.nD Cert.Kernel4Ideal.τ).loc Cert.Kernel4Ideal.main_v11_4)) (v4 : (c : Dev Cert.Kernel4Ideal.nD) → Buf (Elt Ideal) ((c.tc : Thread Cert.Kernel4Ideal.nD Cert.Kernel4Ideal.τ).loc Cert.Kernel4Ideal.main_v11_5)) (v5 : (c : Dev Cert.Kernel4Ideal.nD) → Buf (Elt Ideal) ((c.tc : Thread Cert.Kernel4Ideal.nD Cert.Kernel4Ideal.τ).loc Cert.Kernel4Ideal.main_v11_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_2) = v1 c
          ∧ r.2.mem ((c.tc : Thread Cert.Kernel4Ideal.nD Cert.Kernel4Ideal.τ).loc Cert.Kernel4Ideal.main_v11_3) = v2 c
          ∧ r.2.mem ((c.tc : Thread Cert.Kernel4Ideal.nD Cert.Kernel4Ideal.τ).loc Cert.Kernel4Ideal.main_v11_4) = v3 c
          ∧ r.2.mem ((c.tc : Thread Cert.Kernel4Ideal.nD Cert.Kernel4Ideal.τ).loc Cert.Kernel4Ideal.main_v11_5) = v4 c
          ∧ r.2.mem ((c.tc : Thread Cert.Kernel4Ideal.nD Cert.Kernel4Ideal.τ).loc Cert.Kernel4Ideal.main_v11_6) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_v43) = v1 c
          ∧ r.2.mem ((c.tc : Thread Cert.Reference4Ideal.nD Cert.Reference4Ideal.τ).loc Cert.Reference4Ideal.main_v44) = v2 c
          ∧ r.2.mem ((c.tc : Thread Cert.Reference4Ideal.nD Cert.Reference4Ideal.τ).loc Cert.Reference4Ideal.main_v46) = v3 c
          ∧ r.2.mem ((c.tc : Thread Cert.Reference4Ideal.nD Cert.Reference4Ideal.τ).loc Cert.Reference4Ideal.main_v48) = v4 c
          ∧ r.2.mem ((c.tc : Thread Cert.Reference4Ideal.nD Cert.Reference4Ideal.τ).loc Cert.Reference4Ideal.main_v50) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v76) = v0 c
          ∧ r.2.mem ((c.tc : Thread Cert.Reference5Ideal.nD Cert.Reference5Ideal.τ).loc Cert.Reference5Ideal.main_v78) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v14_0)) (v1 : (c : Dev Cert.Kernel8Ideal.nD) → Buf (Elt Ideal) ((c.tc : Thread Cert.Kernel8Ideal.nD Cert.Kernel8Ideal.τ).loc Cert.Kernel8Ideal.main_v14_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14_0) = v0 c
          ∧ r.2.mem ((c.tc : Thread Cert.Kernel8Ideal.nD Cert.Kernel8Ideal.τ).loc Cert.Kernel8Ideal.main_v14_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v61) = v0 c
          ∧ r.2.mem ((c.tc : Thread Cert.Reference8Ideal.nD Cert.Reference8Ideal.τ).loc Cert.Reference8Ideal.main_v62) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_scores.lean ====
abbrev S2x8192x8x64 : Shape := ⟨4, ![2, 8192, 8, 64]⟩
abbrev S2x8x8192 : Shape := ⟨3, ![2, 8, 8192]⟩
abbrev S_ : Shape := ⟨0, ![]⟩

class Facts : Prop where
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_
  h_S_ : 0 < S_.numel
  bcast_S_S2x8x8192 : S_.BroadcastsInDim S2x8x8192 (![] : Fin 0 → Fin S2x8x8192.rank)
  reducesTo_S2x8x8192_S_d0_1_2 : S2x8x8192.ReducesTo [0, 1, 2] S_

variable [Facts]

def fn {F : FTy → Type} [FloatOps F] (main_arg0 : FVec F S2x8192x8x64 .f32) (main_arg1 : FVec F S2x8192x8x64 .f32) (main_arg2 : FVec F S2x8192x8x64 .f32) (main_arg3 : FVec F S2x8x8192 .f32) : IVec S_ 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_c : IVec S_ 1 := constantI S_ 1 1#1
  let main_v3 : IVec S_ 1 := (fun x v => Host.reduce IntOp.andi x v reducesTo_S2x8192x8x64_S_d0_1_2_3 h_S_) main_v2 main_c
  let main_v4 : FVec F S2x8192x8x64 .f32 := Host.absf main_arg1
  let main_cst_0 : FVec F S_ .f32 := constant S_ .f32 0x7F800000#32
  let main_v5 : FVec F S2x8192x8x64 .f32 := broadcastInDim S2x8192x8x64 ![] bcast_S_S2x8192x8x64 main_cst_0
  let main_v6 : IVec S2x8192x8x64 1 := cmpf .olt main_v4 main_v5
  let main_c_1 : IVec S_ 1 := constantI S_ 1 1#1
  let main_v7 : IVec S_ 1 := (fun x v => Host.reduce IntOp.andi x v reducesTo_S2x8192x8x64_S_d0_1_2_3 h_S_) main_v6 main_c_1
  let main_v8 : IVec S_ 1 := andi main_v3 main_v7
  let main_v9 : FVec F S2x8x8192 .f32 := Host.absf main_arg3
  let main_cst_2 : FVec F S_ .f32 := constant S_ .f32 0x7F800000#32
  let main_v10 : FVec F S2x8x8192 .f32 := broadcastInDim S2x8x8192 ![] bcast_S_S2x8x8192 main_cst_2
  let main_v11 : IVec S2x8x8192 1 := cmpf .olt main_v9 main_v10
  let main_c_3 : IVec S_ 1 := constantI S_ 1 1#1
  let main_v12 : IVec S_ 1 := (fun x v => Host.reduce IntOp.andi x v reducesTo_S2x8x8192_S_d0_1_2 h_S_) main_v11 main_c_3
  let main_v13 : IVec S_ 1 := andi main_v8 main_v12
  main_v13
-- ==== Kernel.lean ====
abbrev S2x8192x8x64 : Shape := ⟨4, ![2, 8192, 8, 64]⟩
abbrev S2x8x8192 : Shape := ⟨3, ![2, 8, 8192]⟩
abbrev S16384x512 : Shape := ⟨2, ![16384, 512]⟩
abbrev S2x4x2x8192 : Shape := ⟨4, ![2, 4, 2, 8192]⟩
abbrev S1024x128 : Shape := ⟨2, ![1024, 128]⟩
abbrev S8192x128 : Shape := ⟨2, ![8192, 128]⟩
abbrev S1x1x2x8192 : Shape := ⟨4, ![1, 1, 2, 8192]⟩
abbrev S1x128 : Shape := ⟨2, ![1, 128]⟩
abbrev S1x1x2x128 : Shape := ⟨4, ![1, 1, 2, 128]⟩
abbrev S2x128 : Shape := ⟨2, ![2, 128]⟩
abbrev S2x1 : Shape := ⟨2, ![2, 1]⟩
abbrev S1024x1 : Shape := ⟨2, ![1024, 1]⟩
abbrev S2048x128 : Shape := ⟨2, ![2048, 128]⟩
abbrev S1x1x2x2048 : Shape := ⟨4, ![1, 1, 2, 2048]⟩
abbrev S2x2048 : Shape := ⟨2, ![2, 2048]⟩
abbrev S1024x2048 : Shape := ⟨2, ![1024, 2048]⟩
abbrev S1x1 : Shape := ⟨2, ![1, 1]⟩
abbrev S1x2048 : Shape := ⟨2, ![1, 2048]⟩
abbrev S1024 : Shape := ⟨1, ![1024]⟩
abbrev S1x1x2x1024 : Shape := ⟨4, ![1, 1, 2, 1024]⟩
abbrev S2x1024 : Shape := ⟨2, ![2, 1024]⟩
abbrev S1024x1024 : Shape := ⟨2, ![1024, 1024]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S2x8x8192, .f32⟩
  | .hbm, ⟨4, _⟩ => ⟨S16384x512, .f32⟩
  | .hbm, ⟨5, _⟩ => ⟨S16384x512, .bf16⟩
  | .hbm, ⟨6, _⟩ => ⟨S16384x512, .f32⟩
  | .hbm, ⟨7, _⟩ => ⟨S16384x512, .bf16⟩
  | .hbm, ⟨8, _⟩ => ⟨S16384x512, .f32⟩
  | .hbm, ⟨9, _⟩ => ⟨S2x4x2x8192, .f32⟩
  | .hbm, ⟨10, _⟩ => ⟨S16384x512, .bf16⟩
  | .local _ .vmem, ⟨0, _⟩ => ⟨S1024x128, .f32⟩
  | .local _ .vmem, ⟨1, _⟩ => ⟨S1024x128, .f32⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x1x2x8192, .f32⟩
  | .local _ .vmem, ⟨7, _⟩ => ⟨S1x1x2x8192, .f32⟩
  | .local _ .vmem, ⟨8, _⟩ => ⟨S1024x128, .bf16⟩
  | .local _ .vmem, ⟨9, _⟩ => ⟨S1024x128, .bf16⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c1024_i32 : BitVec 32 := 1024#32
  let v0 : BitVec 32 := Scalar.muli arg2 c1024_i32
  v0
def k0_off1 (i : grid0.Coords) : Fin 4 → Nat :=
  let c0_3 : Index := 0#32
  let c0_4 : Index := 0#32
  let c0_5 : Index := 0#32
  let arg2 : BitVec 32 := BitVec.ofNat 32 (i 2).val
  let c1024_i32 : BitVec 32 := 1024#32
  let v0 : BitVec 32 := Scalar.muli arg2 c1024_i32
  let v18 : BitVec 32 := v0
  let v19 : Index := Scalar.indexCast v18
  ![0, 0, 0, v19.toNat]
@[reducible] def k0_t1_loop (i : grid0.Coords) : Scf.Loop 32 :=
  let c0_i32_13 : BitVec 32 := 0#32
  let arg2 : BitVec 32 := BitVec.ofNat 32 (i 2).val
  let c1024_i32 : BitVec 32 := 1024#32
  let v0 : BitVec 32 := Scalar.muli arg2 c1024_i32
  let c0_i32 : BitVec 32 := 0#32
  let v27 : BitVec 1 := Scalar.cmpi .sgt v0 c0_i32
  let v28 : BitVec 32 := Scalar.extui v27
  let c0_i32_9 : BitVec 32 := 0#32
  let v29 : BitVec 1 := Scalar.cmpi .slt v0 c0_i32_9
  let v30 : BitVec 32 := Scalar.extui v29
  let v31 : BitVec 32 := Scalar.subi v28 v30
  let c2048_i32 : BitVec 32 := 2048#32
  let c0_i32_10 : BitVec 32 := 0#32
  let v32 : BitVec 1 := Scalar.cmpi .sgt c2048_i32 c0_i32_10
  let v33 : BitVec 32 := Scalar.extui v32
  let c0_i32_11 : BitVec 32 := 0#32
  let v34 : BitVec 1 := Scalar.cmpi .slt c2048_i32 c0_i32_11
  let v35 : BitVec 32 := Scalar.extui v34
  let v36 : BitVec 32 := Scalar.subi v33 v35
  let v37 : BitVec 1 := Scalar.cmpi .ne v31 v36
  let v38 : BitVec 32 := Scalar.remsi v0 c2048_i32
  let c0_i32_12 : BitVec 32 := 0#32
  let v39 : BitVec 1 := Scalar.cmpi .ne v38 c0_i32_12
  let v40 : BitVec 1 := Scalar.andi v37 v39
  let v26 : BitVec 32 := Scalar.divsi v0 c2048_i32
  let c1_i32 : BitVec 32 := 1#32
  let v41 : BitVec 32 := Scalar.subi v26 c1_i32
  let v42 : BitVec 32 := Scalar.select v40 v41 v26
  let v43 : BitVec 32 := Scalar.subi v42 c0_i32_13
  let c1_i32_14 : BitVec 32 := 1#32
  let v45 : BitVec 32 := Scalar.divsi v43 c1_i32_14
  let v46 : BitVec 32 := Scalar.muli v45 c1_i32_14
  let v47 : BitVec 32 := Scalar.addi c0_i32_13 v46
  let c1_i32_15 : BitVec 32 := 1#32
  ⟨c0_i32_13, v47, c1_i32_15⟩
def k0_mult2 (i : grid0.Coords) (k0_t1 : Fin (k0_t1_loop i).trips) : BitVec 32 :=
  let c0_i32_13 : BitVec 32 := 0#32
  let c1_i32_15 : BitVec 32 := 1#32
  let arg8 : BitVec 32 := Scf.iv c0_i32_13 c1_i32_15 k0_t1
  let c2048_i32_32 : BitVec 32 := 2048#32
  let v85 : BitVec 32 := Scalar.muli arg8 c2048_i32_32
  v85
def k0_off2 (i : grid0.Coords) (k0_t1 : Fin (k0_t1_loop i).trips) : Fin 2 → Nat :=
  let c0_i32_13 : BitVec 32 := 0#32
  let c1_i32_15 : BitVec 32 := 1#32
  let arg8 : BitVec 32 := Scf.iv c0_i32_13 c1_i32_15 k0_t1
  let c2048_i32_32 : BitVec 32 := 2048#32
  let v85 : BitVec 32 := Scalar.muli arg8 c2048_i32_32
  let v86 : BitVec 32 := v85
  let v87 : Index := Scalar.indexCast v86
  let c0_33 : Index := 0#32
  ![v87.toNat, 0]
def k0_off3 (i : grid0.Coords) (k0_t1 : Fin (k0_t1_loop i).trips) : Fin 4 → Nat :=
  let c0_35 : Index := 0#32
  let c0_36 : Index := 0#32
  let c0_37 : Index := 0#32
  let c0_i32_13 : BitVec 32 := 0#32
  let c1_i32_15 : BitVec 32 := 1#32
  let arg8 : BitVec 32 := Scf.iv c0_i32_13 c1_i32_15 k0_t1
  let c2048_i32_32 : BitVec 32 := 2048#32
  let v85 : BitVec 32 := Scalar.muli arg8 c2048_i32_32
  let v86 : BitVec 32 := v85
  let v93 : Index := Scalar.indexCast v86
  ![0, 0, 0, v93.toNat]
@[reducible] def k0_t2_loop (i : grid0.Coords) : Scf.Loop 32 :=
  let c0_i32_13 : BitVec 32 := 0#32
  let arg2 : BitVec 32 := BitVec.ofNat 32 (i 2).val
  let c1024_i32 : BitVec 32 := 1024#32
  let v0 : BitVec 32 := Scalar.muli arg2 c1024_i32
  let c0_i32 : BitVec 32 := 0#32
  let v27 : BitVec 1 := Scalar.cmpi .sgt v0 c0_i32
  let v28 : BitVec 32 := Scalar.extui v27
  let c0_i32_9 : BitVec 32 := 0#32
  let v29 : BitVec 1 := Scalar.cmpi .slt v0 c0_i32_9
  let v30 : BitVec 32 := Scalar.extui v29
  let v31 : BitVec 32 := Scalar.subi v28 v30
  let c2048_i32 : BitVec 32 := 2048#32
  let c0_i32_10 : BitVec 32 := 0#32
  let v32 : BitVec 1 := Scalar.cmpi .sgt c2048_i32 c0_i32_10
  let v33 : BitVec 32 := Scalar.extui v32
  let c0_i32_11 : BitVec 32 := 0#32
  let v34 : BitVec 1 := Scalar.cmpi .slt c2048_i32 c0_i32_11
  let v35 : BitVec 32 := Scalar.extui v34
  let v36 : BitVec 32 := Scalar.subi v33 v35
  let v37 : BitVec 1 := Scalar.cmpi .ne v31 v36
  let v38 : BitVec 32 := Scalar.remsi v0 c2048_i32
  let c0_i32_12 : BitVec 32 := 0#32
  let v39 : BitVec 1 := Scalar.cmpi .ne v38 c0_i32_12
  let v40 : BitVec 1 := Scalar.andi v37 v39
  let v26 : BitVec 32 := Scalar.divsi v0 c2048_i32
  let c1_i32 : BitVec 32 := 1#32
  let v41 : BitVec 32 := Scalar.subi v26 c1_i32
  let v42 : BitVec 32 := Scalar.select v40 v41 v26
  let v43 : BitVec 32 := Scalar.subi v42 c0_i32_13
  let c1_i32_14 : BitVec 32 := 1#32
  let v45 : BitVec 32 := Scalar.divsi v43 c1_i32_14
  let v46 : BitVec 32 := Scalar.muli v45 c1_i32_14
  let v47 : BitVec 32 := Scalar.addi c0_i32_13 v46
  let v44 : BitVec 32 := Scalar.addi c0_i32_13 v43
  let c1_i32_16 : BitVec 32 := 1#32
  ⟨v47, v44, c1_i32_16⟩
def k0_mult3 (i : grid0.Coords) (k0_t2 : Fin (k0_t2_loop i).trips) : BitVec 32 :=
  let c0_i32_13 : BitVec 32 := 0#32
  let arg2 : BitVec 32 := BitVec.ofNat 32 (i 2).val
  let c1024_i32 : BitVec 32 := 1024#32
  let v0 : BitVec 32 := Scalar.muli arg2 c1024_i32
  let c0_i32 : BitVec 32 := 0#32
  let v27 : BitVec 1 := Scalar.cmpi .sgt v0 c0_i32
  let v28 : BitVec 32 := Scalar.extui v27
  let c0_i32_9 : BitVec 32 := 0#32
  let v29 : BitVec 1 := Scalar.cmpi .slt v0 c0_i32_9
  let v30 : BitVec 32 := Scalar.extui v29
  let v31 : BitVec 32 := Scalar.subi v28 v30
  let c2048_i32 : BitVec 32 := 2048#32
  let c0_i32_10 : BitVec 32 := 0#32
  let v32 : BitVec 1 := Scalar.cmpi .sgt c2048_i32 c0_i32_10
  let v33 : BitVec 32 := Scalar.extui v32
  let c0_i32_11 : BitVec 32 := 0#32
  let v34 : BitVec 1 := Scalar.cmpi .slt c2048_i32 c0_i32_11
  let v35 : BitVec 32 := Scalar.extui v34
  let v36 : BitVec 32 := Scalar.subi v33 v35
  let v37 : BitVec 1 := Scalar.cmpi .ne v31 v36
  let v38 : BitVec 32 := Scalar.remsi v0 c2048_i32
  let c0_i32_12 : BitVec 32 := 0#32
  let v39 : BitVec 1 := Scalar.cmpi .ne v38 c0_i32_12
  let v40 : BitVec 1 := Scalar.andi v37 v39
  let v26 : BitVec 32 := Scalar.divsi v0 c2048_i32
  let c1_i32 : BitVec 32 := 1#32
  let v41 : BitVec 32 := Scalar.subi v26 c1_i32
  let v42 : BitVec 32 := Scalar.select v40 v41 v26
  let v43 : BitVec 32 := Scalar.subi v42 c0_i32_13
  let c1_i32_14 : BitVec 32 := 1#32
  let v45 : BitVec 32 := Scalar.divsi v43 c1_i32_14
  let v46 : BitVec 32 := Scalar.muli v45 c1_i32_14
  let v47 : BitVec 32 := Scalar.addi c0_i32_13 v46
  let c1_i32_16 : BitVec 32 := 1#32
  let arg8 : BitVec 32 := Scf.iv v47 c1_i32_16 k0_t2
  let c2048_i32_32 : BitVec 32 := 2048#32
  let v85 : BitVec 32 := Scalar.muli arg8 c2048_i32_32
  v85
def k0_off4 (i : grid0.Coords) (k0_t2 : Fin (k0_t2_loop i).trips) : Fin 2 → Nat :=
  let c0_i32_13 : BitVec 32 := 0#32
  let arg2 : BitVec 32 := BitVec.ofNat 32 (i 2).val
  let c1024_i32 : BitVec 32 := 1024#32
  let v0 : BitVec 32 := Scalar.muli arg2 c1024_i32
  let c0_i32 : BitVec 32 := 0#32
  let v27 : BitVec 1 := Scalar.cmpi .sgt v0 c0_i32
  let v28 : BitVec 32 := Scalar.extui v27
  let c0_i32_9 : BitVec 32 := 0#32
  let v29 : BitVec 1 := Scalar.cmpi .slt v0 c0_i32_9
  let v30 : BitVec 32 := Scalar.extui v29
  let v31 : BitVec 32 := Scalar.subi v28 v30
  let c2048_i32 : BitVec 32 := 2048#32
  let c0_i32_10 : BitVec 32 := 0#32
  let v32 : BitVec 1 := Scalar.cmpi .sgt c2048_i32 c0_i32_10
  let v33 : BitVec 32 := Scalar.extui v32
  let c0_i32_11 : BitVec 32 := 0#32
  let v34 : BitVec 1 := Scalar.cmpi .slt c2048_i32 c0_i32_11
  let v35 : BitVec 32 := Scalar.extui v34
  let v36 : BitVec 32 := Scalar.subi v33 v35
  let v37 : BitVec 1 := Scalar.cmpi .ne v31 v36
  let v38 : BitVec 32 := Scalar.remsi v0 c2048_i32
  let c0_i32_12 : BitVec 32 := 0#32
  let v39 : BitVec 1 := Scalar.cmpi .ne v38 c0_i32_12
  let v40 : BitVec 1 := Scalar.andi v37 v39
  let v26 : BitVec 32 := Scalar.divsi v0 c2048_i32
  let c1_i32 : BitVec 32 := 1#32
  let v41 : BitVec 32 := Scalar.subi v26 c1_i32
  let v42 : BitVec 32 := Scalar.select v40 v41 v26
  let v43 : BitVec 32 := Scalar.subi v42 c0_i32_13
  let c1_i32_14 : BitVec 32 := 1#32
  let v45 : BitVec 32 := Scalar.divsi v43 c1_i32_14
  let v46 : BitVec 32 := Scalar.muli v45 c1_i32_14
  let v47 : BitVec 32 := Scalar.addi c0_i32_13 v46
  let c1_i32_16 : BitVec 32 := 1#32
  let arg8 : BitVec 32 := Scf.iv v47 c1_i32_16 k0_t2
  let c2048_i32_32 : BitVec 32 := 2048#32
  let v85 : BitVec 32 := Scalar.muli arg8 c2048_i32_32
  let v86 : BitVec 32 := v85
  let v87 : Index := Scalar.indexCast v86
  let c0_33 : Index := 0#32
  ![v87.toNat, 0]
def k0_off5 (i : grid0.Coords) (k0_t2 : Fin (k0_t2_loop i).trips) : Fin 4 → Nat :=
  let c0_35 : Index := 0#32
  let c0_36 : Index := 0#32
  let c0_37 : Index := 0#32
  let c0_i32_13 : BitVec 32 := 0#32
  let arg2 : BitVec 32 := BitVec.ofNat 32 (i 2).val
  let c1024_i32 : BitVec 32 := 1024#32
  let v0 : BitVec 32 := Scalar.muli arg2 c1024_i32
  let c0_i32 : BitVec 32 := 0#32
  let v27 : BitVec 1 := Scalar.cmpi .sgt v0 c0_i32
  let v28 : BitVec 32 := Scalar.extui v27
  let c0_i32_9 : BitVec 32 := 0#32
  let v29 : BitVec 1 := Scalar.cmpi .slt v0 c0_i32_9
  let v30 : BitVec 32 := Scalar.extui v29
  let v31 : BitVec 32 := Scalar.subi v28 v30
  let c2048_i32 : BitVec 32 := 2048#32
  let c0_i32_10 : BitVec 32 := 0#32
  let v32 : BitVec 1 := Scalar.cmpi .sgt c2048_i32 c0_i32_10
  let v33 : BitVec 32 := Scalar.extui v32
  let c0_i32_11 : BitVec 32 := 0#32
  let v34 : BitVec 1 := Scalar.cmpi .slt c2048_i32 c0_i32_11
  let v35 : BitVec 32 := Scalar.extui v34
  let v36 : BitVec 32 := Scalar.subi v33 v35
  let v37 : BitVec 1 := Scalar.cmpi .ne v31 v36
  let v38 : BitVec 32 := Scalar.remsi v0 c2048_i32
  let c0_i32_12 : BitVec 32 := 0#32
  let v39 : BitVec 1 := Scalar.cmpi .ne v38 c0_i32_12
  let v40 : BitVec 1 := Scalar.andi v37 v39
  let v26 : BitVec 32 := Scalar.divsi v0 c2048_i32
  let c1_i32 : BitVec 32 := 1#32
  let v41 : BitVec 32 := Scalar.subi v26 c1_i32
  let v42 : BitVec 32 := Scalar.select v40 v41 v26
  let v43 : BitVec 32 := Scalar.subi v42 c0_i32_13
  let c1_i32_14 : BitVec 32 := 1#32
  let v45 : BitVec 32 := Scalar.divsi v43 c1_i32_14
  let v46 : BitVec 32 := Scalar.muli v45 c1_i32_14
  let v47 : BitVec 32 := Scalar.addi c0_i32_13 v46
  let c1_i32_16 : BitVec 32 := 1#32
  let arg8 : BitVec 32 := Scf.iv v47 c1_i32_16 k0_t2
  let c2048_i32_32 : BitVec 32 := 2048#32
  let v85 : BitVec 32 := Scalar.muli arg8 c2048_i32_32
  let v86 : BitVec 32 := v85
  let v93 : Index := Scalar.indexCast v86
  ![0, 0, 0, v93.toNat]
def k0_mult4 (i : grid0.Coords) : BitVec 32 :=
  let arg2 : BitVec 32 := BitVec.ofNat 32 (i 2).val
  let c1024_i32 : BitVec 32 := 1024#32
  let v0 : BitVec 32 := Scalar.muli arg2 c1024_i32
  let c0_i32 : BitVec 32 := 0#32
  let v27 : BitVec 1 := Scalar.cmpi .sgt v0 c0_i32
  let v28 : BitVec 32 := Scalar.extui v27
  let c0_i32_9 : BitVec 32 := 0#32
  let v29 : BitVec 1 := Scalar.cmpi .slt v0 c0_i32_9
  let v30 : BitVec 32 := Scalar.extui v29
  let v31 : BitVec 32 := Scalar.subi v28 v30
  let c2048_i32 : BitVec 32 := 2048#32
  let c0_i32_10 : BitVec 32 := 0#32
  let v32 : BitVec 1 := Scalar.cmpi .sgt c2048_i32 c0_i32_10
  let v33 : BitVec 32 := Scalar.extui v32
  let c0_i32_11 : BitVec 32 := 0#32
  let v34 : BitVec 1 := Scalar.cmpi .slt c2048_i32 c0_i32_11
  let v35 : BitVec 32 := Scalar.extui v34
  let v36 : BitVec 32 := Scalar.subi v33 v35
  let v37 : BitVec 1 := Scalar.cmpi .ne v31 v36
  let v38 : BitVec 32 := Scalar.remsi v0 c2048_i32
  let c0_i32_12 : BitVec 32 := 0#32
  let v39 : BitVec 1 := Scalar.cmpi .ne v38 c0_i32_12
  let v40 : BitVec 1 := Scalar.andi v37 v39
  let v26 : BitVec 32 := Scalar.divsi v0 c2048_i32
  let c1_i32 : BitVec 32 := 1#32
  let v41 : BitVec 32 := Scalar.subi v26 c1_i32
  let v42 : BitVec 32 := Scalar.select v40 v41 v26
  let c2048_i32_17 : BitVec 32 := 2048#32
  let v50 : BitVec 32 := Scalar.muli v42 c2048_i32_17
  v50
def k0_cond1 (i : grid0.Coords) : BitVec 1 :=
  let arg2 : BitVec 32 := BitVec.ofNat 32 (i 2).val
  let c1024_i32 : BitVec 32 := 1024#32
  let v0 : BitVec 32 := Scalar.muli arg2 c1024_i32
  let c1024_i32_18 : BitVec 32 := 1024#32
  let v52 : BitVec 32 := Scalar.addi v0 c1024_i32_18
  let c0_i32 : BitVec 32 := 0#32
  let v27 : BitVec 1 := Scalar.cmpi .sgt v0 c0_i32
  let v28 : BitVec 32 := Scalar.extui v27
  let c0_i32_9 : BitVec 32 := 0#32
  let v29 : BitVec 1 := Scalar.cmpi .slt v0 c0_i32_9
  let v30 : BitVec 32 := Scalar.extui v29
  let v31 : BitVec 32 := Scalar.subi v28 v30
  let c2048_i32 : BitVec 32 := 2048#32
  let c0_i32_10 : BitVec 32 := 0#32
  let v32 : BitVec 1 := Scalar.cmpi .sgt c2048_i32 c0_i32_10
  let v33 : BitVec 32 := Scalar.extui v32
  let c0_i32_11 : BitVec 32 := 0#32
  let v34 : BitVec 1 := Scalar.cmpi .slt c2048_i32 c0_i32_11
  let v35 : BitVec 32 := Scalar.extui v34
  let v36 : BitVec 32 := Scalar.subi v33 v35
  let v37 : BitVec 1 := Scalar.cmpi .ne v31 v36
  let v38 : BitVec 32 := Scalar.remsi v0 c2048_i32
  let c0_i32_12 : BitVec 32 := 0#32
  let v39 : BitVec 1 := Scalar.cmpi .ne v38 c0_i32_12
  let v40 : BitVec 1 := Scalar.andi v37 v39
  let v26 : BitVec 32 := Scalar.divsi v0 c2048_i32
  let c1_i32 : BitVec 32 := 1#32
  let v41 : BitVec 32 := Scalar.subi v26 c1_i32
  let v42 : BitVec 32 := Scalar.select v40 v41 v26
  let c2048_i32_17 : BitVec 32 := 2048#32
  let v50 : BitVec 32 := Scalar.muli v42 c2048_i32_17
  let v51 : BitVec 32 := v50
  let v53 : BitVec 32 := Scalar.subi v52 v51
  let c0_i32_20 : BitVec 32 := 0#32
  let v55 : BitVec 1 := Scalar.cmpi .sgt v53 c0_i32_20
  let v56 : BitVec 32 := Scalar.extui v55
  let c0_i32_21 : BitVec 32 := 0#32
  let v57 : BitVec 1 := Scalar.cmpi .slt v53 c0_i32_21
  let v58 : BitVec 32 := Scalar.extui v57
  let v59 : BitVec 32 := Scalar.subi v56 v58
  let c1024_i32_19 : BitVec 32 := 1024#32
  let c0_i32_22 : BitVec 32 := 0#32
  let v60 : BitVec 1 := Scalar.cmpi .sgt c1024_i32_19 c0_i32_22
  let v61 : BitVec 32 := Scalar.extui v60
  let c0_i32_23 : BitVec 32 := 0#32
  let v62 : BitVec 1 := Scalar.cmpi .slt c1024_i32_19 c0_i32_23
  let v63 : BitVec 32 := Scalar.extui v62
  let v64 : BitVec 32 := Scalar.subi v61 v63
  let v65 : BitVec 1 := Scalar.cmpi .ne v59 v64
  let v66 : BitVec 32 := Scalar.remsi v53 c1024_i32_19
  let c0_i32_24 : BitVec 32 := 0#32
  let v67 : BitVec 1 := Scalar.cmpi .ne v66 c0_i32_24
  let v68 : BitVec 1 := Scalar.andi v65 v67
  let v54 : BitVec 32 := Scalar.divsi v53 c1024_i32_19
  let c1_i32_25 : BitVec 32 := 1#32
  let v69 : BitVec 32 := Scalar.subi v54 c1_i32_25
  let v70 : BitVec 32 := Scalar.select v68 v69 v54
  let c1_i32_26 : BitVec 32 := 1#32
  let v71 : BitVec 32 := Scalar.subi v70 c1_i32_26
  let c0_i32_27 : BitVec 32 := 0#32
  let v72 : BitVec 32 := Scalar.maxsi v71 c0_i32_27
  let c1_i32_28 : BitVec 32 := 1#32
  let v73 : BitVec 32 := Scalar.minsi v72 c1_i32_28
  let c0_i32_29 : BitVec 32 := 0#32
  let v74 : BitVec 1 := Scalar.cmpi .ne v73 c0_i32_29
  v74

def k0_off6 (i : grid0.Coords) : Fin 2 → Nat :=
  let arg2 : BitVec 32 := BitVec.ofNat 32 (i 2).val
  let c1024_i32 : BitVec 32 := 1024#32
  let v0 : BitVec 32 := Scalar.muli arg2 c1024_i32
  let c0_i32 : BitVec 32 := 0#32
  let v27 : BitVec 1 := Scalar.cmpi .sgt v0 c0_i32
  let v28 : BitVec 32 := Scalar.extui v27
  let c0_i32_9 : BitVec 32 := 0#32
  let v29 : BitVec 1 := Scalar.cmpi .slt v0 c0_i32_9
  let v30 : BitVec 32 := Scalar.extui v29
  let v31 : BitVec 32 := Scalar.subi v28 v30
  let c2048_i32 : BitVec 32 := 2048#32
  let c0_i32_10 : BitVec 32 := 0#32
  let v32 : BitVec 1 := Scalar.cmpi .sgt c2048_i32 c0_i32_10
  let v33 : BitVec 32 := Scalar.extui v32
  let c0_i32_11 : BitVec 32 := 0#32
  let v34 : BitVec 1 := Scalar.cmpi .slt c2048_i32 c0_i32_11
  let v35 : BitVec 32 := Scalar.extui v34
  let v36 : BitVec 32 := Scalar.subi v33 v35
  let v37 : BitVec 1 := Scalar.cmpi .ne v31 v36
  let v38 : BitVec 32 := Scalar.remsi v0 c2048_i32
  let c0_i32_12 : BitVec 32 := 0#32
  let v39 : BitVec 1 := Scalar.cmpi .ne v38 c0_i32_12
  let v40 : BitVec 1 := Scalar.andi v37 v39
  let v26 : BitVec 32 := Scalar.divsi v0 c2048_i32
  let c1_i32 : BitVec 32 := 1#32
  let v41 : BitVec 32 := Scalar.subi v26 c1_i32
  let v42 : BitVec 32 := Scalar.select v40 v41 v26
  let c2048_i32_17 : BitVec 32 := 2048#32
  let v50 : BitVec 32 := Scalar.muli v42 c2048_i32_17
  let v51 : BitVec 32 := v50
  let v85 : Index := Scalar.indexCast v51
  let c0_32 : Index := 0#32
  ![v85.toNat, 0]
def k0_off7 (i : grid0.Coords) : Fin 4 → Nat :=
  let c0_34 : Index := 0#32
  let c0_35 : Index := 0#32
  let c0_36 : Index := 0#32
  let arg2 : BitVec 32 := BitVec.ofNat 32 (i 2).val
  let c1024_i32 : BitVec 32 := 1024#32
  let v0 : BitVec 32 := Scalar.muli arg2 c1024_i32
  let c0_i32 : BitVec 32 := 0#32
  let v27 : BitVec 1 := Scalar.cmpi .sgt v0 c0_i32
  let v28 : BitVec 32 := Scalar.extui v27
  let c0_i32_9 : BitVec 32 := 0#32
  let v29 : BitVec 1 := Scalar.cmpi .slt v0 c0_i32_9
  let v30 : BitVec 32 := Scalar.extui v29
  let v31 : BitVec 32 := Scalar.subi v28 v30
  let c2048_i32 : BitVec 32 := 2048#32
  let c0_i32_10 : BitVec 32 := 0#32
  let v32 : BitVec 1 := Scalar.cmpi .sgt c2048_i32 c0_i32_10
  let v33 : BitVec 32 := Scalar.extui v32
  let c0_i32_11 : BitVec 32 := 0#32
  let v34 : BitVec 1 := Scalar.cmpi .slt c2048_i32 c0_i32_11
  let v35 : BitVec 32 := Scalar.extui v34
  let v36 : BitVec 32 := Scalar.subi v33 v35
  let v37 : BitVec 1 := Scalar.cmpi .ne v31 v36
  let v38 : BitVec 32 := Scalar.remsi v0 c2048_i32
  let c0_i32_12 : BitVec 32 := 0#32
  let v39 : BitVec 1 := Scalar.cmpi .ne v38 c0_i32_12
  let v40 : BitVec 1 := Scalar.andi v37 v39
  let v26 : BitVec 32 := Scalar.divsi v0 c2048_i32
  let c1_i32 : BitVec 32 := 1#32
  let v41 : BitVec 32 := Scalar.subi v26 c1_i32
  let v42 : BitVec 32 := Scalar.select v40 v41 v26
  let c2048_i32_17 : BitVec 32 := 2048#32
  let v50 : BitVec 32 := Scalar.muli v42 c2048_i32_17
  let v51 : BitVec 32 := v50
  let v91 : Index := Scalar.indexCast v51
  ![0, 0, 0, v91.toNat]
def k0_off8 (i : grid0.Coords) : Fin 2 → Nat :=
  let arg2 : BitVec 32 := BitVec.ofNat 32 (i 2).val
  let c1024_i32 : BitVec 32 := 1024#32
  let v0 : BitVec 32 := Scalar.muli arg2 c1024_i32
  let c0_i32 : BitVec 32 := 0#32
  let v27 : BitVec 1 := Scalar.cmpi .sgt v0 c0_i32
  let v28 : BitVec 32 := Scalar.extui v27
  let c0_i32_9 : BitVec 32 := 0#32
  let v29 : BitVec 1 := Scalar.cmpi .slt v0 c0_i32_9
  let v30 : BitVec 32 := Scalar.extui v29
  let v31 : BitVec 32 := Scalar.subi v28 v30
  let c2048_i32 : BitVec 32 := 2048#32
  let c0_i32_10 : BitVec 32 := 0#32
  let v32 : BitVec 1 := Scalar.cmpi .sgt c2048_i32 c0_i32_10
  let v33 : BitVec 32 := Scalar.extui v32
  let c0_i32_11 : BitVec 32 := 0#32
  let v34 : BitVec 1 := Scalar.cmpi .slt c2048_i32 c0_i32_11
  let v35 : BitVec 32 := Scalar.extui v34
  let v36 : BitVec 32 := Scalar.subi v33 v35
  let v37 : BitVec 1 := Scalar.cmpi .ne v31 v36
  let v38 : BitVec 32 := Scalar.remsi v0 c2048_i32
  let c0_i32_12 : BitVec 32 := 0#32
  let v39 : BitVec 1 := Scalar.cmpi .ne v38 c0_i32_12
  let v40 : BitVec 1 := Scalar.andi v37 v39
  let v26 : BitVec 32 := Scalar.divsi v0 c2048_i32
  let c1_i32 : BitVec 32 := 1#32
  let v41 : BitVec 32 := Scalar.subi v26 c1_i32
  let v42 : BitVec 32 := Scalar.select v40 v41 v26
  let c2048_i32_17 : BitVec 32 := 2048#32
  let v50 : BitVec 32 := Scalar.muli v42 c2048_i32_17
  let v51 : BitVec 32 := v50
  let v85 : Index := Scalar.indexCast v51
  let c0_32 : Index := 0#32
  ![v85.toNat, 0]
def k0_off9 (i : grid0.Coords) : Fin 4 → Nat :=
  let c0_34 : Index := 0#32
  let c0_35 : Index := 0#32
  let c0_36 : Index := 0#32
  let arg2 : BitVec 32 := BitVec.ofNat 32 (i 2).val
  let c1024_i32 : BitVec 32 := 1024#32
  let v0 : BitVec 32 := Scalar.muli arg2 c1024_i32
  let c0_i32 : BitVec 32 := 0#32
  let v27 : BitVec 1 := Scalar.cmpi .sgt v0 c0_i32
  let v28 : BitVec 32 := Scalar.extui v27
  let c0_i32_9 : BitVec 32 := 0#32
  let v29 : BitVec 1 := Scalar.cmpi .slt v0 c0_i32_9
  let v30 : BitVec 32 := Scalar.extui v29
  let v31 : BitVec 32 := Scalar.subi v28 v30
  let c2048_i32 : BitVec 32 := 2048#32
  let c0_i32_10 : BitVec 32 := 0#32
  let v32 : BitVec 1 := Scalar.cmpi .sgt c2048_i32 c0_i32_10
  let v33 : BitVec 32 := Scalar.extui v32
  let c0_i32_11 : BitVec 32 := 0#32
  let v34 : BitVec 1 := Scalar.cmpi .slt c2048_i32 c0_i32_11
  let v35 : BitVec 32 := Scalar.extui v34
  let v36 : BitVec 32 := Scalar.subi v33 v35
  let v37 : BitVec 1 := Scalar.cmpi .ne v31 v36
  let v38 : BitVec 32 := Scalar.remsi v0 c2048_i32
  let c0_i32_12 : BitVec 32 := 0#32
  let v39 : BitVec 1 := Scalar.cmpi .ne v38 c0_i32_12
  let v40 : BitVec 1 := Scalar.andi v37 v39
  let v26 : BitVec 32 := Scalar.divsi v0 c2048_i32
  let c1_i32 : BitVec 32 := 1#32
  let v41 : BitVec 32 := Scalar.subi v26 c1_i32
  let v42 : BitVec 32 := Scalar.select v40 v41 v26
  let c2048_i32_17 : BitVec 32 := 2048#32
  let v50 : BitVec 32 := Scalar.muli v42 c2048_i32_17
  let v51 : BitVec 32 := v50
  let v91 : Index := Scalar.indexCast v51
  ![0, 0, 0, v91.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x8192x8x64 : Shape := ⟨4, ![2, 8192, 8, 64]⟩
abbrev S2x8x8192 : Shape := ⟨3, ![2, 8, 8192]⟩
abbrev S_ : Shape := ⟨0, ![]⟩
abbrev S2x8x8192x8192 : Shape := ⟨4, ![2, 8, 8192, 8192]⟩
abbrev S2x8x8192x1 : Shape := ⟨4, ![2, 8, 8192, 1]⟩
abbrev S2x8x1x8192 : Shape := ⟨4, ![2, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x64x8192 : Shape := ⟨4, ![2, 8, 64, 8192]⟩
abbrev S16384x512 : Shape := ⟨2, ![16384, 512]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S2x8x8192, .f32⟩
  | .hbm, ⟨4, _⟩ => ⟨S_, .f32⟩
  | .hbm, ⟨5, _⟩ => ⟨S2x8192x8x64, .f32⟩
  | .hbm, ⟨6, _⟩ => ⟨S2x8192x8x64, .f32⟩
  | .hbm, ⟨7, _⟩ => ⟨S2x8x8192x8192, .f32⟩
  | .hbm, ⟨8, _⟩ => ⟨S2x8x8192x1, .f32⟩
  | .hbm, ⟨9, _⟩ => ⟨S2x8x8192x8192, .f32⟩
  | .hbm, ⟨10, _⟩ => ⟨S2x8x8192x8192, .f32⟩
  | .hbm, ⟨11, _⟩ => ⟨S2x8x1x8192, .f32⟩
  | .hbm, ⟨12, _⟩ => ⟨S2x8x8192x8192, .f32⟩
  | .hbm, ⟨13, _⟩ => ⟨S2x8x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S2x8x8192x8192, .i1⟩
  | .hbm, ⟨23, _⟩ => ⟨S2x8x8192x8192, .f32⟩
  | .hbm, ⟨24, _⟩ => ⟨S2x8x8192x8192, .f32⟩
  | .hbm, ⟨25, _⟩ => ⟨S_, .f32⟩
  | .hbm, ⟨26, _⟩ => ⟨S2x8x8192, .f32⟩
  | .hbm, ⟨27, _⟩ => ⟨S_, .f32⟩
  | .hbm, ⟨28, _⟩ => ⟨S2x8x8192, .f32⟩
  | .hbm, ⟨29, _⟩ => ⟨S2x8x8192, .f32⟩
  | .hbm, ⟨30, _⟩ => ⟨S2x8x8192x1, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S_, .f32⟩
  | .hbm, ⟨35, _⟩ => ⟨S2x8x8192, .f32⟩
  | .hbm, ⟨36, _⟩ => ⟨S2x8x8192x1, .f32⟩
  | .hbm, ⟨37, _⟩ => ⟨S2x8x8192x8192, .f32⟩
  | .hbm, ⟨38, _⟩ => ⟨S2x8x8192x8192, .f32⟩
  | .hbm, ⟨39, _⟩ => ⟨S2x8x64x8192, .f32⟩
  | .hbm, ⟨40, _⟩ => ⟨S2x8192x8x64, .f32⟩
  | .hbm, ⟨41, _⟩ => ⟨S16384x512, .f32⟩
  | .hbm, ⟨42, _⟩ => ⟨S16384x512, .bf16⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x512 : Shape := ⟨3, ![2, 8192, 512]⟩
abbrev S2x6144 : Shape := ⟨2, ![2, 6144]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x6144 : Shape := ⟨2, ![8, 6144]⟩
abbrev S8x1x6144 : Shape := ⟨3, ![8, 1, 6144]⟩
abbrev S1x1024 : Shape := ⟨2, ![1, 1024]⟩
abbrev S1x5632 : Shape := ⟨2, ![1, 5632]⟩
abbrev S16384x1024 : Shape := ⟨2, ![16384, 1024]⟩
abbrev S16384x512 : Shape := ⟨2, ![16384, 512]⟩
abbrev S2x2x5632 : Shape := ⟨3, ![2, 2, 5632]⟩
abbrev S512x1024 : Shape := ⟨2, ![512, 1024]⟩
abbrev S512x512 : Shape := ⟨2, ![512, 512]⟩
abbrev S1x1x1024 : Shape := ⟨3, ![1, 1, 1024]⟩
abbrev S1x2x5632 : Shape := ⟨3, ![1, 2, 5632]⟩
abbrev S8x5632 : Shape := ⟨2, ![8, 5632]⟩
abbrev S2x5632 : Shape := ⟨2, ![2, 5632]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S1x2816 : Shape := ⟨2, ![1, 2816]⟩
abbrev S2x2816 : Shape := ⟨2, ![2, 2816]⟩

abbrev nBuf : Space → Nat
  | .hbm => 30
  | .vmem => 28
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x6144, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S_, .i32⟩
  | .hbm, ⟨12, _⟩ => ⟨S_, .f32⟩
  | .hbm, ⟨13, _⟩ => ⟨S8x6144, .f32⟩
  | .hbm, ⟨14, _⟩ => ⟨S8x1x6144, .f32⟩
  | .hbm, ⟨15, _⟩ => ⟨S1024x1024, .bf16⟩
  | .hbm, ⟨16, _⟩ => ⟨S1x1024, .f32⟩
  | .hbm, ⟨17, _⟩ => ⟨S1024x5632, .bf16⟩
  | .hbm, ⟨18, _⟩ => ⟨S1x5632, .f32⟩
  | .hbm, ⟨19, _⟩ => ⟨S2816x1024, .bf16⟩
  | .hbm, ⟨20, _⟩ => ⟨S1x1024, .f32⟩
  | .hbm, ⟨21, _⟩ => ⟨S16384x1024, .f32⟩
  | .hbm, ⟨22, _⟩ => ⟨S16384x512, .f32⟩
  | .hbm, ⟨23, _⟩ => ⟨S16384x512, .bf16⟩
  | .hbm, ⟨24, _⟩ => ⟨S16384x512, .f32⟩
  | .hbm, ⟨25, _⟩ => ⟨S16384x512, .bf16⟩
  | .hbm, ⟨26, _⟩ => ⟨S_, .f32⟩
  | .hbm, ⟨27, _⟩ => ⟨S2x2x5632, .f32⟩
  | .hbm, ⟨28, _⟩ => ⟨S16384x1024, .f32⟩
  | .hbm, ⟨29, _⟩ => ⟨S2x2x5632, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x1024, .bf16⟩
  | .local _ .vmem, ⟨15, _⟩ => ⟨S1x1024, .f32⟩
  | .local _ .vmem, ⟨16, _⟩ => ⟨S1024x5632, .bf16⟩
  | .local _ .vmem, ⟨17, _⟩ => ⟨S3x5632, .f32⟩
  | .local _ .vmem, ⟨18, _⟩ => ⟨S1x5632, .f32⟩
  | .local _ .vmem, ⟨19, _⟩ => ⟨S2816x1024, .bf16⟩
  | .local _ .vmem, ⟨20, _⟩ => ⟨S1x1024, .f32⟩
  | .local _ .vmem, ⟨21, _⟩ => ⟨S1x2x5632, .f32⟩
  | .local _ .vmem, ⟨22, _⟩ => ⟨S1x2x5632, .f32⟩
  | .local _ .vmem, ⟨23, _⟩ => ⟨S512x1024, .f32⟩
  | .local _ .vmem, ⟨24, _⟩ => ⟨S512x1024, .f32⟩
  | .local _ .vmem, ⟨25, _⟩ => ⟨S1x2x5632, .f32⟩
  | .local _ .vmem, ⟨26, _⟩ => ⟨S1x2x5632, .f32⟩
  | .local _ .vmem, ⟨27, _⟩ => ⟨S8x5632, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x2x5632 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x5632 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S2x8192x1024 : Shape := ⟨3, ![2, 8192, 1024]⟩
abbrev S2x8192x512 : Shape := ⟨3, ![2, 8192, 512]⟩
abbrev S2x6144 : Shape := ⟨2, ![2, 6144]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x2x5632 : Shape := ⟨3, ![2, 2, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩
abbrev S16384x1024 : Shape := ⟨2, ![16384, 1024]⟩

abbrev nBuf : Space → Nat
  | .hbm => 115
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x6144, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x1024, .f32⟩
  | .hbm, ⟨40, _⟩ => ⟨S2x8192x1024, .f32⟩
  | .hbm, ⟨41, _⟩ => ⟨S1x1x1024, .f32⟩
  | .hbm, ⟨42, _⟩ => ⟨S2x8192x1024, .f32⟩
  | .hbm, ⟨43, _⟩ => ⟨S2x8192x1024, .f32⟩
  | .hbm, ⟨44, _⟩ => ⟨S_, .f32⟩
  | .hbm, ⟨45, _⟩ => ⟨S2x1x1024, .f32⟩
  | .hbm, ⟨46, _⟩ => ⟨S2x1x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x5632, .f32⟩
  | .hbm, ⟨52, _⟩ => ⟨S_, .f32⟩
  | .hbm, ⟨53, _⟩ => ⟨S2x2x5632, .f32⟩
  | .hbm, ⟨54, _⟩ => ⟨S2x8194x5632, .f32⟩
  | .hbm, ⟨55, _⟩ => ⟨S2x8192x5632, .f32⟩
  | .hbm, ⟨56, _⟩ => ⟨S1x5632, .f32⟩
  | .hbm, ⟨57, _⟩ => ⟨S5632, .f32⟩
  | .hbm, ⟨58, _⟩ => ⟨S1x1x5632, .f32⟩
  | .hbm, ⟨59, _⟩ => ⟨S2x8192x5632, .f32⟩
  | .hbm, ⟨60, _⟩ => ⟨S2x8192x5632, .f32⟩
  | .hbm, ⟨61, _⟩ => ⟨S_, .f32⟩
  | .hbm, ⟨62, _⟩ => ⟨S2x8192x5632, .f32⟩
  | .hbm, ⟨63, _⟩ => ⟨S2x8192x5632, .f32⟩
  | .hbm, ⟨64, _⟩ => ⟨S2x8192x5632, .f32⟩
  | .hbm, ⟨65, _⟩ => ⟨S1x5632, .f32⟩
  | .hbm, ⟨66, _⟩ => ⟨S5632, .f32⟩
  | .hbm, ⟨67, _⟩ => ⟨S1x1x5632, .f32⟩
  | .hbm, ⟨68, _⟩ => ⟨S2x8192x5632, .f32⟩
  | .hbm, ⟨69, _⟩ => ⟨S2x8192x5632, .f32⟩
  | .hbm, ⟨70, _⟩ => ⟨S2x8192x5632, .f32⟩
  | .hbm, ⟨71, _⟩ => ⟨S2x8192x5632, .f32⟩
  | .hbm, ⟨72, _⟩ => ⟨S1x5632, .f32⟩
  | .hbm, ⟨73, _⟩ => ⟨S5632, .f32⟩
  | .hbm, ⟨74, _⟩ => ⟨S1x1x5632, .f32⟩
  | .hbm, ⟨75, _⟩ => ⟨S2x8192x5632, .f32⟩
  | .hbm, ⟨76, _⟩ => ⟨S2x8192x5632, .f32⟩
  | .hbm, ⟨77, _⟩ => ⟨S2x8192x5632, .f32⟩
  | .hbm, ⟨78, _⟩ => ⟨S1x1x5632, .f32⟩
  | .hbm, ⟨79, _⟩ => ⟨S2x8192x5632, .f32⟩
  | .hbm, ⟨80, _⟩ => ⟨S2x8192x5632, .f32⟩
  | .hbm, ⟨81, _⟩ => ⟨S2x8192x2816, .f32⟩
  | .hbm, ⟨82, _⟩ => ⟨S2x8192x2816, .f32⟩
  | .hbm, ⟨83, _⟩ => ⟨S2x8192x2816, .f32⟩
  | .hbm, ⟨84, _⟩ => ⟨S2x8192x2816, .f32⟩
  | .hbm, ⟨85, _⟩ => ⟨S_, .f32⟩
  | .hbm, ⟨86, _⟩ => ⟨S2x8192x2816, .f32⟩
  | .hbm, ⟨87, _⟩ => ⟨S2x8192x2816, .f32⟩
  | .hbm, ⟨88, _⟩ => ⟨S_, .f32⟩
  | .hbm, ⟨89, _⟩ => ⟨S2x8192x2816, .f32⟩
  | .hbm, ⟨90, _⟩ => ⟨S2x8192x2816, .f32⟩
  | .hbm, ⟨91, _⟩ => ⟨S2x8192x2816, .f32⟩
  | .hbm, ⟨92, _⟩ => ⟨S2x8192x2816, .f32⟩
  | .hbm, ⟨93, _⟩ => ⟨S2x8192x1024, .f32⟩
  | .hbm, ⟨94, _⟩ => ⟨S2x8192x1024, .f32⟩
  | .hbm, ⟨95, _⟩ => ⟨S2x8192x1024, .f32⟩
  | .hbm, ⟨96, _⟩ => ⟨S2x8192x1024, .f32⟩
  | .hbm, ⟨97, _⟩ => ⟨S2x8192x1024, .f32⟩
  | .hbm, ⟨98, _⟩ => ⟨S_, .f32⟩
  | .hbm, ⟨99, _⟩ => ⟨S2x8192, .f32⟩
  | .hbm, ⟨100, _⟩ => ⟨S2x8192x1, .f32⟩
  | .hbm, ⟨101, _⟩ => ⟨S_, .f32⟩
  | .hbm, ⟨102, _⟩ => ⟨S2x8192x1, .f32⟩
  | .hbm, ⟨103, _⟩ => ⟨S2x8192x1, .f32⟩
  | .hbm, ⟨104, _⟩ => ⟨S_, .f32⟩
  | .hbm, ⟨105, _⟩ => ⟨S2x8192x1, .f32⟩
  | .hbm, ⟨106, _⟩ => ⟨S2x8192x1, .f32⟩
  | .hbm, ⟨107, _⟩ => ⟨S2x8192x1, .f32⟩
  | .hbm, ⟨108, _⟩ => ⟨S2x8192x1024, .f32⟩
  | .hbm, ⟨109, _⟩ => ⟨S2x8192x1024, .f32⟩
  | .hbm, ⟨110, _⟩ => ⟨S1x1x1024, .f32⟩
  | .hbm, ⟨111, _⟩ => ⟨S2x8192x1024, .f32⟩
  | .hbm, ⟨112, _⟩ => ⟨S2x8192x1024, .f32⟩
  | .hbm, ⟨113, _⟩ => ⟨S16384x1024, .f32⟩
  | .hbm, ⟨114, _⟩ => ⟨S2x2x5632, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_5 : Ref sig .tc := ⟨.hbm, 98, rfl⟩
abbrev main_v73 : Ref sig .tc := ⟨.hbm, 99, rfl⟩
abbrev main_v74 : Ref sig .tc := ⟨.hbm, 100, rfl⟩
abbrev main_cst_6 : Ref sig .tc := ⟨.hbm, 101, rfl⟩
abbrev main_v75 : Ref sig .tc := ⟨.hbm, 102, rfl⟩
abbrev main_v76 : Ref sig .tc := ⟨.hbm, 103, rfl⟩
abbrev main_cst_7 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x6144 : Shape := ⟨2, ![2, 6144]⟩
abbrev S1024 : Shape := ⟨1, ![1024]⟩
abbrev S1024x3240 : Shape := ⟨2, ![1024, 3240]⟩
abbrev S8 : Shape := ⟨1, ![8]⟩
abbrev S_ : Shape := ⟨0, ![]⟩
abbrev S8x6144 : Shape := ⟨2, ![8, 6144]⟩
abbrev S8x1x6144 : Shape := ⟨3, ![8, 1, 6144]⟩
abbrev S1024x1696 : Shape := ⟨2, ![1024, 1696]⟩
abbrev S1024x1792 : Shape := ⟨2, ![1024, 1792]⟩
abbrev S1024x1536 : Shape := ⟨2, ![1024, 1536]⟩
abbrev S1024x8 : Shape := ⟨2, ![1024, 8]⟩
abbrev S1024x128 : Shape := ⟨2, ![1024, 128]⟩
abbrev S1024x3456 : Shape := ⟨2, ![1024, 3456]⟩
abbrev S1x8 : Shape := ⟨2, ![1, 8]⟩
abbrev S1x128 : Shape := ⟨2, ![1, 128]⟩
abbrev S16384x1024 : Shape := ⟨2, ![16384, 1024]⟩
abbrev S1x1024 : Shape := ⟨2, ![1, 1024]⟩
abbrev S16384x1792 : Shape := ⟨2, ![16384, 1792]⟩
abbrev S16384x512 : Shape := ⟨2, ![16384, 512]⟩
abbrev S2x512x8192 : Shape := ⟨3, ![2, 512, 8192]⟩
abbrev S2x8x8192 : Shape := ⟨3, ![2, 8, 8192]⟩
abbrev S256x1024 : Shape := ⟨2, ![256, 1024]⟩
abbrev S1x1x1024 : Shape := ⟨3, ![1, 1, 1024]⟩
abbrev S256x1792 : Shape := ⟨2, ![256, 1792]⟩
abbrev S256x512 : Shape := ⟨2, ![256, 512]⟩
abbrev S1x512x256 : Shape := ⟨3, ![1, 512, 256]⟩
abbrev S1x8x256 : Shape := ⟨3, ![1, 8, 256]⟩
abbrev S256 : Shape := ⟨1, ![256]⟩
abbrev S256x1 : Shape := ⟨2, ![256, 1]⟩
abbrev S1024x512 : Shape := ⟨2, ![1024, 512]⟩
abbrev S256x128 : Shape := ⟨2, ![256, 128]⟩
abbrev S512x256 : Shape := ⟨2, ![512, 256]⟩
abbrev S128x256 : Shape := ⟨2, ![128, 256]⟩
abbrev S8x256 : Shape := ⟨2, ![8, 256]⟩

abbrev nBuf : Space → Nat
  | .hbm => 33
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x3240, .f32⟩
  | .hbm, ⟨4, _⟩ => ⟨S8, .f32⟩
  | .hbm, ⟨5, _⟩ => ⟨S_, .i32⟩
  | .hbm, ⟨6, _⟩ => ⟨S_, .f32⟩
  | .hbm, ⟨7, _⟩ => ⟨S8x6144, .f32⟩
  | .hbm, ⟨8, _⟩ => ⟨S8x1x6144, .f32⟩
  | .hbm, ⟨9, _⟩ => ⟨S1024x1696, .f32⟩
  | .hbm, ⟨10, _⟩ => ⟨S_, .i32⟩
  | .hbm, ⟨11, _⟩ => ⟨S_, .f32⟩
  | .hbm, ⟨12, _⟩ => ⟨S1024x1792, .f32⟩
  | .hbm, ⟨13, _⟩ => ⟨S1024x1536, .f32⟩
  | .hbm, ⟨14, _⟩ => ⟨S1024x8, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x3456, .f32⟩
  | .hbm, ⟨19, _⟩ => ⟨S1024x3456, .bf16⟩
  | .hbm, ⟨20, _⟩ => ⟨S1x8, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S16384x1024, .f32⟩
  | .hbm, ⟨25, _⟩ => ⟨S1x1024, .f32⟩
  | .hbm, ⟨26, _⟩ => ⟨S16384x1792, .f32⟩
  | .hbm, ⟨27, _⟩ => ⟨S16384x512, .bf16⟩
  | .hbm, ⟨28, _⟩ => ⟨S16384x512, .bf16⟩
  | .hbm, ⟨29, _⟩ => ⟨S16384x512, .bf16⟩
  | .hbm, ⟨30, _⟩ => ⟨S2x512x8192, .f32⟩
  | .hbm, ⟨31, _⟩ => ⟨S2x512x8192, .f32⟩
  | .hbm, ⟨32, _⟩ => ⟨S2x8x8192, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3456, .bf16⟩
  | .local _ .vmem, ⟨8, _⟩ => ⟨S1x128, .f32⟩
  | .local _ .vmem, ⟨9, _⟩ => ⟨S256x1792, .f32⟩
  | .local _ .vmem, ⟨10, _⟩ => ⟨S256x1792, .f32⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x8x256, .f32⟩
  | .local _ .vmem, ⟨22, _⟩ => ⟨S1x8x256, .f32⟩
  | .local _ .vmem, ⟨23, _⟩ => ⟨S256x512, .f32⟩
  | .local _ .vmem, ⟨24, _⟩ => ⟨S256x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_call3_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v13_3 : Ref sig .tc := ⟨.hbm, 29, rfl⟩
abbrev main_v13_4 : Ref sig .tc := ⟨.hbm, 30, rfl⟩
abbrev main_v13_5 : Ref sig .tc := ⟨.hbm, 31, rfl⟩
abbrev main_v13_6 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S2x8192x1024 : Shape := ⟨3, ![2, 8192, 1024]⟩
abbrev S2x6144 : Shape := ⟨2, ![2, 6144]⟩
abbrev S1024 : Shape := ⟨1, ![1024]⟩
abbrev S1024x3240 : Shape := ⟨2, ![1024, 3240]⟩
abbrev S8 : Shape := ⟨1, ![8]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3240 : Shape := ⟨3, ![2, 8192, 3240]⟩
abbrev S2x8192x1696 : Shape := ⟨3, ![2, 8192, 1696]⟩
abbrev S2x8192x1792 : Shape := ⟨3, ![2, 8192, 1792]⟩
abbrev S2x8192x1544 : Shape := ⟨3, ![2, 8192, 1544]⟩
abbrev S2x8192x512 : Shape := ⟨3, ![2, 8192, 512]⟩
abbrev S2x8192x8 : Shape := ⟨3, ![2, 8192, 8]⟩
abbrev S1x1x8 : Shape := ⟨3, ![1, 1, 8]⟩
abbrev S16384x1792 : Shape := ⟨2, ![16384, 1792]⟩
abbrev S16384x512 : Shape := ⟨2, ![16384, 512]⟩
abbrev S2x512x8192 : Shape := ⟨3, ![2, 512, 8192]⟩
abbrev S2x8x8192 : Shape := ⟨3, ![2, 8, 8192]⟩

abbrev nBuf : Space → Nat
  | .hbm => 77
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x3240, .f32⟩
  | .hbm, ⟨4, _⟩ => ⟨S8, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x8192x1024, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x1, .f32⟩
  | .hbm, ⟨28, _⟩ => ⟨S2x8192x1024, .f32⟩
  | .hbm, ⟨29, _⟩ => ⟨S2x8192x1024, .f32⟩
  | .hbm, ⟨30, _⟩ => ⟨S1x1x1024, .f32⟩
  | .hbm, ⟨31, _⟩ => ⟨S2x8192x1024, .f32⟩
  | .hbm, ⟨32, _⟩ => ⟨S2x8192x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x3240, .f32⟩
  | .hbm, ⟨41, _⟩ => ⟨S2x8192x1696, .f32⟩
  | .hbm, ⟨42, _⟩ => ⟨S_, .i32⟩
  | .hbm, ⟨43, _⟩ => ⟨S_, .f32⟩
  | .hbm, ⟨44, _⟩ => ⟨S2x8192x1792, .f32⟩
  | .hbm, ⟨45, _⟩ => ⟨S2x8192x1544, .f32⟩
  | .hbm, ⟨46, _⟩ => ⟨S2x8192x512, .f32⟩
  | .hbm, ⟨47, _⟩ => ⟨S2x8192x512, .f32⟩
  | .hbm, ⟨48, _⟩ => ⟨S2x8192x512, .f32⟩
  | .hbm, ⟨49, _⟩ => ⟨S2x8192x8, .f32⟩
  | .hbm, ⟨50, _⟩ => ⟨S1x1x8, .f32⟩
  | .hbm, ⟨51, _⟩ => ⟨S2x8192x8, .f32⟩
  | .hbm, ⟨52, _⟩ => ⟨S2x8192x8, .f32⟩
  | .hbm, ⟨53, _⟩ => ⟨S2x8192x8, .f32⟩
  | .hbm, ⟨54, _⟩ => ⟨S_, .f32⟩
  | .hbm, ⟨55, _⟩ => ⟨S2x8192x8, .f32⟩
  | .hbm, ⟨56, _⟩ => ⟨S2x8192x8, .f32⟩
  | .hbm, ⟨57, _⟩ => ⟨S2x8192x8, .f32⟩
  | .hbm, ⟨58, _⟩ => ⟨S2x8192x8, .f32⟩
  | .hbm, ⟨59, _⟩ => ⟨S2x8192x8, .i1⟩
  | .hbm, ⟨60, _⟩ => ⟨S2x8192x8, .f32⟩
  | .hbm, ⟨61, _⟩ => ⟨S2x8192x8, .f32⟩
  | .hbm, ⟨62, _⟩ => ⟨S2x8192x8, .f32⟩
  | .hbm, ⟨63, _⟩ => ⟨S2x8192x8, .f32⟩
  | .hbm, ⟨64, _⟩ => ⟨S2x8192x8, .f32⟩
  | .hbm, ⟨65, _⟩ => ⟨S2x8192x8, .f32⟩
  | .hbm, ⟨66, _⟩ => ⟨S2x8192x8, .f32⟩
  | .hbm, ⟨67, _⟩ => ⟨S2x8192x8, .f32⟩
  | .hbm, ⟨68, _⟩ => ⟨S2x8192x8, .f32⟩
  | .hbm, ⟨69, _⟩ => ⟨S16384x1792, .f32⟩
  | .hbm, ⟨70, _⟩ => ⟨S16384x512, .f32⟩
  | .hbm, ⟨71, _⟩ => ⟨S16384x512, .bf16⟩
  | .hbm, ⟨72, _⟩ => ⟨S16384x512, .f32⟩
  | .hbm, ⟨73, _⟩ => ⟨S16384x512, .bf16⟩
  | .hbm, ⟨74, _⟩ => ⟨S2x512x8192, .f32⟩
  | .hbm, ⟨75, _⟩ => ⟨S2x512x8192, .f32⟩
  | .hbm, ⟨76, _⟩ => ⟨S2x8x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_call0_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call1_v0 : Ref sig .tc := ⟨.hbm, 53, rfl⟩
abbrev main_call1_call0_cst : Ref sig .tc := ⟨.hbm, 54, rfl⟩
abbrev main_call1_call0_v0 : Ref sig .tc := ⟨.hbm, 55, rfl⟩
abbrev main_call1_call0_v1 : Ref sig .tc := ⟨.hbm, 56, rfl⟩
abbrev main_call1_call0_v2 : Ref sig .tc := ⟨.hbm, 57, rfl⟩
abbrev main_call1_call0_v3 : Ref sig .tc := ⟨.hbm, 58, rfl⟩
abbrev main_call1_call0_v4 : Ref sig .tc := ⟨.hbm, 59, rfl⟩
abbrev main_call1_call0_v5 : Ref sig .tc := ⟨.hbm, 60, rfl⟩
abbrev main_call1_call0_v6 : Ref sig .tc := ⟨.hbm, 61, rfl⟩
abbrev main_call1_call0_v7 : Ref sig .tc := ⟨.hbm, 62, rfl⟩
abbrev main_call1_call0_v8 : Ref sig .tc := ⟨.hbm, 63, rfl⟩
abbrev main_call1_call0_v9 : Ref sig .tc := ⟨.hbm, 64, rfl⟩
abbrev main_call1_call0_v10 : Ref sig .tc := ⟨.hbm, 65, rfl⟩
abbrev main_call1_call0_v11 : Ref sig .tc := ⟨.hbm, 66, rfl⟩
abbrev main_call1_v1 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]
-- ==== Kernel4.lean ====
abbrev S128x1x1024 : Shape := ⟨3, ![128, 1, 1024]⟩
abbrev S128x6144 : Shape := ⟨2, ![128, 6144]⟩
abbrev S1024 : Shape := ⟨1, ![1024]⟩
abbrev S1024x3240 : Shape := ⟨2, ![1024, 3240]⟩
abbrev S8 : Shape := ⟨1, ![8]⟩
abbrev S1024x1696 : Shape := ⟨2, ![1024, 1696]⟩
abbrev S_ : Shape := ⟨0, ![]⟩
abbrev S1024x1792 : Shape := ⟨2, ![1024, 1792]⟩
abbrev S1024x1536 : Shape := ⟨2, ![1024, 1536]⟩
abbrev S1024x8 : Shape := ⟨2, ![1024, 8]⟩
abbrev S1024x128 : Shape := ⟨2, ![1024, 128]⟩
abbrev S1024x3456 : Shape := ⟨2, ![1024, 3456]⟩
abbrev S1x8 : Shape := ⟨2, ![1, 8]⟩
abbrev S1x128 : Shape := ⟨2, ![1, 128]⟩
abbrev S128x1024 : Shape := ⟨2, ![128, 1024]⟩
abbrev S1x1024 : Shape := ⟨2, ![1, 1024]⟩
abbrev S1792x128 : Shape := ⟨2, ![1792, 128]⟩
abbrev S128x512 : Shape := ⟨2, ![128, 512]⟩
abbrev S512x128 : Shape := ⟨2, ![512, 128]⟩
abbrev S8x128 : Shape := ⟨2, ![8, 128]⟩
abbrev S128x1792 : Shape := ⟨2, ![128, 1792]⟩
abbrev S128 : Shape := ⟨1, ![128]⟩
abbrev S128x1 : Shape := ⟨2, ![128, 1]⟩
abbrev S1024x512 : Shape := ⟨2, ![1024, 512]⟩
abbrev S128x128 : Shape := ⟨2, ![128, 128]⟩

abbrev nBuf : Space → Nat
  | .hbm => 29
  | .vmem => 14
  | .smem => 0
  | _ => 0

abbrev bufTy : (tb : Table) → Fin (tcTables nBuf tb) → BufTy
  | .hbm, ⟨0, _⟩ => ⟨S128x1x1024, .f32⟩
  | .hbm, ⟨1, _⟩ => ⟨S128x6144, .f32⟩
  | .hbm, ⟨2, _⟩ => ⟨S1024, .f32⟩
  | .hbm, ⟨3, _⟩ => ⟨S1024x3240, .f32⟩
  | .hbm, ⟨4, _⟩ => ⟨S8, .f32⟩
  | .hbm, ⟨5, _⟩ => ⟨S1024x1696, .f32⟩
  | .hbm, ⟨6, _⟩ => ⟨S_, .i32⟩
  | .hbm, ⟨7, _⟩ => ⟨S_, .f32⟩
  | .hbm, ⟨8, _⟩ => ⟨S1024x1792, .f32⟩
  | .hbm, ⟨9, _⟩ => ⟨S1024x1536, .f32⟩
  | .hbm, ⟨10, _⟩ => ⟨S1024x8, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x3456, .f32⟩
  | .hbm, ⟨15, _⟩ => ⟨S1024x3456, .bf16⟩
  | .hbm, ⟨16, _⟩ => ⟨S1x8, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S128x1024, .f32⟩
  | .hbm, ⟨21, _⟩ => ⟨S1x1024, .f32⟩
  | .hbm, ⟨22, _⟩ => ⟨S1792x128, .f32⟩
  | .hbm, ⟨23, _⟩ => ⟨S128x512, .bf16⟩
  | .hbm, ⟨24, _⟩ => ⟨S128x512, .f32⟩
  | .hbm, ⟨25, _⟩ => ⟨S128x512, .f32⟩
  | .hbm, ⟨26, _⟩ => ⟨S512x128, .f32⟩
  | .hbm, ⟨27, _⟩ => ⟨S512x128, .f32⟩
  | .hbm, ⟨28, _⟩ => ⟨S8x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1x1024, .f32⟩
  | .local _ .vmem, ⟨4, _⟩ => ⟨S1024x3456, .bf16⟩
  | .local _ .vmem, ⟨5, _⟩ => ⟨S1x128, .f32⟩
  | .local _ .vmem, ⟨6, _⟩ => ⟨S1792x128, .f32⟩
  | .local _ .vmem, ⟨7, _⟩ => ⟨S128x512, .bf16⟩
  | .local _ .vmem, ⟨8, _⟩ => ⟨S128x512, .f32⟩
  | .local _ .vmem, ⟨9, _⟩ => ⟨S128x512, .f32⟩
  | .local _ .vmem, ⟨10, _⟩ => ⟨S512x128, .f32⟩
  | .local _ .vmem, ⟨11, _⟩ => ⟨S512x128, .f32⟩
  | .local _ .vmem, ⟨12, _⟩ => ⟨S8x128, .f32⟩
  | .local _ .vmem, ⟨13, _⟩ => ⟨S128x1792, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev main_v11_5 : Ref sig .tc := ⟨.hbm, 27, rfl⟩
abbrev main_v11_6 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1792x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S128x1x1024 : Shape := ⟨3, ![128, 1, 1024]⟩
abbrev S128x6144 : Shape := ⟨2, ![128, 6144]⟩
abbrev S1024 : Shape := ⟨1, ![1024]⟩
abbrev S1024x3240 : Shape := ⟨2, ![1024, 3240]⟩
abbrev S8 : Shape := ⟨1, ![8]⟩
abbrev S128x1024 : Shape := ⟨2, ![128, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x3240 : Shape := ⟨3, ![128, 1, 3240]⟩
abbrev S128x1x1696 : Shape := ⟨3, ![128, 1, 1696]⟩
abbrev S128x1x1792 : Shape := ⟨3, ![128, 1, 1792]⟩
abbrev S128x1x1544 : Shape := ⟨3, ![128, 1, 1544]⟩
abbrev S128x1x512 : Shape := ⟨3, ![128, 1, 512]⟩
abbrev S128x1x8 : Shape := ⟨3, ![128, 1, 8]⟩
abbrev S1x1x8 : Shape := ⟨3, ![1, 1, 8]⟩
abbrev S128x1792 : Shape := ⟨2, ![128, 1792]⟩
abbrev S1792x128 : Shape := ⟨2, ![1792, 128]⟩
abbrev S128x512 : Shape := ⟨2, ![128, 512]⟩
abbrev S512x128 : Shape := ⟨2, ![512, 128]⟩
abbrev S128x8 : Shape := ⟨2, ![128, 8]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x6144, .f32⟩
  | .hbm, ⟨2, _⟩ => ⟨S1024, .f32⟩
  | .hbm, ⟨3, _⟩ => ⟨S1024x3240, .f32⟩
  | .hbm, ⟨4, _⟩ => ⟨S8, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1x1024, .f32⟩
  | .hbm, ⟨12, _⟩ => ⟨S128x1x1024, .f32⟩
  | .hbm, ⟨13, _⟩ => ⟨S128x1x1024, .f32⟩
  | .hbm, ⟨14, _⟩ => ⟨S128x1x1024, .f32⟩
  | .hbm, ⟨15, _⟩ => ⟨S128x1x1024, .f32⟩
  | .hbm, ⟨16, _⟩ => ⟨S128x1x1024, .f32⟩
  | .hbm, ⟨17, _⟩ => ⟨S128x1x1024, .f32⟩
  | .hbm, ⟨18, _⟩ => ⟨S_, .f32⟩
  | .hbm, ⟨19, _⟩ => ⟨S128x1, .f32⟩
  | .hbm, ⟨20, _⟩ => ⟨S128x1x1, .f32⟩
  | .hbm, ⟨21, _⟩ => ⟨S_, .f32⟩
  | .hbm, ⟨22, _⟩ => ⟨S128x1x1, .f32⟩
  | .hbm, ⟨23, _⟩ => ⟨S128x1x1, .f32⟩
  | .hbm, ⟨24, _⟩ => ⟨S_, .f32⟩
  | .hbm, ⟨25, _⟩ => ⟨S128x1x1, .f32⟩
  | .hbm, ⟨26, _⟩ => ⟨S128x1x1, .f32⟩
  | .hbm, ⟨27, _⟩ => ⟨S128x1x1, .f32⟩
  | .hbm, ⟨28, _⟩ => ⟨S128x1x1024, .f32⟩
  | .hbm, ⟨29, _⟩ => ⟨S128x1x1024, .f32⟩
  | .hbm, ⟨30, _⟩ => ⟨S1x1x1024, .f32⟩
  | .hbm, ⟨31, _⟩ => ⟨S128x1x1024, .f32⟩
  | .hbm, ⟨32, _⟩ => ⟨S128x1x1024, .f32⟩
  | .hbm, ⟨33, _⟩ => ⟨S_, .f32⟩
  | .hbm, ⟨34, _⟩ => ⟨S128x1x1024, .f32⟩
  | .hbm, ⟨35, _⟩ => ⟨S128x1x1024, .f32⟩
  | .hbm, ⟨36, _⟩ => ⟨S128x1x1024, .f32⟩
  | .hbm, ⟨37, _⟩ => ⟨S128x1x1024, .f32⟩
  | .hbm, ⟨38, _⟩ => ⟨S128x1x3240, .f32⟩
  | .hbm, ⟨39, _⟩ => ⟨S128x1x1696, .f32⟩
  | .hbm, ⟨40, _⟩ => ⟨S_, .i32⟩
  | .hbm, ⟨41, _⟩ => ⟨S_, .f32⟩
  | .hbm, ⟨42, _⟩ => ⟨S128x1x1792, .f32⟩
  | .hbm, ⟨43, _⟩ => ⟨S128x1x1544, .f32⟩
  | .hbm, ⟨44, _⟩ => ⟨S128x1x512, .f32⟩
  | .hbm, ⟨45, _⟩ => ⟨S128x1x512, .f32⟩
  | .hbm, ⟨46, _⟩ => ⟨S128x1x512, .f32⟩
  | .hbm, ⟨47, _⟩ => ⟨S128x1x8, .f32⟩
  | .hbm, ⟨48, _⟩ => ⟨S1x1x8, .f32⟩
  | .hbm, ⟨49, _⟩ => ⟨S128x1x8, .f32⟩
  | .hbm, ⟨50, _⟩ => ⟨S128x1x8, .f32⟩
  | .hbm, ⟨51, _⟩ => ⟨S128x1x8, .f32⟩
  | .hbm, ⟨52, _⟩ => ⟨S_, .f32⟩
  | .hbm, ⟨53, _⟩ => ⟨S128x1x8, .f32⟩
  | .hbm, ⟨54, _⟩ => ⟨S128x1x8, .f32⟩
  | .hbm, ⟨55, _⟩ => ⟨S128x1x8, .f32⟩
  | .hbm, ⟨56, _⟩ => ⟨S128x1x8, .f32⟩
  | .hbm, ⟨57, _⟩ => ⟨S128x1x8, .i1⟩
  | .hbm, ⟨58, _⟩ => ⟨S128x1x8, .f32⟩
  | .hbm, ⟨59, _⟩ => ⟨S128x1x8, .f32⟩
  | .hbm, ⟨60, _⟩ => ⟨S128x1x8, .f32⟩
  | .hbm, ⟨61, _⟩ => ⟨S128x1x8, .f32⟩
  | .hbm, ⟨62, _⟩ => ⟨S128x1x8, .f32⟩
  | .hbm, ⟨63, _⟩ => ⟨S128x1x8, .f32⟩
  | .hbm, ⟨64, _⟩ => ⟨S128x1x8, .f32⟩
  | .hbm, ⟨65, _⟩ => ⟨S128x1x8, .f32⟩
  | .hbm, ⟨66, _⟩ => ⟨S128x1x8, .f32⟩
  | .hbm, ⟨67, _⟩ => ⟨S128x1792, .f32⟩
  | .hbm, ⟨68, _⟩ => ⟨S1792x128, .f32⟩
  | .hbm, ⟨69, _⟩ => ⟨S128x512, .f32⟩
  | .hbm, ⟨70, _⟩ => ⟨S128x512, .f32⟩
  | .hbm, ⟨71, _⟩ => ⟨S128x512, .f32⟩
  | .hbm, ⟨72, _⟩ => ⟨S512x128, .f32⟩
  | .hbm, ⟨73, _⟩ => ⟨S128x512, .f32⟩
  | .hbm, ⟨74, _⟩ => ⟨S512x128, .f32⟩
  | .hbm, ⟨75, _⟩ => ⟨S128x8, .f32⟩
  | .hbm, ⟨76, _⟩ => ⟨S8x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_call0_v0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call1_v0 : Ref sig .tc := ⟨.hbm, 51, rfl⟩
abbrev main_call1_call0_cst : Ref sig .tc := ⟨.hbm, 52, rfl⟩
abbrev main_call1_call0_v0 : Ref sig .tc := ⟨.hbm, 53, rfl⟩
abbrev main_call1_call0_v1 : Ref sig .tc := ⟨.hbm, 54, rfl⟩
abbrev main_call1_call0_v2 : Ref sig .tc := ⟨.hbm, 55, rfl⟩
abbrev main_call1_call0_v3 : Ref sig .tc := ⟨.hbm, 56, rfl⟩
abbrev main_call1_call0_v4 : Ref sig .tc := ⟨.hbm, 57, rfl⟩
abbrev main_call1_call0_v5 : Ref sig .tc := ⟨.hbm, 58, rfl⟩
abbrev main_call1_call0_v6 : Ref sig .tc := ⟨.hbm, 59, rfl⟩
abbrev main_call1_call0_v7 : Ref sig .tc := ⟨.hbm, 60, rfl⟩
abbrev main_call1_call0_v8 : Ref sig .tc := ⟨.hbm, 61, rfl⟩
abbrev main_call1_call0_v9 : Ref sig .tc := ⟨.hbm, 62, rfl⟩
abbrev main_call1_call0_v10 : Ref sig .tc := ⟨.hbm, 63, rfl⟩
abbrev main_call1_call0_v11 : Ref sig .tc := ⟨.hbm, 64, rfl⟩
abbrev main_call1_v1 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]
-- ==== Kernel5.lean ====
abbrev S128x1x1024 : Shape := ⟨3, ![128, 1, 1024]⟩
abbrev S128x1x512 : Shape := ⟨3, ![128, 1, 512]⟩
abbrev S128x6144 : Shape := ⟨2, ![128, 6144]⟩
abbrev S1x128x2x5632 : Shape := ⟨4, ![1, 128, 2, 5632]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S128x2x5632 : Shape := ⟨3, ![128, 2, 5632]⟩
abbrev S128x1024 : Shape := ⟨2, ![128, 1024]⟩
abbrev S128x512 : Shape := ⟨2, ![128, 512]⟩
abbrev S512x128 : Shape := ⟨2, ![512, 128]⟩
abbrev S128x1x5632 : Shape := ⟨3, ![128, 1, 5632]⟩
abbrev S128x5632 : Shape := ⟨2, ![128, 5632]⟩
abbrev S512x1024 : Shape := ⟨2, ![512, 1024]⟩
abbrev S128 : Shape := ⟨1, ![128]⟩
abbrev S128x1 : Shape := ⟨2, ![128, 1]⟩
abbrev S1024x2816 : Shape := ⟨2, ![1024, 2816]⟩
abbrev S128x2816 : Shape := ⟨2, ![128, 2816]⟩
abbrev S1x2816 : Shape := ⟨2, ![1, 2816]⟩

abbrev nBuf : Space → Nat
  | .hbm => 29
  | .vmem => 18
  | .smem => 0
  | _ => 0

abbrev bufTy : (tb : Table) → Fin (tcTables nBuf tb) → BufTy
  | .hbm, ⟨0, _⟩ => ⟨S128x1x1024, .f32⟩
  | .hbm, ⟨1, _⟩ => ⟨S128x1x512, .f32⟩
  | .hbm, ⟨2, _⟩ => ⟨S128x1x512, .f32⟩
  | .hbm, ⟨3, _⟩ => ⟨S128x6144, .f32⟩
  | .hbm, ⟨4, _⟩ => ⟨S1x128x2x5632, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S5632, .f32⟩
  | .hbm, ⟨10, _⟩ => ⟨S2816x1024, .f32⟩
  | .hbm, ⟨11, _⟩ => ⟨S1024, .f32⟩
  | .hbm, ⟨12, _⟩ => ⟨S1024x1024, .bf16⟩
  | .hbm, ⟨13, _⟩ => ⟨S1x1024, .f32⟩
  | .hbm, ⟨14, _⟩ => ⟨S1024x5632, .bf16⟩
  | .hbm, ⟨15, _⟩ => ⟨S1x5632, .f32⟩
  | .hbm, ⟨16, _⟩ => ⟨S2816x1024, .bf16⟩
  | .hbm, ⟨17, _⟩ => ⟨S1x1024, .f32⟩
  | .hbm, ⟨18, _⟩ => ⟨S128x2x5632, .f32⟩
  | .hbm, ⟨19, _⟩ => ⟨S128x1024, .f32⟩
  | .hbm, ⟨20, _⟩ => ⟨S128x512, .f32⟩
  | .hbm, ⟨21, _⟩ => ⟨S512x128, .f32⟩
  | .hbm, ⟨22, _⟩ => ⟨S128x512, .f32⟩
  | .hbm, ⟨23, _⟩ => ⟨S128x1x5632, .f32⟩
  | .hbm, ⟨24, _⟩ => ⟨S128x5632, .f32⟩
  | .hbm, ⟨25, _⟩ => ⟨S128x1x5632, .f32⟩
  | .hbm, ⟨26, _⟩ => ⟨S128x5632, .f32⟩
  | .hbm, ⟨27, _⟩ => ⟨S128x1024, .f32⟩
  | .hbm, ⟨28, _⟩ => ⟨S128x5632, .f32⟩
  | .local _ .vmem, ⟨0, _⟩ => ⟨S128x1024, .f32⟩
  | .local _ .vmem, ⟨1, _⟩ => ⟨S512x128, .f32⟩
  | .local _ .vmem, ⟨2, _⟩ => ⟨S128x512, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S1024x1024, .bf16⟩
  | .local _ .vmem, ⟨8, _⟩ => ⟨S1x1024, .f32⟩
  | .local _ .vmem, ⟨9, _⟩ => ⟨S1024x5632, .bf16⟩
  | .local _ .vmem, ⟨10, _⟩ => ⟨S3x5632, .f32⟩
  | .local _ .vmem, ⟨11, _⟩ => ⟨S1x5632, .f32⟩
  | .local _ .vmem, ⟨12, _⟩ => ⟨S2816x1024, .bf16⟩
  | .local _ .vmem, ⟨13, _⟩ => ⟨S1x1024, .f32⟩
  | .local _ .vmem, ⟨14, _⟩ => ⟨S128x5632, .f32⟩
  | .local _ .vmem, ⟨15, _⟩ => ⟨S128x5632, .f32⟩
  | .local _ .vmem, ⟨16, _⟩ => ⟨S128x1024, .f32⟩
  | .local _ .vmem, ⟨17, _⟩ => ⟨S128x5632, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_5 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_6 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x5632 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x5632 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference5Ideal.lean ====
abbrev S128x1x1024 : Shape := ⟨3, ![128, 1, 1024]⟩
abbrev S128x1x512 : Shape := ⟨3, ![128, 1, 512]⟩
abbrev S128x6144 : Shape := ⟨2, ![128, 6144]⟩
abbrev S1x128x2x5632 : Shape := ⟨4, ![1, 128, 2, 5632]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S128x1x6144 : Shape := ⟨3, ![128, 1, 6144]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x5632 : Shape := ⟨3, ![128, 1, 5632]⟩
abbrev S128x2x5632 : Shape := ⟨3, ![128, 2, 5632]⟩
abbrev S128x3x5632 : Shape := ⟨3, ![128, 3, 5632]⟩
abbrev S1x5632 : Shape := ⟨2, ![1, 5632]⟩
abbrev S1x1x5632 : Shape := ⟨3, ![1, 1, 5632]⟩
abbrev S128x1x2816 : Shape := ⟨3, ![128, 1, 2816]⟩
abbrev S128x1024 : Shape := ⟨2, ![128, 1024]⟩
abbrev S128x5632 : Shape := ⟨2, ![128, 5632]⟩

abbrev nBuf : Space → Nat
  | .hbm => 107
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x512, .f32⟩
  | .hbm, ⟨2, _⟩ => ⟨S128x1x512, .f32⟩
  | .hbm, ⟨3, _⟩ => ⟨S128x6144, .f32⟩
  | .hbm, ⟨4, _⟩ => ⟨S1x128x2x5632, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S5632, .f32⟩
  | .hbm, ⟨10, _⟩ => ⟨S2816x1024, .f32⟩
  | .hbm, ⟨11, _⟩ => ⟨S1024, .f32⟩
  | .hbm, ⟨12, _⟩ => ⟨S128x1x6144, .f32⟩
  | .hbm, ⟨13, _⟩ => ⟨S128x1x1024, .f32⟩
  | .hbm, ⟨14, _⟩ => ⟨S128x1x1024, .f32⟩
  | .hbm, ⟨15, _⟩ => ⟨S128x1x1024, .f32⟩
  | .hbm, ⟨16, _⟩ => ⟨S128x1x1024, .f32⟩
  | .hbm, ⟨17, _⟩ => ⟨S128x1x1024, .f32⟩
  | .hbm, ⟨18, _⟩ => ⟨S128x1x1024, .f32⟩
  | .hbm, ⟨19, _⟩ => ⟨S128x1x1024, .f32⟩
  | .hbm, ⟨20, _⟩ => ⟨S128x1x1024, .f32⟩
  | .hbm, ⟨21, _⟩ => ⟨S128x1x1024, .f32⟩
  | .hbm, ⟨22, _⟩ => ⟨S128x1x1024, .f32⟩
  | .hbm, ⟨23, _⟩ => ⟨S128x1x1024, .f32⟩
  | .hbm, ⟨24, _⟩ => ⟨S_, .f32⟩
  | .hbm, ⟨25, _⟩ => ⟨S128x1, .f32⟩
  | .hbm, ⟨26, _⟩ => ⟨S128x1x1, .f32⟩
  | .hbm, ⟨27, _⟩ => ⟨S_, .f32⟩
  | .hbm, ⟨28, _⟩ => ⟨S128x1x1, .f32⟩
  | .hbm, ⟨29, _⟩ => ⟨S128x1x1, .f32⟩
  | .hbm, ⟨30, _⟩ => ⟨S_, .f32⟩
  | .hbm, ⟨31, _⟩ => ⟨S128x1x1, .f32⟩
  | .hbm, ⟨32, _⟩ => ⟨S128x1x1, .f32⟩
  | .hbm, ⟨33, _⟩ => ⟨S128x1x1, .f32⟩
  | .hbm, ⟨34, _⟩ => ⟨S128x1x1024, .f32⟩
  | .hbm, ⟨35, _⟩ => ⟨S128x1x1024, .f32⟩
  | .hbm, ⟨36, _⟩ => ⟨S1x1x1024, .f32⟩
  | .hbm, ⟨37, _⟩ => ⟨S128x1x1024, .f32⟩
  | .hbm, ⟨38, _⟩ => ⟨S128x1x1024, .f32⟩
  | .hbm, ⟨39, _⟩ => ⟨S_, .f32⟩
  | .hbm, ⟨40, _⟩ => ⟨S128x1x1024, .f32⟩
  | .hbm, ⟨41, _⟩ => ⟨S128x1x1024, .f32⟩
  | .hbm, ⟨42, _⟩ => ⟨S128x1x1024, .f32⟩
  | .hbm, ⟨43, _⟩ => ⟨S128x1x1024, .f32⟩
  | .hbm, ⟨44, _⟩ => ⟨S128x1x5632, .f32⟩
  | .hbm, ⟨45, _⟩ => ⟨S128x2x5632, .f32⟩
  | .hbm, ⟨46, _⟩ => ⟨S128x3x5632, .f32⟩
  | .hbm, ⟨47, _⟩ => ⟨S128x1x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S128x1x5632, .f32⟩
  | .hbm, ⟨52, _⟩ => ⟨S128x1x5632, .f32⟩
  | .hbm, ⟨53, _⟩ => ⟨S_, .f32⟩
  | .hbm, ⟨54, _⟩ => ⟨S128x1x5632, .f32⟩
  | .hbm, ⟨55, _⟩ => ⟨S128x1x5632, .f32⟩
  | .hbm, ⟨56, _⟩ => ⟨S128x1x5632, .f32⟩
  | .hbm, ⟨57, _⟩ => ⟨S1x5632, .f32⟩
  | .hbm, ⟨58, _⟩ => ⟨S5632, .f32⟩
  | .hbm, ⟨59, _⟩ => ⟨S1x1x5632, .f32⟩
  | .hbm, ⟨60, _⟩ => ⟨S128x1x5632, .f32⟩
  | .hbm, ⟨61, _⟩ => ⟨S128x1x5632, .f32⟩
  | .hbm, ⟨62, _⟩ => ⟨S128x1x5632, .f32⟩
  | .hbm, ⟨63, _⟩ => ⟨S128x1x5632, .f32⟩
  | .hbm, ⟨64, _⟩ => ⟨S1x5632, .f32⟩
  | .hbm, ⟨65, _⟩ => ⟨S5632, .f32⟩
  | .hbm, ⟨66, _⟩ => ⟨S1x1x5632, .f32⟩
  | .hbm, ⟨67, _⟩ => ⟨S128x1x5632, .f32⟩
  | .hbm, ⟨68, _⟩ => ⟨S128x1x5632, .f32⟩
  | .hbm, ⟨69, _⟩ => ⟨S128x1x5632, .f32⟩
  | .hbm, ⟨70, _⟩ => ⟨S1x1x5632, .f32⟩
  | .hbm, ⟨71, _⟩ => ⟨S128x1x5632, .f32⟩
  | .hbm, ⟨72, _⟩ => ⟨S128x1x5632, .f32⟩
  | .hbm, ⟨73, _⟩ => ⟨S128x1x2816, .f32⟩
  | .hbm, ⟨74, _⟩ => ⟨S128x1x2816, .f32⟩
  | .hbm, ⟨75, _⟩ => ⟨S128x1x2816, .f32⟩
  | .hbm, ⟨76, _⟩ => ⟨S128x1x2816, .f32⟩
  | .hbm, ⟨77, _⟩ => ⟨S_, .f32⟩
  | .hbm, ⟨78, _⟩ => ⟨S128x1x2816, .f32⟩
  | .hbm, ⟨79, _⟩ => ⟨S128x1x2816, .f32⟩
  | .hbm, ⟨80, _⟩ => ⟨S_, .f32⟩
  | .hbm, ⟨81, _⟩ => ⟨S128x1x2816, .f32⟩
  | .hbm, ⟨82, _⟩ => ⟨S128x1x2816, .f32⟩
  | .hbm, ⟨83, _⟩ => ⟨S128x1x2816, .f32⟩
  | .hbm, ⟨84, _⟩ => ⟨S128x1x2816, .f32⟩
  | .hbm, ⟨85, _⟩ => ⟨S128x1x1024, .f32⟩
  | .hbm, ⟨86, _⟩ => ⟨S128x1x1024, .f32⟩
  | .hbm, ⟨87, _⟩ => ⟨S128x1x1024, .f32⟩
  | .hbm, ⟨88, _⟩ => ⟨S128x1x1024, .f32⟩
  | .hbm, ⟨89, _⟩ => ⟨S_, .f32⟩
  | .hbm, ⟨90, _⟩ => ⟨S128x1, .f32⟩
  | .hbm, ⟨91, _⟩ => ⟨S128x1x1, .f32⟩
  | .hbm, ⟨92, _⟩ => ⟨S_, .f32⟩
  | .hbm, ⟨93, _⟩ => ⟨S128x1x1, .f32⟩
  | .hbm, ⟨94, _⟩ => ⟨S128x1x1, .f32⟩
  | .hbm, ⟨95, _⟩ => ⟨S_, .f32⟩
  | .hbm, ⟨96, _⟩ => ⟨S128x1x1, .f32⟩
  | .hbm, ⟨97, _⟩ => ⟨S128x1x1, .f32⟩
  | .hbm, ⟨98, _⟩ => ⟨S128x1x1, .f32⟩
  | .hbm, ⟨99, _⟩ => ⟨S128x1x1024, .f32⟩
  | .hbm, ⟨100, _⟩ => ⟨S128x1x1024, .f32⟩
  | .hbm, ⟨101, _⟩ => ⟨S1x1x1024, .f32⟩
  | .hbm, ⟨102, _⟩ => ⟨S128x1x1024, .f32⟩
  | .hbm, ⟨103, _⟩ => ⟨S128x1x1024, .f32⟩
  | .hbm, ⟨104, _⟩ => ⟨S128x1024, .f32⟩
  | .hbm, ⟨105, _⟩ => ⟨S128x1x5632, .f32⟩
  | .hbm, ⟨106, _⟩ => ⟨S128x5632, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_4 : Ref sig .tc := ⟨.hbm, 89, rfl⟩
abbrev main_v64 : Ref sig .tc := ⟨.hbm, 90, rfl⟩
abbrev main_v65 : Ref sig .tc := ⟨.hbm, 91, rfl⟩
abbrev main_cst_5 : Ref sig .tc := ⟨.hbm, 92, rfl⟩
abbrev main_v66 : Ref sig .tc := ⟨.hbm, 93, rfl⟩
abbrev main_v67 : Ref sig .tc := ⟨.hbm, 94, rfl⟩
abbrev main_cst_6 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== Kernel6.lean ====
abbrev S128x1024 : Shape := ⟨2, ![128, 1024]⟩
abbrev S1024x6144 : Shape := ⟨2, ![1024, 6144]⟩
abbrev S6144 : Shape := ⟨1, ![6144]⟩
abbrev S1x6144 : Shape := ⟨2, ![1, 6144]⟩
abbrev S128x6144 : Shape := ⟨2, ![128, 6144]⟩
abbrev S1024x1536 : Shape := ⟨2, ![1024, 1536]⟩
abbrev S1x1536 : Shape := ⟨2, ![1, 1536]⟩
abbrev S128x1536 : Shape := ⟨2, ![128, 1536]⟩

abbrev nBuf : Space → Nat
  | .hbm => 6
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S1024x6144, .f32⟩
  | .hbm, ⟨2, _⟩ => ⟨S6144, .f32⟩
  | .hbm, ⟨3, _⟩ => ⟨S1024x6144, .bf16⟩
  | .hbm, ⟨4, _⟩ => ⟨S1x6144, .f32⟩
  | .hbm, ⟨5, _⟩ => ⟨S128x6144, .f32⟩
  | .local _ .vmem, ⟨0, _⟩ => ⟨S128x1024, .f32⟩
  | .local _ .vmem, ⟨1, _⟩ => ⟨S1024x1536, .bf16⟩
  | .local _ .vmem, ⟨2, _⟩ => ⟨S1024x1536, .bf16⟩
  | .local _ .vmem, ⟨3, _⟩ => ⟨S1x1536, .f32⟩
  | .local _ .vmem, ⟨4, _⟩ => ⟨S1x1536, .f32⟩
  | .local _ .vmem, ⟨5, _⟩ => ⟨S128x1536, .f32⟩
  | .local _ .vmem, ⟨6, _⟩ => ⟨S128x1536, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S128x1024 : Shape := ⟨2, ![128, 1024]⟩
abbrev S1024x6144 : Shape := ⟨2, ![1024, 6144]⟩
abbrev S6144 : Shape := ⟨1, ![6144]⟩
abbrev S_ : Shape := ⟨0, ![]⟩
abbrev S128x6144 : Shape := ⟨2, ![128, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x6144, .f32⟩
  | .hbm, ⟨2, _⟩ => ⟨S6144, .f32⟩
  | .hbm, ⟨3, _⟩ => ⟨S128x1024, .f32⟩
  | .hbm, ⟨4, _⟩ => ⟨S128x1024, .f32⟩
  | .hbm, ⟨5, _⟩ => ⟨S_, .f32⟩
  | .hbm, ⟨6, _⟩ => ⟨S128x1024, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x6144, .f32⟩
  | .hbm, ⟨13, _⟩ => ⟨S1x6144, .f32⟩
  | .hbm, ⟨14, _⟩ => ⟨S128x6144, .f32⟩
  | .hbm, ⟨15, _⟩ => ⟨S128x6144, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel7.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 6
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1024x6144, .bf16⟩
  | .hbm, ⟨4, _⟩ => ⟨S1x6144, .f32⟩
  | .hbm, ⟨5, _⟩ => ⟨S8x6144, .f32⟩
  | .local _ .vmem, ⟨0, _⟩ => ⟨S8x1024, .f32⟩
  | .local _ .vmem, ⟨1, _⟩ => ⟨S1024x1536, .bf16⟩
  | .local _ .vmem, ⟨2, _⟩ => ⟨S1024x1536, .bf16⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel8.lean ====
abbrev S128x8x64 : Shape := ⟨3, ![128, 8, 64]⟩
abbrev S8x64 : Shape := ⟨2, ![8, 64]⟩
abbrev S512 : Shape := ⟨1, ![512]⟩
abbrev S1x128x8x64x64 : Shape := ⟨5, ![1, 128, 8, 64, 64]⟩
abbrev S8x64x1 : Shape := ⟨3, ![8, 64, 1]⟩
abbrev S8x64x128 : Shape := ⟨3, ![8, 64, 128]⟩
abbrev S128x8x64x64 : Shape := ⟨4, ![128, 8, 64, 64]⟩
abbrev S8x64x64x128 : Shape := ⟨4, ![8, 64, 64, 128]⟩
abbrev S1x64x128 : Shape := ⟨3, ![1, 64, 128]⟩
abbrev S1x64x1 : Shape := ⟨3, ![1, 64, 1]⟩
abbrev S1x64x64x128 : Shape := ⟨4, ![1, 64, 64, 128]⟩
abbrev S64x128 : Shape := ⟨2, ![64, 128]⟩
abbrev S128 : Shape := ⟨1, ![128]⟩
abbrev S1x128 : Shape := ⟨2, ![1, 128]⟩
abbrev S1x1x64x128 : Shape := ⟨4, ![1, 1, 64, 128]⟩
abbrev S1x1x128 : Shape := ⟨3, ![1, 1, 128]⟩
abbrev S64x1 : Shape := ⟨2, ![64, 1]⟩

abbrev nBuf : Space → Nat
  | .hbm => 27
  | .vmem => 27
  | .smem => 0
  | _ => 0

abbrev bufTy : (tb : Table) → Fin (tcTables nBuf tb) → BufTy
  | .hbm, ⟨0, _⟩ => ⟨S128x8x64, .f32⟩
  | .hbm, ⟨1, _⟩ => ⟨S128x8x64, .f32⟩
  | .hbm, ⟨2, _⟩ => ⟨S128x8x64, .f32⟩
  | .hbm, ⟨3, _⟩ => ⟨S128x8x64, .f32⟩
  | .hbm, ⟨4, _⟩ => ⟨S128x8x64, .f32⟩
  | .hbm, ⟨5, _⟩ => ⟨S128x8x64, .f32⟩
  | .hbm, ⟨6, _⟩ => ⟨S128x8x64, .f32⟩
  | .hbm, ⟨7, _⟩ => ⟨S8x64, .f32⟩
  | .hbm, ⟨8, _⟩ => ⟨S512, .f32⟩
  | .hbm, ⟨9, _⟩ => ⟨S512, .f32⟩
  | .hbm, ⟨10, _⟩ => ⟨S1x128x8x64x64, .f32⟩
  | .hbm, ⟨11, _⟩ => ⟨S8x64x1, .f32⟩
  | .hbm, ⟨12, _⟩ => ⟨S8x64, .f32⟩
  | .hbm, ⟨13, _⟩ => ⟨S8x64x1, .f32⟩
  | .hbm, ⟨14, _⟩ => ⟨S8x64, .f32⟩
  | .hbm, ⟨15, _⟩ => ⟨S8x64x1, .f32⟩
  | .hbm, ⟨16, _⟩ => ⟨S8x64x128, .f32⟩
  | .hbm, ⟨17, _⟩ => ⟨S8x64x128, .f32⟩
  | .hbm, ⟨18, _⟩ => ⟨S8x64x128, .f32⟩
  | .hbm, ⟨19, _⟩ => ⟨S8x64x128, .f32⟩
  | .hbm, ⟨20, _⟩ => ⟨S8x64x128, .f32⟩
  | .hbm, ⟨21, _⟩ => ⟨S8x64x128, .f32⟩
  | .hbm, ⟨22, _⟩ => ⟨S8x64x128, .f32⟩
  | .hbm, ⟨23, _⟩ => ⟨S128x8x64x64, .f32⟩
  | .hbm, ⟨24, _⟩ => ⟨S8x64x64x128, .f32⟩
  | .hbm, ⟨25, _⟩ => ⟨S8x64x128, .f32⟩
  | .hbm, ⟨26, _⟩ => ⟨S8x64x64x128, .f32⟩
  | .local _ .vmem, ⟨0, _⟩ => ⟨S1x64x128, .f32⟩
  | .local _ .vmem, ⟨1, _⟩ => ⟨S1x64x128, .f32⟩
  | .local _ .vmem, ⟨2, _⟩ => ⟨S1x64x128, .f32⟩
  | .local _ .vmem, ⟨3, _⟩ => ⟨S1x64x128, .f32⟩
  | .local _ .vmem, ⟨4, _⟩ => ⟨S1x64x128, .f32⟩
  | .local _ .vmem, ⟨5, _⟩ => ⟨S1x64x128, .f32⟩
  | .local _ .vmem, ⟨6, _⟩ => ⟨S1x64x128, .f32⟩
  | .local _ .vmem, ⟨7, _⟩ => ⟨S1x64x128, .f32⟩
  | .local _ .vmem, ⟨8, _⟩ => ⟨S1x64x128, .f32⟩
  | .local _ .vmem, ⟨9, _⟩ => ⟨S1x64x128, .f32⟩
  | .local _ .vmem, ⟨10, _⟩ => ⟨S1x64x128, .f32⟩
  | .local _ .vmem, ⟨11, _⟩ => ⟨S1x64x128, .f32⟩
  | .local _ .vmem, ⟨12, _⟩ => ⟨S1x64x128, .f32⟩
  | .local _ .vmem, ⟨13, _⟩ => ⟨S1x64x128, .f32⟩
  | .local _ .vmem, ⟨14, _⟩ => ⟨S1x64x1, .f32⟩
  | .local _ .vmem, ⟨15, _⟩ => ⟨S1x64x1, .f32⟩
  | .local _ .vmem, ⟨16, _⟩ => ⟨S1x64x1, .f32⟩
  | .local _ .vmem, ⟨17, _⟩ => ⟨S1x64x1, .f32⟩
  | .local _ .vmem, ⟨18, _⟩ => ⟨S1x64x1, .f32⟩
  | .local _ .vmem, ⟨19, _⟩ => ⟨S1x64x1, .f32⟩
  | .local _ .vmem, ⟨20, _⟩ => ⟨S1x64x64x128, .f32⟩
  | .local _ .vmem, ⟨21, _⟩ => ⟨S1x64x64x128, .f32⟩
  | .local _ .vmem, ⟨22, _⟩ => ⟨S1x64x128, .f32⟩
  | .local _ .vmem, ⟨23, _⟩ => ⟨S1x64x128, .f32⟩
  | .local _ .vmem, ⟨24, _⟩ => ⟨S1x64x64x128, .f32⟩
  | .local _ .vmem, ⟨25, _⟩ => ⟨S1x64x64x128, .f32⟩
  | .local _ .vmem, ⟨26, _⟩ => ⟨S64x128, .f32⟩
  | _, _ => ⟨S128x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c64_i32 : BitVec 32 := 64#32
  let v19 : BitVec 32 := Scalar.addi c0_i32 c64_i32
  let c1_i32 : BitVec 32 := 1#32
  ⟨c0_i32, v19, c1_i32⟩
def k0_off1 (k0_t1 : Fin k0_t1_loop.trips) : Fin 4 → Nat :=
  let c0_42 : Index := 0#32
  let c0_i32 : BitVec 32 := 0#32
  let c1_i32 : BitVec 32 := 1#32
  let arg15 : BitVec 32 := Scf.iv c0_i32 c1_i32 k0_t1
  let v65 : Index := Scalar.indexCast arg15
  let c0_43 : Index := 0#32
  let c0_44 : Index := 0#32
  ![0, v65.toNat, 0, 0]
def k0_off2 (k0_t1 : Fin k0_t1_loop.trips) : Fin 3 → Nat :=
  let c0_47 : Index := 0#32
  let c0_i32 : BitVec 32 := 0#32
  let c1_i32 : BitVec 32 := 1#32
  let arg15 : BitVec 32 := Scf.iv c0_i32 c1_i32 k0_t1
  let v77 : Index := Scalar.indexCast arg15
  let c0_48 : Index := 0#32
  ![0, v77.toNat, 0]
def k0_off3 (k0_t1 : Fin k0_t1_loop.trips) : Fin 2 → Nat :=
  let c0_i32 : BitVec 32 := 0#32
  let c1_i32 : BitVec 32 := 1#32
  let arg15 : BitVec 32 := Scf.iv c0_i32 c1_i32 k0_t1
  let v90 : Index := Scalar.indexCast arg15
  let c0_53 : Index := 0#32
  ![v90.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference8Ideal.lean ====
abbrev S128x8x64 : Shape := ⟨3, ![128, 8, 64]⟩
abbrev S8x64 : Shape := ⟨2, ![8, 64]⟩
abbrev S512 : Shape := ⟨1, ![512]⟩
abbrev S1x128x8x64x64 : Shape := ⟨5, ![1, 128, 8, 64, 64]⟩
abbrev S_ : Shape := ⟨0, ![]⟩
abbrev S128x8 : Shape := ⟨2, ![128, 8]⟩
abbrev S128x8x1 : Shape := ⟨3, ![128, 8, 1]⟩
abbrev S128x8x64x64 : Shape := ⟨4, ![128, 8, 64, 64]⟩
abbrev S128x8x1x64 : Shape := ⟨4, ![128, 8, 1, 64]⟩
abbrev S128x8x64x1 : Shape := ⟨4, ![128, 8, 64, 1]⟩
abbrev S1x8x64 : Shape := ⟨3, ![1, 8, 64]⟩
abbrev S8x64x128 : Shape := ⟨3, ![8, 64, 128]⟩
abbrev S8x64x64x128 : Shape := ⟨4, ![8, 64, 64, 128]⟩

abbrev nBuf : Space → Nat
  | .hbm => 85
  | .vmem => 0
  | .smem => 0
  | _ => 0

abbrev bufTy : (tb : Table) → Fin (tcTables nBuf tb) → BufTy
  | .hbm, ⟨0, _⟩ => ⟨S128x8x64, .f32⟩
  | .hbm, ⟨1, _⟩ => ⟨S128x8x64, .f32⟩
  | .hbm, ⟨2, _⟩ => ⟨S128x8x64, .f32⟩
  | .hbm, ⟨3, _⟩ => ⟨S128x8x64, .f32⟩
  | .hbm, ⟨4, _⟩ => ⟨S128x8x64, .f32⟩
  | .hbm, ⟨5, _⟩ => ⟨S128x8x64, .f32⟩
  | .hbm, ⟨6, _⟩ => ⟨S128x8x64, .f32⟩
  | .hbm, ⟨7, _⟩ => ⟨S8x64, .f32⟩
  | .hbm, ⟨8, _⟩ => ⟨S512, .f32⟩
  | .hbm, ⟨9, _⟩ => ⟨S512, .f32⟩
  | .hbm, ⟨10, _⟩ => ⟨S1x128x8x64x64, .f32⟩
  | .hbm, ⟨11, _⟩ => ⟨S128x8x64, .f32⟩
  | .hbm, ⟨12, _⟩ => ⟨S_, .f32⟩
  | .hbm, ⟨13, _⟩ => ⟨S128x8, .f32⟩
  | .hbm, ⟨14, _⟩ => ⟨S128x8x1, .f32⟩
  | .hbm, ⟨15, _⟩ => ⟨S128x8x1, .f32⟩
  | .hbm, ⟨16, _⟩ => ⟨S_, .f32⟩
  | .hbm, ⟨17, _⟩ => ⟨S128x8x1, .f32⟩
  | .hbm, ⟨18, _⟩ => ⟨S128x8x1, .f32⟩
  | .hbm, ⟨19, _⟩ => ⟨S128x8x64, .f32⟩
  | .hbm, ⟨20, _⟩ => ⟨S128x8x64, .f32⟩
  | .hbm, ⟨21, _⟩ => ⟨S128x8x64x64, .f32⟩
  | .hbm, ⟨22, _⟩ => ⟨S128x8x64, .f32⟩
  | .hbm, ⟨23, _⟩ => ⟨S128x8x64, .f32⟩
  | .hbm, ⟨24, _⟩ => ⟨S128x8x1x64, .f32⟩
  | .hbm, ⟨25, _⟩ => ⟨S128x8x64x64, .f32⟩
  | .hbm, ⟨26, _⟩ => ⟨S128x8x64x64, .f32⟩
  | .hbm, ⟨27, _⟩ => ⟨S128x8x64x1, .f32⟩
  | .hbm, ⟨28, _⟩ => ⟨S128x8x64, .f32⟩
  | .hbm, ⟨29, _⟩ => ⟨S128x8x1x64, .f32⟩
  | .hbm, ⟨30, _⟩ => ⟨S128x8x64x64, .f32⟩
  | .hbm, ⟨31, _⟩ => ⟨S128x8x64x64, .f32⟩
  | .hbm, ⟨32, _⟩ => ⟨S128x8x64x64, .f32⟩
  | .hbm, ⟨33, _⟩ => ⟨S128x8x64x64, .f32⟩
  | .hbm, ⟨34, _⟩ => ⟨S128x8x64x1, .f32⟩
  | .hbm, ⟨35, _⟩ => ⟨S128x8x1x64, .f32⟩
  | .hbm, ⟨36, _⟩ => ⟨S128x8x64x64, .f32⟩
  | .hbm, ⟨37, _⟩ => ⟨S128x8x64x64, .f32⟩
  | .hbm, ⟨38, _⟩ => ⟨S128x8x64x64, .f32⟩
  | .hbm, ⟨39, _⟩ => ⟨S128x8x64x64, .f32⟩
  | .hbm, ⟨40, _⟩ => ⟨S128x8x64, .f32⟩
  | .hbm, ⟨41, _⟩ => ⟨S_, .f32⟩
  | .hbm, ⟨42, _⟩ => ⟨S128x8, .f32⟩
  | .hbm, ⟨43, _⟩ => ⟨S128x8x1, .f32⟩
  | .hbm, ⟨44, _⟩ => ⟨S_, .f32⟩
  | .hbm, ⟨45, _⟩ => ⟨S128x8x1, .f32⟩
  | .hbm, ⟨46, _⟩ => ⟨S128x8x1, .f32⟩
  | .hbm, ⟨47, _⟩ => ⟨S128x8x64, .f32⟩
  | .hbm, ⟨48, _⟩ => ⟨S128x8x64, .f32⟩
  | .hbm, ⟨49, _⟩ => ⟨S128x8x64, .f32⟩
  | .hbm, ⟨50, _⟩ => ⟨S_, .f32⟩
  | .hbm, ⟨51, _⟩ => ⟨S128x8, .f32⟩
  | .hbm, ⟨52, _⟩ => ⟨S128x8x1, .f32⟩
  | .hbm, ⟨53, _⟩ => ⟨S_, .f32⟩
  | .hbm, ⟨54, _⟩ => ⟨S128x8x1, .f32⟩
  | .hbm, ⟨55, _⟩ => ⟨S128x8x1, .f32⟩
  | .hbm, ⟨56, _⟩ => ⟨S128x8x64, .f32⟩
  | .hbm, ⟨57, _⟩ => ⟨S128x8x64, .f32⟩
  | .hbm, ⟨58, _⟩ => ⟨S_, .f32⟩
  | .hbm, ⟨59, _⟩ => ⟨S128x8x1, .f32⟩
  | .hbm, ⟨60, _⟩ => ⟨S128x8x1, .f32⟩
  | .hbm, ⟨61, _⟩ => ⟨S128x8x1, .f32⟩
  | .hbm, ⟨62, _⟩ => ⟨S128x8x64, .f32⟩
  | .hbm, ⟨63, _⟩ => ⟨S128x8x64, .f32⟩
  | .hbm, ⟨64, _⟩ => ⟨S8x64, .f32⟩
  | .hbm, ⟨65, _⟩ => ⟨S1x8x64, .f32⟩
  | .hbm, ⟨66, _⟩ => ⟨S128x8x64, .f32⟩
  | .hbm, ⟨67, _⟩ => ⟨S128x8x64, .f32⟩
  | .hbm, ⟨68, _⟩ => ⟨S8x64, .f32⟩
  | .hbm, ⟨69, _⟩ => ⟨S1x8x64, .f32⟩
  | .hbm, ⟨70, _⟩ => ⟨S128x8x64, .f32⟩
  | .hbm, ⟨71, _⟩ => ⟨S128x8x64, .f32⟩
  | .hbm, ⟨72, _⟩ => ⟨S128x8x64, .f32⟩
  | .hbm, ⟨73, _⟩ => ⟨S1x8x64, .f32⟩
  | .hbm, ⟨74, _⟩ => ⟨S128x8x64, .f32⟩
  | .hbm, ⟨75, _⟩ => ⟨S128x8x64, .f32⟩
  | .hbm, ⟨76, _⟩ => ⟨S_, .f32⟩
  | .hbm, ⟨77, _⟩ => ⟨S128x8, .f32⟩
  | .hbm, ⟨78, _⟩ => ⟨S128x8x1, .f32⟩
  | .hbm, ⟨79, _⟩ => ⟨S128x8x64, .f32⟩
  | .hbm, ⟨80, _⟩ => ⟨S128x8x64, .f32⟩
  | .hbm, ⟨81, _⟩ => ⟨S128x8x64, .f32⟩
  | .hbm, ⟨82, _⟩ => ⟨S128x8x64, .f32⟩
  | .hbm, ⟨83, _⟩ => ⟨S8x64x128, .f32⟩
  | .hbm, ⟨84, _⟩ => ⟨S8x64x64x128, .f32⟩
  | _, _ => ⟨S128x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_0 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_5 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Proof.AttnRun.lean ====
/- The run of the attention kernel's body at a symbolic grid point: its two key loops by their generated invariants,
   then the masked last step, 2048 keys wide at the odd query tiles and 1024 wide at the even ones. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.WholeRead
public import Idealize.ShloMosaic.Lib.VecWindow

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where the last step is 2048 keys wide: what the result's buffer ends with is found by the run. -/
def run_A (c : Dev nD) (i : grid0.Coords) (h1 : k0_cond1 i = 1#1) (arg3 : Memref sig .tc .vmem S1024x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x1x2x8192 .f32) (harg6 : arg6.IsWhole) (arg7 : Memref sig .tc .vmem S1024x128 .bf16) (harg7 : arg7.IsWhole)
    (x0 : Vec F S1024x128 .f32) (x1 : Vec F S8192x128 .bf16) (x2 : Vec F S8192x128 .bf16) (x3 : Vec F S1x1x2x8192 .f32) :
    { O : Vec F S1024x128 .bf16 // ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare O) -∗ K ⟨⟩))
          ⊢ wp frame (wpE (defs₀ (F := F)) Variants.none c none) E (cc0_fox_prompt i arg3 harg3 arg4 harg4 arg5 harg5 arg6 harg6 arg7 harg7) K } := by
  refine ⟨?_, fun E K => ?run⟩
  case run =>
    simp only [cc0_fox_prompt_eq_skeleton]; unfold cc0_fox_prompt_skel
    simp only [k0_part5_eq_skeleton, k0_part6_eq_skeleton]
    unfold k0_part5_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; isplitr; swap; · iexact H4
    ipureintro
    exact View.read_writes_full _ _ _ _ _

set_option maxHeartbeats 4000000 in
/-- The body where the last step is 1024 keys wide: what the result's buffer ends with is found by the run. -/
def run_B (c : Dev nD) (i : grid0.Coords) (h1 : ¬ k0_cond1 i = 1#1) (arg3 : Memref sig .tc .vmem S1024x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x1x2x8192 .f32) (harg6 : arg6.IsWhole) (arg7 : Memref sig .tc .vmem S1024x128 .bf16) (harg7 : arg7.IsWhole)
    (x0 : Vec F S1024x128 .f32) (x1 : Vec F S8192x128 .bf16) (x2 : Vec F S8192x128 .bf16) (x3 : Vec F S1x1x2x8192 .f32) :
    { O : Vec F S1024x128 .bf16 // ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare O) -∗ K ⟨⟩))
          ⊢ wp frame (wpE (defs₀ (F := F)) Variants.none c none) E (cc0_fox_prompt i arg3 harg3 arg4 harg4 arg5 harg5 arg6 harg6 arg7 harg7) K } := by
  refine ⟨?_, fun E K => ?run⟩
  case run =>
    simp only [cc0_fox_prompt_eq_skeleton]; unfold cc0_fox_prompt_skel
    simp only [k0_part5_eq_skeleton, k0_part6_eq_skeleton]
    unfold k0_part5_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; isplitr; swap; · iexact H4
    ipureintro
    exact View.read_writes_full _ _ _ _ _

/-- What one key step carries: per head the running maximum, sum and weighted sum. -/
abbrev Carry (F : FTy → Type) [FloatOps F] [Named F] := FVec F S1024x1 .f32 × FVec F S1024x1 .f32 × FVec F S1024x128 .f32 × FVec F S1024x1 .f32 × FVec F S1024x1 .f32 × FVec F S1024x128 .f32

/-- A load of a whole buffer's box, the buffer held at the contents that read `X`, is the box of `X`. -/
theorem readAt_unread_ld {s : Shape} {e : EltTy} {m : Memref sig .tc .vmem s e} (h : m.IsWhole) (X : Vec F s e) (R : Rect s) :
    View.readAt (Elt F) m.view R.toLoadRect (h.unread X) = View.ld X R :=
  funext fun x => h.readAt_unread X R.toLoadRect x

/-- One unmasked key step, from the blocks. -/
def tripV (i : grid0.Coords) (x1 : Vec F S8192x128 .bf16) (x2 : Vec F S8192x128 .bf16) (x3 : Vec F S1x1x2x8192 .f32)
    (v14 v17 : FVec F S1024x128 .bf16) (v22 : FVec F S2x1 .f32) (k : Fin (k0_t1_loop i).trips) (a : Carry F) : Carry F :=
  (k0_pay6 v14 v22 a.1 (View.ld x1 (Rect.unit (s := S8192x128) (k0_off2 i k) S2048x128.size (k0_off2_inb i k))) (View.ld x3 (Rect.unit (s := S1x1x2x8192) (k0_off3 i k) S1x1x2x2048.size (k0_off3_inb i k))),
   k0_pay9 v14 v22 a.1 a.2.1 (View.ld x1 (Rect.unit (s := S8192x128) (k0_off2 i k) S2048x128.size (k0_off2_inb i k))) (View.ld x3 (Rect.unit (s := S1x1x2x8192) (k0_off3 i k) S1x1x2x2048.size (k0_off3_inb i k))),
   k0_pay10 v14 v22 a.1 a.2.2.1 (View.ld x1 (Rect.unit (s := S8192x128) (k0_off2 i k) S2048x128.size (k0_off2_inb i k))) (View.ld x2 (Rect.unit (s := S8192x128) (k0_off2 i k) S2048x128.size (k0_off2_inb i k))) (View.ld x3 (Rect.unit (s := S1x1x2x8192) (k0_off3 i k) S1x1x2x2048.size (k0_off3_inb i k))),
   k0_pay57 a.2.2.2.1 (k0_pay11 v17 v22 (View.ld x1 (Rect.unit (s := S8192x128) (k0_off2 i k) S2048x128.size (k0_off2_inb i k))) (View.ld x3 (Rect.unit (s := S1x1x2x8192) (k0_off3 i k) S1x1x2x2048.size (k0_off3_inb i k)))),
   k0_pay60 a.2.2.2.1 a.2.2.2.2.1 (k0_pay11 v17 v22 (View.ld x1 (Rect.unit (s := S8192x128) (k0_off2 i k) S2048x128.size (k0_off2_inb i k))) (View.ld x3 (Rect.unit (s := S1x1x2x8192) (k0_off3 i k) S1x1x2x2048.size (k0_off3_inb i k)))),
   k0_pay61 a.2.2.2.1 a.2.2.2.2.2 (k0_pay3 (View.ld x2 (Rect.unit (s := S8192x128) (k0_off2 i k) S2048x128.size (k0_off2_inb i k)))) (k0_pay11 v17 v22 (View.ld x1 (Rect.unit (s := S8192x128) (k0_off2 i k) S2048x128.size (k0_off2_inb i k))) (View.ld x3 (Rect.unit (s := S1x1x2x8192) (k0_off3 i k) S1x1x2x2048.size (k0_off3_inb i k)))))

/-- The carried value before step `k`. -/
def loopV (i : grid0.Coords) (x1 : Vec F S8192x128 .bf16) (x2 : Vec F S8192x128 .bf16) (x3 : Vec F S1x1x2x8192 .f32)
    (v14 v17 : FVec F S1024x128 .bf16) (v22 : FVec F S2x1 .f32) : ℕ → Carry F
  | 0 => (k0_pay54, k0_pay55, k0_pay56, k0_pay54, k0_pay55, k0_pay56)
  | k + 1 => if h : k < (k0_t1_loop i).trips then tripV i x1 x2 x3 v14 v17 v22 ⟨k, h⟩ (loopV i x1 x2 x3 v14 v17 v22 k) else loopV i x1 x2 x3 v14 v17 v22 k

/-- What one step of the loop yields is `tripV`. -/
theorem trip_eq (c : Dev nD) (i : grid0.Coords) (arg3 : Memref sig .tc .vmem S1024x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x1x2x8192 .f32) (harg6 : arg6.IsWhole) (arg7 : Memref sig .tc .vmem S1024x128 .bf16) (harg7 : arg7.IsWhole) (v0 : BitVec 32) (v14 v17 : FVec F S1024x128 .bf16) (v22 : FVec F S2x1 .f32) (v23 v24 : FVec F S1024x1 .f32) (v25 : FVec F S1024x128 .f32) (v26 : BitVec 32) (v37 : BitVec 1) (v38 : BitVec 32)
    (x1 : Vec F S8192x128 .bf16) (x2 : Vec F S8192x128 .bf16) (x3 : Vec F S1x1x2x8192 .f32) (k : Fin (k0_t1_loop i).trips) (a : Carry F) :
    (trip_k0_t1 Variants.none c none i arg3 harg3 arg4 harg4 arg5 harg5 arg6 harg6 arg7 harg7 v0 v14 v17 v22 v23 v24 v25 v26 v37 v38 (harg4.unread x1) (harg5.unread x2) (harg6.unread x3) k).1 a
      = tripV i x1 x2 x3 v14 v17 v22 k a := by
  unfold trip_k0_t1
  dsimp only
  unfold trip_k0_t1.sl.r_1 trip_k0_t1.sl.r_2 trip_k0_t1.sl.r_3 trip_k0_t1.sl.r_4 trip_k0_t1.sl.r
  rw [readAt_unread_ld harg4, readAt_unread_ld harg5, readAt_unread_ld harg6]
  rfl

/-- The loop's carried value before step `k` is `loopV`. -/
theorem st_eq (c : Dev nD) (i : grid0.Coords) (arg3 : Memref sig .tc .vmem S1024x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x1x2x8192 .f32) (harg6 : arg6.IsWhole) (arg7 : Memref sig .tc .vmem S1024x128 .bf16) (harg7 : arg7.IsWhole) (v0 : BitVec 32) (v14 v17 : FVec F S1024x128 .bf16) (v22 : FVec F S2x1 .f32) (v26 : BitVec 32) (v37 : BitVec 1) (v38 : BitVec 32)
    (x1 : Vec F S8192x128 .bf16) (x2 : Vec F S8192x128 .bf16) (x3 : Vec F S1x1x2x8192 .f32) (k : ℕ) :
    st_k0_t1 Variants.none c none i arg3 harg3 arg4 harg4 arg5 harg5 arg6 harg6 arg7 harg7 v0 v14 v17 v22 k0_pay54 k0_pay55 k0_pay56 v26 v37 v38 (harg4.unread x1) (harg5.unread x2) (harg6.unread x3) (k0_pay54, k0_pay55, k0_pay56, k0_pay54, k0_pay55, k0_pay56) k
      = loopV i x1 x2 x3 v14 v17 v22 k := by
  induction k with
  | zero => rfl
  | succ k ih =>
    rw [st_k0_t1.eq_2, ih]; unfold st_k0_t1Step; rw [loopV]
    by_cases h : k < (k0_t1_loop i).trips
    · rw [dif_pos h, dif_pos h]; exact trip_eq ..
    · rw [dif_neg h, dif_neg h]

/-- The second loop has no step: its carried value stays. -/
theorem st2_all (c : Dev nD) (i : grid0.Coords) (arg3 : Memref sig .tc .vmem S1024x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x1x2x8192 .f32) (harg6 : arg6.IsWhole) (arg7 : Memref sig .tc .vmem S1024x128 .bf16) (harg7 : arg7.IsWhole) (v0 : BitVec 32) (v14 v17 : FVec F S1024x128 .bf16) (v22 : FVec F S2x1 .f32) (v23 v24 : FVec F S1024x1 .f32) (v25 : FVec F S1024x128 .f32) (v26 : BitVec 32) (v37 : BitVec 1) (v38 : BitVec 32) (v47 : BitVec 32)
    (X4 : BufTy.Contents (Elt F) arg4.view.ty) (X5 : BufTy.Contents (Elt F) arg5.view.ty) (X6 : BufTy.Contents (Elt F) arg6.view.ty) (a : Carry F) (k : ℕ) :
    st_k0_t2 Variants.none c none i arg3 harg3 arg4 harg4 arg5 harg5 arg6 harg6 arg7 harg7 v0 v14 v17 v22 v23 v24 v25 v26 v37 v38 v47 X4 X5 X6 a k = a := by
  induction k with
  | zero => rfl
  | succ k ih =>
    rw [st_k0_t2.eq_2, ih]; unfold st_k0_t2Step
    exact dif_neg (Nat.not_lt.mpr ((k0_t2_abs i).2.1.trans (Nat.zero_le _)))

/-- The query tile's first row, as a word. -/
def w0 (i : grid0.Coords) : BitVec 32 := Scalar.muli (BitVec.ofNat 32 (i 2).val) 1024#32

/-- The first key of the last step, as a word. -/
def w51 (i : grid0.Coords) : BitVec 32 :=
  Scalar.muli (Scalar.select (Scalar.andi
      (Scalar.cmpi .ne (Scalar.subi (Scalar.extui (Scalar.cmpi .sgt (w0 i) 0#32)) (Scalar.extui (Scalar.cmpi .slt (w0 i) 0#32)))
        (Scalar.subi (Scalar.extui (Scalar.cmpi .sgt 2048#32 0#32)) (Scalar.extui (Scalar.cmpi .slt 2048#32 0#32))))
      (Scalar.cmpi .ne (Scalar.remsi (w0 i) 2048#32) 0#32))
    (Scalar.subi (Scalar.divsi (w0 i) 2048#32) 1#32) (Scalar.divsi (w0 i) 2048#32)) 2048#32

/-- The first head's scaled queries, the other head's lanes at zero. -/
def qLo (x0 : Vec F S1024x128 .f32) : FVec F S1024x128 .bf16 := k0_pay51 (View.ld x0 (Rect.unit (s := S1024x128) ![0, 0] S1024x128.size inb_S1024x128_S1024x128_0_0))
/-- The second head's. -/
def qHi (x0 : Vec F S1024x128 .f32) : FVec F S1024x128 .bf16 := k0_pay52 (View.ld x0 (Rect.unit (s := S1024x128) ![0, 0] S1024x128.size inb_S1024x128_S1024x128_0_0))
/-- The two heads' reference decay of the tile. -/
def cRef (i : grid0.Coords) (x3 : Vec F S1x1x2x8192 .f32) : FVec F S2x1 .f32 := k0_pay53 (View.ld x3 (Rect.unit (s := S1x1x2x8192) (k0_off1 i) S1x1x2x128.size (k0_off1_inb i)))
/-- The carried value after the last unmasked step. -/
def carryEnd (i : grid0.Coords) (x0 : Vec F S1024x128 .f32) (x1 : Vec F S8192x128 .bf16) (x2 : Vec F S8192x128 .bf16) (x3 : Vec F S1x1x2x8192 .f32) : Carry F :=
  loopV i x1 x2 x3 (qLo x0) (qHi x0) (cRef i x3) (k0_t1_loop i).trips

/-- What the body leaves in the result's block where the last step is 2048 keys wide. -/
def outA (i : grid0.Coords) (h1 : k0_cond1 i = 1#1) (x0 : Vec F S1024x128 .f32) (x1 : Vec F S8192x128 .bf16) (x2 : Vec F S8192x128 .bf16) (x3 : Vec F S1x1x2x8192 .f32) : Vec F S1024x128 .bf16 :=
  k0_pay1 k0_pay49
    (k0_pay79 (k0_pay30 (w0 i) (qLo x0) (cRef i x3) (carryEnd i x0 x1 x2 x3).1 (carryEnd i x0 x1 x2 x3).2.1 (w51 i) (View.ld x1 (Rect.unit (s := S8192x128) (k0_off6 i) S2048x128.size (k0_off6_inb i h1))) (View.ld x3 (Rect.unit (s := S1x1x2x8192) (k0_off7 i) S1x1x2x2048.size (k0_off7_inb i h1))))
      (k0_pay31 (w0 i) (qLo x0) (cRef i x3) (carryEnd i x0 x1 x2 x3).1 (carryEnd i x0 x1 x2 x3).2.2.1 (w51 i) (View.ld x1 (Rect.unit (s := S8192x128) (k0_off6 i) S2048x128.size (k0_off6_inb i h1))) (View.ld x2 (Rect.unit (s := S8192x128) (k0_off6 i) S2048x128.size (k0_off6_inb i h1))) (View.ld x3 (Rect.unit (s := S1x1x2x8192) (k0_off7 i) S1x1x2x2048.size (k0_off7_inb i h1)))))
    (k0_pay80 (k0_pay71 (carryEnd i x0 x1 x2 x3).2.2.2.1 (carryEnd i x0 x1 x2 x3).2.2.2.2.1 (k0_pay25 (w0 i) (w51 i)) (k0_pay32 (qHi x0) (View.ld x1 (Rect.unit (s := S8192x128) (k0_off6 i) S2048x128.size (k0_off6_inb i h1)))) (k0_pay33 (View.ld x3 (Rect.unit (s := S1x1x2x8192) (k0_off7 i) S1x1x2x2048.size (k0_off7_inb i h1)))) (k0_pay34 (cRef i x3)))
      (k0_pay72 (carryEnd i x0 x1 x2 x3).2.2.2.1 (carryEnd i x0 x1 x2 x3).2.2.2.2.2 (k0_pay23 (View.ld x2 (Rect.unit (s := S8192x128) (k0_off6 i) S2048x128.size (k0_off6_inb i h1)))) (k0_pay25 (w0 i) (w51 i)) (k0_pay32 (qHi x0) (View.ld x1 (Rect.unit (s := S8192x128) (k0_off6 i) S2048x128.size (k0_off6_inb i h1)))) (k0_pay33 (View.ld x3 (Rect.unit (s := S1x1x2x8192) (k0_off7 i) S1x1x2x2048.size (k0_off7_inb i h1)))) (k0_pay34 (cRef i x3))))

/-- The run's find is `outA`. -/
theorem run_A_eq (c : Dev nD) (i : grid0.Coords) (h1 : k0_cond1 i = 1#1) (arg3 : Memref sig .tc .vmem S1024x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x1x2x8192 .f32) (harg6 : arg6.IsWhole) (arg7 : Memref sig .tc .vmem S1024x128 .bf16) (harg7 : arg7.IsWhole)
    (x0 : Vec F S1024x128 .f32) (x1 : Vec F S8192x128 .bf16) (x2 : Vec F S8192x128 .bf16) (x3 : Vec F S1x1x2x8192 .f32) :
    (run_A c i h1 arg3 harg3 arg4 harg4 arg5 harg5 arg6 harg6 arg7 harg7 x0 x1 x2 x3).1 = outA i h1 x0 x1 x2 x3 := by
  unfold run_A
  dsimp only
  unfold run_A.sl.r_7 run_A.sl.r_8
  unfold run_A.sl.r_6 run_A.sl.r_5 run_A.sl.r_4 run_A.sl.r_3 run_A.sl.r_2 run_A.sl.r_1 run_A.sl.r
  dsimp only
  simp only [readAt_unread_ld]
  rw [st2_all]
  dsimp only
  rw [st_eq]
  unfold outA carryEnd qLo qHi cRef w51 w0
  have e : (k0_t1_loop i).trips = Scf.trips (k0_t1_loop i).lb (k0_t1_loop i).ub (k0_t1_loop i).st := rfl
  rw [e]; dsimp only [k0_t1_loop]
  unfold run_A.sl.v0
  rfl

/-- What the body leaves in the result's block where the last step is 1024 keys wide. -/
def outB (i : grid0.Coords) (h1 : ¬ k0_cond1 i = 1#1) (x0 : Vec F S1024x128 .f32) (x1 : Vec F S8192x128 .bf16) (x2 : Vec F S8192x128 .bf16) (x3 : Vec F S1x1x2x8192 .f32) : Vec F S1024x128 .bf16 :=
  k0_pay1 k0_pay49
    (k0_pay79 (k0_pay43 (w0 i) (qLo x0) (cRef i x3) (carryEnd i x0 x1 x2 x3).1 (carryEnd i x0 x1 x2 x3).2.1 (w51 i) (View.ld x1 (Rect.unit (s := S8192x128) (k0_off8 i) S1024x128.size (k0_off8_inb i h1))) (View.ld x3 (Rect.unit (s := S1x1x2x8192) (k0_off9 i) S1x1x2x1024.size (k0_off9_inb i h1))))
      (k0_pay44 (w0 i) (qLo x0) (cRef i x3) (carryEnd i x0 x1 x2 x3).1 (carryEnd i x0 x1 x2 x3).2.2.1 (w51 i) (View.ld x1 (Rect.unit (s := S8192x128) (k0_off8 i) S1024x128.size (k0_off8_inb i h1))) (View.ld x2 (Rect.unit (s := S8192x128) (k0_off8 i) S1024x128.size (k0_off8_inb i h1))) (View.ld x3 (Rect.unit (s := S1x1x2x8192) (k0_off9 i) S1x1x2x1024.size (k0_off9_inb i h1)))))
    (k0_pay80 (k0_pay77 (carryEnd i x0 x1 x2 x3).2.2.2.1 (carryEnd i x0 x1 x2 x3).2.2.2.2.1 (k0_pay38 (w0 i) (w51 i)) (k0_pay45 (qHi x0) (View.ld x1 (Rect.unit (s := S8192x128) (k0_off8 i) S1024x128.size (k0_off8_inb i h1)))) (k0_pay46 (View.ld x3 (Rect.unit (s := S1x1x2x8192) (k0_off9 i) S1x1x2x1024.size (k0_off9_inb i h1)))) (k0_pay47 (cRef i x3)))
      (k0_pay78 (carryEnd i x0 x1 x2 x3).2.2.2.1 (carryEnd i x0 x1 x2 x3).2.2.2.2.2 (k0_pay36 (View.ld x2 (Rect.unit (s := S8192x128) (k0_off8 i) S1024x128.size (k0_off8_inb i h1)))) (k0_pay38 (w0 i) (w51 i)) (k0_pay45 (qHi x0) (View.ld x1 (Rect.unit (s := S8192x128) (k0_off8 i) S1024x128.size (k0_off8_inb i h1)))) (k0_pay46 (View.ld x3 (Rect.unit (s := S1x1x2x8192) (k0_off9 i) S1x1x2x1024.size (k0_off9_inb i h1)))) (k0_pay47 (cRef i x3))))

/-- The run's find is `outB`. -/
theorem run_B_eq (c : Dev nD) (i : grid0.Coords) (h1 : ¬ k0_cond1 i = 1#1) (arg3 : Memref sig .tc .vmem S1024x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x1x2x8192 .f32) (harg6 : arg6.IsWhole) (arg7 : Memref sig .tc .vmem S1024x128 .bf16) (harg7 : arg7.IsWhole)
    (x0 : Vec F S1024x128 .f32) (x1 : Vec F S8192x128 .bf16) (x2 : Vec F S8192x128 .bf16) (x3 : Vec F S1x1x2x8192 .f32) :
    (run_B c i h1 arg3 harg3 arg4 harg4 arg5 harg5 arg6 harg6 arg7 harg7 x0 x1 x2 x3).1 = outB i h1 x0 x1 x2 x3 := by
  unfold run_B
  dsimp only
  unfold run_B.sl.r_7 run_B.sl.r_8
  unfold run_B.sl.r_6 run_B.sl.r_5 run_B.sl.r_4 run_B.sl.r_3 run_B.sl.r_2 run_B.sl.r_1 run_B.sl.r
  dsimp only
  simp only [readAt_unread_ld]
  rw [st2_all]
  dsimp only
  rw [st_eq]
  unfold outB carryEnd qLo qHi cRef w51 w0
  have e : (k0_t1_loop i).trips = Scf.trips (k0_t1_loop i).lb (k0_t1_loop i).ub (k0_t1_loop i).st := rfl
  rw [e]; dsimp only [k0_t1_loop]
  unfold run_B.sl.v0
  rfl

end Cert.KernelIdeal.Attn

end
-- ==== Proof.AttnFrame.lean ====
/- The attention kernel's frame: the proof data over the hand-run body, its obligation at every grid point, and the
   launch, every output named. -/
module

public import proofs.«01_k».proof.Proof.AttnRun
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in the result's block, in either case of the last step. -/
def outV (i : grid0.Coords) (x0 : Vec F S1024x128 .f32) (x1 : Vec F S8192x128 .bf16) (x2 : Vec F S8192x128 .bf16) (x3 : Vec F S1x1x2x8192 .f32) : Vec F S1024x128 .bf16 :=
  if h1 : k0_cond1 i = 1#1 then outA i h1 x0 x1 x2 x3 else outB i h1 x0 x1 x2 x3

/-- The body's triple at any grid point, the result's buffer ending at `outV`. -/
theorem run_body (c : Dev nD) (i : grid0.Coords) (arg3 : Memref sig .tc .vmem S1024x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x1x2x8192 .f32) (harg6 : arg6.IsWhole) (arg7 : Memref sig .tc .vmem S1024x128 .bf16) (harg7 : arg7.IsWhole)
    (x0 : Vec F S1024x128 .f32) (x1 : Vec F S8192x128 .bf16) (x2 : Vec F S8192x128 .bf16) (x3 : Vec F S1x1x2x8192 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outV i x0 x1 x2 x3)) -∗ K ⟨⟩))
      ⊢ wp frame (wpE (defs₀ (F := F)) Variants.none c none) E (cc0_fox_prompt i arg3 harg3 arg4 harg4 arg5 harg5 arg6 harg6 arg7 harg7) K := by
  by_cases h1 : k0_cond1 i = 1#1
  · rw [outV, dif_pos h1, ← run_A_eq c i h1 arg3 harg3 arg4 harg4 arg5 harg5 arg6 harg6 arg7 harg7]
    exact (run_A c i h1 arg3 harg3 arg4 harg4 arg5 harg5 arg6 harg6 arg7 harg7 x0 x1 x2 x3).2 E K
  · rw [outV, dif_neg h1, ← run_B_eq c i h1 arg3 harg3 arg4 harg4 arg5 harg5 arg6 harg6 arg7 harg7]
    exact (run_B c i h1 arg3 harg3 arg4 harg4 arg5 harg5 arg6 harg6 arg7 harg7 x0 x1 x2 x3).2 E K

/-- The proof data: the arrays as the region finds them; after the body each input's buffer at its block and the
    result's at `outV` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outV (grid0.coords t) (iblk m c 0 t) (iblk m c 1 t) (iblk m c 2 t) (iblk m c 3 t)
    | ⟨n + 5, h⟩ => absurd h (Nat.not_lt.mpr (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outV (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The body's resources before it runs at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- And after. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at point `t`: nothing taken from the invariant, each block read, the result written. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (run_body c (grid0.coords t) _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, and every semaphore counter at zero at every final state. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch: every final state has every array at what the grid leaves in it. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as launched and the semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.AttnGrid.lean ====
/- The attention kernel's offsets, trip counts and masks as plain numbers. -/
module

public import proofs.«01_k».proof.Proof.AttnRun
public import Idealize.ShloMosaic.Lib.Tactic.WordOmega
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe

/-- A query tile runs half as many unmasked steps as its number. -/
theorem trips_eq : ∀ i : grid0.Coords, (k0_t1_loop i).trips = (i 2).val / 2 := by decide +kernel
/-- The last step's first key. -/
theorem off6_eq : ∀ i : grid0.Coords, k0_off6 i = ![2048 * ((i 2).val / 2), 0] := by decide +kernel
/-- The same key in the decays. -/
theorem off7_eq : ∀ i : grid0.Coords, k0_off7 i = ![0, 0, 0, 2048 * ((i 2).val / 2)] := by decide +kernel
/-- The narrow last step's first key. -/
theorem off8_eq : ∀ i : grid0.Coords, k0_off8 i = ![2048 * ((i 2).val / 2), 0] := by decide +kernel
/-- The same key in the decays. -/
theorem off9_eq : ∀ i : grid0.Coords, k0_off9 i = ![0, 0, 0, 2048 * ((i 2).val / 2)] := by decide +kernel
/-- The wide last step is the odd tiles'. -/
theorem cond_eq : ∀ i : grid0.Coords, k0_cond1 i = 1#1 ↔ (i 2).val % 2 = 1 := by decide +kernel
/-- An unmasked step's first key. -/
theorem off2_eq : ∀ (i : grid0.Coords) (k : Fin (k0_t1_loop i).trips), k0_off2 i k = ![2048 * k.val, 0] := by decide +kernel
/-- The same key in the decays. -/
theorem off3_eq : ∀ (i : grid0.Coords) (k : Fin (k0_t1_loop i).trips), k0_off3 i k = ![0, 0, 0, 2048 * k.val] := by decide +kernel
/-- The tile's first row, the word as a number. -/
theorem w0_eq : ∀ i : grid0.Coords, w0 i = BitVec.ofNat 32 (1024 * (i 2).val) := by decide +kernel
/-- The last step's first key, the word as a number. -/
theorem w51_eq : ∀ i : grid0.Coords, w51 i = BitVec.ofNat 32 (2048 * ((i 2).val / 2)) := by decide +kernel

/-- The causal mask as an order of numbers. -/
theorem mask_iff (a b k r : ℕ) (ha : a < 8192) (hb : b < 8192) (hk : k < 2048) (hr : r < 1024) :
    IntOp.cmpi .sle (IntOp.addi (BitVec.ofNat 32 k) (BitVec.ofNat 32 a)) (IntOp.addi (BitVec.ofNat 32 r) (BitVec.ofNat 32 b)) = 1#1 ↔ k + a ≤ r + b := by
  rw [WordCmp.addi_ofNat, WordCmp.addi_ofNat]
  word_cmp

/-- The pattern of minus infinity. -/
theorem negInf : Ideal.ofBits .f32 0xFF800000#32 = ⊥ := by
  show Ideal.ieee 8 23 (0xFF800000#32 : BitVec 32) = ⊥
  unfold Ideal.ieee
  rw [if_pos (by decide), if_pos (by decide), if_pos (by decide)]

/-- The pattern of one eighth. -/
theorem eighth : Ideal.ofBits .f32 0x3E000000#32 = ((0.125 : ℝ) : EReal) := by
  show Ideal.ieee 8 23 (0x3E000000#32 : BitVec 32) = _
  unfold Ideal.ieee
  rw [if_neg (by decide), if_neg (by decide)]
  refine congrArg _ ?_
  have e1 : ((0x3E000000#32 : BitVec 32).extractLsb' (8 + 23) 1 == 1#1) = false := by decide
  have e2 : ((0x3E000000#32 : BitVec 32).extractLsb' 23 8).toNat = 124 := by decide
  have e3 : ((0x3E000000#32 : BitVec 32).extractLsb' 0 23).toNat = 0 := by decide
  rw [e1, e2, e3]
  norm_num

theorem ld_at (x : Vec Ideal S8192x128 .bf16) (off : Fin 2 → ℕ) (n : ℕ) (h : off = ![n, 0]) (inb) (hn : n + 2048 ≤ 8192) (k : Fin 2048) (l : Fin 128) :
    View.ld x (Rect.unit (s := S8192x128) off S2048x128.size inb) (ix2 k l) = x (ix2 ⟨n + k.val, by omega⟩ l) := by
  subst h
  pointwise
theorem ld_at' (x : Vec Ideal S8192x128 .bf16) (off : Fin 2 → ℕ) (n : ℕ) (h : off = ![n, 0]) (inb) (hn : n + 1024 ≤ 8192) (k : Fin 1024) (l : Fin 128) :
    View.ld x (Rect.unit (s := S8192x128) off S1024x128.size inb) (ix2 k l) = x (ix2 ⟨n + k.val, by omega⟩ l) := by
  subst h
  pointwise
theorem ldC_at (x : Vec Ideal S1x1x2x8192 .f32) (off : Fin 4 → ℕ) (n : ℕ) (h : off = ![0, 0, 0, n]) (inb) (hn : n + 2048 ≤ 8192) (hd : Fin 2) (k : Fin 2048) :
    View.ld x (Rect.unit (s := S1x1x2x8192) off S1x1x2x2048.size inb) (ix4 0 0 hd k) = x (ix4 0 0 hd ⟨n + k.val, by omega⟩) := by
  subst h
  pointwise
theorem ldC_at' (x : Vec Ideal S1x1x2x8192 .f32) (off : Fin 4 → ℕ) (n : ℕ) (h : off = ![0, 0, 0, n]) (inb) (hn : n + 1024 ≤ 8192) (hd : Fin 2) (k : Fin 1024) :
    View.ld x (Rect.unit (s := S1x1x2x8192) off S1x1x2x1024.size inb) (ix4 0 0 hd k) = x (ix4 0 0 hd ⟨n + k.val, by omega⟩) := by
  subst h
  pointwise
theorem ldC_at1 (x : Vec Ideal S1x1x2x8192 .f32) (off : Fin 4 → ℕ) (n : ℕ) (h : off = ![0, 0, 0, n]) (inb) (hn : n + 128 ≤ 8192) (hd : Fin 2) :
    View.ld x (Rect.unit (s := S1x1x2x8192) off S1x1x2x128.size inb) (ix4 0 0 hd 0) = x (ix4 0 0 hd ⟨n, by omega⟩) := by
  subst h
  pointwise
theorem ldQ_at (x : Vec Ideal S1024x128 .f32) (inb) (r : Fin 1024) (l : Fin 128) :
    View.ld x (Rect.unit (s := S1024x128) ![0, 0] S1024x128.size inb) (ix2 r l) = x (ix2 r l) := by
  pointwise
end Cert.KernelIdeal.Attn
end
-- ==== Proof.AttnPay.lean ====
/- The attention kernel's payloads read at an index. -/
module

public import proofs.«01_k».proof.Proof.Gen.KernelIdeal.Skeleton
public import proofs.«01_k».proof.Proof.AttnGrid

@[expose] public section

set_option maxRecDepth 16384

noncomputable section

namespace Cert.KernelIdeal.Attn

open Cert.KernelIdeal Cert.KernelIdeal.Gen
open Idealize.ShloMosaic Idealize.ShloMosaic.TcCoe

/-- The named constant `1 / log 2`. -/
abbrev lam : EReal := (((Real.log 2)⁻¹ : ℝ) : EReal)

/-- A key's score in the first head, unmasked. -/
theorem pay5_at (q : FVec Ideal S1024x128 .bf16) (c : FVec Ideal S2x1 .f32) (K : FVec Ideal S2048x128 .bf16) (C : FVec Ideal S1x1x2x2048 .f32) (r : Fin 1024) (k : Fin 2048) :
    k0_pay5 (F := Ideal) q c K C (ix2 r k) = (∑ x, q (ix2 r x) * K (ix2 k x)) + (c (ix2 0 0) - C (ix4 0 0 0 k)) * lam := by
  pointwise [k0_pay5, k0_pay2, k0_pay4]
  rfl
/-- In the second head. -/
theorem pay11_at (q : FVec Ideal S1024x128 .bf16) (c : FVec Ideal S2x1 .f32) (K : FVec Ideal S2048x128 .bf16) (C : FVec Ideal S1x1x2x2048 .f32) (r : Fin 1024) (k : Fin 2048) :
    k0_pay11 (F := Ideal) q c K C (ix2 r k) = (∑ x, q (ix2 r x) * K (ix2 k x)) + (c (ix2 1 0) - C (ix4 0 0 1 k)) * lam := by
  pointwise [k0_pay11, k0_pay2, k0_pay4]
  rfl
/-- The running maximum's step. -/
theorem pay57_at (m : FVec Ideal S1024x1 .f32) (s : FVec Ideal S1024x2048 .f32) (r : Fin 1024) :
    k0_pay57 (F := Ideal) m s (ix2 r 0) = max (m (ix2 r 0)) (Finset.univ.fold max ⊥ fun x => s (ix2 r x)) := by
  pointwise [k0_pay57]
  rw [negInf]
/-- The running sum's step. -/
theorem pay60_at (m l : FVec Ideal S1024x1 .f32) (s : FVec Ideal S1024x2048 .f32) (r : Fin 1024) :
    k0_pay60 (F := Ideal) m l s (ix2 r 0) = Ideal.exp2 (m (ix2 r 0) - max (m (ix2 r 0)) (Finset.univ.fold max ⊥ fun x => s (ix2 r x))) * l (ix2 r 0)
      + ∑ x, Ideal.exp2 (s (ix2 r x) - max (m (ix2 r 0)) (Finset.univ.fold max ⊥ fun x => s (ix2 r x))) := by
  rw [← pay57_at]
  pointwise [k0_pay60, k0_pay58, k0_pay59]
  rfl
/-- The weighted sum's step. -/
theorem pay61_at (m : FVec Ideal S1024x1 .f32) (a : FVec Ideal S1024x128 .f32) (V : FVec Ideal S2048x128 .bf16) (s : FVec Ideal S1024x2048 .f32) (r : Fin 1024) (l : Fin 128) :
    k0_pay61 (F := Ideal) m a V s (ix2 r l) = Ideal.exp2 (m (ix2 r 0) - max (m (ix2 r 0)) (Finset.univ.fold max ⊥ fun x => s (ix2 r x))) * a (ix2 r l)
      + ∑ x, Ideal.exp2 (s (ix2 r x) - max (m (ix2 r 0)) (Finset.univ.fold max ⊥ fun x => s (ix2 r x))) * V (ix2 x l) := by
  rw [← pay57_at]
  pointwise [k0_pay61, k0_pay58, k0_pay59]
  rfl

/-- The masked score in the first head. -/
theorem pay26_at (q : FVec Ideal S1024x128 .bf16) (c : FVec Ideal S2x1 .f32) (K : FVec Ideal S2048x128 .bf16) (C : FVec Ideal S1x1x2x2048 .f32) (a b : ℕ) (ha : a < 8192) (hb : b < 8192) (r : Fin 1024) (k : Fin 2048) :
    k0_pay26 (F := Ideal) (BitVec.ofNat 32 b) q c (BitVec.ofNat 32 a) K C (ix2 r k)
      = if k.val + a ≤ r.val + b then (∑ x, q (ix2 r x) * K (ix2 k x)) + (c (ix2 0 0) - C (ix4 0 0 0 k)) * lam else ⊥ := by
  pointwise [k0_pay26, k0_pay25, k0_pay22, k0_pay24]
  rw [negInf]
  exact if_congr (mask_iff a b k r ha hb k.isLt r.isLt) rfl rfl
/-- In the second head. -/
theorem pay67_at (q : FVec Ideal S1024x128 .bf16) (c : FVec Ideal S2x1 .f32) (K : FVec Ideal S2048x128 .bf16) (C : FVec Ideal S1x1x2x2048 .f32) (a b : ℕ) (ha : a < 8192) (hb : b < 8192) (r : Fin 1024) (k : Fin 2048) :
    k0_pay67 (F := Ideal) (k0_pay25 (BitVec.ofNat 32 b) (BitVec.ofNat 32 a)) (k0_pay32 q K) (k0_pay33 C) (k0_pay34 c) (ix2 r k)
      = if k.val + a ≤ r.val + b then (∑ x, q (ix2 r x) * K (ix2 k x)) + (c (ix2 1 0) - C (ix4 0 0 1 k)) * lam else ⊥ := by
  pointwise [k0_pay67, k0_pay25, k0_pay22, k0_pay24, k0_pay32, k0_pay33, k0_pay34]
  rw [negInf]
  exact if_congr (mask_iff a b k r ha hb k.isLt r.isLt) rfl rfl
/-- The masked score of the narrow step in the first head. -/
theorem pay39_at (q : FVec Ideal S1024x128 .bf16) (c : FVec Ideal S2x1 .f32) (K : FVec Ideal S1024x128 .bf16) (C : FVec Ideal S1x1x2x1024 .f32) (a b : ℕ) (ha : a < 8192) (hb : b < 8192) (r : Fin 1024) (k : Fin 1024) :
    k0_pay39 (F := Ideal) (BitVec.ofNat 32 b) q c (BitVec.ofNat 32 a) K C (ix2 r k)
      = if k.val + a ≤ r.val + b then (∑ x, q (ix2 r x) * K (ix2 k x)) + (c (ix2 0 0) - C (ix4 0 0 0 k)) * lam else ⊥ := by
  pointwise [k0_pay39, k0_pay38, k0_pay35, k0_pay37]
  rw [negInf]
  exact if_congr (mask_iff a b k r ha hb (lt_trans k.isLt (by decide)) r.isLt) rfl rfl
/-- In the second head. -/
theorem pay73_at (q : FVec Ideal S1024x128 .bf16) (c : FVec Ideal S2x1 .f32) (K : FVec Ideal S1024x128 .bf16) (C : FVec Ideal S1x1x2x1024 .f32) (a b : ℕ) (ha : a < 8192) (hb : b < 8192) (r : Fin 1024) (k : Fin 1024) :
    k0_pay73 (F := Ideal) (k0_pay38 (BitVec.ofNat 32 b) (BitVec.ofNat 32 a)) (k0_pay45 q K) (k0_pay46 C) (k0_pay47 c) (ix2 r k)
      = if k.val + a ≤ r.val + b then (∑ x, q (ix2 r x) * K (ix2 k x)) + (c (ix2 1 0) - C (ix4 0 0 1 k)) * lam else ⊥ := by
  pointwise [k0_pay73, k0_pay38, k0_pay35, k0_pay37, k0_pay45, k0_pay46, k0_pay47]
  rw [negInf]
  exact if_congr (mask_iff a b k r ha hb (lt_trans k.isLt (by decide)) r.isLt) rfl rfl

/-- The narrow step's maximum. -/
theorem pay74_at (m : FVec Ideal S1024x1 .f32) (w : IVec S1024x1024 1) (d : FVec Ideal S1024x1024 .f32) (C c : FVec Ideal S1x1024 .f32) (r : Fin 1024) :
    k0_pay74 (F := Ideal) m w d C c (ix2 r 0) = max (m (ix2 r 0)) (Finset.univ.fold max ⊥ fun x => k0_pay73 w d C c (ix2 r x)) := by
  pointwise [k0_pay74]
  rw [negInf]
/-- The narrow step's sum. -/
theorem pay77_at (m l : FVec Ideal S1024x1 .f32) (w : IVec S1024x1024 1) (d : FVec Ideal S1024x1024 .f32) (C c : FVec Ideal S1x1024 .f32) (r : Fin 1024) :
    k0_pay77 (F := Ideal) m l w d C c (ix2 r 0) = Ideal.exp2 (m (ix2 r 0) - max (m (ix2 r 0)) (Finset.univ.fold max ⊥ fun x => k0_pay73 w d C c (ix2 r x))) * l (ix2 r 0)
      + ∑ x, Ideal.exp2 (k0_pay73 w d C c (ix2 r x) - max (m (ix2 r 0)) (Finset.univ.fold max ⊥ fun x => k0_pay73 w d C c (ix2 r x))) := by
  rw [← pay74_at]
  pointwise [k0_pay77, k0_pay75, k0_pay76]
  rfl
/-- The narrow step's weighted sum. -/
theorem pay78_at (m : FVec Ideal S1024x1 .f32) (a : FVec Ideal S1024x128 .f32) (V : FVec Ideal S1024x128 .bf16) (w : IVec S1024x1024 1) (d : FVec Ideal S1024x1024 .f32) (C c : FVec Ideal S1x1024 .f32) (r : Fin 1024) (l : Fin 128) :
    k0_pay78 (F := Ideal) m a V w d C c (ix2 r l) = Ideal.exp2 (m (ix2 r 0) - max (m (ix2 r 0)) (Finset.univ.fold max ⊥ fun x => k0_pay73 w d C c (ix2 r x))) * a (ix2 r l)
      + ∑ x, Ideal.exp2 (k0_pay73 w d C c (ix2 r x) - max (m (ix2 r 0)) (Finset.univ.fold max ⊥ fun x => k0_pay73 w d C c (ix2 r x))) * V (ix2 x l) := by
  rw [← pay74_at]
  pointwise [k0_pay78, k0_pay75, k0_pay76]
  rfl
/-- The narrow step's maximum in the first head. -/
theorem pay40_at (v0 : BitVec 32) (q : FVec Ideal S1024x128 .bf16) (c : FVec Ideal S2x1 .f32) (m : FVec Ideal S1024x1 .f32) (v51 : BitVec 32) (K : FVec Ideal S1024x128 .bf16) (C : FVec Ideal S1x1x2x1024 .f32) (r : Fin 1024) :
    k0_pay40 (F := Ideal) v0 q c m v51 K C (ix2 r 0) = max (m (ix2 r 0)) (Finset.univ.fold max ⊥ fun x => k0_pay39 v0 q c v51 K C (ix2 r x)) := by
  pointwise [k0_pay40]
  rw [negInf]
/-- Its sum. -/
theorem pay43_at (v0 : BitVec 32) (q : FVec Ideal S1024x128 .bf16) (c : FVec Ideal S2x1 .f32) (m l : FVec Ideal S1024x1 .f32) (v51 : BitVec 32) (K : FVec Ideal S1024x128 .bf16) (C : FVec Ideal S1x1x2x1024 .f32) (r : Fin 1024) :
    k0_pay43 (F := Ideal) v0 q c m l v51 K C (ix2 r 0) = Ideal.exp2 (m (ix2 r 0) - max (m (ix2 r 0)) (Finset.univ.fold max ⊥ fun x => k0_pay39 v0 q c v51 K C (ix2 r x))) * l (ix2 r 0)
      + ∑ x, Ideal.exp2 (k0_pay39 v0 q c v51 K C (ix2 r x) - max (m (ix2 r 0)) (Finset.univ.fold max ⊥ fun x => k0_pay39 v0 q c v51 K C (ix2 r x))) := by
  rw [← pay40_at]
  pointwise [k0_pay43, k0_pay41, k0_pay42]
  rfl
/-- Its weighted sum. -/
theorem pay44_at (v0 : BitVec 32) (q : FVec Ideal S1024x128 .bf16) (c : FVec Ideal S2x1 .f32) (m : FVec Ideal S1024x1 .f32) (a : FVec Ideal S1024x128 .f32) (v51 : BitVec 32) (K V : FVec Ideal S1024x128 .bf16) (C : FVec Ideal S1x1x2x1024 .f32) (r : Fin 1024) (l : Fin 128) :
    k0_pay44 (F := Ideal) v0 q c m a v51 K V C (ix2 r l) = Ideal.exp2 (m (ix2 r 0) - max (m (ix2 r 0)) (Finset.univ.fold max ⊥ fun x => k0_pay39 v0 q c v51 K C (ix2 r x))) * a (ix2 r l)
      + ∑ x, Ideal.exp2 (k0_pay39 v0 q c v51 K C (ix2 r x) - max (m (ix2 r 0)) (Finset.univ.fold max ⊥ fun x => k0_pay39 v0 q c v51 K C (ix2 r x))) * V (ix2 x l) := by
  rw [← pay40_at]
  pointwise [k0_pay44, k0_pay41, k0_pay42, k0_pay36]
  rfl
/-- The loops' first maximum. -/
theorem pay54_at (r : Fin 1024) : k0_pay54 (F := Ideal) (ix2 r 0) = ⊥ := by
  pointwise [k0_pay54]
  rw [negInf]
/-- The loops' first sum. -/
theorem pay55_at (r : Fin 1024) : k0_pay55 (F := Ideal) (ix2 r 0) = 0 := by
  pointwise [k0_pay55]
/-- The loops' first weighted sum. -/
theorem pay56_at (r : Fin 1024) (l : Fin 128) : k0_pay56 (F := Ideal) (ix2 r l) = 0 := by
  pointwise [k0_pay56]
/-- The first head's queries. -/
theorem pay51_at (x : FVec Ideal S1024x128 .f32) (r : Fin 1024) (l : Fin 128) :
    k0_pay51 (F := Ideal) x (ix2 r l) = if l.val < 64 then x (ix2 r l) * ((0.125 : ℝ) : EReal) * lam else 0 := by
  pointwise [k0_pay51, k0_pay48, k0_pay49, k0_pay50]
  rw [eighth]
  exact if_congr (by word_cmp) rfl rfl
/-- The second head's. -/
theorem pay52_at (x : FVec Ideal S1024x128 .f32) (r : Fin 1024) (l : Fin 128) :
    k0_pay52 (F := Ideal) x (ix2 r l) = if l.val < 64 then 0 else x (ix2 r l) * ((0.125 : ℝ) : EReal) * lam := by
  pointwise [k0_pay52, k0_pay48, k0_pay49, k0_pay50]
  rw [eighth]
  exact if_congr (by word_cmp) rfl rfl
/-- The heads' reference decay. -/
theorem pay53_at (x : FVec Ideal S1x1x2x128 .f32) (r : Fin 2) :
    k0_pay53 (F := Ideal) x (ix2 r 0) = x (ix4 0 0 r 0) := by
  pointwise [k0_pay53]
/-- What is stored: each head's quotient in its lanes. -/
theorem pay1_at (l0 l1 : FVec Ideal S1024x1 .f32) (a0 a1 : FVec Ideal S1024x128 .f32) (r : Fin 1024) (l : Fin 128) :
    k0_pay1 (F := Ideal) k0_pay49 (k0_pay79 l0 a0) (k0_pay80 l1 a1) (ix2 r l)
      = if l.val < 64 then Ideal.div (a0 (ix2 r l)) (l0 (ix2 r 0)) else Ideal.div (a1 (ix2 r l)) (l1 (ix2 r 0)) := by
  pointwise [k0_pay1, k0_pay49, k0_pay79, k0_pay80]
  exact if_congr (by word_cmp) rfl rfl

end Cert.KernelIdeal.Attn
end
-- ==== Proof.AttnMath.lean ====
/- The running softmax over the extended reals: a row's maximum, sum of exponentials and weighted sum over its first
   `n` keys, how one more stretch of keys moves them, and what the quotient is at the end. -/
module

public import Idealize.ShloMosaic.Lib.Pointwise

@[expose] public section

noncomputable section

namespace Cert.AttnMath

open Idealize.ShloMosaic
open scoped BigOperators

/-- The maximum of the first `n` scores. -/
def M (s : ℕ → EReal) (n : ℕ) : EReal := (Finset.range n).sup s
/-- The sum of their exponentials, base two, below the maximum. -/
def L (s : ℕ → EReal) (n : ℕ) : EReal := ∑ j ∈ Finset.range n, Ideal.exp2 (s j - M s n)
/-- The sum weighted by the values. -/
def A (s v : ℕ → EReal) (n : ℕ) : EReal := ∑ j ∈ Finset.range n, Ideal.exp2 (s j - M s n) * v j

theorem exp2_nonneg (x : EReal) : 0 ≤ Ideal.exp2 x := by
  induction x with
  | bot => simp
  | top => simp
  | coe r => rw [Ideal.exp2_coe]; exact EReal.coe_nonneg.mpr (Real.rpow_nonneg (by norm_num) r)

theorem exp2_ne_top {x : EReal} (h : x ≠ ⊤) : Ideal.exp2 x ≠ ⊤ := by
  induction x with
  | bot => simp
  | top => exact absurd rfl h
  | coe r => rw [Ideal.exp2_coe]; exact EReal.coe_ne_top _

/-- Rescaling an exponential taken below one maximum to a larger one. -/
theorem exp2_rescale {s m m' : EReal} (h1 : s ≤ m) (h2 : m ≤ m') (h3 : m' ≠ ⊤) :
    Ideal.exp2 (m - m') * Ideal.exp2 (s - m) = Ideal.exp2 (s - m') := by
  induction m with
  | top => exact absurd (top_le_iff.mp h2) h3
  | bot =>
    obtain rfl := le_bot_iff.mp h1
    simp [EReal.bot_sub]
  | coe m =>
    induction m' with
    | top => exact absurd rfl h3
    | bot => exact absurd (le_bot_iff.mp h2) (EReal.coe_ne_bot m)
    | coe m' =>
      induction s with
      | bot => simp [EReal.bot_sub]
      | top => exact absurd (top_le_iff.mp h1) (EReal.coe_ne_top m)
      | coe s =>
        rw [← EReal.coe_sub, ← EReal.coe_sub, ← EReal.coe_sub, Ideal.exp2_coe, Ideal.exp2_coe, Ideal.exp2_coe, ← EReal.coe_mul]
        refine congrArg _ ?_
        show (2:ℝ) ^ (m - m') * (2:ℝ) ^ (s - m) = (2:ℝ) ^ (s - m')
        rw [← Real.rpow_add (by norm_num)]; congr 1; ring

theorem M_ne_top {s : ℕ → EReal} {n : ℕ} (hs : ∀ j, s j ≠ ⊤) : M s n ≠ ⊤ := by
  refine ne_of_lt ?_
  unfold M
  rw [Finset.sup_lt_iff (by exact bot_lt_top)]
  exact fun j _ => lt_top_iff_ne_top.mpr (hs j)

theorem sub_ne_top {a b : EReal} (h : a ≤ b) (hb : b ≠ ⊤) : a - b ≠ ⊤ := by
  induction b with
  | top => exact absurd rfl hb
  | bot => obtain rfl := le_bot_iff.mp h; simp
  | coe b =>
    induction a with
    | bot => simp [EReal.bot_sub]
    | top => exact absurd (top_le_iff.mp h) (EReal.coe_ne_top b)
    | coe a => rw [← EReal.coe_sub]; exact EReal.coe_ne_top _

theorem mul_sum_of_nonneg {ι : Type*} (S : Finset ι) (f : ι → EReal) {c : EReal} (h0 : 0 ≤ c) (h1 : c ≠ ⊤) :
    c * ∑ j ∈ S, f j = ∑ j ∈ S, c * f j := by
  classical
  induction S using Finset.induction_on with
  | empty => simp
  | insert a S ha ih => rw [Finset.sum_insert ha, Finset.sum_insert ha, EReal.left_distrib_of_nonneg_of_ne_top h0 h1, ih]

/-- The fold of the maximum over a stretch is its supremum. -/
theorem fold_max_eq {W : ℕ} (f : Fin W → EReal) : Finset.univ.fold max ⊥ f = Finset.univ.sup f := rfl

theorem M_step {s : ℕ → EReal} {n W : ℕ} (f : Fin W → EReal) (hf : ∀ k : Fin W, f k = s (n + k)) :
    M s (n + W) = max (M s n) (Finset.univ.fold max ⊥ f) := by
  rw [fold_max_eq]
  unfold M
  apply le_antisymm
  · refine Finset.sup_le fun j hj => ?_
    rw [Finset.mem_range] at hj
    by_cases h : j < n
    · exact le_max_of_le_left (Finset.le_sup (f := s) (Finset.mem_range.mpr h))
    · have : s j = f ⟨j - n, by omega⟩ := by rw [hf]; congr 1; show j = n + (j - n); omega
      rw [this]
      exact le_max_of_le_right (Finset.le_sup (f := f) (Finset.mem_univ _))
  · refine max_le (Finset.sup_mono (Finset.range_mono (Nat.le_add_right _ _))) (Finset.sup_le fun k _ => ?_)
    rw [hf]
    exact Finset.le_sup (f := s) (Finset.mem_range.mpr (by have := k.isLt; omega))

theorem sum_step {n W : ℕ} (g : ℕ → EReal) :
    ∑ j ∈ Finset.range (n + W), g j = ∑ j ∈ Finset.range n, g j + ∑ k : Fin W, g (n + k) := by
  rw [Finset.sum_range_add, Finset.sum_range (fun k => g (n + k))]

theorem L_step {s : ℕ → EReal} (hs : ∀ j, s j ≠ ⊤) {n W : ℕ} (f : Fin W → EReal) (hf : ∀ k : Fin W, f k = s (n + k)) :
    L s (n + W) = Ideal.exp2 (M s n - M s (n + W)) * L s n + ∑ k : Fin W, Ideal.exp2 (f k - M s (n + W)) := by
  have hle : M s n ≤ M s (n + W) := Finset.sup_mono (Finset.range_mono (Nat.le_add_right _ _))
  have ht : M s (n + W) ≠ ⊤ := M_ne_top hs
  rw [show L s (n + W) = ∑ j ∈ Finset.range (n + W), Ideal.exp2 (s j - M s (n + W)) from rfl, sum_step]
  refine congrArg₂ (· + ·) ?_ (Finset.sum_congr rfl fun k _ => by rw [hf])
  unfold L
  rw [mul_sum_of_nonneg _ _ (exp2_nonneg _) (exp2_ne_top (sub_ne_top hle ht))]
  exact Finset.sum_congr rfl fun j hj => (exp2_rescale (Finset.le_sup hj) hle ht).symm

theorem A_step {s v : ℕ → EReal} (hs : ∀ j, s j ≠ ⊤) {n W : ℕ} (f g : Fin W → EReal) (hf : ∀ k : Fin W, f k = s (n + k)) (hg : ∀ k : Fin W, g k = v (n + k)) :
    A s v (n + W) = Ideal.exp2 (M s n - M s (n + W)) * A s v n + ∑ k : Fin W, Ideal.exp2 (f k - M s (n + W)) * g k := by
  have hle : M s n ≤ M s (n + W) := Finset.sup_mono (Finset.range_mono (Nat.le_add_right _ _))
  have ht : M s (n + W) ≠ ⊤ := M_ne_top hs
  rw [show A s v (n + W) = ∑ j ∈ Finset.range (n + W), Ideal.exp2 (s j - M s (n + W)) * v j from rfl, sum_step]
  refine congrArg₂ (· + ·) ?_ (Finset.sum_congr rfl fun k _ => by rw [hf, hg])
  unfold A
  rw [mul_sum_of_nonneg _ _ (exp2_nonneg _) (exp2_ne_top (sub_ne_top hle ht))]
  exact Finset.sum_congr rfl fun j hj => by rw [← mul_assoc, exp2_rescale (m := M s n) (Finset.le_sup hj) hle ht]

theorem M_zero (s : ℕ → EReal) : M s 0 = ⊥ := rfl
theorem L_zero (s : ℕ → EReal) : L s 0 = 0 := rfl
theorem A_zero (s v : ℕ → EReal) : A s v 0 = 0 := rfl

/-- Base two at a score scaled by `1 / log 2` is the natural exponential. -/
theorem exp2_log (x : ℝ) : Ideal.exp2 (((x * (Real.log 2)⁻¹ : ℝ)) : EReal) = ((Real.exp x : ℝ) : EReal) := by
  rw [Ideal.exp2_coe]
  refine congrArg _ ?_
  show (2:ℝ) ^ (x * (Real.log 2)⁻¹) = Real.exp x
  rw [Real.rpow_def_of_pos (by norm_num)]
  congr 1
  have : Real.log 2 ≠ 0 := (Real.log_pos (by norm_num)).ne'
  field_simp

theorem nonempty_range (q : ℕ) : (Finset.range (q + 1)).Nonempty := ⟨0, Finset.mem_range.mpr (Nat.succ_pos q)⟩

/-- The maximum over the keys up to `q`, the later ones at `⊥`: a real one of theirs. -/
theorem M_masked (x : ℕ → ℝ) (q n : ℕ) (hn : q < n) :
    M (fun j => if j ≤ q then ((x j : ℝ) : EReal) else ⊥) n = (((Finset.range (q + 1)).sup' (nonempty_range q) x : ℝ) : EReal) := by
  unfold M
  apply le_antisymm
  · refine Finset.sup_le fun j _ => ?_
    by_cases h : j ≤ q
    · refine le_trans (le_of_eq (if_pos h)) ?_
      exact EReal.coe_le_coe_iff.mpr (Finset.le_sup' x (Finset.mem_range.mpr (by omega)))
    · exact le_trans (le_of_eq (if_neg h)) bot_le
  · obtain ⟨j, hj, e⟩ := Finset.exists_mem_eq_sup' (nonempty_range q) x
    rw [e]
    rw [Finset.mem_range] at hj
    refine le_trans (le_of_eq ?_) (Finset.le_sup (Finset.mem_range.mpr (show j < n by omega)))
    exact (if_pos (by omega)).symm

theorem sum_masked {q n : ℕ} (hn : q < n) (f : ℕ → EReal) (h : ∀ j, q < j → f j = 0) :
    ∑ j ∈ Finset.range n, f j = ∑ j ∈ Finset.range (q + 1), f j :=
  (Finset.sum_subset (Finset.range_mono hn) fun j _ hj => h j (by rw [Finset.mem_range] at hj; omega)).symm

theorem coe_sum (S : Finset ℕ) (f : ℕ → ℝ) : ((∑ j ∈ S, f j : ℝ) : EReal) = ∑ j ∈ S, ((f j : ℝ) : EReal) := by
  classical
  induction S using Finset.induction_on with
  | empty => simp
  | insert a S ha ih => rw [Finset.sum_insert ha, Finset.sum_insert ha, EReal.coe_add, ih]

/-- THE ROW: the running softmax's quotient over the first `n` keys, its scores shifted by `t` and scaled to base two,
    is the plain softmax's weighted sum over all `N` keys. -/
theorem row (x : ℕ → ℝ) (t : ℝ) (v : ℕ → EReal) (q n N : ℕ) (hn : q < n) (hN : q < N) :
    Ideal.div (A (fun j => if j ≤ q then (((x j + t) * (Real.log 2)⁻¹ : ℝ) : EReal) else ⊥) v n)
        (L (fun j => if j ≤ q then (((x j + t) * (Real.log 2)⁻¹ : ℝ) : EReal) else ⊥) n)
      = ∑ j : Fin N, v j * Ideal.div (Ideal.exp ((if (j : ℕ) ≤ q then ((x j : ℝ) : EReal) else ⊥) - M (fun j => if j ≤ q then ((x j : ℝ) : EReal) else ⊥) N))
          (∑ j : Fin N, Ideal.exp ((if (j : ℕ) ≤ q then ((x j : ℝ) : EReal) else ⊥) - M (fun j => if j ≤ q then ((x j : ℝ) : EReal) else ⊥) N)) := by
  have hl : 0 < (Real.log 2)⁻¹ := inv_pos.mpr (Real.log_pos (by norm_num))
  set X : ℝ := (Finset.range (q + 1)).sup' (nonempty_range q) x with hX
  have e1 : (Finset.range (q + 1)).sup' (nonempty_range q) (fun j => (x j + t) * (Real.log 2)⁻¹) = (X + t) * (Real.log 2)⁻¹ := by
    apply le_antisymm
    · refine Finset.sup'_le _ _ fun j hj => ?_
      have := Finset.le_sup' x hj
      exact mul_le_mul_of_nonneg_right (by rw [hX]; linarith) hl.le
    · obtain ⟨j, hj, e⟩ := Finset.exists_mem_eq_sup' (nonempty_range q) x
      rw [hX, e]
      exact Finset.le_sup' (fun j => (x j + t) * (Real.log 2)⁻¹) hj
  rw [M_masked x q N hN, ← hX]
  unfold A L
  rw [M_masked (fun j => (x j + t) * (Real.log 2)⁻¹) q n hn, e1]
  have k1 : ∀ j, Ideal.exp2 ((if j ≤ q then (((x j + t) * (Real.log 2)⁻¹ : ℝ) : EReal) else ⊥) - (((X + t) * (Real.log 2)⁻¹ : ℝ) : EReal))
      = if j ≤ q then ((Real.exp (x j - X) : ℝ) : EReal) else 0 := by
    intro j
    by_cases h : j ≤ q
    · rw [if_pos h, if_pos h, ← EReal.coe_sub, ← exp2_log]; congr 2; ring
    · rw [if_neg h, if_neg h, EReal.bot_sub]; rfl
  have k2 : ∀ j : ℕ, Ideal.exp ((if j ≤ q then ((x j : ℝ) : EReal) else ⊥) - (X : EReal))
      = if j ≤ q then ((Real.exp (x j - X) : ℝ) : EReal) else 0 := by
    intro j
    by_cases h : j ≤ q
    · rw [if_pos h, if_pos h, ← EReal.coe_sub, Ideal.exp_coe]
    · rw [if_neg h, if_neg h, EReal.bot_sub]; rfl
  simp only [k1, k2]
  have z1 : ∀ N', q < N' → ∑ j ∈ Finset.range N', (if j ≤ q then ((Real.exp (x j - X) : ℝ) : EReal) else 0)
      = ((∑ j ∈ Finset.range (q + 1), Real.exp (x j - X) : ℝ) : EReal) := by
    intro N' h'
    rw [sum_masked h' _ (fun j hj => if_neg (by omega)), coe_sum]
    exact Finset.sum_congr rfl fun j hj => if_pos (by rw [Finset.mem_range] at hj; omega)
  have hz : (∑ j ∈ Finset.range (q + 1), Real.exp (x j - X)) ≠ 0 :=
    (Finset.sum_pos (fun j _ => Real.exp_pos _) (nonempty_range q)).ne'
  have hz' : 0 ≤ (1 / ∑ j ∈ Finset.range (q + 1), Real.exp (x j - X)) :=
    one_div_nonneg.mpr (Finset.sum_nonneg fun j _ => (Real.exp_pos _).le)
  rw [z1 n hn, ← Finset.sum_range (fun j => if j ≤ q then ((Real.exp (x j - X) : ℝ) : EReal) else 0), z1 N hN,
    ← Finset.sum_range (fun j => v j * Ideal.div (if j ≤ q then ((Real.exp (x j - X) : ℝ) : EReal) else 0) _)]
  simp only [Ideal.div_coe hz]
  rw [sum_masked hn _ (fun j hj => by rw [if_neg (by omega), zero_mul]),
    sum_masked hN _ (fun j hj => by rw [if_neg (by omega), zero_mul, mul_zero]), mul_comm,
    mul_sum_of_nonneg _ _ (EReal.coe_nonneg.mpr hz') (EReal.coe_ne_top _)]
  exact Finset.sum_congr rfl fun j _ => by ac_rfl

end Cert.AttnMath

end
-- ==== Proof.AttnRow.lean ====
/- The attention kernel's block at an index: the loop's carried value is the running softmax of the keys seen so far,
   the masked last step completes it, and the quotient is stored. -/
module

public import proofs.«01_k».proof.Proof.AttnPay
public import proofs.«01_k».proof.Proof.AttnFrame
public import proofs.«01_k».proof.Proof.AttnMath

@[expose] public section

set_option maxRecDepth 16384

noncomputable section

namespace Cert.KernelIdeal.Attn

open Cert.KernelIdeal Cert.KernelIdeal.Gen Cert.AttnMath
open Idealize.ShloMosaic Idealize.ShloMosaic.TcCoe

/-- A row's score of key `j`, the later keys at `⊥`: `p` is the tile's first row. -/
def sc (q : FVec Ideal S1024x128 .bf16) (c : EReal) (x1 : FVec Ideal S8192x128 .bf16) (x3 : FVec Ideal S1x1x2x8192 .f32) (hd : Fin 2) (p : ℕ) (r : Fin 1024) (j : ℕ) : EReal :=
  if h : j ≤ p + r.val ∧ j < 8192 then (∑ x : Fin 128, q (ix2 r x) * x1 (ix2 ⟨j, h.2⟩ x)) + (c - x3 (ix4 0 0 hd ⟨j, h.2⟩)) * lam else ⊥

/-- A lane's value of key `j`. -/
def vv (x2 : FVec Ideal S8192x128 .bf16) (d : Fin 128) (j : ℕ) : EReal := if h : j < 8192 then x2 (ix2 ⟨j, h⟩ d) else 0

/-- The carried vectors are the running softmax of the first `n` keys. -/
def Inv (s : Fin 1024 → ℕ → EReal) (v : Fin 128 → ℕ → EReal) (n : ℕ) (m l : FVec Ideal S1024x1 .f32) (a : FVec Ideal S1024x128 .f32) : Prop :=
  ∀ r : Fin 1024, m (ix2 r 0) = M (s r) n ∧ l (ix2 r 0) = L (s r) n ∧ ∀ d : Fin 128, a (ix2 r d) = A (s r) (v d) n

/-- The sum over one more stretch, from the sum so far. -/
theorem L_of {s : ℕ → EReal} (hs : ∀ j, s j ≠ ⊤) {n W : ℕ} {f : Fin W → EReal} (hf : ∀ k : Fin W, f k = s (n + k)) {m l : EReal} (hm : m = M s n) (hl : l = L s n) :
    Ideal.exp2 (m - max m (Finset.univ.fold max ⊥ f)) * l + ∑ x, Ideal.exp2 (f x - max m (Finset.univ.fold max ⊥ f)) = L s (n + W) := by
  subst hm; subst hl
  rw [← M_step f hf]
  exact (L_step hs f hf).symm

/-- The weighted sum over one more stretch. -/
theorem A_of {s v : ℕ → EReal} (hs : ∀ j, s j ≠ ⊤) {n W : ℕ} {f g : Fin W → EReal} (hf : ∀ k : Fin W, f k = s (n + k)) (hg : ∀ k : Fin W, g k = v (n + k)) {m a : EReal} (hm : m = M s n) (ha : a = A s v n) :
    Ideal.exp2 (m - max m (Finset.univ.fold max ⊥ f)) * a + ∑ x, Ideal.exp2 (f x - max m (Finset.univ.fold max ⊥ f)) * g x = A s v (n + W) := by
  subst hm; subst ha
  rw [← M_step f hf]
  exact (A_step hs f g hf hg).symm

/-- One wide step keeps the invariant. -/
theorem inv_step {s : Fin 1024 → ℕ → EReal} (hs : ∀ r j, s r j ≠ ⊤) {v : Fin 128 → ℕ → EReal} {n : ℕ} {m l : FVec Ideal S1024x1 .f32} {a : FVec Ideal S1024x128 .f32} (h : Inv s v n m l a)
    (S : FVec Ideal S1024x2048 .f32) (V : FVec Ideal S2048x128 .bf16) (hS : ∀ (r : Fin 1024) (k : Fin 2048), S (ix2 r k) = s r (n + k.val)) (hV : ∀ (k : Fin 2048) (d : Fin 128), V (ix2 k d) = v d (n + k.val)) :
    Inv s v (n + 2048) (k0_pay57 m S) (k0_pay60 m l S) (k0_pay61 m a V S) := by
  intro r
  obtain ⟨hm, hl, ha⟩ := h r
  refine ⟨?_, ?_, fun d => ?_⟩
  · rw [pay57_at, hm]; exact (M_step _ (hS r)).symm
  · rw [pay60_at]; exact L_of (hs r) (hS r) hm hl
  · rw [pay61_at]; exact A_of (hs r) (hS r) (fun k => hV k d) hm (ha d)

variable (i : grid0.Coords) (x0 : FVec Ideal S1024x128 .f32) (x1 x2 : FVec Ideal S8192x128 .bf16) (x3 : FVec Ideal S1x1x2x8192 .f32)

/-- The block's reference decay of a head. -/
theorem cRef_at (hd : Fin 2) : cRef (F := Ideal) i x3 (ix2 hd 0) = x3 (ix4 0 0 hd ⟨1024 * (i 2).val, by have h : (i 2).val < 8 := (i 2).isLt; omega⟩) := by
  have h : (i 2).val < 8 := (i 2).isLt
  unfold cRef
  rw [pay53_at]
  exact ldC_at1 x3 _ _ (k0_off1_eq i) _ (by omega) hd

/-- A score inside the mask. -/
theorem sc_of {q : FVec Ideal S1024x128 .bf16} {c : EReal} {hd : Fin 2} {p : ℕ} {r : Fin 1024} {j j' : ℕ} (h : j' < 8192) (e : j = j') (hj : j ≤ p + r.val) :
    sc q c x1 x3 hd p r j = (∑ x : Fin 128, q (ix2 r x) * x1 (ix2 ⟨j', h⟩ x)) + (c - x3 (ix4 0 0 hd ⟨j', h⟩)) * lam := by
  subst e
  unfold sc
  rw [dif_pos ⟨hj, h⟩]

theorem vv_of {d : Fin 128} {j : ℕ} (h : j < 8192) : vv x2 d j = x2 (ix2 ⟨j, h⟩ d) := by unfold vv; rw [dif_pos h]

/-- The first head's scores of the tile. -/
def s0 (r : Fin 1024) (j : ℕ) : EReal := sc (qLo (F := Ideal) x0) (cRef (F := Ideal) i x3 (ix2 0 0)) x1 x3 0 (1024 * (i 2).val) r j
/-- The second head's. -/
def s1 (r : Fin 1024) (j : ℕ) : EReal := sc (qHi (F := Ideal) x0) (cRef (F := Ideal) i x3 (ix2 1 0)) x1 x3 1 (1024 * (i 2).val) r j

/-- The carried value before step `k`, head by head. -/
theorem loop_inv (h0 : ∀ r j, s0 i x0 x1 x3 r j ≠ ⊤) (h1 : ∀ r j, s1 i x0 x1 x3 r j ≠ ⊤) (k : ℕ) (hk : k ≤ (k0_t1_loop i).trips) :
    Inv (s0 i x0 x1 x3) (vv x2) (2048 * k) (loopV (F := Ideal) i x1 x2 x3 (qLo x0) (qHi x0) (cRef i x3) k).1 (loopV (F := Ideal) i x1 x2 x3 (qLo x0) (qHi x0) (cRef i x3) k).2.1 (loopV (F := Ideal) i x1 x2 x3 (qLo x0) (qHi x0) (cRef i x3) k).2.2.1
    ∧ Inv (s1 i x0 x1 x3) (vv x2) (2048 * k) (loopV (F := Ideal) i x1 x2 x3 (qLo x0) (qHi x0) (cRef i x3) k).2.2.2.1 (loopV (F := Ideal) i x1 x2 x3 (qLo x0) (qHi x0) (cRef i x3) k).2.2.2.2.1 (loopV (F := Ideal) i x1 x2 x3 (qLo x0) (qHi x0) (cRef i x3) k).2.2.2.2.2 := by
  induction k with
  | zero =>
    exact ⟨fun r => ⟨pay54_at r, pay55_at r, fun d => pay56_at r d⟩, fun r => ⟨pay54_at r, pay55_at r, fun d => pay56_at r d⟩⟩
  | succ k ih =>
    obtain ⟨iA, iB⟩ := ih (by omega)
    have hk' : k < (k0_t1_loop i).trips := hk
    have ht := trips_eq i
    have hi : (i 2).val < 8 := (i 2).isLt
    rw [loopV, dif_pos hk']
    generalize loopV (F := Ideal) i x1 x2 x3 (qLo x0) (qHi x0) (cRef i x3) k = a at iA iB ⊢
    have hV : ∀ (kk : Fin 2048) (d : Fin 128), k0_pay3 (F := Ideal) (View.ld x2 (Rect.unit (s := S8192x128) (k0_off2 i ⟨k, hk'⟩) S2048x128.size (k0_off2_inb i ⟨k, hk'⟩))) (ix2 kk d) = vv x2 d (2048 * k + kk.val) := by
      intro kk d
      rw [vv_of x2 (by omega), ← ld_at x2 _ (2048 * k) (off2_eq i ⟨k, hk'⟩) (k0_off2_inb i ⟨k, hk'⟩) (by omega) kk d]
      unfold k0_pay3
      exact congrFun (shapeCast_self ..) _
    refine ⟨inv_step h0 iA (k0_pay5 _ _ _ _) _ (fun r kk => ?_) hV, inv_step h1 iB _ _ (fun r kk => ?_) hV⟩
    · rw [pay5_at]
      refine Eq.trans ?_ (sc_of x1 x3 (show 2048 * k + kk.val < 8192 by omega) rfl (by omega)).symm
      exact congrArg₂ (· + ·) (Finset.sum_congr rfl fun x _ => congrArg _ (ld_at x1 _ (2048 * k) (off2_eq i ⟨k, hk'⟩) _ (by omega) kk x))
        (congrArg (fun z => (_ - z) * lam) (ldC_at x3 _ (2048 * k) (off3_eq i ⟨k, hk'⟩) _ (by omega) 0 kk))
    · rw [pay11_at]
      refine Eq.trans ?_ (sc_of x1 x3 (show 2048 * k + kk.val < 8192 by omega) rfl (by omega)).symm
      exact congrArg₂ (· + ·) (Finset.sum_congr rfl fun x _ => congrArg _ (ld_at x1 _ (2048 * k) (off2_eq i ⟨k, hk'⟩) _ (by omega) kk x))
        (congrArg (fun z => (_ - z) * lam) (ldC_at x3 _ (2048 * k) (off3_eq i ⟨k, hk'⟩) _ (by omega) 1 kk))

/-- How many keys the tile reads. -/
def nk : ℕ := 1024 * (i 2).val + 1024

/-- THE BLOCK: each head's quotient, in its lanes. -/
theorem outV_at (h0 : ∀ r j, s0 i x0 x1 x3 r j ≠ ⊤) (h1 : ∀ r j, s1 i x0 x1 x3 r j ≠ ⊤) (r : Fin 1024) (l : Fin 128) :
    outV (F := Ideal) i x0 x1 x2 x3 (ix2 r l) = if l.val < 64
      then Ideal.div (A (s0 i x0 x1 x3 r) (vv x2 l) (nk i)) (L (s0 i x0 x1 x3 r) (nk i))
      else Ideal.div (A (s1 i x0 x1 x3 r) (vv x2 l) (nk i)) (L (s1 i x0 x1 x3 r) (nk i)) := by
  have ht := trips_eq i
  have hi : (i 2).val < 8 := (i 2).isLt
  obtain ⟨iA, iB⟩ := loop_inv i x0 x1 x2 x3 h0 h1 _ le_rfl
  rw [ht] at iA iB
  unfold outV
  by_cases hc : k0_cond1 i = 1#1
  · rw [dif_pos hc]
    have ho := (cond_eq i).mp hc
    have en : nk i = 2048 * ((i 2).val / 2) + 2048 := by unfold nk; omega
    unfold outA carryEnd
    rw [pay1_at, w0_eq, w51_eq, ht]
    generalize loopV (F := Ideal) i x1 x2 x3 (qLo x0) (qHi x0) (cRef i x3) ((i 2).val / 2) = a at iA iB ⊢
    have hV : ∀ (kk : Fin 2048) (d : Fin 128), k0_pay23 (F := Ideal) (View.ld x2 (Rect.unit (s := S8192x128) (k0_off6 i) S2048x128.size (k0_off6_inb i hc))) (ix2 kk d) = vv x2 d (2048 * ((i 2).val / 2) + kk.val) := by
      intro kk d
      rw [vv_of x2 (by omega), ← ld_at x2 _ _ (off6_eq i) (k0_off6_inb i hc) (by omega) kk d]
      unfold k0_pay23
      exact congrFun (shapeCast_self ..) _
    have hA : ∀ (rr : Fin 1024) (kk : Fin 2048), k0_pay26 (F := Ideal) (BitVec.ofNat 32 (1024 * (i 2).val)) (qLo x0) (cRef i x3) (BitVec.ofNat 32 (2048 * ((i 2).val / 2))) (View.ld x1 (Rect.unit (s := S8192x128) (k0_off6 i) S2048x128.size (k0_off6_inb i hc))) (View.ld x3 (Rect.unit (s := S1x1x2x8192) (k0_off7 i) S1x1x2x2048.size (k0_off7_inb i hc))) (ix2 rr kk)
        = s0 i x0 x1 x3 rr (2048 * ((i 2).val / 2) + kk.val) := by
      intro rr kk
      rw [pay26_at _ _ _ _ _ _ (by omega) (by omega)]
      by_cases hm : kk.val + 2048 * ((i 2).val / 2) ≤ rr.val + 1024 * (i 2).val
      · rw [if_pos hm]
        refine Eq.trans ?_ (sc_of x1 x3 (show 2048 * ((i 2).val / 2) + kk.val < 8192 by omega) rfl (by omega)).symm
        exact congrArg₂ (· + ·) (Finset.sum_congr rfl fun x _ => congrArg _ (ld_at x1 _ _ (off6_eq i) _ (by omega) kk x))
          (congrArg (fun z => (_ - z) * lam) (ldC_at x3 _ _ (off7_eq i) _ (by omega) 0 kk))
      · rw [if_neg hm]; unfold s0 sc; rw [dif_neg (by omega)]
    have hB : ∀ (rr : Fin 1024) (kk : Fin 2048), k0_pay67 (F := Ideal) (k0_pay25 (BitVec.ofNat 32 (1024 * (i 2).val)) (BitVec.ofNat 32 (2048 * ((i 2).val / 2)))) (k0_pay32 (qHi x0) (View.ld x1 (Rect.unit (s := S8192x128) (k0_off6 i) S2048x128.size (k0_off6_inb i hc)))) (k0_pay33 (View.ld x3 (Rect.unit (s := S1x1x2x8192) (k0_off7 i) S1x1x2x2048.size (k0_off7_inb i hc)))) (k0_pay34 (cRef i x3)) (ix2 rr kk)
        = s1 i x0 x1 x3 rr (2048 * ((i 2).val / 2) + kk.val) := by
      intro rr kk
      rw [pay67_at _ _ _ _ _ _ (by omega) (by omega)]
      by_cases hm : kk.val + 2048 * ((i 2).val / 2) ≤ rr.val + 1024 * (i 2).val
      · rw [if_pos hm]
        refine Eq.trans ?_ (sc_of x1 x3 (show 2048 * ((i 2).val / 2) + kk.val < 8192 by omega) rfl (by omega)).symm
        exact congrArg₂ (· + ·) (Finset.sum_congr rfl fun x _ => congrArg _ (ld_at x1 _ _ (off6_eq i) _ (by omega) kk x))
          (congrArg (fun z => (_ - z) * lam) (ldC_at x3 _ _ (off7_eq i) _ (by omega) 1 kk))
      · rw [if_neg hm]; unfold s1 sc; rw [dif_neg (by omega)]
    have jA := inv_step h0 iA _ _ hA hV r
    have jB := inv_step h1 iB _ _ hB hV r
    rw [en]
    refine if_congr Iff.rfl ?_ ?_
    · exact congrArg₂ Ideal.div (jA.2.2 l) jA.2.1
    · exact congrArg₂ Ideal.div (jB.2.2 l) jB.2.1
  · rw [dif_neg hc]
    have ho : ¬ (i 2).val % 2 = 1 := fun h => hc ((cond_eq i).mpr h)
    have en : nk i = 2048 * ((i 2).val / 2) + 1024 := by unfold nk; omega
    unfold outB carryEnd
    rw [pay1_at, w0_eq, w51_eq, ht]
    generalize loopV (F := Ideal) i x1 x2 x3 (qLo x0) (qHi x0) (cRef i x3) ((i 2).val / 2) = a at iA iB ⊢
    have hV : ∀ (kk : Fin 1024) (d : Fin 128), (View.ld (Val := Elt Ideal) (e' := .bf16) x2 (Rect.unit (s := S8192x128) (k0_off8 i) S1024x128.size (k0_off8_inb i hc))) (ix2 kk d) = vv x2 d (2048 * ((i 2).val / 2) + kk.val) := by
      intro kk d
      rw [vv_of x2 (by omega)]
      exact ld_at' x2 _ _ (off8_eq i) (k0_off8_inb i hc) (by omega) kk d
    have hV' : ∀ (kk : Fin 1024) (d : Fin 128), k0_pay36 (F := Ideal) (View.ld x2 (Rect.unit (s := S8192x128) (k0_off8 i) S1024x128.size (k0_off8_inb i hc))) (ix2 kk d) = vv x2 d (2048 * ((i 2).val / 2) + kk.val) := by
      intro kk d
      rw [← hV]
      unfold k0_pay36
      exact congrFun (shapeCast_self ..) _
    have hA : ∀ (rr : Fin 1024) (kk : Fin 1024), k0_pay39 (F := Ideal) (BitVec.ofNat 32 (1024 * (i 2).val)) (qLo x0) (cRef i x3) (BitVec.ofNat 32 (2048 * ((i 2).val / 2))) (View.ld x1 (Rect.unit (s := S8192x128) (k0_off8 i) S1024x128.size (k0_off8_inb i hc))) (View.ld x3 (Rect.unit (s := S1x1x2x8192) (k0_off9 i) S1x1x2x1024.size (k0_off9_inb i hc))) (ix2 rr kk)
        = s0 i x0 x1 x3 rr (2048 * ((i 2).val / 2) + kk.val) := by
      intro rr kk
      rw [pay39_at _ _ _ _ _ _ (by omega) (by omega)]
      by_cases hm : kk.val + 2048 * ((i 2).val / 2) ≤ rr.val + 1024 * (i 2).val
      · rw [if_pos hm]
        refine Eq.trans ?_ (sc_of x1 x3 (show 2048 * ((i 2).val / 2) + kk.val < 8192 by omega) rfl (by omega)).symm
        exact congrArg₂ (· + ·) (Finset.sum_congr rfl fun x _ => congrArg _ (ld_at' x1 _ _ (off8_eq i) _ (by omega) kk x))
          (congrArg (fun z => (_ - z) * lam) (ldC_at' x3 _ _ (off9_eq i) _ (by omega) 0 kk))
      · rw [if_neg hm]; unfold s0 sc; rw [dif_neg (by omega)]
    have hB : ∀ (rr : Fin 1024) (kk : Fin 1024), k0_pay73 (F := Ideal) (k0_pay38 (BitVec.ofNat 32 (1024 * (i 2).val)) (BitVec.ofNat 32 (2048 * ((i 2).val / 2)))) (k0_pay45 (qHi x0) (View.ld x1 (Rect.unit (s := S8192x128) (k0_off8 i) S1024x128.size (k0_off8_inb i hc)))) (k0_pay46 (View.ld x3 (Rect.unit (s := S1x1x2x8192) (k0_off9 i) S1x1x2x1024.size (k0_off9_inb i hc)))) (k0_pay47 (cRef i x3)) (ix2 rr kk)
        = s1 i x0 x1 x3 rr (2048 * ((i 2).val / 2) + kk.val) := by
      intro rr kk
      rw [pay73_at _ _ _ _ _ _ (by omega) (by omega)]
      by_cases hm : kk.val + 2048 * ((i 2).val / 2) ≤ rr.val + 1024 * (i 2).val
      · rw [if_pos hm]
        refine Eq.trans ?_ (sc_of x1 x3 (show 2048 * ((i 2).val / 2) + kk.val < 8192 by omega) rfl (by omega)).symm
        exact congrArg₂ (· + ·) (Finset.sum_congr rfl fun x _ => congrArg _ (ld_at' x1 _ _ (off8_eq i) _ (by omega) kk x))
          (congrArg (fun z => (_ - z) * lam) (ldC_at' x3 _ _ (off9_eq i) _ (by omega) 1 kk))
      · rw [if_neg hm]; unfold s1 sc; rw [dif_neg (by omega)]
    have jA := iA r
    have jB := iB r
    rw [en]
    refine if_congr Iff.rfl (congrArg₂ Ideal.div ?_ ?_) (congrArg₂ Ideal.div ?_ ?_)
    · rw [pay44_at]; exact A_of (h0 r) (hA r) (fun k => hV k l) jA.1 (jA.2.2 l)
    · rw [pay43_at]; exact L_of (h0 r) (hA r) jA.1 jA.2.1
    · rw [pay78_at]; exact A_of (h1 r) (hB r) (fun k => hV' k l) jB.1 (jB.2.2 l)
    · rw [pay77_at]; exact L_of (h1 r) (hB r) jB.1 jB.2.1

end Cert.KernelIdeal.Attn
end
-- ==== Proof.AttnScore.lean ====
/- The scores as real numbers. -/
module

public import proofs.«01_k».proof.Proof.AttnMath

@[expose] public section

set_option maxRecDepth 16384

noncomputable section

namespace Cert.AttnMath

open Idealize.ShloMosaic

/-- A row's score of key `j`: the scaled product and the difference of the decays. -/
def X (qr : Fin 64 → ℝ) (kr : Fin 8192 → Fin 64 → ℝ) (cr : Fin 8192 → ℝ) (ct : ℝ) (j : ℕ) : ℝ :=
  if h : j < 8192 then (∑ d, qr d * 0.125 * kr ⟨j, h⟩ d) + ct - cr ⟨j, h⟩ else 0

/-- A sum of reals, extended. -/
theorem coe_fin_sum {n : ℕ} (f : Fin n → ℝ) : ((∑ j, f j : ℝ) : EReal) = ∑ j, ((f j : ℝ) : EReal) := by
  classical
  generalize (Finset.univ : Finset (Fin n)) = S
  induction S using Finset.induction_on with
  | empty => simp
  | insert a S ha ih => rw [Finset.sum_insert ha, Finset.sum_insert ha, EReal.coe_add, ih]

/-- The reference's score. -/
theorem score_plain (qr : Fin 64 → ℝ) (kr : Fin 8192 → Fin 64 → ℝ) (cr : Fin 8192 → ℝ) (ct : ℝ) (j : Fin 8192) :
    (∑ d, (qr d : EReal) * ((0.125 : ℝ) : EReal) * (kr j d : EReal)) + (ct : EReal) - (cr j : EReal) = ((X qr kr cr ct j.val : ℝ) : EReal) := by
  unfold X
  rw [dif_pos j.isLt, EReal.coe_sub, EReal.coe_add, coe_fin_sum]
  refine congrArg (· + (ct : EReal) - (cr j : EReal)) (Finset.sum_congr rfl fun d _ => ?_)
  rw [EReal.coe_mul, EReal.coe_mul]

/-- The kernel's score: to base two, the decays taken from the tile's first row's. -/
theorem score_scaled (qr : Fin 64 → ℝ) (kr : Fin 8192 → Fin 64 → ℝ) (cr : Fin 8192 → ℝ) (ct cp : ℝ) (j : Fin 8192) :
    (∑ d, (qr d : EReal) * ((0.125 : ℝ) : EReal) * (((Real.log 2)⁻¹ : ℝ) : EReal) * (kr j d : EReal)) + ((cp : EReal) - (cr j : EReal)) * (((Real.log 2)⁻¹ : ℝ) : EReal)
      = (((X qr kr cr ct j.val + (cp - ct)) * (Real.log 2)⁻¹ : ℝ) : EReal) := by
  have e : (X qr kr cr ct j.val + (cp - ct)) * (Real.log 2)⁻¹ = (∑ d, qr d * 0.125 * (Real.log 2)⁻¹ * kr j d) + (cp - cr j) * (Real.log 2)⁻¹ := by
    unfold X
    rw [dif_pos j.isLt]
    have : (∑ d, qr d * 0.125 * (Real.log 2)⁻¹ * kr j d) = (∑ d, qr d * 0.125 * kr j d) * (Real.log 2)⁻¹ := by
      rw [Finset.sum_mul]
      exact Finset.sum_congr rfl fun d _ => by ring
    rw [this]
    ring
  rw [e, EReal.coe_add, coe_fin_sum, EReal.coe_mul, EReal.coe_sub]
  refine congrArg (· + _) (Finset.sum_congr rfl fun d _ => ?_)
  rw [EReal.coe_mul, EReal.coe_mul, EReal.coe_mul]

end Cert.AttnMath
end
-- ==== Proof.AttnRef.lean ====
/- The reference's attention at an index: the plain causal softmax. -/
module

public import proofs.«01_k».proof.Proof.Gen.ReferenceIdeal.Run
public import proofs.«01_k».proof.Proof.AttnMath
public import proofs.«01_k».proof.Proof.Gen.ReferenceIdeal

@[expose] public section

set_option maxRecDepth 16384

noncomputable section

namespace Cert.ReferenceIdeal.Attn

open Cert.ReferenceIdeal Cert.ReferenceIdeal.Gen Cert.AttnMath
open Idealize.ShloMosaic Idealize.ShloMosaic.TcCoe

variable (q k v : FVec Ideal S2x8192x8x64 .f32) (c : FVec Ideal S2x8x8192 .f32)

/-- The masked scores. -/
def SC : FVec Ideal S2x8x8192x8192 .f32 := select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (subf (addf (Host.dotGeneral dot_S2x8192x8x64_S2x8192x8x64_S2x8x8192x8192_3_3_1_1_02_02 none (mulf q (broadcastInDim S2x8192x8x64 ![] bcast_S_S2x8192x8x64 (constant S_ .f32 0x3E000000#32))) k) (broadcastInDim S2x8x8192x8192 ![0, 1, 2, 3] bcast_S2x8x8192x1_S2x8x8192x8192_0_1_2_3 (broadcastInDim S2x8x8192x1 ![0, 1, 2] bcast_S2x8x8192_S2x8x8192x1_0_1_2 c))) (broadcastInDim S2x8x8192x8192 ![0, 1, 2, 3] bcast_S2x8x1x8192_S2x8x8192x8192_0_1_2_3 (broadcastInDim S2x8x1x8192 ![0, 1, 3] bcast_S2x8x8192_S2x8x1x8192_0_1_3 c))) (broadcastInDim S2x8x8192x8192 ![] bcast_S_S2x8x8192x8192 (id (constant S_ .f32 0xFF800000#32)))
/-- Each row's maximum. -/
def MX (X : FVec Ideal S2x8x8192x8192 .f32) : FVec Ideal S2x8x8192 .f32 := maximumf (broadcastInDim S2x8x8192 ![] bcast_S_S2x8x8192 (constant S_ .f32 0xFF800000#32)) (Host.reduce FloatOps.maximumf X (constant S_ .f32 0xFF800000#32) reducesTo_S2x8x8192x8192_S2x8x8192_d3 h_S_)
/-- The scores below their row's maximum. -/
def SH : FVec Ideal S2x8x8192x8192 .f32 := subf (SC q k c) (broadcastInDim S2x8x8192x8192 ![0, 1, 2, 3] bcast_S2x8x8192x1_S2x8x8192x8192_0_1_2_3 (broadcastInDim S2x8x8192x1 ![0, 1, 2] bcast_S2x8x8192_S2x8x8192x1_0_1_2 (MX (SC q k c))))
/-- The reference's result. -/
def REF : FVec Ideal S16384x512 .bf16 := truncf .bf16 (shapeCast S16384x512 (transpose S2x8192x8x64 [0, 3, 1, 2] (Host.dotGeneral dot_S2x8192x8x64_S2x8x8192x8192_S2x8x64x8192_1_3_3_2_02_01 none v (Host.divf (Host.exp (SH q k c)) (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd (Host.exp (SH q k c)) (constant S_ .f32 0x00000000#32) reducesTo_S2x8x8192x8192_S2x8x8192_d3 h_S_))))) transposes_S2x8x64x8192_S2x8192x8x64_0_3_1_2) shapeCasts_S2x8192x8x64_S16384x512) bitsLt_bf16_f32

end Cert.ReferenceIdeal.Attn
end
-- ==== Proof.AttnRefA.lean ====
/- The reference's attention at an index: the plain causal softmax. -/
module

public import proofs.«01_k».proof.Proof.AttnRef
public import proofs.«01_k».proof.Proof.Gen.ReferenceIdeal

@[expose] public section

set_option maxRecDepth 16384

noncomputable section

namespace Cert.ReferenceIdeal.Attn

open Cert.ReferenceIdeal Cert.ReferenceIdeal.Gen Cert.AttnMath
open Idealize.ShloMosaic Idealize.ShloMosaic.TcCoe

variable (q k v : FVec Ideal S2x8192x8x64 .f32) (c : FVec Ideal S2x8x8192 .f32)

/-- A maximum along the last of four axes, at an index: the fold over that axis. -/
theorem red_at {n0 n1 n2 n3 : ℕ} {u : Shape} (h : (⟨4, ![n0, n1, n2, n3]⟩ : Shape).ReducesTo [3] ⟨3, ![n0, n1, n2]⟩) (hu : 0 < u.numel)
    (X : FVec Ideal ⟨4, ![n0, n1, n2, n3]⟩ .f32) (init : FVec Ideal u .f32) (a : Fin n0) (b : Fin n1) (c : Fin n2) :
    Host.reduce FloatOps.maximumf X init h hu (ix3 a b c) = (Finset.univ : Finset (Fin n3)).fold max (init (Shape.Idx.first hu)) fun s => X (ix4 a b c s) := by
  refine (Host.reduce_eq_fold (max : EReal → EReal → EReal) X init h hu (ix3 a b c)).trans ?_
  exact h.fold_fiber_r4_a3 (ix3 a b c) max _ X

/-- A maximum of two tensors, at an index. -/
theorem max_read (x y : FVec Ideal S2x8x8192 .f32) (i : S2x8x8192.Idx) : maximumf x y i = max (x i) (y i) := rfl

/-- The constant of a row maximum, at an index. -/
theorem bcast_read (i : S2x8x8192.Idx) : broadcastInDim S2x8x8192 ![] bcast_S_S2x8x8192 (constant (F := Ideal) S_ .f32 0xFF800000#32) i = Ideal.ofBits .f32 0xFF800000#32 := rfl

/-- The row maximum at an index, the fold a variable. -/
theorem MX_of (X : FVec Ideal S2x8x8192x8192 .f32) (i : S2x8x8192.Idx) (z : EReal)
    (hz : Host.reduce FloatOps.maximumf X (constant (F := Ideal) S_ .f32 0xFF800000#32) reducesTo_S2x8x8192x8192_S2x8x8192_d3 h_S_ i = z) :
    MX X i = max (Ideal.ofBits .f32 0xFF800000#32) z := by
  subst hz
  unfold MX
  rw [max_read, bcast_read]

/-- The row maximum at an index, the scores a variable. -/
theorem MX_at (X : FVec Ideal S2x8x8192x8192 .f32) (b : Fin 2) (h : Fin 8) (t : Fin 8192) :
    MX X (ix3 b h t) = max (Ideal.ofBits .f32 0xFF800000#32) (Finset.univ.fold max (Ideal.ofBits .f32 0xFF800000#32) fun s => X (ix4 b h t s)) := by
  refine MX_of X _ _ ?_
  have e : constant (F := Ideal) S_ .f32 0xFF800000#32 (Shape.Idx.first h_S_) = Ideal.ofBits .f32 0xFF800000#32 := rfl
  have h1 := red_at reducesTo_S2x8x8192x8192_S2x8x8192_d3 h_S_ X (constant S_ .f32 0xFF800000#32) b h t
  rw [e] at h1
  exact h1

end Cert.ReferenceIdeal.Attn
end
-- ==== Proof.AttnRefB.lean ====
/- The reference's attention at an index: the plain causal softmax. -/
module

public import proofs.«01_k».proof.Proof.AttnRef
public import proofs.«01_k».proof.Proof.Gen.ReferenceIdeal

@[expose] public section

set_option maxRecDepth 16384

noncomputable section

namespace Cert.ReferenceIdeal.Attn

open Cert.ReferenceIdeal Cert.ReferenceIdeal.Gen Cert.AttnMath
open Idealize.ShloMosaic Idealize.ShloMosaic.TcCoe

variable (q k v : FVec Ideal S2x8192x8x64 .f32) (c : FVec Ideal S2x8x8192 .f32)

/-- A score below its row's maximum. -/
theorem SH_at (b : Fin 2) (h : Fin 8) (t s : Fin 8192) : SH q k c (ix4 b h t s) = SC q k c (ix4 b h t s) - MX (SC q k c) (ix3 b h t) := by
  pointwise [SH]

end Cert.ReferenceIdeal.Attn
end
-- ==== Proof.AttnRefC.lean ====
/- The reference's attention at an index: the plain causal softmax. -/
module

public import proofs.«01_k».proof.Proof.AttnRef
public import proofs.«01_k».proof.Proof.Gen.ReferenceIdeal

@[expose] public section

set_option maxRecDepth 16384

noncomputable section

namespace Cert.ReferenceIdeal.Attn

open Cert.ReferenceIdeal Cert.ReferenceIdeal.Gen Cert.AttnMath
open Idealize.ShloMosaic Idealize.ShloMosaic.TcCoe

variable (q k v : FVec Ideal S2x8192x8x64 .f32) (c : FVec Ideal S2x8x8192 .f32)

/-- The result at an index: the weighted sum of the values. -/
theorem REF_at (r : Fin 16384) (l : Fin 512) : REF q k v c (ix2 r l) = ∑ x : Fin 8192,
      v (ix4 ⟨r.val / 8192, by omega⟩ x ⟨l.val / 64, by omega⟩ ⟨l.val % 64, by omega⟩) *
        Ideal.div (Ideal.exp (SH q k c (ix4 ⟨r.val / 8192, by omega⟩ ⟨l.val / 64, by omega⟩ ⟨r.val % 8192, by omega⟩ x)))
          (∑ x : Fin 8192, Ideal.exp (SH q k c (ix4 ⟨r.val / 8192, by omega⟩ ⟨l.val / 64, by omega⟩ ⟨r.val % 8192, by omega⟩ x))) := by
  pointwise [REF]

end Cert.ReferenceIdeal.Attn
end
-- ==== Proof.AttnRefD.lean ====
/- The reference's attention at an index: the plain causal softmax. -/
module

public import proofs.«01_k».proof.Proof.AttnRef
public import proofs.«01_k».proof.Proof.Gen.ReferenceIdeal
public import Idealize.ShloMosaic.Lib.Tactic.WordOmega

@[expose] public section

set_option maxRecDepth 16384

noncomputable section

namespace Cert.ReferenceIdeal.Attn

open Cert.ReferenceIdeal Cert.ReferenceIdeal.Gen Cert.AttnMath
open Idealize.ShloMosaic Idealize.ShloMosaic.TcCoe

variable (q k v : FVec Ideal S2x8192x8x64 .f32) (c : FVec Ideal S2x8x8192 .f32)

/-- The masked score at an index. -/
theorem SC_at (b : Fin 2) (h : Fin 8) (t s : Fin 8192) : SC q k c (ix4 b h t s) = if s.val ≤ t.val then
      (∑ x : Fin 64, q (ix4 b t h x) * Ideal.ofBits FTy.f32 0x3E000000#32 * k (ix4 b s h x)) + c (ix3 b h t) - c (ix3 b h s) else Ideal.ofBits .f32 0xFF800000#32 := by
  pointwise [SC]
  exact if_congr (by word_cmp) rfl rfl

end Cert.ReferenceIdeal.Attn
end
-- ==== Proof.AttnRefE.lean ====
/- The reference's attention at an index: the plain causal softmax over real scores. -/
module

public import proofs.«01_k».proof.Proof.AttnRefA
public import proofs.«01_k».proof.Proof.AttnRefB
public import proofs.«01_k».proof.Proof.AttnRefC
public import proofs.«01_k».proof.Proof.AttnRefD
public import proofs.«01_k».proof.Proof.AttnScore
public import proofs.«01_k».proof.Proof.AttnGrid

@[expose] public section

set_option maxRecDepth 16384

noncomputable section

namespace Cert.ReferenceIdeal.Attn

open Cert.ReferenceIdeal Cert.ReferenceIdeal.Gen Cert.AttnMath
open Idealize.ShloMosaic Idealize.ShloMosaic.TcCoe

variable (q k v : FVec Ideal S2x8192x8x64 .f32) (c : FVec Ideal S2x8x8192 .f32)
variable (b : Fin 2) (h : Fin 8) (t : Fin 8192) (qr : Fin 64 → ℝ) (kr : Fin 8192 → Fin 64 → ℝ) (cr : Fin 8192 → ℝ)
  (hq : ∀ d, q (ix4 b t h d) = (qr d : EReal)) (hk : ∀ j d, k (ix4 b j h d) = (kr j d : EReal)) (hc : ∀ j, c (ix3 b h j) = (cr j : EReal))

include hq hk hc

/-- A masked score, real or `⊥`. -/
theorem SC_real (s : Fin 8192) : SC q k c (ix4 b h t s) = if s.val ≤ t.val then ((X qr kr cr (cr t) s.val : ℝ) : EReal) else ⊥ := by
  rw [SC_at, Cert.KernelIdeal.Attn.negInf, Cert.KernelIdeal.Attn.eighth, hc, hc, ← score_plain]
  simp only [hq, hk]

/-- A row's maximum. -/
theorem MX_real : MX (SC q k c) (ix3 b h t) = M (fun j => if j ≤ t.val then ((X qr kr cr (cr t) j : ℝ) : EReal) else ⊥) 8192 := by
  rw [MX_at, Cert.KernelIdeal.Attn.negInf]
  have e := M_step (s := fun j => if j ≤ t.val then ((X qr kr cr (cr t) j : ℝ) : EReal) else ⊥) (n := 0) (W := 8192) (fun s => SC q k c (ix4 b h t s))
    (fun s => (SC_real q k c b h t qr kr cr hq hk hc s).trans (by rw [Nat.zero_add]))
  rw [M_zero, Nat.zero_add] at e
  exact e.symm

/-- A shifted score. -/
theorem SH_real (s : Fin 8192) : SH q k c (ix4 b h t s) = (if s.val ≤ t.val then ((X qr kr cr (cr t) s.val : ℝ) : EReal) else ⊥)
      - M (fun j => if j ≤ t.val then ((X qr kr cr (cr t) j : ℝ) : EReal) else ⊥) 8192 := by
  rw [SH_at, SC_real q k c b h t qr kr cr hq hk hc, MX_real q k c b h t qr kr cr hq hk hc]

end Cert.ReferenceIdeal.Attn
end
-- ==== Proof.AttnPoint.lean ====
/- The attention kernel's block, entry by entry, is the reference's result. -/
module

public import proofs.«01_k».proof.Proof.AttnRow
public import proofs.«01_k».proof.Proof.AttnScore
public import proofs.«01_k».proof.Proof.AttnRefE

@[expose] public section

set_option maxRecDepth 16384

noncomputable section

namespace Cert.KernelIdeal.Attn

open Cert.KernelIdeal Cert.KernelIdeal.Gen Cert.AttnMath
open Idealize.ShloMosaic Idealize.ShloMosaic.TcCoe

/-- The queries with one half of the lanes at zero: only the other half's products remain. -/
theorem sum_low (f : Fin 128 → EReal) (g : Fin 64 → EReal) (hf : ∀ x : Fin 128, f x = if h : x.val < 64 then g ⟨x.val, h⟩ else 0) :
    ∑ x, f x = ∑ d, g d := by
  rw [Fin.sum_univ_two_halves 64 64 rfl f]
  have e : ∀ d : Fin 64, f (Fin.cast rfl (Fin.natAdd 64 d)) = 0 := fun d => by
    rw [hf, dif_neg (by simp)]
  refine (congrArg₂ (· + ·) (Finset.sum_congr rfl fun d _ => ?_) (Finset.sum_eq_zero fun d _ => ?_)).trans (add_zero _)
  · rw [hf]; exact dif_pos d.isLt
  · rw [hf]; exact dif_neg (by simp)

/-- The same for the other half. -/
theorem sum_high (f : Fin 128 → EReal) (g : Fin 64 → EReal) (hf : ∀ x : Fin 128, f x = if h : x.val < 64 then 0 else g ⟨x.val - 64, by omega⟩) :
    ∑ x, f x = ∑ d, g d := by
  rw [Fin.sum_univ_two_halves 64 64 rfl f]
  refine (congrArg₂ (· + ·) (Finset.sum_eq_zero fun d _ => ?_) (Finset.sum_congr rfl fun d _ => ?_)).trans (zero_add _)
  · rw [hf]; exact dif_pos d.isLt
  · rw [hf, dif_neg (by simp)]; exact congrArg g (Fin.ext (by simp))

variable (i : grid0.Coords) (x0 : FVec Ideal S1024x128 .f32) (x1 x2 : FVec Ideal S8192x128 .bf16) (x3 : FVec Ideal S1x1x2x8192 .f32) (r : Fin 1024)
  (qr : Fin 64 → ℝ) (kr : Fin 8192 → Fin 64 → ℝ) (cr : Fin 8192 → ℝ) (ct : ℝ) (p t : Fin 8192) (ep : p.val = 1024 * (i 2).val) (et : t.val = 1024 * (i 2).val + r.val)

include ep et in
/-- The first head's scores are real up to the row, `⊥` after. -/
theorem s0_real (hq : ∀ d : Fin 64, x0 (ix2 r ⟨d.val, by omega⟩) = (qr d : EReal)) (hk : ∀ j (d : Fin 64), x1 (ix2 j ⟨d.val, by omega⟩) = (kr j d : EReal)) (hc : ∀ j, x3 (ix4 0 0 0 j) = (cr j : EReal)) :
    s0 i x0 x1 x3 r = fun j => if j ≤ t.val then (((X qr kr cr ct j + (cr p - ct)) * (Real.log 2)⁻¹ : ℝ) : EReal) else ⊥ := by
  funext j
  unfold s0 sc
  by_cases h : j ≤ t.val
  · have hj : j < 8192 := by omega
    rw [dif_pos ⟨by omega, hj⟩, if_pos h, ← score_scaled qr kr cr ct (cr p) ⟨j, hj⟩]
    rw [sum_low _ (fun d => (qr d : EReal) * ((0.125 : ℝ) : EReal) * (((Real.log 2)⁻¹ : ℝ) : EReal) * (kr ⟨j, hj⟩ d : EReal)), cRef_at, hc, hc]
    · exact congrArg (fun z => _ + ((cr z : EReal) - _) * _) (Fin.ext ep.symm)
    · intro x
      unfold qLo
      rw [pay51_at, ldQ_at]
      by_cases hx : x.val < 64
      · rw [if_pos hx, dif_pos hx]
        exact congrArg₂ (· * ·) (congrArg (fun z => z * ((0.125 : ℝ) : EReal) * lam) (hq ⟨x.val, hx⟩)) (hk ⟨j, hj⟩ ⟨x.val, hx⟩)
      · rw [if_neg hx, dif_neg hx, zero_mul]
  · rw [dif_neg (fun hh => h (by omega)), if_neg h]

include ep et in
/-- The second head's. -/
theorem s1_real (hq : ∀ d : Fin 64, x0 (ix2 r ⟨d.val + 64, by omega⟩) = (qr d : EReal)) (hk : ∀ j (d : Fin 64), x1 (ix2 j ⟨d.val + 64, by omega⟩) = (kr j d : EReal)) (hc : ∀ j, x3 (ix4 0 0 1 j) = (cr j : EReal)) :
    s1 i x0 x1 x3 r = fun j => if j ≤ t.val then (((X qr kr cr ct j + (cr p - ct)) * (Real.log 2)⁻¹ : ℝ) : EReal) else ⊥ := by
  funext j
  unfold s1 sc
  by_cases h : j ≤ t.val
  · have hj : j < 8192 := by omega
    rw [dif_pos ⟨by omega, hj⟩, if_pos h, ← score_scaled qr kr cr ct (cr p) ⟨j, hj⟩]
    rw [sum_high _ (fun d => (qr d : EReal) * ((0.125 : ℝ) : EReal) * (((Real.log 2)⁻¹ : ℝ) : EReal) * (kr ⟨j, hj⟩ d : EReal)), cRef_at, hc, hc]
    · exact congrArg (fun z => _ + ((cr z : EReal) - _) * _) (Fin.ext ep.symm)
    · intro x
      unfold qHi
      rw [pay52_at, ldQ_at]
      by_cases hx : x.val < 64
      · rw [if_pos hx, dif_pos hx, zero_mul]
      · rw [if_neg hx, dif_neg hx]
        have ex : x = ⟨(⟨x.val - 64, by omega⟩ : Fin 64).val + 64, by simp; omega⟩ := Fin.ext (by simp; omega)
        exact congrArg₂ (· * ·) (congrArg (fun z => z * ((0.125 : ℝ) : EReal) * lam) ((congrArg (fun z => x0 (ix2 r z)) ex).trans (hq ⟨x.val - 64, by omega⟩)))
          ((congrArg (fun z => x1 (ix2 ⟨j, hj⟩ z)) ex).trans (hk ⟨j, hj⟩ ⟨x.val - 64, by omega⟩))
  · rw [dif_neg (fun hh => h (by omega)), if_neg h]

variable (q k v : FVec Ideal S2x8192x8x64 .f32) (c : FVec Ideal S2x8x8192 .f32) (b : Fin 2) (h : Fin 8) (d : Fin 64)

open Cert.ReferenceIdeal.Attn in
/-- A row's quotient is the reference's entry: the scores real, the values arbitrary. -/
theorem row_ref (hq : ∀ d, q (ix4 b t h d) = (qr d : EReal)) (hk : ∀ j d, k (ix4 b j h d) = (kr j d : EReal)) (hc : ∀ j, c (ix3 b h j) = (cr j : EReal))
    (w : ℕ → EReal) (hw : ∀ j : Fin 8192, w j = v (ix4 b j h d)) (n : ℕ) (hn : t.val < n) (T : ℝ) (R : Fin 16384) (l : Fin 512)
    (eR : R.val = b.val * 8192 + t.val) (el : l.val = h.val * 64 + d.val) :
    Ideal.div (A (fun j => if j ≤ t.val then (((X qr kr cr (cr t) j + T) * (Real.log 2)⁻¹ : ℝ) : EReal) else ⊥) w n)
        (L (fun j => if j ≤ t.val then (((X qr kr cr (cr t) j + T) * (Real.log 2)⁻¹ : ℝ) : EReal) else ⊥) n)
      = REF q k v c (ix2 R l) := by
  have eb : (⟨R.val / 8192, by omega⟩ : Fin 2) = b := Fin.ext (by simp only; omega)
  have eh : (⟨l.val / 64, by omega⟩ : Fin 8) = h := Fin.ext (by simp only; omega)
  have ed : (⟨l.val % 64, by omega⟩ : Fin 64) = d := Fin.ext (by simp only; omega)
  have et : (⟨R.val % 8192, by omega⟩ : Fin 8192) = t := Fin.ext (by simp only; omega)
  rw [REF_at, eb, eh, ed, et, row _ _ _ _ _ 8192 hn t.isLt]
  refine Finset.sum_congr rfl fun j _ => ?_
  rw [hw, SH_real q k c b h t qr kr cr hq hk hc]
  refine congrArg (fun z => v (ix4 b j h d) * Ideal.div _ z) (Finset.sum_congr rfl fun s _ => ?_)
  rw [SH_real q k c b h t qr kr cr hq hk hc]

end Cert.KernelIdeal.Attn
end
-- ==== Proof.AttnBlocks.lean ====
/- The attention kernel's blocks, read off the argument arrays. -/
module

public import proofs.«01_k».proof.Proof.AttnFrame
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- Every window's block index at a grid point. -/
theorem idx : ∀ t : Fin cfg0.N, win0_0.index t = ![t.val / 32 * 8 + t.val % 8, t.val / 8 % 4] ∧ win0_1.index t = ![t.val / 32, t.val / 8 % 4]
    ∧ win0_2.index t = ![t.val / 32, t.val / 8 % 4] ∧ win0_3.index t = ![t.val / 32, t.val / 8 % 4, 0, 0]
    ∧ win0_4.index t = ![t.val / 32 * 8 + t.val % 8, t.val / 8 % 4] ∧ t.val / 32 < 2 ∧ (grid0.coords t 2).val = t.val % 8 :=
  (by decide +kernel : ∀ t : Fin grid0.N, _)

/-- The queries' block. -/
theorem blk0 (c : Dev nD) (t : Fin cfg0.N) (r : Fin 1024) (x : Fin 128) (b : Fin 2) (p : Fin 8192) (h : Fin 8) (d : Fin 64)
    (eb : b.val = t.val / 32) (ep : p.val = t.val % 8 * 1024 + r.val) (eh : h.val = t.val / 8 % 4 * 2 + x.val / 64) (ed : d.val = x.val % 64) :
    (show FVec Ideal S1024x128 .f32 from iblk m c 0 t) (ix2 r x) = (show FVec Ideal S2x8192x8x64 .f32 from m ((c : Thread nD τ).loc main_arg0)) (ix4 b p h d) := by
  blk_simp [iblk]
  entry_read
  pointwise
  blk_ext [idx t]

/-- The keys' block. -/
theorem blk1 (c : Dev nD) (t : Fin cfg0.N) (j : Fin 8192) (x : Fin 128) (b : Fin 2) (h : Fin 8) (d : Fin 64)
    (eb : b.val = t.val / 32) (eh : h.val = t.val / 8 % 4 * 2 + x.val / 64) (ed : d.val = x.val % 64) :
    (show FVec Ideal S8192x128 .bf16 from iblk m c 1 t) (ix2 j x) = (show FVec Ideal S2x8192x8x64 .f32 from m ((c : Thread nD τ).loc main_arg1)) (ix4 b j h d) := by
  blk_simp [iblk]
  entry_read
  pointwise
  blk_ext [idx t]

/-- The values' block. -/
theorem blk2 (c : Dev nD) (t : Fin cfg0.N) (j : Fin 8192) (x : Fin 128) (b : Fin 2) (h : Fin 8) (d : Fin 64)
    (eb : b.val = t.val / 32) (eh : h.val = t.val / 8 % 4 * 2 + x.val / 64) (ed : d.val = x.val % 64) :
    (show FVec Ideal S8192x128 .bf16 from iblk m c 2 t) (ix2 j x) = (show FVec Ideal S2x8192x8x64 .f32 from m ((c : Thread nD τ).loc main_arg2)) (ix4 b j h d) := by
  blk_simp [iblk]
  entry_read
  pointwise
  blk_ext [idx t]

/-- The decay's block. -/
theorem blk3 (c : Dev nD) (t : Fin cfg0.N) (hd : Fin 2) (j : Fin 8192) (b : Fin 2) (h : Fin 8)
    (eb : b.val = t.val / 32) (eh : h.val = t.val / 8 % 4 * 2 + hd.val) :
    (show FVec Ideal S1x1x2x8192 .f32 from iblk m c 3 t) (ix4 0 0 hd j) = (show FVec Ideal S2x8x8192 .f32 from m ((c : Thread nD τ).loc main_arg3)) (ix3 b h j) := by
  blk_simp [iblk]
  entry_read
  pointwise
  blk_ext [idx t]

/-- Where an entry of the result's block lies in the result. -/
theorem emb4 (t : Fin cfg0.N) (r : Fin 1024) (l : Fin 128) :
    ((cfg0.win 4).blk t).view.emb (ix2 r l) = (ix2 (⟨(t.val / 32 * 8 + t.val % 8) * 1024 + r.val, by have := idx t; omega⟩ : Fin 16384) (⟨t.val / 8 % 4 * 128 + l.val, by omega⟩ : Fin 512) : (⟨2, ![16384, 512]⟩ : Shape).Idx) := by
  blk_ext [idx t]

end Cert.KernelIdeal.Attn
end
-- ==== Proof.AttnFinal.lean ====
/- The attention kernel's result array is the reference's, when the queries, keys and decays are real. -/
module

public import proofs.«01_k».proof.Proof.AttnPoint
public import proofs.«01_k».proof.Proof.AttnBlocks

@[expose] public section

set_option maxRecDepth 16384

noncomputable section

namespace Cert.KernelIdeal.Attn

open Cert.KernelIdeal Cert.KernelIdeal.Gen Cert.AttnMath
open Idealize.ShloMosaic Idealize.ShloMosaic.TcCoe Idealize.SL.Sem
open Idealize.ShloMosaic.Pipeline (Dat)

/-- Every entry is a real. -/
def Real' {S : Shape} {φ : FTy} (x : FVec Ideal S φ) : Prop := ∀ i, ∃ a : ℝ, x i = (a : EReal)

/-- An entry of a block, from its coordinates in the argument arrays. -/
theorem point_of (i : grid0.Coords) (x0 : FVec Ideal S1024x128 .f32) (x1 x2 : FVec Ideal S8192x128 .bf16) (x3 : FVec Ideal S1x1x2x8192 .f32)
    (q k v : FVec Ideal S2x8192x8x64 .f32) (c : FVec Ideal S2x8x8192 .f32) (hq : Real' q) (hk : Real' k) (hc : Real' c) (b : Fin 2) (hp : Fin 4)
    (b0 : ∀ (r : Fin 1024) (x : Fin 128) (p : Fin 8192) (h : Fin 8) (d : Fin 64), p.val = (i 2).val * 1024 + r.val → h.val = hp.val * 2 + x.val / 64 → d.val = x.val % 64 → x0 (ix2 r x) = q (ix4 b p h d))
    (b1 : ∀ (j : Fin 8192) (x : Fin 128) (h : Fin 8) (d : Fin 64), h.val = hp.val * 2 + x.val / 64 → d.val = x.val % 64 → x1 (ix2 j x) = k (ix4 b j h d))
    (b2 : ∀ (j : Fin 8192) (x : Fin 128) (h : Fin 8) (d : Fin 64), h.val = hp.val * 2 + x.val / 64 → d.val = x.val % 64 → x2 (ix2 j x) = v (ix4 b j h d))
    (b3 : ∀ (hd : Fin 2) (j : Fin 8192) (h : Fin 8), h.val = hp.val * 2 + hd.val → x3 (ix4 0 0 hd j) = c (ix3 b h j))
    (r : Fin 1024) (l : Fin 128) (R : Fin 16384) (l' : Fin 512) (eR : R.val = (b.val * 8 + (i 2).val) * 1024 + r.val) (el : l'.val = hp.val * 128 + l.val) :
    outV (F := Ideal) i x0 x1 x2 x3 (ix2 r l) = Cert.ReferenceIdeal.Attn.REF q k v c (ix2 R l') := by
  choose qf hqf using hq
  choose kf hkf using hk
  choose cf hcf using hc
  have hi : (i 2).val < 8 := (i 2).isLt
  let p : Fin 8192 := ⟨1024 * (i 2).val, by omega⟩
  let t : Fin 8192 := ⟨1024 * (i 2).val + r.val, by omega⟩
  let h0 : Fin 8 := ⟨hp.val * 2, by omega⟩
  let h1 : Fin 8 := ⟨hp.val * 2 + 1, by omega⟩
  have e0 := fun r' : Fin 1024 => s0_real i x0 x1 x3 r' (fun d => qf (ix4 b (⟨1024 * (i 2).val + r'.val, by omega⟩ : Fin 8192) h0 d)) (fun j d => kf (ix4 b j h0 d)) (fun j => cf (ix3 b h0 j)) (cf (ix3 b h0 (⟨1024 * (i 2).val + r'.val, by omega⟩ : Fin 8192))) p
    (⟨1024 * (i 2).val + r'.val, by omega⟩ : Fin 8192) rfl rfl
    (fun d => (b0 r' _ _ h0 d (by simp only; omega) (by simp only [h0]; omega) (by simp only; omega)).trans (hqf _))
    (fun j d => (b1 j _ h0 d (by simp only [h0]; omega) (by simp only; omega)).trans (hkf _))
    (fun j => (b3 0 j h0 (by simp [h0])).trans (hcf _))
  have e1 := fun r' : Fin 1024 => s1_real i x0 x1 x3 r' (fun d => qf (ix4 b (⟨1024 * (i 2).val + r'.val, by omega⟩ : Fin 8192) h1 d)) (fun j d => kf (ix4 b j h1 d)) (fun j => cf (ix3 b h1 j)) (cf (ix3 b h1 (⟨1024 * (i 2).val + r'.val, by omega⟩ : Fin 8192))) p
    (⟨1024 * (i 2).val + r'.val, by omega⟩ : Fin 8192) rfl rfl
    (fun d => (b0 r' _ _ h1 d (by simp only; omega) (by simp only [h1]; omega) (by simp only; omega)).trans (hqf _))
    (fun j d => (b1 j _ h1 d (by simp only [h1]; omega) (by simp only; omega)).trans (hkf _))
    (fun j => (b3 1 j h1 (by simp [h1])).trans (hcf _))
  rw [outV_at i x0 x1 x2 x3 (fun r' j => by rw [e0]; dsimp only; split; exact EReal.coe_ne_top _; exact bot_ne_top) (fun r' j => by rw [e1]; dsimp only; split; exact EReal.coe_ne_top _; exact bot_ne_top)]
  by_cases hl : l.val < 64
  · rw [if_pos hl, e0 r]
    exact row_ref _ _ _ t q k v c b h0 ⟨l.val, hl⟩ (fun d => hqf _) (fun j d => hkf _) (fun j => hcf _) _
      (fun j => (vv_of x2 j.isLt).trans (b2 j l h0 ⟨l.val, hl⟩ (by simp only [h0]; omega) (by simp only; omega))) (nk i) (by simp only [t, nk]; omega) _ R l'
      (by simp only [t]; omega) (by simp only [h0]; omega)
  · rw [if_neg hl, e1 r]
    exact row_ref _ _ _ t q k v c b h1 ⟨l.val - 64, by omega⟩ (fun d => hqf _) (fun j d => hkf _) (fun j => hcf _) _
      (fun j => (vv_of x2 j.isLt).trans (b2 j l h1 ⟨l.val - 64, by omega⟩ (by simp only [h1]; omega) (by simp only; omega))) (nk i) (by simp only [t, nk]; omega) _ R l'
      (by simp only [t]; omega) (by simp only [h1]; omega)

variable (m : (ℓ : Loc nD τ sig) → Buf (Elt Ideal) ℓ)

/-- An entry of what the body stores at a grid point. -/
theorem point (c : Dev nD) (hq : Real' (S := S2x8192x8x64) (φ := .f32) (m ((c : Thread nD τ).loc main_arg0))) (hk : Real' (S := S2x8192x8x64) (φ := .f32) (m ((c : Thread nD τ).loc main_arg1)))
    (hc : Real' (S := S2x8x8192) (φ := .f32) (m ((c : Thread nD τ).loc main_arg3))) (t : Fin cfg0.N) (r : Fin 1024) (l : Fin 128) :
    outV (F := Ideal) (grid0.coords t) (iblk m c 0 t) (iblk m c 1 t) (iblk m c 2 t) (iblk m c 3 t) (ix2 r l)
      = Cert.ReferenceIdeal.Attn.REF (m ((c : Thread nD τ).loc main_arg0)) (m ((c : Thread nD τ).loc main_arg1)) (m ((c : Thread nD τ).loc main_arg2)) (m ((c : Thread nD τ).loc main_arg3)) (((cfg0.win 4).blk t).view.emb (ix2 r l)) := by
  obtain ⟨-, -, -, -, -, hb, h2⟩ := idx t
  have hb' : t.val / 32 < 2 := hb
  rw [emb4]
  exact point_of (grid0.coords t) (iblk m c 0 t) (iblk m c 1 t) (iblk m c 2 t) (iblk m c 3 t) _ _ _ _ hq hk hc ⟨t.val / 32, hb'⟩ ⟨t.val / 8 % 4, by omega⟩
    (fun r x p h d e1 e2 e3 => blk0 m c t r x _ p h d rfl (by rw [e1, h2]) e2 e3)
    (fun j x h d e2 e3 => blk1 m c t j x _ h d rfl e2 e3)
    (fun j x h d e2 e3 => blk2 m c t j x _ h d rfl e2 e3)
    (fun hd j h e2 => blk3 m c t hd j _ h rfl e2)
    r l _ _ (by rw [h2]) rfl

/-- THE RESULT ARRAY after the run. -/
theorem final (c : Dev nD) (hq : Real' (S := S2x8192x8x64) (φ := .f32) (m ((c : Thread nD τ).loc main_arg0))) (hk : Real' (S := S2x8192x8x64) (φ := .f32) (m ((c : Thread nD τ).loc main_arg1)))
    (hc : Real' (S := S2x8x8192) (φ := .f32) (m ((c : Thread nD τ).loc main_arg3))) :
    (dats m 0 c).arrAt 4 (cfgs 0).N = Cert.ReferenceIdeal.Attn.REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨r, l, rfl⟩ : ∃ (r : Fin 1024) (l : Fin 128), y = ix2 r l := ⟨y 0, y 1, by blk_ext⟩
  exact point m c hq hk hc t r l

end Cert.KernelIdeal.Attn
end
-- ==== Proof.AttnPre.lean ====
/- What the precondition says: the queries, the keys and the decays are real numbers. -/
module

public import proofs.«01_k».proof.Pre_finite_scores
public import Idealize.ShloMosaic.Lib.ReduceAll
public import proofs.«01_k».proof.Proof.AttnFinal

@[expose] public section

set_option maxRecDepth 16384

noncomputable section

namespace Cert.Pre_finite_scores

open Idealize.ShloMosaic

/-- The predicate's side conditions. -/
instance facts : Cert.Pre_finite_scores.Facts where
  bcast_S_S2x8192x8x64 := by decide
  reducesTo_S2x8192x8x64_S_d0_1_2_3 := by decide
  h_S_ := by decide
  bcast_S_S2x8x8192 := by decide
  reducesTo_S2x8x8192_S_d0_1_2 := by decide

/-- The pattern of positive infinity. -/
theorem posInf : Ideal.ofBits .f32 0x7F800000#32 = ⊤ := by
  show Ideal.ieee 8 23 (0x7F800000#32 : BitVec 32) = ⊤
  unfold Ideal.ieee
  rw [if_pos (by decide), if_pos (by decide), if_neg (by decide)]

/-- A number of magnitude below infinity is real. -/
theorem real_of_lt (x : EReal) (h : max x (-x) < ⊤) : ∃ a : ℝ, x = (a : EReal) := by
  induction x using EReal.rec with
  | bot => exact absurd h (by simp)
  | coe a => exact ⟨a, rfl⟩
  | top => exact absurd h (by simp)

/-- Every entry of magnitude below infinity, checked entry by entry. -/
theorem real_of_cmp {S : Shape} (x y : FVec Ideal S .f32) (hy : ∀ i, y i = ⊤) (h : ∀ i, cmpf .olt (Host.absf x) y i = 1#1) : Cert.KernelIdeal.Attn.Real' x := by
  intro i
  have h1 := h i
  refine real_of_lt (x i) ?_
  have h2 : BitVec.ofBool (decide (max (x i) (-(x i)) < y i)) = 1#1 := h1
  rw [hy] at h2
  by_contra hn
  rw [decide_eq_false hn] at h2
  exact absurd h2 (by decide)

/-- The precondition's meaning. -/
theorem real_of_fn (q k v : FVec Ideal S2x8192x8x64 .f32) (c : FVec Ideal S2x8x8192 .f32) (h : fn q k v c = fun _ => 1#1) :
    Cert.KernelIdeal.Attn.Real' q ∧ Cert.KernelIdeal.Attn.Real' k ∧ Cert.KernelIdeal.Attn.Real' c := by
  have h0 := congrFun h (fun a => a.elim0)
  obtain ⟨h1, hc⟩ := IntOp.andi_eq_one.1 h0
  obtain ⟨hq, hk⟩ := IntOp.andi_eq_one.1 h1
  haveI : Subsingleton S_.Idx := ⟨fun a b => funext fun x => x.elim0⟩
  refine ⟨real_of_cmp q _ (fun _ => posInf) fun i => Host.reduce_andi_all _ _ _ _ _ hq i,
    real_of_cmp k _ (fun _ => posInf) fun i => Host.reduce_andi_all _ _ _ _ _ hk i,
    real_of_cmp c _ (fun _ => posInf) fun i => Host.reduce_andi_all _ _ _ _ _ hc i⟩

end Cert.Pre_finite_scores
end
-- ==== Proof.FfnRun.lean ====
/- The run of the feed-forward kernel's body at a symbolic grid point: at a batch's first tile, where the two carried
   rows are filled first, and at the others. -/
module

public import proofs.«01_k».proof.Proof.Gen.Kernel2Ideal.Frame
public import proofs.«01_k».proof.Proof.Gen.Kernel2Ideal.Skeleton
public import Idealize.ShloMosaic.Lib.WholeRead
public import Idealize.ShloMosaic.Lib.VecWindow

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the carried rows are filled, as the kernel tests it. -/
abbrev cond (i : grid0.Coords) : Prop := Scalar.cmpi .ne (Scalar.extui (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32)) 0#32 = 1#1

set_option maxHeartbeats 4000000 in
/-- The body's triple at such a point: what the two results' buffers and the carried rows' buffer end with is found by the run. -/
def run_A (c : Dev nD) (i : grid0.Coords) (h1 : cond i) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S3x5632 .f32) (harg11 : arg11.IsWhole) (arg12 : Memref sig .tc .vmem S1x5632 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S1x2x5632 .f32) (harg15 : arg15.IsWhole) (arg16 : Memref sig .tc .vmem S512x1024 .f32) (harg16 : arg16.IsWhole) (arg17 : Memref sig .tc .vmem S1x2x5632 .f32) (harg17 : arg17.IsWhole) (arg18 : Memref sig .tc .vmem S8x5632 .f32) (harg18 : arg18.IsWhole)
    (x0 : Vec F S512x1024 .f32) (x1 : Vec F S512x512 .bf16) (x2 : Vec F S512x512 .bf16) (x3 : Vec F S1x1x1024 .f32) (x4 : Vec F S1x1x1024 .f32) (x5 : Vec F S1x1x1024 .f32) (x6 : Vec F S1x1x1024 .f32) (x7 : Vec F S1024x1024 .bf16) (x8 : Vec F S1x1024 .f32) (x9 : Vec F S1024x5632 .bf16) (x10 : Vec F S3x5632 .f32) (x11 : Vec F S1x5632 .f32) (x12 : Vec F S2816x1024 .bf16) (x13 : Vec F S1x1024 .f32) (x14 : Vec F S1x2x5632 .f32) (s : Vec F S8x5632 .f32) :
    { O : Vec F S512x1024 .f32 × Vec F S1x2x5632 .f32 × Vec F S8x5632 .f32 // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ owns (c : Thread nD τ) arg18 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare O.1 ∗ owns (c : Thread nD τ) arg17 fullShare O.2.1 ∗ owns (c : Thread nD τ) arg18 fullShare O.2.2) -∗ K ⟨⟩))
          ⊢ wp frame (wpE (defs₀ (F := F)) Variants.none c none) E (cc0_ffn_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨⟨?_, ?_, ?_⟩, fun E K => ?run⟩
  case run =>
    simp only [cc0_ffn_prompt_eq_skeleton]; unfold cc0_ffn_prompt_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg18.eq_unread hfs
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; swap; · iexact H15
      ipureintro
      exact View.read_writes_full _ _ _ _ _
    isplitl [H16]
    · iexists _; isplitr; swap; · iexact H16
      ipureintro
      exact View.read_writes_full _ _ _ _ _
    iexists _; isplitr; swap; · iexact HS
    ipureintro; rfl

set_option maxHeartbeats 4000000 in
/-- The body's triple at such a point: what the two results' buffers and the carried rows' buffer end with is found by the run. -/
def run_B (c : Dev nD) (i : grid0.Coords) (h1 : ¬ cond i) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S3x5632 .f32) (harg11 : arg11.IsWhole) (arg12 : Memref sig .tc .vmem S1x5632 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S1x2x5632 .f32) (harg15 : arg15.IsWhole) (arg16 : Memref sig .tc .vmem S512x1024 .f32) (harg16 : arg16.IsWhole) (arg17 : Memref sig .tc .vmem S1x2x5632 .f32) (harg17 : arg17.IsWhole) (arg18 : Memref sig .tc .vmem S8x5632 .f32) (harg18 : arg18.IsWhole)
    (x0 : Vec F S512x1024 .f32) (x1 : Vec F S512x512 .bf16) (x2 : Vec F S512x512 .bf16) (x3 : Vec F S1x1x1024 .f32) (x4 : Vec F S1x1x1024 .f32) (x5 : Vec F S1x1x1024 .f32) (x6 : Vec F S1x1x1024 .f32) (x7 : Vec F S1024x1024 .bf16) (x8 : Vec F S1x1024 .f32) (x9 : Vec F S1024x5632 .bf16) (x10 : Vec F S3x5632 .f32) (x11 : Vec F S1x5632 .f32) (x12 : Vec F S2816x1024 .bf16) (x13 : Vec F S1x1024 .f32) (x14 : Vec F S1x2x5632 .f32) (s : Vec F S8x5632 .f32) :
    { O : Vec F S512x1024 .f32 × Vec F S1x2x5632 .f32 × Vec F S8x5632 .f32 // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ owns (c : Thread nD τ) arg18 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare O.1 ∗ owns (c : Thread nD τ) arg17 fullShare O.2.1 ∗ owns (c : Thread nD τ) arg18 fullShare O.2.2) -∗ K ⟨⟩))
          ⊢ wp frame (wpE (defs₀ (F := F)) Variants.none c none) E (cc0_ffn_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨⟨?_, ?_, ?_⟩, fun E K => ?run⟩
  case run =>
    simp only [cc0_ffn_prompt_eq_skeleton]; unfold cc0_ffn_prompt_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg18.eq_unread hfs
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; swap; · iexact H15
      ipureintro
      exact View.read_writes_full _ _ _ _ _
    isplitl [H16]
    · iexists _; isplitr; swap; · iexact H16
      ipureintro
      exact View.read_writes_full _ _ _ _ _
    iexists _; isplitr; swap; · iexact HS
    ipureintro; rfl

end Cert.Kernel2Ideal.Ffn

end
-- ==== Proof.FfnBody.lean ====
/- What the feed-forward kernel's body leaves, as functions of its blocks and of the two carried rows: the tile of the
   first result, and the two last rows of the tile's up-projection, which it carries to the next tile and writes to the
   second result. -/
module

public import proofs.«01_k».proof.Proof.FfnRun
public import Idealize.ShloMosaic.Lib.WritesUnit
public import Idealize.ShloMosaic.Lib.Pointwise.Index

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A load of a whole buffer's box, the buffer held at the contents that read `X`, is the box of `X`. -/
theorem readAt_unread_ld {s : Shape} {e : EltTy} {m : Memref sig .tc .vmem s e} (h : m.IsWhole) (X : Vec F s e) (R : Rect s) :
    View.readAt (Elt F) m.view R.toLoadRect (h.unread X) = View.ld X R :=
  funext fun x => h.readAt_unread X R.toLoadRect x

/-- The rows after the attention's output projection and its gated residual. -/
def bX1 (x0 : Vec F S512x1024 .f32) (x1 x2 : Vec F S512x512 .bf16) (x3 : Vec F S1x1x1024 .f32) (x7 : Vec F S1024x1024 .bf16) : FVec F S512x1024 .f32 :=
  k0_pay11 (k0_pay4 (View.ld x0 (Rect.unit (s := S512x1024) ![0, 0] S512x1024.size inb_S512x1024_S512x1024_0_0))) (k0_pay5 (View.ld x2 (Rect.unit (s := S512x512) ![0, 0] S512x512.size inb_S512x512_S512x512_0_0)))
    (k0_pay6 (View.ld x3 (Rect.unit (s := S1x1x1024) ![0, 0, 0] S1x1x1024.size inb_S1x1x1024_S1x1x1024_0_0_0)))
    (k0_pay10 (View.ld x1 (Rect.unit (s := S512x512) ![0, 0] S512x512.size inb_S512x512_S512x512_0_0)) (View.ld x7 (Rect.unit (s := S1024x1024) ![0, 0] S512x1024.size inb_S1024x1024_S512x1024_0_0)))
    (View.ld x7 (Rect.unit (s := S1024x1024) ![512, 0] S512x1024.size inb_S1024x1024_S512x1024_512_0))

/-- The rows normalised, scaled and shifted. -/
def bH2 (x0 : Vec F S512x1024 .f32) (x1 x2 : Vec F S512x512 .bf16) (x3 x4 x5 : Vec F S1x1x1024 .f32) (x7 : Vec F S1024x1024 .bf16) (x8 : Vec F S1x1024 .f32) : FVec F S512x1024 .bf16 :=
  k0_pay12 (k0_pay4 (View.ld x0 (Rect.unit (s := S512x1024) ![0, 0] S512x1024.size inb_S512x1024_S512x1024_0_0))) (k0_pay5 (View.ld x2 (Rect.unit (s := S512x512) ![0, 0] S512x512.size inb_S512x512_S512x512_0_0)))
    (k0_pay6 (View.ld x3 (Rect.unit (s := S1x1x1024) ![0, 0, 0] S1x1x1024.size inb_S1x1x1024_S1x1x1024_0_0_0)))
    (k0_pay7 (View.ld x4 (Rect.unit (s := S1x1x1024) ![0, 0, 0] S1x1x1024.size inb_S1x1x1024_S1x1x1024_0_0_0)))
    (k0_pay8 (View.ld x5 (Rect.unit (s := S1x1x1024) ![0, 0, 0] S1x1x1024.size inb_S1x1x1024_S1x1x1024_0_0_0)))
    (k0_pay9 (View.ld x8 (Rect.unit (s := S1x1024) ![0, 0] S1x1024.size inb_S1x1024_S1x1024_0_0)))
    (k0_pay10 (View.ld x1 (Rect.unit (s := S512x512) ![0, 0] S512x512.size inb_S512x512_S512x512_0_0)) (View.ld x7 (Rect.unit (s := S1024x1024) ![0, 0] S512x1024.size inb_S1024x1024_S512x1024_0_0)))
    (View.ld x7 (Rect.unit (s := S1024x1024) ![512, 0] S512x1024.size inb_S1024x1024_S512x1024_512_0))

/-- The gate half of the up-projection. -/
def uG (h2 : FVec F S512x1024 .bf16) (x9 : Vec F S1024x5632 .bf16) : FVec F S512x2816 .f32 :=
  k0_pay19 h2 (View.ld x9 (Rect.unit (s := S1024x5632) ![0, 0] S1024x2816.size inb_S1024x5632_S1024x2816_0_0))

/-- The value half of the up-projection. -/
def uV (h2 : FVec F S512x1024 .bf16) (x9 : Vec F S1024x5632 .bf16) : FVec F S512x2816 .f32 :=
  k0_pay19 h2 (View.ld x9 (Rect.unit (s := S1024x5632) ![0, 2816] S1024x2816.size inb_S1024x5632_S1024x2816_0_2816))

/-- Column `l` of the two halves' `r`-th last row set side by side. -/
def lastRows (g v : FVec F S512x2816 .f32) : Vec F S2x5632 .f32 := fun y =>
  if h : (y (1 : Fin 2)).val < 2816 then k0_pay17 g (ix2 (y (0 : Fin 2)) (⟨(y (1 : Fin 2)).val, h⟩ : Fin 2816))
  else k0_pay21 v (ix2 (y (0 : Fin 2)) (⟨(y (1 : Fin 2)).val - 2816, by have := (y (1 : Fin 2)).isLt; change _ < 5632 at this; omega⟩ : Fin 2816))

/-- Half a carried row lies inside the two rows. -/
theorem inb_row (r c : ℕ) (hr : r < 2) (hc : c + 2816 ≤ 5632) : ∀ a, (![r, c] : Fin 2 → ℕ) a + S1x2816.size a ≤ S2x5632.size a :=
  Fin.forall_fin_two.mpr ⟨by change r + 1 ≤ 2; omega, by change c + 2816 ≤ 5632; omega⟩

/-- Half `c` of carried row `r`. -/
def pRow (P : Vec F S2x5632 .f32) (r c : ℕ) (hr : r < 2) (hc : c + 2816 ≤ 5632) : Vec F S1x2816 .f32 :=
  View.ld P (Rect.unit (s := S2x5632) ![r, c] S1x2816.size (inb_row r c hr hc))

/-- The rows before: the tile's own, the first from the last carried row. -/
def r1 (g : FVec F S512x2816 .f32) (p1 : Vec F S1x2816 .f32) : FVec F S512x2816 .f32 :=
  select (broadcastTo S512x2816 (shapeCast S512x1 (cmpi .eq (iota .tc S512x1 32 [0] iota_S512x1_d0_w32) (broadcast S512x1 0#32)) shapeCasts_S512x1_S512x1) broadcasts_S512x1_S512x2816)
    (broadcastTo S512x2816 (shapeCast S1x2816 p1 shapeCasts_S1x2816_S1x2816) broadcasts_S1x2816_S512x2816)
    (dynamicRotate 0 1#32 none g rotates_S512x2816_d0)

/-- The gate half after the convolution. -/
def cG (g : FVec F S512x2816 .f32) (x10 : Vec F S3x5632 .f32) (x11 : Vec F S1x5632 .f32) (P : Vec F S2x5632 .f32) : FVec F S512x2816 .f32 :=
  k0_pay18 (iota .tc S512x1 32 [0] iota_S512x1_d0_w32) g (pRow P 0 0 (by decide) (by decide)) (pRow P 1 0 (by decide) (by decide))
    (r1 g (pRow P 1 0 (by decide) (by decide))) k0_pay16
    (View.ld x11 (Rect.unit (s := S1x5632) ![0, 0] S1x2816.size inb_S1x5632_S1x2816_0_0))
    (View.ld x10 (Rect.unit (s := S3x5632) ![0, 0] S1x2816.size inb_S3x5632_S1x2816_0_0))
    (View.ld x10 (Rect.unit (s := S3x5632) ![1, 0] S1x2816.size inb_S3x5632_S1x2816_1_0))
    (View.ld x10 (Rect.unit (s := S3x5632) ![2, 0] S1x2816.size inb_S3x5632_S1x2816_2_0))

/-- The gated activation. -/
def act (cg v : FVec F S512x2816 .f32) (x10 : Vec F S3x5632 .f32) (x11 : Vec F S1x5632 .f32) (P : Vec F S2x5632 .f32) : FVec F S512x2816 .bf16 :=
  k0_pay22 (iota .tc S512x1 32 [0] iota_S512x1_d0_w32) cg v (pRow P 0 2816 (by decide) (by decide)) (pRow P 1 2816 (by decide) (by decide)) k0_pay20
    (View.ld x11 (Rect.unit (s := S1x5632) ![0, 2816] S1x2816.size inb_S1x5632_S1x2816_0_2816))
    (View.ld x10 (Rect.unit (s := S3x5632) ![0, 2816] S1x2816.size inb_S3x5632_S1x2816_0_2816))
    (View.ld x10 (Rect.unit (s := S3x5632) ![1, 2816] S1x2816.size inb_S3x5632_S1x2816_1_2816))
    (View.ld x10 (Rect.unit (s := S3x5632) ![2, 2816] S1x2816.size inb_S3x5632_S1x2816_2_2816))

/-- The tile of the first result, from the blocks and the carried rows `P`. -/
def outY (x0 : Vec F S512x1024 .f32) (x1 : Vec F S512x512 .bf16) (x2 : Vec F S512x512 .bf16) (x3 : Vec F S1x1x1024 .f32) (x4 : Vec F S1x1x1024 .f32) (x5 : Vec F S1x1x1024 .f32) (x6 : Vec F S1x1x1024 .f32) (x7 : Vec F S1024x1024 .bf16) (x8 : Vec F S1x1024 .f32) (x9 : Vec F S1024x5632 .bf16) (x10 : Vec F S3x5632 .f32) (x11 : Vec F S1x5632 .f32) (x12 : Vec F S2816x1024 .bf16) (x13 : Vec F S1x1024 .f32) (P : Vec F S2x5632 .f32) : FVec F S512x1024 .f32 :=
  k0_pay1 (bX1 x0 x1 x2 x3 x7) k0_pay13
    (act (cG (uG (bH2 x0 x1 x2 x3 x4 x5 x7 x8) x9) x10 x11 P) (uV (bH2 x0 x1 x2 x3 x4 x5 x7 x8) x9) x10 x11 P)
    (View.ld x12 (Rect.unit (s := S2816x1024) ![0, 0] S2816x1024.size inb_S2816x1024_S2816x1024_0_0))
    (View.ld x6 (Rect.unit (s := S1x1x1024) ![0, 0, 0] S1x1x1024.size inb_S1x1x1024_S1x1x1024_0_0_0))
    (View.ld x13 (Rect.unit (s := S1x1024) ![0, 0] S1x1024.size inb_S1x1024_S1x1024_0_0))

/-- The two rows a tile carries on: the last two of its up-projection. -/
def carry (x0 : Vec F S512x1024 .f32) (x1 x2 : Vec F S512x512 .bf16) (x3 x4 x5 : Vec F S1x1x1024 .f32) (x7 : Vec F S1024x1024 .bf16) (x8 : Vec F S1x1024 .f32) (x9 : Vec F S1024x5632 .bf16) : Vec F S2x5632 .f32 :=
  lastRows (uG (bH2 x0 x1 x2 x3 x4 x5 x7 x8) x9) (uV (bH2 x0 x1 x2 x3 x4 x5 x7 x8) x9)

/-- The first two rows of the carried rows' buffer. -/
def top (s : Vec F S8x5632 .f32) : Vec F S2x5632 .f32 := View.ld s (Rect.unit (s := S8x5632) ![0, 0] S2x5632.size inb_S8x5632_S2x5632_0_0)

/-- The rows a batch's first tile starts from. -/
def firstRows (x14 : Vec F S1x2x5632 .f32) : Vec F S2x5632 .f32 :=
  k0_pay3 (View.ld x14 (Rect.unit (s := S1x2x5632) ![0, 0, 0] S1x2x5632.size inb_S1x2x5632_S1x2x5632_0_0_0))

section Reads

variable {v : View sig .tc .vmem S8x5632 .f32} (f : v.ty.Contents (Elt F))

/-- After the two halves' stores the first two rows are the two halves side by side. -/
theorem read_two (g u : FVec F S512x2816 .f32) (L : List (View.Piece (Elt F) S8x5632 .f32)) (B : LoadRect S8x5632)
    (y : B.shape.Idx) (h0 : (B.idx y (0 : Fin 2)).val < 2) :
    v.readAt (Elt F) B (v.writes (Elt F) f (⟨Rect.unit (s := S8x5632) ![0, 2816] S2x2816.size inb_S8x5632_S2x2816_0_2816, k0_pay21 u⟩
      :: ⟨Rect.unit (s := S8x5632) ![0, 0] S2x2816.size inb_S8x5632_S2x2816_0_0, k0_pay17 g⟩ :: L)) y
      = lastRows g u (ix2 (⟨(B.idx y (0 : Fin 2)).val, h0⟩ : Fin 2) (B.idx y (1 : Fin 2))) := by
  rw [View.readAt_apply]
  unfold lastRows
  by_cases h : (B.idx y (1 : Fin 2)).val < 2816
  · rw [dif_pos (show ((ix2 (⟨(B.idx y (0 : Fin 2)).val, h0⟩ : Fin 2) (B.idx y (1 : Fin 2)) : S2x5632.Idx) (1 : Fin 2)).val < 2816 from h)]
    rw [View.read_writes_cons_unit_of_not_mem v f inb_S8x5632_S2x2816_0_2816 (k0_pay21 u) _ (B.idx y) rfl (1 : Fin 2) (Or.inl h)]
    exact View.read_writes_cons_unit_of_mem v f inb_S8x5632_S2x2816_0_0 (k0_pay17 g) _ (B.idx y) _ rfl
      (Fin.forall_fin_two.mpr ⟨(Nat.zero_add _).symm, (Nat.zero_add _).symm⟩)
  · rw [dif_neg (show ¬ ((ix2 (⟨(B.idx y (0 : Fin 2)).val, h0⟩ : Fin 2) (B.idx y (1 : Fin 2)) : S2x5632.Idx) (1 : Fin 2)).val < 2816 from h)]
    exact View.read_writes_cons_unit_of_mem v f inb_S8x5632_S2x2816_0_2816 (k0_pay21 u) _ (B.idx y) _ rfl
      (Fin.forall_fin_two.mpr ⟨(Nat.zero_add _).symm, by
        show (B.idx y (1 : Fin 2)).val = 2816 + ((B.idx y (1 : Fin 2)).val - 2816)
        omega⟩)

/-- After the first rows' store they are read. -/
theorem read_first (P : FVec F S2x5632 .f32) (L : List (View.Piece (Elt F) S8x5632 .f32)) (B : LoadRect S8x5632)
    (y : B.shape.Idx) (h0 : (B.idx y (0 : Fin 2)).val < 2) :
    v.readAt (Elt F) B (v.writes (Elt F) f (⟨Rect.unit (s := S8x5632) ![0, 0] S2x5632.size inb_S8x5632_S2x5632_0_0, P⟩ :: L)) y
      = P (ix2 (⟨(B.idx y (0 : Fin 2)).val, h0⟩ : Fin 2) (B.idx y (1 : Fin 2))) := by
  rw [View.readAt_apply]
  exact View.read_writes_cons_unit_of_mem v f inb_S8x5632_S2x5632_0_0 P _ (B.idx y) _ rfl
      (Fin.forall_fin_two.mpr ⟨(Nat.zero_add _).symm, (Nat.zero_add _).symm⟩)

/-- The gate half's store leaves the value half's rows as they were. -/
theorem read_skip (w : FVec F S2x2816 .f32) (L : List (View.Piece (Elt F) S8x5632 .f32)) (B : LoadRect S8x5632)
    (y : B.shape.Idx) (h1 : 2816 ≤ (B.idx y (1 : Fin 2)).val) :
    v.readAt (Elt F) B (v.writes (Elt F) f (⟨Rect.unit (s := S8x5632) ![0, 0] S2x2816.size inb_S8x5632_S2x2816_0_0, w⟩ :: L)) y
      = v.readAt (Elt F) B (v.writes (Elt F) f L) y := by
  rw [View.readAt_apply, View.readAt_apply]
  exact View.read_writes_cons_unit_of_not_mem v f inb_S8x5632_S2x2816_0_0 w _ (B.idx y) rfl (1 : Fin 2) (Or.inr (by
    show 0 + 2816 ≤ (B.idx y (1 : Fin 2)).val
    omega))

/-- Half a row of the carried rows' buffer is that half of its first two rows. -/
theorem ld_row (s : Vec F S8x5632 .f32) (r c : ℕ) (hr : r < 2) (hc : c + 2816 ≤ 5632) (inb : ∀ a, (![r, c] : Fin 2 → ℕ) a + S1x2816.size a ≤ S8x5632.size a) :
    View.ld s (Rect.unit (s := S8x5632) ![r, c] S1x2816.size inb) = pRow (top s) r c hr hc :=
  funext fun y => congrArg s (funext fun a => by
    refine Fin.ext ?_; revert a
    refine Fin.forall_fin_two.mpr ⟨?_, ?_⟩
    · show r + 1 * (y (0 : Fin 2)).val = 0 + 1 * (r + 1 * (y (0 : Fin 2)).val); omega
    · show c + 1 * (y (1 : Fin 2)).val = 0 + 1 * (c + 1 * (y (1 : Fin 2)).val); omega)

/-- A carried row's half read after the first rows' store. -/
theorem read_first_row (P : FVec F S2x5632 .f32) (L : List (View.Piece (Elt F) S8x5632 .f32)) (r c : ℕ) (hr : r < 2) (hc : c + 2816 ≤ 5632)
    (inb : ∀ a, (![r, c] : Fin 2 → ℕ) a + S1x2816.size a ≤ S8x5632.size a) :
    v.readAt (Elt F) (Rect.unit (s := S8x5632) ![r, c] S1x2816.size inb).toLoadRect (v.writes (Elt F) f (⟨Rect.unit ![0, 0] S2x5632.size inb_S8x5632_S2x5632_0_0, P⟩ :: L))
      = pRow P r c hr hc := by
  funext y
  have hy : (y (0 : Fin 2)).val < 1 := (y (0 : Fin 2)).isLt
  refine (read_first f P L _ y (show r + 1 * (y (0 : Fin 2)).val < 2 by omega)).trans ?_
  refine congrArg P (funext fun a => Fin.ext ?_)
  revert a
  exact Fin.forall_fin_two.mpr ⟨rfl, rfl⟩

/-- The gate half's store leaves the value half's carried rows as they were. -/
theorem read_skip_row (w : FVec F S2x2816 .f32) (L : List (View.Piece (Elt F) S8x5632 .f32)) (r : ℕ)
    (inb : ∀ a, (![r, 2816] : Fin 2 → ℕ) a + S1x2816.size a ≤ S8x5632.size a) :
    v.readAt (Elt F) (Rect.unit (s := S8x5632) ![r, 2816] S1x2816.size inb).toLoadRect (v.writes (Elt F) f (⟨Rect.unit ![0, 0] S2x2816.size inb_S8x5632_S2x2816_0_0, w⟩ :: L))
      = v.readAt (Elt F) (Rect.unit (s := S8x5632) ![r, 2816] S1x2816.size inb).toLoadRect (v.writes (Elt F) f L) :=
  funext fun y => read_skip f w L _ y (show 2816 ≤ 2816 + 1 * (y (1 : Fin 2)).val by omega)

/-- The first two rows after the two halves' stores. -/
theorem read_two_rows (g u : FVec F S512x2816 .f32) (L : List (View.Piece (Elt F) S8x5632 .f32)) :
    v.readAt (Elt F) (Rect.unit (s := S8x5632) ![0, 0] S2x5632.size inb_S8x5632_S2x5632_0_0).toLoadRect (v.writes (Elt F) f (⟨Rect.unit ![0, 2816] S2x2816.size inb_S8x5632_S2x2816_0_2816, k0_pay21 u⟩
      :: ⟨Rect.unit ![0, 0] S2x2816.size inb_S8x5632_S2x2816_0_0, k0_pay17 g⟩ :: L)) = lastRows g u := by
  funext y
  have hy : (y (0 : Fin 2)).val < 2 := (y (0 : Fin 2)).isLt
  refine (read_two f g u L _ y (show 0 + 1 * (y (0 : Fin 2)).val < 2 by omega)).trans ?_
  refine congrArg (lastRows g u) (funext fun a => Fin.ext ?_)
  revert a
  refine Fin.forall_fin_two.mpr ⟨?_, ?_⟩
  · show 0 + 1 * (y (0 : Fin 2)).val = (y (0 : Fin 2)).val; omega
  · show 0 + 1 * (y (1 : Fin 2)).val = (y (1 : Fin 2)).val; omega

end Reads

set_option maxHeartbeats 1000000 in
/-- The run's find for the first result. -/
theorem run_A_y (c : Dev nD) (i : grid0.Coords) (h1 : cond i) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S3x5632 .f32) (harg11 : arg11.IsWhole) (arg12 : Memref sig .tc .vmem S1x5632 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S1x2x5632 .f32) (harg15 : arg15.IsWhole) (arg16 : Memref sig .tc .vmem S512x1024 .f32) (harg16 : arg16.IsWhole) (arg17 : Memref sig .tc .vmem S1x2x5632 .f32) (harg17 : arg17.IsWhole) (arg18 : Memref sig .tc .vmem S8x5632 .f32) (harg18 : arg18.IsWhole)
    (x0 : Vec F S512x1024 .f32) (x1 : Vec F S512x512 .bf16) (x2 : Vec F S512x512 .bf16) (x3 : Vec F S1x1x1024 .f32) (x4 : Vec F S1x1x1024 .f32) (x5 : Vec F S1x1x1024 .f32) (x6 : Vec F S1x1x1024 .f32) (x7 : Vec F S1024x1024 .bf16) (x8 : Vec F S1x1024 .f32) (x9 : Vec F S1024x5632 .bf16) (x10 : Vec F S3x5632 .f32) (x11 : Vec F S1x5632 .f32) (x12 : Vec F S2816x1024 .bf16) (x13 : Vec F S1x1024 .f32) (x14 : Vec F S1x2x5632 .f32) (s : Vec F S8x5632 .f32) :
    (run_A c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 s).1.1 = outY x0 x1 x2 x3 x4 x5 x6 x7 x8 x9 x10 x11 x12 x13 (firstRows x14) := by

  have e0 : run_A.sl.v61 c arg15 harg15 arg18 x14 = pRow (firstRows x14) 0 0 (by decide) (by decide) := by
    unfold run_A.sl.v61 run_A.sl.HS_1 View.readCov
    simp only [readAt_unread_ld]
    exact read_first_row _ (firstRows x14) _ 0 0 _ _ inb_S8x5632_S1x2816_0_0
  have e1 : run_A.sl.v62 c arg15 harg15 arg18 x14 = pRow (firstRows x14) 1 0 (by decide) (by decide) := by
    unfold run_A.sl.v62 run_A.sl.HS_1 View.readCov
    simp only [readAt_unread_ld]
    exact read_first_row _ (firstRows x14) _ 1 0 _ _ inb_S8x5632_S1x2816_1_0
  have e2 : run_A.sl.v108 c arg1 harg1 arg2 harg2 arg3 harg3 arg4 harg4 arg5 harg5 arg6 harg6 arg8 harg8 arg9 harg9 arg10 harg10 arg15 harg15 arg18 x0 x1 x2 x3 x4 x5 x7 x8 x9 x14 = pRow (firstRows x14) 0 2816 (by decide) (by decide) := by
    unfold run_A.sl.v108 run_A.sl.HS_2 run_A.sl.HS_1 View.readCov
    simp only [readAt_unread_ld]
    refine (read_skip_row _ _ _ 0 inb_S8x5632_S1x2816_0_2816).trans ?_
    exact read_first_row _ (firstRows x14) _ 0 2816 _ _ inb_S8x5632_S1x2816_0_2816
  have e3 : run_A.sl.v109 c arg1 harg1 arg2 harg2 arg3 harg3 arg4 harg4 arg5 harg5 arg6 harg6 arg8 harg8 arg9 harg9 arg10 harg10 arg15 harg15 arg18 x0 x1 x2 x3 x4 x5 x7 x8 x9 x14 = pRow (firstRows x14) 1 2816 (by decide) (by decide) := by
    unfold run_A.sl.v109 run_A.sl.HS_2 run_A.sl.HS_1 View.readCov
    simp only [readAt_unread_ld]
    refine (read_skip_row _ _ _ 1 inb_S8x5632_S1x2816_1_2816).trans ?_
    exact read_first_row _ (firstRows x14) _ 1 2816 _ _ inb_S8x5632_S1x2816_1_2816
  unfold run_A
  dsimp only
  unfold run_A.sl.r_13 run_A.sl.r_12 run_A.sl.r_11 run_A.sl.r_10 run_A.sl.r_9 run_A.sl.r_8 run_A.sl.r_7 run_A.sl.v56
  rw [e0, e1, e2, e3]
  simp only [readAt_unread_ld]
  unfold run_A.sl.r_6 run_A.sl.r_5 run_A.sl.r_4 run_A.sl.r_3 run_A.sl.r_2 run_A.sl.r_1 run_A.sl.r
  simp only [readAt_unread_ld]
  rfl

set_option maxHeartbeats 1000000 in
/-- The run's find for the second result. -/
theorem run_A_c (c : Dev nD) (i : grid0.Coords) (h1 : cond i) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S3x5632 .f32) (harg11 : arg11.IsWhole) (arg12 : Memref sig .tc .vmem S1x5632 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S1x2x5632 .f32) (harg15 : arg15.IsWhole) (arg16 : Memref sig .tc .vmem S512x1024 .f32) (harg16 : arg16.IsWhole) (arg17 : Memref sig .tc .vmem S1x2x5632 .f32) (harg17 : arg17.IsWhole) (arg18 : Memref sig .tc .vmem S8x5632 .f32) (harg18 : arg18.IsWhole)
    (x0 : Vec F S512x1024 .f32) (x1 : Vec F S512x512 .bf16) (x2 : Vec F S512x512 .bf16) (x3 : Vec F S1x1x1024 .f32) (x4 : Vec F S1x1x1024 .f32) (x5 : Vec F S1x1x1024 .f32) (x6 : Vec F S1x1x1024 .f32) (x7 : Vec F S1024x1024 .bf16) (x8 : Vec F S1x1024 .f32) (x9 : Vec F S1024x5632 .bf16) (x10 : Vec F S3x5632 .f32) (x11 : Vec F S1x5632 .f32) (x12 : Vec F S2816x1024 .bf16) (x13 : Vec F S1x1024 .f32) (x14 : Vec F S1x2x5632 .f32) (s : Vec F S8x5632 .f32) :
    (run_A c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 s).1.2.1 = k0_pay2 (carry x0 x1 x2 x3 x4 x5 x7 x8 x9) := by
  unfold run_A
  dsimp only
  unfold run_A.sl.v180 run_A.sl.HS_3 run_A.sl.HS_2 View.readCov
  refine congrArg k0_pay2 ((read_two_rows _ _ _ _).trans ?_)
  unfold run_A.sl.r_12 run_A.sl.r_9 run_A.sl.r_8 run_A.sl.r_6 run_A.sl.r_5 run_A.sl.r_4 run_A.sl.r_3 run_A.sl.r_2 run_A.sl.r_1 run_A.sl.r
  simp only [readAt_unread_ld]
  rfl

set_option maxHeartbeats 1000000 in
/-- The run's find for the carried rows. -/
theorem run_A_s (c : Dev nD) (i : grid0.Coords) (h1 : cond i) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S3x5632 .f32) (harg11 : arg11.IsWhole) (arg12 : Memref sig .tc .vmem S1x5632 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S1x2x5632 .f32) (harg15 : arg15.IsWhole) (arg16 : Memref sig .tc .vmem S512x1024 .f32) (harg16 : arg16.IsWhole) (arg17 : Memref sig .tc .vmem S1x2x5632 .f32) (harg17 : arg17.IsWhole) (arg18 : Memref sig .tc .vmem S8x5632 .f32) (harg18 : arg18.IsWhole)
    (x0 : Vec F S512x1024 .f32) (x1 : Vec F S512x512 .bf16) (x2 : Vec F S512x512 .bf16) (x3 : Vec F S1x1x1024 .f32) (x4 : Vec F S1x1x1024 .f32) (x5 : Vec F S1x1x1024 .f32) (x6 : Vec F S1x1x1024 .f32) (x7 : Vec F S1024x1024 .bf16) (x8 : Vec F S1x1024 .f32) (x9 : Vec F S1024x5632 .bf16) (x10 : Vec F S3x5632 .f32) (x11 : Vec F S1x5632 .f32) (x12 : Vec F S2816x1024 .bf16) (x13 : Vec F S1x1024 .f32) (x14 : Vec F S1x2x5632 .f32) (s : Vec F S8x5632 .f32) :
    top (run_A c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 s).1.2.2 =  (carry x0 x1 x2 x3 x4 x5 x7 x8 x9) := by
  unfold run_A
  dsimp only
  unfold run_A.sl.HS_3 run_A.sl.HS_2
  refine (read_two_rows _ _ _ _).trans ?_
  unfold run_A.sl.r_12 run_A.sl.r_9 run_A.sl.r_8 run_A.sl.r_6 run_A.sl.r_5 run_A.sl.r_4 run_A.sl.r_3 run_A.sl.r_2 run_A.sl.r_1 run_A.sl.r
  simp only [readAt_unread_ld]
  rfl

set_option maxHeartbeats 1000000 in
/-- The run's find for the first result. -/
theorem run_B_y (c : Dev nD) (i : grid0.Coords) (h1 : ¬ cond i) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S3x5632 .f32) (harg11 : arg11.IsWhole) (arg12 : Memref sig .tc .vmem S1x5632 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S1x2x5632 .f32) (harg15 : arg15.IsWhole) (arg16 : Memref sig .tc .vmem S512x1024 .f32) (harg16 : arg16.IsWhole) (arg17 : Memref sig .tc .vmem S1x2x5632 .f32) (harg17 : arg17.IsWhole) (arg18 : Memref sig .tc .vmem S8x5632 .f32) (harg18 : arg18.IsWhole)
    (x0 : Vec F S512x1024 .f32) (x1 : Vec F S512x512 .bf16) (x2 : Vec F S512x512 .bf16) (x3 : Vec F S1x1x1024 .f32) (x4 : Vec F S1x1x1024 .f32) (x5 : Vec F S1x1x1024 .f32) (x6 : Vec F S1x1x1024 .f32) (x7 : Vec F S1024x1024 .bf16) (x8 : Vec F S1x1024 .f32) (x9 : Vec F S1024x5632 .bf16) (x10 : Vec F S3x5632 .f32) (x11 : Vec F S1x5632 .f32) (x12 : Vec F S2816x1024 .bf16) (x13 : Vec F S1x1024 .f32) (x14 : Vec F S1x2x5632 .f32) (s : Vec F S8x5632 .f32) :
    (run_B c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 s).1.1 = outY x0 x1 x2 x3 x4 x5 x6 x7 x8 x9 x10 x11 x12 x13 (top s) := by

  have e0 : View.ld s (Rect.unit (s := S8x5632) ![0, 0] S1x2816.size inb_S8x5632_S1x2816_0_0) = pRow (top s) 0 0 (by decide) (by decide) :=
    ld_row s _ _ _ _ _
  have e1 : View.ld s (Rect.unit (s := S8x5632) ![1, 0] S1x2816.size inb_S8x5632_S1x2816_1_0) = pRow (top s) 1 0 (by decide) (by decide) :=
    ld_row s _ _ _ _ _
  have e2 : View.ld s (Rect.unit (s := S8x5632) ![0, 2816] S1x2816.size inb_S8x5632_S1x2816_0_2816) = pRow (top s) 0 2816 (by decide) (by decide) :=
    ld_row s _ _ _ _ _
  have e3 : View.ld s (Rect.unit (s := S8x5632) ![1, 2816] S1x2816.size inb_S8x5632_S1x2816_1_2816) = pRow (top s) 1 2816 (by decide) (by decide) :=
    ld_row s _ _ _ _ _
  unfold run_B
  dsimp only
  unfold run_B.sl.r_15 run_B.sl.r_14 run_B.sl.r_13 run_B.sl.r_12 run_B.sl.r_11 run_B.sl.r_10 run_B.sl.r_9 run_B.sl.r_8 run_B.sl.r_7 run_B.sl.v108 run_B.sl.v109 run_B.sl.v56
  simp only [readAt_unread_ld]
  rw [e0, e1, e2, e3]
  unfold run_B.sl.r_6 run_B.sl.r_5 run_B.sl.r_4 run_B.sl.r_3 run_B.sl.r_2 run_B.sl.r_1 run_B.sl.r
  simp only [readAt_unread_ld]
  rfl

set_option maxHeartbeats 1000000 in
/-- The run's find for the second result. -/
theorem run_B_c (c : Dev nD) (i : grid0.Coords) (h1 : ¬ cond i) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S3x5632 .f32) (harg11 : arg11.IsWhole) (arg12 : Memref sig .tc .vmem S1x5632 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S1x2x5632 .f32) (harg15 : arg15.IsWhole) (arg16 : Memref sig .tc .vmem S512x1024 .f32) (harg16 : arg16.IsWhole) (arg17 : Memref sig .tc .vmem S1x2x5632 .f32) (harg17 : arg17.IsWhole) (arg18 : Memref sig .tc .vmem S8x5632 .f32) (harg18 : arg18.IsWhole)
    (x0 : Vec F S512x1024 .f32) (x1 : Vec F S512x512 .bf16) (x2 : Vec F S512x512 .bf16) (x3 : Vec F S1x1x1024 .f32) (x4 : Vec F S1x1x1024 .f32) (x5 : Vec F S1x1x1024 .f32) (x6 : Vec F S1x1x1024 .f32) (x7 : Vec F S1024x1024 .bf16) (x8 : Vec F S1x1024 .f32) (x9 : Vec F S1024x5632 .bf16) (x10 : Vec F S3x5632 .f32) (x11 : Vec F S1x5632 .f32) (x12 : Vec F S2816x1024 .bf16) (x13 : Vec F S1x1024 .f32) (x14 : Vec F S1x2x5632 .f32) (s : Vec F S8x5632 .f32) :
    (run_B c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 s).1.2.1 = k0_pay2 (carry x0 x1 x2 x3 x4 x5 x7 x8 x9) := by
  unfold run_B
  dsimp only
  unfold run_B.sl.v180 run_B.sl.HS_2 View.readCov
  refine congrArg k0_pay2 ((read_two_rows _ _ _ _).trans ?_)
  unfold run_B.sl.r_14 run_B.sl.r_9 run_B.sl.r_8 run_B.sl.r_6 run_B.sl.r_5 run_B.sl.r_4 run_B.sl.r_3 run_B.sl.r_2 run_B.sl.r_1 run_B.sl.r
  simp only [readAt_unread_ld]
  rfl

set_option maxHeartbeats 1000000 in
/-- The run's find for the carried rows. -/
theorem run_B_s (c : Dev nD) (i : grid0.Coords) (h1 : ¬ cond i) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S3x5632 .f32) (harg11 : arg11.IsWhole) (arg12 : Memref sig .tc .vmem S1x5632 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S1x2x5632 .f32) (harg15 : arg15.IsWhole) (arg16 : Memref sig .tc .vmem S512x1024 .f32) (harg16 : arg16.IsWhole) (arg17 : Memref sig .tc .vmem S1x2x5632 .f32) (harg17 : arg17.IsWhole) (arg18 : Memref sig .tc .vmem S8x5632 .f32) (harg18 : arg18.IsWhole)
    (x0 : Vec F S512x1024 .f32) (x1 : Vec F S512x512 .bf16) (x2 : Vec F S512x512 .bf16) (x3 : Vec F S1x1x1024 .f32) (x4 : Vec F S1x1x1024 .f32) (x5 : Vec F S1x1x1024 .f32) (x6 : Vec F S1x1x1024 .f32) (x7 : Vec F S1024x1024 .bf16) (x8 : Vec F S1x1024 .f32) (x9 : Vec F S1024x5632 .bf16) (x10 : Vec F S3x5632 .f32) (x11 : Vec F S1x5632 .f32) (x12 : Vec F S2816x1024 .bf16) (x13 : Vec F S1x1024 .f32) (x14 : Vec F S1x2x5632 .f32) (s : Vec F S8x5632 .f32) :
    top (run_B c i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 s).1.2.2 =  (carry x0 x1 x2 x3 x4 x5 x7 x8 x9) := by
  unfold run_B
  dsimp only
  unfold run_B.sl.HS_2
  refine (read_two_rows _ _ _ _).trans ?_
  unfold run_B.sl.r_14 run_B.sl.r_9 run_B.sl.r_8 run_B.sl.r_6 run_B.sl.r_5 run_B.sl.r_4 run_B.sl.r_3 run_B.sl.r_2 run_B.sl.r_1 run_B.sl.r
  simp only [readAt_unread_ld]
  rfl

end Cert.Kernel2Ideal.Ffn

end
-- ==== Proof.FfnFrame.lean ====
/- The feed-forward kernel's frame: the proof data over the hand-run body, the carried rows kept by the invariant, the
   body's obligation at every grid point, and the launch, every output named. -/
module

public import proofs.«01_k».proof.Proof.FfnBody
public import Idealize.ShloMosaic.Lib.Claim

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel fills the carried rows at the points that start a batch. -/
theorem cond_iff : ∀ t : Fin cfg0.N, cond (grid0.coords t) ↔ t.val % 16 = 0 :=
  (by decide +kernel : ∀ t : Fin grid0.N, cond (grid0.coords t) ↔ t.val % 16 = 0)

/-- The rows tile `t` carries on. -/
def carryT (c : Dev nD) (t : Fin cfg0.N) : Vec F S2x5632 .f32 := carry (iblk m c 0 t) (iblk m c 1 t) (iblk m c 2 t) (iblk m c 3 t) (iblk m c 4 t) (iblk m c 5 t) (iblk m c 7 t) (iblk m c 8 t) (iblk m c 9 t)

/-- The rows before tile `t`: the batch's first rows, or what the tile before carried on. -/
def prevT (c : Dev nD) (t : Fin cfg0.N) : Vec F S2x5632 .f32 :=
  if t.val % 16 = 0 then firstRows (iblk m c 14 t) else carryT m c ⟨t.val - 1, Nat.lt_of_le_of_lt (Nat.sub_le _ _) t.isLt⟩

/-- The tile of the first result. -/
def yT (c : Dev nD) (t : Fin cfg0.N) : FVec F S512x1024 .f32 := outY (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (prevT m c t)

/-- What the carried rows' buffer holds before point `t`: anything at a batch's first tile, else the rows of the tile before. -/
def Inv (c : Dev nD) (n : ℕ) : sProp 𝕄 :=
  iprop(∃ s : Vec F S8x5632 .f32, ⌜∀ k (h : k < cfg0.N), n = k + 1 → ¬ n % 16 = 0 → top s = carryT m c ⟨k, h⟩⌝
    ∗ owns (c : Thread nD τ) (Memref.whole cc0_scratch0) fullShare s ∗ (∃ r, prngReg c r))

/-- The proof data: the arrays as the region finds them; after the body each input's buffer at its block, the two
    results' at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => yT m c t
    | ⟨16, _⟩ => k0_pay2 (carryT m c t)
    | ⟨n + 17, h⟩ => absurd h (Nat.not_lt.mpr (Nat.le_add_left _ _))
  Φ t := Inv m c t.val
  q w := Pipeline.shareOf spec0 w
  owed _ := 0

/-- The arrays at the start are those the region finds. -/
theorem A_eq (c : Dev nD) (w : Fin cfg0.W) : (dats m 0 c).A w = V m c (Pipeline.arrRef spec0 w) := by
  dsimp only [dats]

/-- What window 0's buffer holds after the body. -/
theorem after0_0 (c : Dev nD) (t : Fin cfg0.N) : (dats m 0 c).after 0 t = iblk m c 0 t := by dsimp only [dats]
/-- What window 1's buffer holds after the body. -/
theorem after0_1 (c : Dev nD) (t : Fin cfg0.N) : (dats m 0 c).after 1 t = iblk m c 1 t := by dsimp only [dats]
/-- What window 2's buffer holds after the body. -/
theorem after0_2 (c : Dev nD) (t : Fin cfg0.N) : (dats m 0 c).after 2 t = iblk m c 2 t := by dsimp only [dats]
/-- What window 3's buffer holds after the body. -/
theorem after0_3 (c : Dev nD) (t : Fin cfg0.N) : (dats m 0 c).after 3 t = iblk m c 3 t := by dsimp only [dats]
/-- What window 4's buffer holds after the body. -/
theorem after0_4 (c : Dev nD) (t : Fin cfg0.N) : (dats m 0 c).after 4 t = iblk m c 4 t := by dsimp only [dats]
/-- What window 5's buffer holds after the body. -/
theorem after0_5 (c : Dev nD) (t : Fin cfg0.N) : (dats m 0 c).after 5 t = iblk m c 5 t := by dsimp only [dats]
/-- What window 6's buffer holds after the body. -/
theorem after0_6 (c : Dev nD) (t : Fin cfg0.N) : (dats m 0 c).after 6 t = iblk m c 6 t := by dsimp only [dats]
/-- What window 7's buffer holds after the body. -/
theorem after0_7 (c : Dev nD) (t : Fin cfg0.N) : (dats m 0 c).after 7 t = iblk m c 7 t := by dsimp only [dats]
/-- What window 8's buffer holds after the body. -/
theorem after0_8 (c : Dev nD) (t : Fin cfg0.N) : (dats m 0 c).after 8 t = iblk m c 8 t := by dsimp only [dats]
/-- What window 9's buffer holds after the body. -/
theorem after0_9 (c : Dev nD) (t : Fin cfg0.N) : (dats m 0 c).after 9 t = iblk m c 9 t := by dsimp only [dats]
/-- What window 10's buffer holds after the body. -/
theorem after0_10 (c : Dev nD) (t : Fin cfg0.N) : (dats m 0 c).after 10 t = iblk m c 10 t := by dsimp only [dats]
/-- What window 11's buffer holds after the body. -/
theorem after0_11 (c : Dev nD) (t : Fin cfg0.N) : (dats m 0 c).after 11 t = iblk m c 11 t := by dsimp only [dats]
/-- What window 12's buffer holds after the body. -/
theorem after0_12 (c : Dev nD) (t : Fin cfg0.N) : (dats m 0 c).after 12 t = iblk m c 12 t := by dsimp only [dats]
/-- What window 13's buffer holds after the body. -/
theorem after0_13 (c : Dev nD) (t : Fin cfg0.N) : (dats m 0 c).after 13 t = iblk m c 13 t := by dsimp only [dats]
/-- What window 14's buffer holds after the body. -/
theorem after0_14 (c : Dev nD) (t : Fin cfg0.N) : (dats m 0 c).after 14 t = iblk m c 14 t := by dsimp only [dats]
/-- What window 15's buffer holds after the body. -/
theorem after0_15 (c : Dev nD) (t : Fin cfg0.N) : (dats m 0 c).after 15 t = yT m c t := by dsimp only [dats]
/-- What window 16's buffer holds after the body. -/
theorem after0_16 (c : Dev nD) (t : Fin cfg0.N) : (dats m 0 c).after 16 t = k0_pay2 (carryT m c t) := by dsimp only [dats]
/-- What window 0's buffer holds before the body. -/
theorem before0_0 (c : Dev nD) (t : Fin cfg0.N) (d) : (dats m 0 c).before 0 t d = iblk m c 0 t :=
  before0_0_of m (dats m 0 c) (A_eq m c 0) (after0_0 m c) t d
/-- What window 1's buffer holds before the body. -/
theorem before0_1 (c : Dev nD) (t : Fin cfg0.N) (d) : (dats m 0 c).before 1 t d = iblk m c 1 t :=
  before0_1_of m (dats m 0 c) (A_eq m c 1) (after0_1 m c) t d
/-- What window 2's buffer holds before the body. -/
theorem before0_2 (c : Dev nD) (t : Fin cfg0.N) (d) : (dats m 0 c).before 2 t d = iblk m c 2 t :=
  before0_2_of m (dats m 0 c) (A_eq m c 2) (after0_2 m c) t d
/-- What window 3's buffer holds before the body. -/
theorem before0_3 (c : Dev nD) (t : Fin cfg0.N) (d) : (dats m 0 c).before 3 t d = iblk m c 3 t :=
  before0_3_of m (dats m 0 c) (A_eq m c 3) (after0_3 m c) t d
/-- What window 4's buffer holds before the body. -/
theorem before0_4 (c : Dev nD) (t : Fin cfg0.N) (d) : (dats m 0 c).before 4 t d = iblk m c 4 t :=
  before0_4_of m (dats m 0 c) (A_eq m c 4) (after0_4 m c) t d
/-- What window 5's buffer holds before the body. -/
theorem before0_5 (c : Dev nD) (t : Fin cfg0.N) (d) : (dats m 0 c).before 5 t d = iblk m c 5 t :=
  before0_5_of m (dats m 0 c) (A_eq m c 5) (after0_5 m c) t d
/-- What window 6's buffer holds before the body. -/
theorem before0_6 (c : Dev nD) (t : Fin cfg0.N) (d) : (dats m 0 c).before 6 t d = iblk m c 6 t :=
  before0_6_of m (dats m 0 c) (A_eq m c 6) (after0_6 m c) t d
/-- What window 7's buffer holds before the body. -/
theorem before0_7 (c : Dev nD) (t : Fin cfg0.N) (d) : (dats m 0 c).before 7 t d = iblk m c 7 t :=
  before0_7_of m (dats m 0 c) (A_eq m c 7) (after0_7 m c) t d
/-- What window 8's buffer holds before the body. -/
theorem before0_8 (c : Dev nD) (t : Fin cfg0.N) (d) : (dats m 0 c).before 8 t d = iblk m c 8 t :=
  before0_8_of m (dats m 0 c) (A_eq m c 8) (after0_8 m c) t d
/-- What window 9's buffer holds before the body. -/
theorem before0_9 (c : Dev nD) (t : Fin cfg0.N) (d) : (dats m 0 c).before 9 t d = iblk m c 9 t :=
  before0_9_of m (dats m 0 c) (A_eq m c 9) (after0_9 m c) t d
/-- What window 10's buffer holds before the body. -/
theorem before0_10 (c : Dev nD) (t : Fin cfg0.N) (d) : (dats m 0 c).before 10 t d = iblk m c 10 t :=
  before0_10_of m (dats m 0 c) (A_eq m c 10) (after0_10 m c) t d
/-- What window 11's buffer holds before the body. -/
theorem before0_11 (c : Dev nD) (t : Fin cfg0.N) (d) : (dats m 0 c).before 11 t d = iblk m c 11 t :=
  before0_11_of m (dats m 0 c) (A_eq m c 11) (after0_11 m c) t d
/-- What window 12's buffer holds before the body. -/
theorem before0_12 (c : Dev nD) (t : Fin cfg0.N) (d) : (dats m 0 c).before 12 t d = iblk m c 12 t :=
  before0_12_of m (dats m 0 c) (A_eq m c 12) (after0_12 m c) t d
/-- What window 13's buffer holds before the body. -/
theorem before0_13 (c : Dev nD) (t : Fin cfg0.N) (d) : (dats m 0 c).before 13 t d = iblk m c 13 t :=
  before0_13_of m (dats m 0 c) (A_eq m c 13) (after0_13 m c) t d
/-- What window 14's buffer holds before the body. -/
theorem before0_14 (c : Dev nD) (t : Fin cfg0.N) (d) : (dats m 0 c).before 14 t d = iblk m c 14 t :=
  before0_14_of m (dats m 0 c) (A_eq m c 14) (after0_14 m c) t d

/-- The body's resources before it runs at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- And after. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 4000000 in
/-- The body at point `t`: the carried rows taken from the invariant and given back at the tile's own. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = Inv m c (t.val + 1) from rfl, show (dats m 0 c).Φ t.castSucc = Inv m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  unfold Inv
  iintro ⟨⟨%s, %hs, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  by_cases h0 : t.val % 16 = 0
  · have hp : prevT m c t = firstRows (iblk m c 14 t) := if_pos h0
    iapply ((run_A c (grid0.coords t) ((cond_iff t).mpr h0) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) s).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [HS]; · iexact HS
    iintro ⟨H0, H1, H2, H3, H4, H5, H6, H7, H8, H9, H10, H11, H12, H13, H14, H15, H16, HS⟩
    rw [run_A_y, run_A_c]
    isplitl [HS Hg]
    · iexists _; isplitr; swap
      · isplitl [HS]; · iexact HS
        iexact Hg
      ipureintro
      intro k hk hk1 _
      have ek : (⟨k, hk⟩ : Fin cfg0.N) = t := Fin.ext (by show k = t.val; have : t.val + 1 = k + 1 := hk1; omega)
      rw [ek]
      exact run_A_s ..
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · rw [yT, hp]; iexact H15
    iexact H16
  · have hp : prevT m c t = top s := by
      rw [prevT, if_neg h0]
      exact (hs (t.val - 1) (Nat.lt_of_le_of_lt (Nat.sub_le _ _) t.isLt) (by omega) h0).symm
    iapply ((run_B c (grid0.coords t) (fun h => h0 ((cond_iff t).mp h)) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) s).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [HS]; · iexact HS
    iintro ⟨H0, H1, H2, H3, H4, H5, H6, H7, H8, H9, H10, H11, H12, H13, H14, H15, H16, HS⟩
    rw [run_B_y, run_B_c]
    isplitl [HS Hg]
    · iexists _; isplitr; swap
      · isplitl [HS]; · iexact HS
        iexact Hg
      ipureintro
      intro k hk hk1 _
      have ek : (⟨k, hk⟩ : Fin cfg0.N) = t := Fin.ext (by show k = t.val; have : t.val + 1 = k + 1 := hk1; omega)
      rw [ek]
      exact run_B_s ..
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · rw [yT, hp]; iexact H15
    iexact H16

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scoped buffer at any contents is the invariant at the first point. -/
theorem inv_in (c : Dev nD) : Pipeline.ΦA spec0 c ⊢ Inv m c 0 := by
  unfold Pipeline.ΦA Inv
  rw [scopedRest0_eq]
  iintro ⟨⟨%f, H⟩, Hg⟩
  iexists (show Vec F S8x5632 .f32 from f)
  isplitr
  · ipureintro; intro k hk h _; exact absurd h (by omega)
  isplitl [H]
  · rw [owns_whole]; iexact H
  iexact Hg

/-- The carried rows' buffer held at known contents is held at some. -/
theorem scratch_any (c : Dev nD) (s : Vec F S8x5632 .f32) :
    (owns (c : Thread nD τ) (Memref.whole cc0_scratch0) fullShare s : sProp 𝕄) ⊢ iprop(∃ f : Buf (Elt F) ((c : Thread nD τ).loc cc0_scratch0), ((c : Thread nD τ).loc cc0_scratch0) ↦{fullShare} f) := by
  rw [owns_whole]
  iintro H
  iexists _
  iexact H

/-- The invariant gives the scoped buffer back. -/
theorem inv_out (c : Dev nD) (n : ℕ) : Inv m c n ⊢ Pipeline.ΦA spec0 c := by
  unfold Pipeline.ΦA Inv
  rw [scopedRest0_eq]
  iintro ⟨%s, -, H, Hg⟩
  isplitl [H]
  · iapply (scratch_any c s) $$ H
  iexact Hg

set_option backward.isDefEq.respectTransparency.types false in
/-- The launch, and every semaphore counter at zero at every final state. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => inv_in m c) (hout := fun c => inv_out m c _)

/-- The launch: every final state has every array at what the grid leaves in it. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as launched and the semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.Kernel2Ideal.Ffn

end
-- ==== Proof.FfnMath.lean ====
/- The feed-forward block's row functions, in plain arithmetic. -/
module

public import Idealize.ShloMosaic.PureOps.Ideal
public import Idealize.ShloMosaic.Lib.Pointwise

@[expose] public section

noncomputable section

namespace Cert.FfnMath

open Idealize.ShloMosaic

/-- A row divided by its root mean square and scaled. -/
def rms (X g : Fin 1024 → EReal) (d : Fin 1024) : EReal :=
  X d * Ideal.rsqrt (Ideal.div (∑ x, X x * X x) (Ideal.ofBits .f32 0x44800000#32) + Ideal.ofBits .f32 0x358637BD#32) * g d

/-- A row after the two heads' output projections and the gated residual. -/
def res1 (x gt : Fin 1024 → EReal) (a b : Fin 512 → EReal) (wa wb : Fin 512 → Fin 1024 → EReal) (d : Fin 1024) : EReal :=
  x d + gt d * (∑ j, a j * wa j d + ∑ j, b j * wb j d)

/-- The normalised row, scaled and shifted. -/
def modn (X g sc sh : Fin 1024 → EReal) (d : Fin 1024) : EReal := rms X g d * (1 + sc d) + sh d

/-- A tap of three with its bias. -/
def tap (cb c0 c1 c2 u0 u1 u2 : EReal) : EReal := cb + c0 * u0 + c1 * u1 + c2 * u2

/-- The gated activation. -/
def gate (u v : EReal) : EReal := u * Ideal.logistic u * v

/-- A row after the down-projection and the gated residual. -/
def res2 (X gt : Fin 1024 → EReal) (a : Fin 2816 → EReal) (w : Fin 2816 → Fin 1024 → EReal) (d : Fin 1024) : EReal :=
  X d + gt d * ∑ l, a l * w l d

end Cert.FfnMath
end
-- ==== Proof.FfnPay.lean ====
/- The feed-forward kernel's payloads at an index. -/
module

public import proofs.«01_k».proof.Proof.FfnBody
public import proofs.«01_k».proof.Proof.FfnMath
public import Idealize.ShloMosaic.Lib.Pointwise

@[expose] public section

set_option maxRecDepth 16384

noncomputable section

namespace Cert.Kernel2Ideal.Ffn

open Cert.Kernel2Ideal Cert.Kernel2Ideal.Gen Cert.FfnMath
open Idealize.ShloMosaic Idealize.ShloMosaic.TcCoe

/-- The first half of the output projection at an index. -/
theorem pay10_at (a : FVec Ideal S512x512 .bf16) (w : FVec Ideal S512x1024 .bf16) (r : Fin 512) (d : Fin 1024) :
    k0_pay10 (F := Ideal) a w (ix2 r d) = ∑ j, a (ix2 r j) * w (ix2 j d) := by
  pointwise [k0_pay10]

/-- The tile's rows after the gated residual at an index. -/
theorem pay11_at (v14 : FVec Ideal S512x1024 .f32) (v18 : FVec Ideal S512x512 .bf16) (v20 : FVec Ideal S1x1024 .f32) (v29 : FVec Ideal S512x1024 .f32) (v30 : FVec Ideal S512x1024 .bf16) (r : Fin 512) (d : Fin 1024) :
    k0_pay11 (F := Ideal) v14 v18 v20 v29 v30 (ix2 r d) = v14 (ix2 r d) + v20 (ix2 0 d) * (v29 (ix2 r d) + ∑ j, v18 (ix2 r j) * v30 (ix2 j d)) := by
  pointwise [k0_pay11]

/-- The normalised and modulated rows at an index. -/
theorem pay12_at (v14 : FVec Ideal S512x1024 .f32) (v18 : FVec Ideal S512x512 .bf16) (v20 v22 v24 v26 : FVec Ideal S1x1024 .f32) (v29 : FVec Ideal S512x1024 .f32) (v30 : FVec Ideal S512x1024 .bf16) (r : Fin 512) (d : Fin 1024) :
    k0_pay12 (F := Ideal) v14 v18 v20 v22 v24 v26 v29 v30 (ix2 r d)
      = modn (fun d => k0_pay11 (F := Ideal) v14 v18 v20 v29 v30 (ix2 r d)) (fun d => v26 (ix2 0 d)) (fun d => v24 (ix2 0 d)) (fun d => v22 (ix2 0 d)) d := by
  pointwise [k0_pay12]
  rfl

/-- A half of the up-projection at an index. -/
theorem pay19_at (h : FVec Ideal S512x1024 .bf16) (w : FVec Ideal S1024x2816 .bf16) (r : Fin 512) (l : Fin 2816) :
    k0_pay19 (F := Ideal) h w (ix2 r l) = ∑ j, h (ix2 r j) * w (ix2 j l) := by
  pointwise [k0_pay19]

/-- The gate half's last two rows. -/
theorem pay17_at (g : FVec Ideal S512x2816 .f32) (r : Fin 2) (l : Fin 2816) :
    k0_pay17 (F := Ideal) g (ix2 r l) = g (ix2 (⟨510 + r.val, by omega⟩ : Fin 512) l) := by
  pointwise [k0_pay17]

/-- The value half's last two rows. -/
theorem pay21_at (g : FVec Ideal S512x2816 .f32) (r : Fin 2) (l : Fin 2816) :
    k0_pay21 (F := Ideal) g (ix2 r l) = g (ix2 (⟨510 + r.val, by omega⟩ : Fin 512) l) := by
  pointwise [k0_pay21]

/-- The row one before: row `r - 1` of the tile, before the tile's first row the last carried row. -/
def prev1 (g : FVec Ideal S512x2816 .f32) (p1 : EReal) (r : Fin 512) (l : Fin 2816) : EReal :=
  if h : r.val = 0 then p1 else g (ix2 (⟨r.val - 1, by omega⟩ : Fin 512) l)

/-- The row two before. -/
def prev2 (g : FVec Ideal S512x2816 .f32) (p0 p1 : EReal) (r : Fin 512) (l : Fin 2816) : EReal :=
  if h : r.val = 0 then p0 else if h' : r.val = 1 then p1 else g (ix2 (⟨r.val - 2, by omega⟩ : Fin 512) l)

/-- A row number compared with a constant. -/
theorem row_eq (r : Fin 512) (k : ℕ) (hk : k < 512) (a b : EReal) :
    Scalar.select (IntOp.cmpi CmpIPredicate.eq (BitVec.ofNat 32 r.val) (BitVec.ofNat 32 k)) a b = if r.val = k then a else b := by
  have := r.isLt
  exact if_congr (by word_cmp) rfl rfl

/-- The first row masked out of a rotation by one. -/
theorem sel1 (g : FVec Ideal S512x2816 .f32) (p1 : EReal) (r : Fin 512) (l : Fin 2816) (h : (r.val + 512 - 1) % 512 < 512) :
    Scalar.select (IntOp.cmpi CmpIPredicate.eq (BitVec.ofNat 32 r.val) 0#32) p1 (g (ix2 (⟨(r.val + 512 - 1) % 512, h⟩ : Fin 512) l)) = prev1 g p1 r l := by
  unfold prev1
  refine (row_eq r 0 (by decide) _ _).trans ?_
  by_cases h0 : r.val = 0
  · rw [if_pos h0, dif_pos h0]
  · rw [if_neg h0, dif_neg h0]
    exact congrArg (fun z => g (ix2 z l)) (Fin.ext (by show (r.val + 512 - 1) % 512 = r.val - 1; omega))

/-- The first two rows masked out of a rotation by two. -/
theorem sel2 (g : FVec Ideal S512x2816 .f32) (p0 p1 : EReal) (r : Fin 512) (l : Fin 2816) (h : (r.val + 512 - 2) % 512 < 512) :
    Scalar.select (IntOp.cmpi CmpIPredicate.eq (BitVec.ofNat 32 r.val) 0#32) p0
      (Scalar.select (IntOp.cmpi CmpIPredicate.eq (BitVec.ofNat 32 r.val) 1#32) p1 (g (ix2 (⟨(r.val + 512 - 2) % 512, h⟩ : Fin 512) l))) = prev2 g p0 p1 r l := by
  unfold prev2
  refine (row_eq r 0 (by decide) _ _).trans ?_
  by_cases h0 : r.val = 0
  · rw [if_pos h0, dif_pos h0]
  · rw [if_neg h0, dif_neg h0]
    refine (row_eq r 1 (by decide) _ _).trans ?_
    by_cases h1 : r.val = 1
    · rw [if_pos h1, dif_pos h1]
    · rw [if_neg h1, dif_neg h1]
      exact congrArg (fun z => g (ix2 z l)) (Fin.ext (by show (r.val + 512 - 2) % 512 = r.val - 2; omega))

/-- The rows shifted down by one, the row before in front. -/
theorem r1_at (g : FVec Ideal S512x2816 .f32) (p : FVec Ideal S1x2816 .f32) (r : Fin 512) (l : Fin 2816) :
    r1 (F := Ideal) g p (ix2 r l) = prev1 g (p (ix2 0 l)) r l := by
  pointwise [r1]
  exact sel1 g _ r l _

/-- The gate half's convolution at an index. -/
theorem pay18_at (g : FVec Ideal S512x2816 .f32) (p0 p1 : FVec Ideal S1x2816 .f32) (v70 : FVec Ideal S512x2816 .f32) (cb c0 c1 c2 : FVec Ideal S1x2816 .f32) (r : Fin 512) (l : Fin 2816) :
    k0_pay18 (F := Ideal) (iota .tc S512x1 32 [0] iota_S512x1_d0_w32) g p0 p1 v70 k0_pay16 cb c0 c1 c2 (ix2 r l)
      = tap (cb (ix2 0 l)) (c0 (ix2 0 l)) (c1 (ix2 0 l)) (c2 (ix2 0 l)) (prev2 g (p0 (ix2 0 l)) (p1 (ix2 0 l)) r l) (v70 (ix2 r l)) (g (ix2 r l)) := by
  pointwise [k0_pay18, k0_pay16]
  rw [sel2]
  rfl

/-- The gated activation at an index. -/
theorem pay22_at (cg g : FVec Ideal S512x2816 .f32) (p0 p1 : FVec Ideal S1x2816 .f32) (cb c0 c1 c2 : FVec Ideal S1x2816 .f32) (r : Fin 512) (l : Fin 2816) :
    k0_pay22 (F := Ideal) (iota .tc S512x1 32 [0] iota_S512x1_d0_w32) cg g p0 p1 k0_pay20 cb c0 c1 c2 (ix2 r l)
      = gate (cg (ix2 r l)) (tap (cb (ix2 0 l)) (c0 (ix2 0 l)) (c1 (ix2 0 l)) (c2 (ix2 0 l)) (prev2 g (p0 (ix2 0 l)) (p1 (ix2 0 l)) r l) (prev1 g (p1 (ix2 0 l)) r l) (g (ix2 r l))) := by
  pointwise [k0_pay22, k0_pay20]
  rw [sel2, sel1]
  rfl

/-- The stored tile of the first result at an index. -/
theorem pay1_at (x1 : FVec Ideal S512x1024 .f32) (a : FVec Ideal S512x2816 .bf16) (w : FVec Ideal S2816x1024 .bf16) (gt : FVec Ideal S1x1x1024 .f32) (g : FVec Ideal S1x1024 .f32) (r : Fin 512) (d : Fin 1024) :
    k0_pay1 (F := Ideal) x1 k0_pay13 a w gt g (ix2 r d)
      = rms (res2 (fun d => x1 (ix2 r d)) (fun d => gt (ix3 0 0 d)) (fun l => a (ix2 r l)) (fun l d => w (ix2 l d))) (fun d => g (ix2 0 d)) d := by
  pointwise [k0_pay1, k0_pay13]
  rfl

/-- The rows after the first residual, from the blocks. -/
theorem bX1_at (x0 : Vec Ideal S512x1024 .f32) (x1 x2 : Vec Ideal S512x512 .bf16) (x3 : Vec Ideal S1x1x1024 .f32) (x7 : Vec Ideal S1024x1024 .bf16) (r : Fin 512) (d : Fin 1024) :
    bX1 (F := Ideal) x0 x1 x2 x3 x7 (ix2 r d)
      = res1 (fun d => x0 (ix2 r d)) (fun d => x3 (ix3 0 0 d)) (fun j => x1 (ix2 r j)) (fun j => x2 (ix2 r j))
          (fun j d => x7 (ix2 (⟨j.val, by omega⟩ : Fin 1024) d)) (fun j d => x7 (ix2 (⟨512 + j.val, by omega⟩ : Fin 1024) d)) d := by
  unfold bX1
  rw [pay11_at, pay10_at]
  pointwise [k0_pay4, k0_pay5, k0_pay6, View.ld]
  rfl

/-- The modulated rows of a tile from its blocks. -/
theorem bH2_at (x0 : Vec Ideal S512x1024 .f32) (x1 x2 : Vec Ideal S512x512 .bf16) (x3 x4 x5 : Vec Ideal S1x1x1024 .f32) (x7 : Vec Ideal S1024x1024 .bf16) (x8 : Vec Ideal S1x1024 .f32) (r : Fin 512) (d : Fin 1024) :
    bH2 (F := Ideal) x0 x1 x2 x3 x4 x5 x7 x8 (ix2 r d)
      = modn (fun d => bX1 (F := Ideal) x0 x1 x2 x3 x7 (ix2 r d)) (fun d => x8 (ix2 0 d)) (fun d => x5 (ix3 0 0 d)) (fun d => x4 (ix3 0 0 d)) d := by
  unfold bH2
  rw [pay12_at]
  change modn (fun d => bX1 (F := Ideal) x0 x1 x2 x3 x7 (ix2 r d)) _ _ _ d = _
  pointwise [k0_pay7, k0_pay8, k0_pay9, View.ld]

/-- The gate half of the up-projection from the block of weights. -/
theorem uG_at (h : FVec Ideal S512x1024 .bf16) (x9 : Vec Ideal S1024x5632 .bf16) (r : Fin 512) (l : Fin 2816) :
    uG (F := Ideal) h x9 (ix2 r l) = ∑ j, h (ix2 r j) * x9 (ix2 j (⟨l.val, by omega⟩ : Fin 5632)) := by
  unfold uG
  rw [pay19_at]
  pointwise [View.ld]

/-- The value half of the up-projection from the block of weights. -/
theorem uV_at (h : FVec Ideal S512x1024 .bf16) (x9 : Vec Ideal S1024x5632 .bf16) (r : Fin 512) (l : Fin 2816) :
    uV (F := Ideal) h x9 (ix2 r l) = ∑ j, h (ix2 r j) * x9 (ix2 j (⟨2816 + l.val, by omega⟩ : Fin 5632)) := by
  unfold uV
  rw [pay19_at]
  pointwise [View.ld]

/-- A half of one of the carried rows. -/
theorem pRow_at (P : Vec Ideal S2x5632 .f32) (r c : ℕ) (hr : r < 2) (hc : c + 2816 ≤ 5632) (l : Fin 2816) :
    pRow (F := Ideal) P r c hr hc (ix2 0 l) = P (ix2 (⟨r, hr⟩ : Fin 2) (⟨c + l.val, by omega⟩ : Fin 5632)) := by
  unfold pRow
  exact congrArg P (funext fun a => Fin.ext (by
    revert a
    refine Fin.forall_fin_two.mpr ⟨?_, ?_⟩
    · show r + 1 * 0 = r; omega
    · show c + 1 * l.val = c + l.val; omega))

/-- The gate half's convolution from the blocks. -/
theorem cG_at (v : FVec Ideal S512x2816 .f32) (x10 : Vec Ideal S3x5632 .f32) (x11 : Vec Ideal S1x5632 .f32) (P : Vec Ideal S2x5632 .f32) (r : Fin 512) (l : Fin 2816) :
    cG (F := Ideal) v x10 x11 P (ix2 r l)
      = tap (x11 (ix2 0 (⟨l.val, by omega⟩ : Fin 5632))) (x10 (ix2 0 (⟨l.val, by omega⟩ : Fin 5632))) (x10 (ix2 1 (⟨l.val, by omega⟩ : Fin 5632))) (x10 (ix2 2 (⟨l.val, by omega⟩ : Fin 5632)))
          (prev2 v (P (ix2 0 (⟨l.val, by omega⟩ : Fin 5632))) (P (ix2 1 (⟨l.val, by omega⟩ : Fin 5632))) r l) (prev1 v (P (ix2 1 (⟨l.val, by omega⟩ : Fin 5632))) r l) (v (ix2 r l)) := by
  unfold cG
  rw [pay18_at, pRow_at, pRow_at, r1_at, pRow_at]
  pointwise [View.ld]

/-- The activation from the blocks. -/
theorem act_at (cg v : FVec Ideal S512x2816 .f32) (x10 : Vec Ideal S3x5632 .f32) (x11 : Vec Ideal S1x5632 .f32) (P : Vec Ideal S2x5632 .f32) (r : Fin 512) (l : Fin 2816) :
    act (F := Ideal) cg v x10 x11 P (ix2 r l)
      = gate (cg (ix2 r l)) (tap (x11 (ix2 0 (⟨2816 + l.val, by omega⟩ : Fin 5632))) (x10 (ix2 0 (⟨2816 + l.val, by omega⟩ : Fin 5632))) (x10 (ix2 1 (⟨2816 + l.val, by omega⟩ : Fin 5632))) (x10 (ix2 2 (⟨2816 + l.val, by omega⟩ : Fin 5632)))
          (prev2 v (P (ix2 0 (⟨2816 + l.val, by omega⟩ : Fin 5632))) (P (ix2 1 (⟨2816 + l.val, by omega⟩ : Fin 5632))) r l) (prev1 v (P (ix2 1 (⟨2816 + l.val, by omega⟩ : Fin 5632))) r l) (v (ix2 r l))) := by
  unfold act
  rw [pay22_at, pRow_at, pRow_at]
  pointwise [View.ld]

/-- The rows carried on are the tile's last two. -/
theorem lastRows_at (g v : FVec Ideal S512x2816 .f32) (q : Fin 2) (l : Fin 5632) :
    lastRows (F := Ideal) g v (ix2 q l) = if h : l.val < 2816 then g (ix2 (⟨510 + q.val, by omega⟩ : Fin 512) (⟨l.val, h⟩ : Fin 2816))
      else v (ix2 (⟨510 + q.val, by omega⟩ : Fin 512) (⟨l.val - 2816, by omega⟩ : Fin 2816)) := by
  unfold lastRows
  split
  · rename_i h
    rw [dif_pos (show l.val < 2816 from h)]
    exact pay17_at g q ⟨l.val, h⟩
  · rename_i h
    rw [dif_neg (show ¬ l.val < 2816 from h)]
    exact pay21_at v q ⟨l.val - 2816, by omega⟩

/-- The rows a batch starts from. -/
theorem firstRows_at (x14 : Vec Ideal S1x2x5632 .f32) (q : Fin 2) (l : Fin 5632) : firstRows (F := Ideal) x14 (ix2 q l) = x14 (ix3 0 q l) := by
  pointwise [firstRows, k0_pay3, View.ld]

/-- The stored block of the second result at an index. -/
theorem pay2_at (v : FVec Ideal S2x5632 .f32) (q : Fin 2) (l : Fin 5632) : k0_pay2 (F := Ideal) v (ix3 0 q l) = v (ix2 q l) := by
  pointwise [k0_pay2]

/-- The first result's tile, from the rows and the activation. -/
theorem outY_at (x0 : Vec Ideal S512x1024 .f32) (x1 : Vec Ideal S512x512 .bf16) (x2 : Vec Ideal S512x512 .bf16) (x3 : Vec Ideal S1x1x1024 .f32) (x4 : Vec Ideal S1x1x1024 .f32) (x5 : Vec Ideal S1x1x1024 .f32) (x6 : Vec Ideal S1x1x1024 .f32) (x7 : Vec Ideal S1024x1024 .bf16) (x8 : Vec Ideal S1x1024 .f32) (x9 : Vec Ideal S1024x5632 .bf16) (x10 : Vec Ideal S3x5632 .f32) (x11 : Vec Ideal S1x5632 .f32) (x12 : Vec Ideal S2816x1024 .bf16) (x13 : Vec Ideal S1x1024 .f32) (P : Vec Ideal S2x5632 .f32) (r : Fin 512) (d : Fin 1024) :
    outY (F := Ideal) x0 x1 x2 x3 x4 x5 x6 x7 x8 x9 x10 x11 x12 x13 P (ix2 r d)
      = rms (res2 (fun d => bX1 (F := Ideal) x0 x1 x2 x3 x7 (ix2 r d)) (fun d => x6 (ix3 0 0 d))
          (fun l => act (F := Ideal) (cG (uG (bH2 x0 x1 x2 x3 x4 x5 x7 x8) x9) x10 x11 P) (uV (bH2 x0 x1 x2 x3 x4 x5 x7 x8) x9) x10 x11 P (ix2 r l))
          (fun l d => x12 (ix2 l d))) (fun d => x13 (ix2 0 d)) d := by
  unfold outY
  rw [pay1_at]
  pointwise [View.ld]

end Cert.Kernel2Ideal.Ffn
end
-- ==== Proof.FfnRef.lean ====
/- The feed-forward reference at an index. -/
module

public import proofs.«01_k».proof.Proof.Gen.Reference2Ideal.Run
public import proofs.«01_k».proof.Proof.FfnMath
public import proofs.«01_k».proof.Proof.Gen.Reference2Ideal

@[expose] public section

set_option maxRecDepth 16384

noncomputable section

namespace Cert.Reference2Ideal.Ffn

open Cert.Reference2Ideal Cert.Reference2Ideal.Gen Cert.FfnMath
open Idealize.ShloMosaic Idealize.ShloMosaic.TcCoe

/-- The rows after the attention's output projection and its gated residual. -/
def RX (x : FVec Ideal S2x8192x1024 .f32) (a b : FVec Ideal S2x8192x512 .f32) (md : FVec Ideal S2x6144 .f32) (wo : FVec Ideal S1024x1024 .f32) : FVec Ideal S2x8192x1024 .f32 :=
  addf x (mulf (broadcastInDim S2x8192x1024 ![0, 1, 2] bcast_S2x1x1024_S2x8192x1024_0_1_2 (broadcastInDim S2x1x1024 ![0, 2] bcast_S2x1024_S2x1x1024_0_2 (extractStridedSlice S2x1024 ![0, 2048] md slices_S2x6144_S2x1024_0_2048))) (Host.dotGeneral dot_S2x8192x1024_S1024x1024_S2x8192x1024_2_0_01_1_n_n none (concatenate S2x8192x1024 2 [⟨S2x8192x512, a⟩, ⟨S2x8192x512, b⟩] concatenates_S2x8192x512_S2x8192x512_S2x8192x1024_d2) wo))

/-- Each row's sum of squares. -/
def SQ (X : FVec Ideal S2x8192x1024 .f32) : FVec Ideal S2x8192 .f32 := Host.reduceAdd (mulf X X) (constant S_ .f32 0x00000000#32) reducesTo_S2x8192x1024_S2x8192_d2 h_S_

/-- The rows normalised and scaled, the sums of squares a variable. -/
def RN (X : FVec Ideal S2x8192x1024 .f32) (sq : FVec Ideal S2x8192 .f32) (g : FVec Ideal S1024 .f32) : FVec Ideal S2x8192x1024 .f32 :=
  mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 sq) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- The up-projection. -/
def RU (N : FVec Ideal S2x8192x1024 .f32) (md : FVec Ideal S2x6144 .f32) (wu : FVec Ideal S1024x5632 .f32) : FVec Ideal S2x8192x5632 .f32 :=
  Host.dotGeneral dot_S2x8192x1024_S1024x5632_S2x8192x5632_2_0_01_1_n_n none (addf (mulf N (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 4096] md slices_S2x6144_S2x1024_0_4096))))) (broadcastInDim S2x8192x1024 ![0, 1, 2] bcast_S2x1x1024_S2x8192x1024_0_1_2 (broadcastInDim S2x1x1024 ![0, 2] bcast_S2x1024_S2x1x1024_0_2 (extractStridedSlice S2x1024 ![0, 3072] md slices_S2x6144_S2x1024_0_3072)))) wu

/-- Two rows of zeros before the up-projection's. -/
def RF (U : FVec Ideal S2x8192x5632 .f32) : FVec Ideal S2x8194x5632 .f32 :=
  concatenate S2x8194x5632 1 [⟨S2x2x5632, (broadcastInDim S2x2x5632 ![] bcast_S_S2x2x5632 (constant S_ .f32 0x00000000#32))⟩, ⟨S2x8192x5632, U⟩] concatenates_S2x2x5632_S2x8192x5632_S2x8194x5632_d1

/-- The convolution's three taps with their bias. -/
def RC (V : FVec Ideal S2x8194x5632 .f32) (cw : FVec Ideal S3x5632 .f32) (cb : FVec Ideal S5632 .f32) : FVec Ideal S2x8192x5632 .f32 :=
  addf (broadcastInDim S2x8192x5632 ![0, 1, 2] bcast_S1x1x5632_S2x8192x5632_0_1_2 (broadcastInDim S1x1x5632 ![2] bcast_S5632_S1x1x5632_2 cb)) (addf (addf (addf (broadcastInDim S2x8192x5632 ![] bcast_S_S2x8192x5632 (constant S_ .f32 0x00000000#32)) (mulf (extractStridedSlice S2x8192x5632 ![0, 0, 0] V slices_S2x8194x5632_S2x8192x5632_0_0_0) (broadcastInDim S2x8192x5632 ![0, 1, 2] bcast_S1x1x5632_S2x8192x5632_0_1_2 (broadcastInDim S1x1x5632 ![2] bcast_S5632_S1x1x5632_2 (shapeCast _ (extractStridedSlice S1x5632 ![0, 0] cw slices_S3x5632_S1x5632_0_0) shapeCasts_S1x5632_S5632))))) (mulf (extractStridedSlice S2x8192x5632 ![0, 1, 0] V slices_S2x8194x5632_S2x8192x5632_0_1_0) (broadcastInDim S2x8192x5632 ![0, 1, 2] bcast_S1x1x5632_S2x8192x5632_0_1_2 (broadcastInDim S1x1x5632 ![2] bcast_S5632_S1x1x5632_2 (shapeCast _ (extractStridedSlice S1x5632 ![1, 0] cw slices_S3x5632_S1x5632_1_0) shapeCasts_S1x5632_S5632))))) (mulf (extractStridedSlice S2x8192x5632 ![0, 2, 0] V slices_S2x8194x5632_S2x8192x5632_0_2_0) (broadcastInDim S2x8192x5632 ![0, 1, 2] bcast_S1x1x5632_S2x8192x5632_0_1_2 (broadcastInDim S1x1x5632 ![2] bcast_S5632_S1x1x5632_2 (shapeCast _ (extractStridedSlice S1x5632 ![2, 0] cw slices_S3x5632_S1x5632_2_0) shapeCasts_S1x5632_S5632)))))

/-- The gate half of the convolved rows. -/
def RG (C : FVec Ideal S2x8192x5632 .f32) : FVec Ideal S2x8192x2816 .f32 := extractStridedSlice S2x8192x2816 ![0, 0, 0] C slices_S2x8192x5632_S2x8192x2816_0_0_0

/-- The rows after the second residual. -/
def RY (X : FVec Ideal S2x8192x1024 .f32) (C : FVec Ideal S2x8192x5632 .f32) (md : FVec Ideal S2x6144 .f32) (wd : FVec Ideal S2816x1024 .f32) : FVec Ideal S2x8192x1024 .f32 :=
  addf X (mulf (broadcastInDim S2x8192x1024 ![0, 1, 2] bcast_S2x1x1024_S2x8192x1024_0_1_2 (broadcastInDim S2x1x1024 ![0, 2] bcast_S2x1024_S2x1x1024_0_2 (extractStridedSlice S2x1024 ![0, 5120] md slices_S2x6144_S2x1024_0_5120))) (Host.dotGeneral dot_S2x8192x2816_S2816x1024_S2x8192x1024_2_0_01_1_n_n none (mulf (mulf (RG C) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (RG C)))))) (extractStridedSlice S2x8192x2816 ![0, 0, 2816] C slices_S2x8192x5632_S2x8192x2816_0_0_2816)) wd))

/-- A sum along the last of three axes, at an index. -/
theorem red_at {n0 n1 n2 : ℕ} {u : Shape} (h : (⟨3, ![n0, n1, n2]⟩ : Shape).ReducesTo [2] ⟨2, ![n0, n1]⟩) (hu : 0 < u.numel)
    (X : FVec Ideal ⟨3, ![n0, n1, n2]⟩ .f32) (init : FVec Ideal u .f32) (a : Fin n0) (b : Fin n1) :
    Host.reduceAdd X init h hu (ix2 a b) = init (Shape.Idx.first hu) + ∑ s, X (ix3 a b s) := by
  pointwise

/-- A row's sum of squares. -/
theorem SQ_at (X : FVec Ideal S2x8192x1024 .f32) (b : Fin 2) (t : Fin 8192) : SQ X (ix2 b t) = ∑ s, X (ix3 b t s) * X (ix3 b t s) := by
  refine (red_at reducesTo_S2x8192x1024_S2x8192_d2 h_S_ (mulf X X) (constant S_ .f32 0x00000000#32) b t).trans ?_
  pointwise

/-- The rows after the gated residual at an index: both halves of the projection's sum. -/
theorem RX_at (x : FVec Ideal S2x8192x1024 .f32) (a b : FVec Ideal S2x8192x512 .f32) (md : FVec Ideal S2x6144 .f32) (wo : FVec Ideal S1024x1024 .f32) (n : Fin 2) (t : Fin 8192) (d : Fin 1024) :
    RX x a b md wo (ix3 n t d) = res1 (fun d => x (ix3 n t d)) (fun d => md (ix2 n (⟨2048 + d.val, by omega⟩ : Fin 6144))) (fun j => a (ix3 n t j)) (fun j => b (ix3 n t j))
      (fun j d => wo (ix2 (⟨j.val, by omega⟩ : Fin 1024) d)) (fun j d => wo (ix2 (⟨512 + j.val, by omega⟩ : Fin 1024) d)) d := by
  pointwise [RX]
  rfl

/-- The normalised rows at an index. -/
theorem RN_at (X : FVec Ideal S2x8192x1024 .f32) (g : FVec Ideal S1024 .f32) (n : Fin 2) (t : Fin 8192) (d : Fin 1024) :
    RN X (SQ X) g (ix3 n t d) = rms (fun d => X (ix3 n t d)) (fun d => g (ix1 d)) d := by
  pointwise [RN]
  rw [SQ_at]
  rfl

/-- The up-projection at an index. -/
theorem RU_at (N : FVec Ideal S2x8192x1024 .f32) (md : FVec Ideal S2x6144 .f32) (wu : FVec Ideal S1024x5632 .f32) (n : Fin 2) (t : Fin 8192) (l : Fin 5632) :
    RU N md wu (ix3 n t l) = ∑ d, (N (ix3 n t d) * (1 + md (ix2 n (⟨4096 + d.val, by omega⟩ : Fin 6144))) + md (ix2 n (⟨3072 + d.val, by omega⟩ : Fin 6144))) * wu (ix2 d l) := by
  pointwise [RU]

/-- The padded rows at an index: zero in the first two, the up-projection's afterwards. -/
theorem RF_at (U : FVec Ideal S2x8192x5632 .f32) (n : Fin 2) (t : Fin 8194) (l : Fin 5632) :
    RF U (ix3 n t l) = if h : t.val < 2 then 0 else U (ix3 n (⟨t.val - 2, by omega⟩ : Fin 8192) l) := by
  pointwise [RF]

/-- The taps summed first, the bias added last. -/
theorem tap_of (cb c0 c1 c2 u0 u1 u2 : EReal) : cb + (u0 * c0 + u1 * c1 + u2 * c2) = tap cb c0 c1 c2 u0 u1 u2 := by
  unfold tap
  rw [← add_assoc, ← add_assoc, mul_comm u0, mul_comm u1, mul_comm u2]

/-- The logistic function is one over one plus an exponential. -/
theorem gate_of (u v : EReal) : u * Ideal.div 1 (1 + Ideal.exp (-u)) * v = gate u v := rfl

/-- The convolution at an index: three taps and the bias. -/
theorem RC_at (V : FVec Ideal S2x8194x5632 .f32) (cw : FVec Ideal S3x5632 .f32) (cb : FVec Ideal S5632 .f32) (n : Fin 2) (t : Fin 8192) (l : Fin 5632) :
    RC V cw cb (ix3 n t l) = tap (cb (ix1 l)) (cw (ix2 0 l)) (cw (ix2 1 l)) (cw (ix2 2 l)) (V (ix3 n (⟨t.val, by omega⟩ : Fin 8194) l)) (V (ix3 n (⟨1 + t.val, by omega⟩ : Fin 8194) l)) (V (ix3 n (⟨2 + t.val, by omega⟩ : Fin 8194) l)) := by
  pointwise [RC]
  exact tap_of _ _ _ _ _ _ _

/-- The rows after the second gated residual at an index. -/
theorem RY_at (X : FVec Ideal S2x8192x1024 .f32) (C : FVec Ideal S2x8192x5632 .f32) (md : FVec Ideal S2x6144 .f32) (wd : FVec Ideal S2816x1024 .f32) (n : Fin 2) (t : Fin 8192) (d : Fin 1024) :
    RY X C md wd (ix3 n t d) = res2 (fun d => X (ix3 n t d)) (fun d => md (ix2 n (⟨5120 + d.val, by omega⟩ : Fin 6144)))
      (fun l => gate (C (ix3 n t (⟨l.val, by omega⟩ : Fin 5632))) (C (ix3 n t (⟨2816 + l.val, by omega⟩ : Fin 5632)))) (fun l d => wd (ix2 l d)) d := by
  pointwise [RY, RG]
  exact congrArg (fun s => X (ix3 n t d) + md (ix2 n (⟨5120 + d.val, by omega⟩ : Fin 6144)) * s) (Finset.sum_congr rfl fun l _ => congrArg (· * wd (ix2 l d)) (gate_of _ _))

section Whole

variable (x : FVec Ideal S2x8192x1024 .f32) (a b : FVec Ideal S2x8192x512 .f32) (md : FVec Ideal S2x6144 .f32) (wo : FVec Ideal S1024x1024 .f32) (g1 : FVec Ideal S1024 .f32) (wu : FVec Ideal S1024x5632 .f32) (cw : FVec Ideal S3x5632 .f32) (cb : FVec Ideal S5632 .f32) (wd : FVec Ideal S2816x1024 .f32) (g2 : FVec Ideal S1024 .f32)

/-- The up-projection of the arguments. -/
def WU : FVec Ideal S2x8192x5632 .f32 := RU (RN (RX x a b md wo) (SQ (RX x a b md wo)) g1) md wu

/-- The up-projection with its two leading rows of zeros. -/
def WF : FVec Ideal S2x8194x5632 .f32 := RF (WU x a b md wo g1 wu)

/-- The convolved rows of the arguments. -/
def WC : FVec Ideal S2x8192x5632 .f32 := RC (WF x a b md wo g1 wu) cw cb

/-- The rows after the second residual, of the arguments. -/
def WY : FVec Ideal S2x8192x1024 .f32 := RY (RX x a b md wo) (WC x a b md wo g1 wu cw cb) md wd

/-- The rows of the first result. -/
def WN : FVec Ideal S2x8192x1024 .f32 := RN (WY x a b md wo g1 wu cw cb wd) (SQ (WY x a b md wo g1 wu cw cb wd)) g2

/-- The first result. -/
def REFY : FVec Ideal S16384x1024 .f32 := shapeCast S16384x1024 (WN x a b md wo g1 wu cw cb wd g2) shapeCasts_S2x8192x1024_S16384x1024

/-- The second result. -/
def REFC : FVec Ideal S2x2x5632 .f32 := extractStridedSlice S2x2x5632 ![0, 8192, 0] (WF x a b md wo g1 wu) slices_S2x8194x5632_S2x2x5632_0_8192_0

/-- The up-projection of the arguments at an index. -/
theorem WU_at (n : Fin 2) (t : Fin 8192) (l : Fin 5632) :
    WU x a b md wo g1 wu (ix3 n t l) = ∑ d, modn (fun d => RX x a b md wo (ix3 n t d)) (fun d => g1 (ix1 d)) (fun d => md (ix2 n (⟨4096 + d.val, by omega⟩ : Fin 6144))) (fun d => md (ix2 n (⟨3072 + d.val, by omega⟩ : Fin 6144))) d * wu (ix2 d l) := by
  unfold WU
  rw [RU_at]
  simp only [RN_at, modn]

/-- The padded rows from the third on. -/
theorem WF_at (n : Fin 2) (t : Fin 8192) (t' : Fin 8194) (l : Fin 5632) (e : t'.val = t.val + 2) : WF x a b md wo g1 wu (ix3 n t' l) = WU x a b md wo g1 wu (ix3 n t l) := by
  unfold WF
  rw [RF_at, dif_neg (by omega)]
  exact congrArg (fun z => WU x a b md wo g1 wu (ix3 n z l)) (Fin.ext (by show t'.val - 2 = t.val; omega))

/-- The first two padded rows are zero. -/
theorem WF_zero (n : Fin 2) (t' : Fin 8194) (l : Fin 5632) (e : t'.val < 2) : WF x a b md wo g1 wu (ix3 n t' l) = 0 := by
  unfold WF
  rw [RF_at, dif_pos e]

/-- The convolution of the arguments at an index. -/
theorem WC_at (n : Fin 2) (t : Fin 8192) (l : Fin 5632) :
    WC x a b md wo g1 wu cw cb (ix3 n t l) = tap (cb (ix1 l)) (cw (ix2 0 l)) (cw (ix2 1 l)) (cw (ix2 2 l)) (WF x a b md wo g1 wu (ix3 n (⟨t.val, by omega⟩ : Fin 8194) l)) (WF x a b md wo g1 wu (ix3 n (⟨1 + t.val, by omega⟩ : Fin 8194) l)) (WF x a b md wo g1 wu (ix3 n (⟨2 + t.val, by omega⟩ : Fin 8194) l)) :=
  RC_at _ cw cb n t l

/-- The first result's rows at an index. -/
theorem WN_at (n : Fin 2) (t : Fin 8192) (d : Fin 1024) :
    WN x a b md wo g1 wu cw cb wd g2 (ix3 n t d) = rms (res2 (fun d => RX x a b md wo (ix3 n t d)) (fun d => md (ix2 n (⟨5120 + d.val, by omega⟩ : Fin 6144)))
      (fun l => gate (WC x a b md wo g1 wu cw cb (ix3 n t (⟨l.val, by omega⟩ : Fin 5632))) (WC x a b md wo g1 wu cw cb (ix3 n t (⟨2816 + l.val, by omega⟩ : Fin 5632)))) (fun l d => wd (ix2 l d)))
      (fun d => g2 (ix1 d)) d := by
  unfold WN
  rw [RN_at]
  unfold WY
  simp only [RY_at]

/-- The first result at an index: its row split into batch and position. -/
theorem REFY_at (n : Fin 2) (t : Fin 8192) (R : Fin 16384) (d : Fin 1024) (e : R.val = n.val * 8192 + t.val) :
    REFY x a b md wo g1 wu cw cb wd g2 (ix2 R d) = WN x a b md wo g1 wu cw cb wd g2 (ix3 n t d) := by
  unfold REFY
  pointwise
  congr 2 <;> exact Fin.ext (by simp only; omega)

/-- The second result at an index: the last two positions of a batch. -/
theorem REFC_at (n : Fin 2) (q : Fin 2) (l : Fin 5632) :
    REFC x a b md wo g1 wu (ix3 n q l) = WF x a b md wo g1 wu (ix3 n (⟨8192 + q.val, by omega⟩ : Fin 8194) l) := by
  unfold REFC
  pointwise

end Whole

end Cert.Reference2Ideal.Ffn
end
-- ==== Proof.FfnPoint.lean ====
/- A tile of the feed-forward kernel is the reference's rows. -/
module

public import proofs.«01_k».proof.Proof.FfnPay
public import proofs.«01_k».proof.Proof.FfnRef

@[expose] public section

set_option maxRecDepth 16384

noncomputable section

namespace Cert.Kernel2Ideal.Ffn

open Cert.Kernel2Ideal Cert.Kernel2Ideal.Gen Cert.FfnMath
open Cert.Reference2Ideal.Ffn (RX WU WF WC WN RX_at WU_at WF_at WF_zero WC_at WN_at)
open Idealize.ShloMosaic Idealize.ShloMosaic.TcCoe

/-- The row of a batch that a tile's row is. -/
def rowP (k : ℕ) (hk : k < 16) (r : Fin 512) : Fin 8192 := ⟨k * 512 + r.val, by omega⟩

variable (n : Fin 2) (k : ℕ) (hk : k < 16)
  (x0 : Vec Ideal S512x1024 .f32) (x1 : Vec Ideal S512x512 .bf16) (x2 : Vec Ideal S512x512 .bf16) (x3 : Vec Ideal S1x1x1024 .f32) (x4 : Vec Ideal S1x1x1024 .f32) (x5 : Vec Ideal S1x1x1024 .f32) (x6 : Vec Ideal S1x1x1024 .f32) (x7 : Vec Ideal S1024x1024 .bf16) (x8 : Vec Ideal S1x1024 .f32) (x9 : Vec Ideal S1024x5632 .bf16) (x10 : Vec Ideal S3x5632 .f32) (x11 : Vec Ideal S1x5632 .f32) (x12 : Vec Ideal S2816x1024 .bf16) (x13 : Vec Ideal S1x1024 .f32)
  (x : FVec Ideal S2x8192x1024 .f32) (a b : FVec Ideal S2x8192x512 .f32) (md : FVec Ideal S2x6144 .f32) (wo : FVec Ideal S1024x1024 .f32) (g1 : FVec Ideal S1024 .f32) (wu : FVec Ideal S1024x5632 .f32) (cw : FVec Ideal S3x5632 .f32) (cb : FVec Ideal S5632 .f32) (wd : FVec Ideal S2816x1024 .f32) (g2 : FVec Ideal S1024 .f32)

/-- The blocks of a tile are the arguments' entries there. -/
structure Tile : Prop where
  b0 : ∀ (r : Fin 512) (d : Fin 1024), x0 (ix2 r d) = x (ix3 n (rowP k hk r) d)
  b1 : ∀ (r : Fin 512) (d : Fin 512), x1 (ix2 r d) = a (ix3 n (rowP k hk r) d)
  b2 : ∀ (r : Fin 512) (d : Fin 512), x2 (ix2 r d) = b (ix3 n (rowP k hk r) d)
  b3 : ∀ d : Fin 1024, x3 (ix3 0 0 d) = md (ix2 n (⟨2048 + d.val, by omega⟩ : Fin 6144))
  b4 : ∀ d : Fin 1024, x4 (ix3 0 0 d) = md (ix2 n (⟨3072 + d.val, by omega⟩ : Fin 6144))
  b5 : ∀ d : Fin 1024, x5 (ix3 0 0 d) = md (ix2 n (⟨4096 + d.val, by omega⟩ : Fin 6144))
  b6 : ∀ d : Fin 1024, x6 (ix3 0 0 d) = md (ix2 n (⟨5120 + d.val, by omega⟩ : Fin 6144))
  b7 : ∀ j d : Fin 1024, x7 (ix2 j d) = wo (ix2 j d)
  b8 : ∀ d : Fin 1024, x8 (ix2 0 d) = g1 (ix1 d)
  b9 : ∀ (j : Fin 1024) (l : Fin 5632), x9 (ix2 j l) = wu (ix2 j l)
  b10 : ∀ (j : Fin 3) (l : Fin 5632), x10 (ix2 j l) = cw (ix2 j l)
  b11 : ∀ l : Fin 5632, x11 (ix2 0 l) = cb (ix1 l)
  b12 : ∀ (j : Fin 2816) (d : Fin 1024), x12 (ix2 j d) = wd (ix2 j d)
  b13 : ∀ d : Fin 1024, x13 (ix2 0 d) = g2 (ix1 d)

section
variable (T : Tile n k hk x0 x1 x2 x3 x4 x5 x6 x7 x8 x9 x10 x11 x12 x13 x a b md wo g1 wu cw cb wd g2)
include T

/-- The rows after the first residual. -/
theorem tile_X (r : Fin 512) (d : Fin 1024) : bX1 (F := Ideal) x0 x1 x2 x3 x7 (ix2 r d) = RX x a b md wo (ix3 n (rowP k hk r) d) := by
  rw [bX1_at, RX_at]
  simp only [T.b0, T.b1, T.b2, T.b3, T.b7]

/-- The gate half of the up-projection. -/
theorem tile_G (r : Fin 512) (l : Fin 2816) (l' : Fin 5632) (el : l'.val = l.val) : uG (F := Ideal) (bH2 x0 x1 x2 x3 x4 x5 x7 x8) x9 (ix2 r l) = WU x a b md wo g1 wu (ix3 n (rowP k hk r) l') := by
  rw [show l' = (⟨l.val, by omega⟩ : Fin 5632) from Fin.ext el]
  rw [uG_at, WU_at]
  simp only [bH2_at, tile_X n k hk x0 x1 x2 x3 x4 x5 x6 x7 x8 x9 x10 x11 x12 x13 x a b md wo g1 wu cw cb wd g2 T, T.b4, T.b5, T.b8, T.b9]

/-- The value half of the up-projection. -/
theorem tile_V (r : Fin 512) (l : Fin 2816) (l' : Fin 5632) (el : l'.val = 2816 + l.val) : uV (F := Ideal) (bH2 x0 x1 x2 x3 x4 x5 x7 x8) x9 (ix2 r l) = WU x a b md wo g1 wu (ix3 n (rowP k hk r) l') := by
  rw [show l' = (⟨2816 + l.val, by omega⟩ : Fin 5632) from Fin.ext el]
  rw [uV_at, WU_at]
  simp only [bH2_at, tile_X n k hk x0 x1 x2 x3 x4 x5 x6 x7 x8 x9 x10 x11 x12 x13 x a b md wo g1 wu cw cb wd g2 T, T.b4, T.b5, T.b8, T.b9]

/-- The rows a tile carries on, among the reference's padded rows. -/
theorem tile_carry (q : Fin 2) (l : Fin 5632) (t' : Fin 8194) (e : t'.val = k * 512 + 512 + q.val) :
    carry (F := Ideal) x0 x1 x2 x3 x4 x5 x7 x8 x9 (ix2 q l) = WF x a b md wo g1 wu (ix3 n t' l) := by
  unfold carry
  rw [lastRows_at, WF_at x a b md wo g1 wu n (rowP k hk ⟨510 + q.val, by omega⟩) t' l (by show t'.val = k * 512 + (510 + q.val) + 2; omega)]
  split
  · exact tile_G n k hk x0 x1 x2 x3 x4 x5 x6 x7 x8 x9 x10 x11 x12 x13 x a b md wo g1 wu cw cb wd g2 T _ _ l rfl
  · exact tile_V n k hk x0 x1 x2 x3 x4 x5 x6 x7 x8 x9 x10 x11 x12 x13 x a b md wo g1 wu cw cb wd g2 T _ _ l (by simp only; omega)

end

/-- The row before, among the padded rows. -/
theorem prev1_of (g : FVec Ideal S512x2816 .f32) (w : Fin 8194 → EReal) (l : Fin 2816)
    (hg : ∀ (r : Fin 512) (t' : Fin 8194), t'.val = k * 512 + r.val + 2 → g (ix2 r l) = w t') (p1 : EReal)
    (h1 : ∀ t' : Fin 8194, t'.val = k * 512 + 1 → p1 = w t') (r : Fin 512) (t' : Fin 8194) (e : t'.val = k * 512 + r.val + 1) : prev1 g p1 r l = w t' := by
  unfold prev1
  split
  · exact h1 t' (by omega)
  · exact hg _ t' (by simp only; omega)

/-- The row two before, among the padded rows. -/
theorem prev2_of (g : FVec Ideal S512x2816 .f32) (w : Fin 8194 → EReal) (l : Fin 2816)
    (hg : ∀ (r : Fin 512) (t' : Fin 8194), t'.val = k * 512 + r.val + 2 → g (ix2 r l) = w t') (p0 p1 : EReal)
    (h0 : ∀ t' : Fin 8194, t'.val = k * 512 → p0 = w t')
    (h1 : ∀ t' : Fin 8194, t'.val = k * 512 + 1 → p1 = w t') (r : Fin 512) (t' : Fin 8194) (e : t'.val = k * 512 + r.val) : prev2 g p0 p1 r l = w t' := by
  unfold prev2
  split
  · exact h0 t' (by omega)
  · split
    · exact h1 t' (by omega)
    · exact hg _ t' (by simp only; omega)

section
variable (T : Tile n k hk x0 x1 x2 x3 x4 x5 x6 x7 x8 x9 x10 x11 x12 x13 x a b md wo g1 wu cw cb wd g2)
  (P : Vec Ideal S2x5632 .f32)
  (hP : ∀ (q : Fin 2) (l : Fin 5632) (t' : Fin 8194), t'.val = k * 512 + q.val → P (ix2 q l) = WF x a b md wo g1 wu (ix3 n t' l))
include T hP

/-- The convolved rows of a half whose up-projection is the reference's. -/
theorem tile_C (g : FVec Ideal S512x2816 .f32) (l : Fin 2816) (l' : Fin 5632)
    (hg : ∀ r : Fin 512, g (ix2 r l) = WU x a b md wo g1 wu (ix3 n (rowP k hk r) l')) (r : Fin 512) :
    tap (x11 (ix2 0 l')) (x10 (ix2 0 l')) (x10 (ix2 1 l')) (x10 (ix2 2 l')) (prev2 g (P (ix2 0 l')) (P (ix2 1 l')) r l) (prev1 g (P (ix2 1 l')) r l) (g (ix2 r l))
      = WC x a b md wo g1 wu cw cb (ix3 n (rowP k hk r) l') := by
  have hg' : ∀ (r : Fin 512) (t' : Fin 8194), t'.val = k * 512 + r.val + 2 → g (ix2 r l) = WF x a b md wo g1 wu (ix3 n t' l') := fun r t' e =>
    (hg r).trans (WF_at x a b md wo g1 wu n (rowP k hk r) t' l' e).symm
  rw [WC_at, T.b11, T.b10, T.b10, T.b10]
  rw [prev2_of k g (fun t' => WF x a b md wo g1 wu (ix3 n t' l')) l hg' _ _ (fun t' e => hP 0 l' t' e) (fun t' e => hP 1 l' t' e) r ⟨(rowP k hk r).val, by omega⟩ rfl,
    prev1_of k g (fun t' => WF x a b md wo g1 wu (ix3 n t' l')) l hg' _ (fun t' e => hP 1 l' t' e) r ⟨1 + (rowP k hk r).val, by omega⟩ (Nat.add_comm _ _),
    hg' r ⟨2 + (rowP k hk r).val, by omega⟩ (Nat.add_comm _ _)]

/-- The gated activation. -/
theorem tile_act (r : Fin 512) (l : Fin 2816) :
    act (F := Ideal) (cG (uG (bH2 x0 x1 x2 x3 x4 x5 x7 x8) x9) x10 x11 P) (uV (bH2 x0 x1 x2 x3 x4 x5 x7 x8) x9) x10 x11 P (ix2 r l)
      = gate (WC x a b md wo g1 wu cw cb (ix3 n (rowP k hk r) (⟨l.val, by omega⟩ : Fin 5632))) (WC x a b md wo g1 wu cw cb (ix3 n (rowP k hk r) (⟨2816 + l.val, by omega⟩ : Fin 5632))) := by
  rw [act_at, cG_at]
  exact congrArg₂ gate
    (tile_C n k hk x0 x1 x2 x3 x4 x5 x6 x7 x8 x9 x10 x11 x12 x13 x a b md wo g1 wu cw cb wd g2 T P hP _ l _ (fun r => tile_G n k hk x0 x1 x2 x3 x4 x5 x6 x7 x8 x9 x10 x11 x12 x13 x a b md wo g1 wu cw cb wd g2 T r l _ rfl) r)
    (tile_C n k hk x0 x1 x2 x3 x4 x5 x6 x7 x8 x9 x10 x11 x12 x13 x a b md wo g1 wu cw cb wd g2 T P hP _ l _ (fun r => tile_V n k hk x0 x1 x2 x3 x4 x5 x6 x7 x8 x9 x10 x11 x12 x13 x a b md wo g1 wu cw cb wd g2 T r l _ rfl) r)

/-- The tile of the first result. -/
theorem tile_Y (r : Fin 512) (d : Fin 1024) :
    outY (F := Ideal) x0 x1 x2 x3 x4 x5 x6 x7 x8 x9 x10 x11 x12 x13 P (ix2 r d) = WN x a b md wo g1 wu cw cb wd g2 (ix3 n (rowP k hk r) d) := by
  rw [outY_at, WN_at]
  simp only [tile_X n k hk x0 x1 x2 x3 x4 x5 x6 x7 x8 x9 x10 x11 x12 x13 x a b md wo g1 wu cw cb wd g2 T, tile_act n k hk x0 x1 x2 x3 x4 x5 x6 x7 x8 x9 x10 x11 x12 x13 x a b md wo g1 wu cw cb wd g2 T P hP, T.b6, T.b12, T.b13]

end

end Cert.Kernel2Ideal.Ffn
end
-- ==== Proof.FfnBlocks.lean ====
/- The feed-forward kernel's blocks, read off the argument arrays. -/
module

public import proofs.«01_k».proof.Proof.FfnFrame
public import Idealize.ShloMosaic.Lib.Pipeline.ValueKit

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- Every window's block index at a grid point. -/
theorem idx : ∀ t : Fin cfg0.N, win0_0.index t = ![t.val, 0] ∧ win0_1.index t = ![t.val, 0] ∧ win0_2.index t = ![t.val, 0]
    ∧ win0_3.index t = ![t.val / 16, 0, 2] ∧ win0_4.index t = ![t.val / 16, 0, 3] ∧ win0_5.index t = ![t.val / 16, 0, 4] ∧ win0_6.index t = ![t.val / 16, 0, 5]
    ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0]
    ∧ win0_14.index t = ![t.val / 16, 0, 0] ∧ win0_15.index t = ![t.val, 0] ∧ win0_16.index t = ![t.val / 16, 0, 0] ∧ t.val / 16 < 2 :=
  (by decide +kernel : ∀ t : Fin grid0.N, _)

/-- A host-made operand. -/
theorem V_v1 (c : Dev nD) : V m c main_v1 = (show FVec Ideal S8x1x6144 .f32 from shapeCast S8x1x6144 (pad S8x6144 ![0, 0] ![6, 0] ![0, 0] (show FVec Ideal S2x6144 .f32 from m ((c : Thread nD τ).loc main_arg3)) (sitofp .f32 (constantI S_ 32 0#32) : FVec Ideal S_ .f32) pads_S2x6144_S8x6144_060_000 h_S_) shapeCasts_S8x6144_S8x1x6144) := by
  unfold V
  simp only [hostOps0, hostOps0_1, hostOps0_2, List.flatten_cons, List.flatten_nil, List.append_nil, List.cons_append, List.nil_append]
  entry_read
  rfl

/-- A host-made operand. -/
theorem V_v3 (c : Dev nD) : V m c main_v3 = (show FVec Ideal S1x1024 .f32 from broadcastInDim S1x1024 ![1] bcast_S1024_S1x1024_1 (show FVec Ideal S1024 .f32 from m ((c : Thread nD τ).loc main_arg5))) := by
  unfold V
  simp only [hostOps0, hostOps0_1, hostOps0_2, List.flatten_cons, List.flatten_nil, List.append_nil, List.cons_append, List.nil_append]
  entry_read
  rfl

/-- A host-made operand. -/
theorem V_v5 (c : Dev nD) : V m c main_v5 = (show FVec Ideal S1x5632 .f32 from broadcastInDim S1x5632 ![1] bcast_S5632_S1x5632_1 (show FVec Ideal S5632 .f32 from m ((c : Thread nD τ).loc main_arg8))) := by
  unfold V
  simp only [hostOps0, hostOps0_1, hostOps0_2, List.flatten_cons, List.flatten_nil, List.append_nil, List.cons_append, List.nil_append]
  entry_read
  rfl

/-- A host-made operand. -/
theorem V_v7 (c : Dev nD) : V m c main_v7 = (show FVec Ideal S1x1024 .f32 from broadcastInDim S1x1024 ![1] bcast_S1024_S1x1024_1 (show FVec Ideal S1024 .f32 from m ((c : Thread nD τ).loc main_arg10))) := by
  unfold V
  simp only [hostOps0, hostOps0_1, hostOps0_2, List.flatten_cons, List.flatten_nil, List.append_nil, List.cons_append, List.nil_append]
  entry_read
  rfl

/-- A host-made operand. -/
theorem V_v8 (c : Dev nD) : V m c main_v8 = (show FVec Ideal S16384x1024 .f32 from shapeCast S16384x1024 (show FVec Ideal S2x8192x1024 .f32 from m ((c : Thread nD τ).loc main_arg0)) shapeCasts_S2x8192x1024_S16384x1024) := by
  unfold V
  simp only [hostOps0, hostOps0_1, hostOps0_2, List.flatten_cons, List.flatten_nil, List.append_nil, List.cons_append, List.nil_append]
  entry_read
  rfl

/-- A host-made operand. -/
theorem V_v10 (c : Dev nD) : V m c main_v10 = (show FVec Ideal S16384x512 .bf16 from truncf .bf16 (shapeCast S16384x512 (show FVec Ideal S2x8192x512 .f32 from m ((c : Thread nD τ).loc main_arg1)) shapeCasts_S2x8192x512_S16384x512) bitsLt_bf16_f32) := by
  unfold V
  simp only [hostOps0, hostOps0_1, hostOps0_2, List.flatten_cons, List.flatten_nil, List.append_nil, List.cons_append, List.nil_append]
  entry_read
  rfl

/-- A host-made operand. -/
theorem V_v12 (c : Dev nD) : V m c main_v12 = (show FVec Ideal S16384x512 .bf16 from truncf .bf16 (shapeCast S16384x512 (show FVec Ideal S2x8192x512 .f32 from m ((c : Thread nD τ).loc main_arg2)) shapeCasts_S2x8192x512_S16384x512) bitsLt_bf16_f32) := by
  unfold V
  simp only [hostOps0, hostOps0_1, hostOps0_2, List.flatten_cons, List.flatten_nil, List.append_nil, List.cons_append, List.nil_append]
  entry_read
  rfl

/-- A host-made operand. -/
theorem V_v13 (c : Dev nD) : V m c main_v13 = (show FVec Ideal S2x2x5632 .f32 from broadcastInDim S2x2x5632 ![] bcast_S_S2x2x5632 (constant S_ .f32 0x00000000#32)) := by
  unfold V
  simp only [hostOps0, hostOps0_1, hostOps0_2, List.flatten_cons, List.flatten_nil, List.append_nil, List.cons_append, List.nil_append]
  entry_read
  rfl

/-- The rows' block. -/
theorem blk0 (c : Dev nD) (t : Fin cfg0.N) (r : Fin 512) (d : Fin 1024) (b : Fin 2) (p : Fin 8192)
    (eb : b.val = t.val / 16) (ep : p.val = t.val % 16 * 512 + r.val) :
    (show FVec Ideal S512x1024 .f32 from iblk m c 0 t) (ix2 r d) = (show FVec Ideal S2x8192x1024 .f32 from m ((c : Thread nD τ).loc main_arg0)) (ix3 b p d) := by
  blk_simp [iblk]
  rw [V_v8]
  pointwise
  blk_ext [idx t]

/-- The first heads' block. -/
theorem blk1 (c : Dev nD) (t : Fin cfg0.N) (r : Fin 512) (d : Fin 512) (b : Fin 2) (p : Fin 8192)
    (eb : b.val = t.val / 16) (ep : p.val = t.val % 16 * 512 + r.val) :
    (show FVec Ideal S512x512 .bf16 from iblk m c 1 t) (ix2 r d) = (show FVec Ideal S2x8192x512 .f32 from m ((c : Thread nD τ).loc main_arg1)) (ix3 b p d) := by
  blk_simp [iblk]
  rw [V_v10]
  pointwise
  blk_ext [idx t]

/-- The second heads' block. -/
theorem blk2 (c : Dev nD) (t : Fin cfg0.N) (r : Fin 512) (d : Fin 512) (b : Fin 2) (p : Fin 8192)
    (eb : b.val = t.val / 16) (ep : p.val = t.val % 16 * 512 + r.val) :
    (show FVec Ideal S512x512 .bf16 from iblk m c 2 t) (ix2 r d) = (show FVec Ideal S2x8192x512 .f32 from m ((c : Thread nD τ).loc main_arg2)) (ix3 b p d) := by
  blk_simp [iblk]
  rw [V_v12]
  pointwise
  blk_ext [idx t]

/-- A part of the modulation's block. -/
theorem blk3 (c : Dev nD) (t : Fin cfg0.N) (d : Fin 1024) (b : Fin 2)
    (eb : b.val = t.val / 16) :
    (show FVec Ideal S1x1x1024 .f32 from iblk m c 3 t) (ix3 0 0 d) = (show FVec Ideal S2x6144 .f32 from m ((c : Thread nD τ).loc main_arg3)) (ix2 b (⟨2048 + d.val, by omega⟩ : Fin 6144)) := by
  blk_simp [iblk]
  rw [V_v1]
  pointwise
  have hb := b.isLt
  split
  · blk_ext [idx t]
  · rename_i h; refine absurd (lt_of_eq_of_lt (b := b.val) ?_ hb) h; blk_simp [idx t]; exact eb.symm

/-- A part of the modulation's block. -/
theorem blk4 (c : Dev nD) (t : Fin cfg0.N) (d : Fin 1024) (b : Fin 2)
    (eb : b.val = t.val / 16) :
    (show FVec Ideal S1x1x1024 .f32 from iblk m c 4 t) (ix3 0 0 d) = (show FVec Ideal S2x6144 .f32 from m ((c : Thread nD τ).loc main_arg3)) (ix2 b (⟨3072 + d.val, by omega⟩ : Fin 6144)) := by
  blk_simp [iblk]
  rw [V_v1]
  pointwise
  have hb := b.isLt
  split
  · blk_ext [idx t]
  · rename_i h; refine absurd (lt_of_eq_of_lt (b := b.val) ?_ hb) h; blk_simp [idx t]; exact eb.symm

/-- A part of the modulation's block. -/
theorem blk5 (c : Dev nD) (t : Fin cfg0.N) (d : Fin 1024) (b : Fin 2)
    (eb : b.val = t.val / 16) :
    (show FVec Ideal S1x1x1024 .f32 from iblk m c 5 t) (ix3 0 0 d) = (show FVec Ideal S2x6144 .f32 from m ((c : Thread nD τ).loc main_arg3)) (ix2 b (⟨4096 + d.val, by omega⟩ : Fin 6144)) := by
  blk_simp [iblk]
  rw [V_v1]
  pointwise
  have hb := b.isLt
  split
  · blk_ext [idx t]
  · rename_i h; refine absurd (lt_of_eq_of_lt (b := b.val) ?_ hb) h; blk_simp [idx t]; exact eb.symm

/-- A part of the modulation's block. -/
theorem blk6 (c : Dev nD) (t : Fin cfg0.N) (d : Fin 1024) (b : Fin 2)
    (eb : b.val = t.val / 16) :
    (show FVec Ideal S1x1x1024 .f32 from iblk m c 6 t) (ix3 0 0 d) = (show FVec Ideal S2x6144 .f32 from m ((c : Thread nD τ).loc main_arg3)) (ix2 b (⟨5120 + d.val, by omega⟩ : Fin 6144)) := by
  blk_simp [iblk]
  rw [V_v1]
  pointwise
  have hb := b.isLt
  split
  · blk_ext [idx t]
  · rename_i h; refine absurd (lt_of_eq_of_lt (b := b.val) ?_ hb) h; blk_simp [idx t]; exact eb.symm

/-- The output projection's block. -/
theorem blk7 (c : Dev nD) (t : Fin cfg0.N) (j d : Fin 1024) :
    (show FVec Ideal S1024x1024 .bf16 from iblk m c 7 t) (ix2 j d) = (show FVec Ideal S1024x1024 .f32 from m ((c : Thread nD τ).loc main_arg4)) (ix2 j d) := by
  blk_simp [iblk]
  entry_read
  pointwise
  blk_ext [idx t]

/-- The normalisation's scales. -/
theorem blk8 (c : Dev nD) (t : Fin cfg0.N) (d : Fin 1024) :
    (show FVec Ideal S1x1024 .f32 from iblk m c 8 t) (ix2 0 d) = (show FVec Ideal S1024 .f32 from m ((c : Thread nD τ).loc main_arg5)) (ix1 d) := by
  blk_simp [iblk]
  rw [V_v3]
  pointwise
  blk_ext [idx t]

/-- The up-projection's block. -/
theorem blk9 (c : Dev nD) (t : Fin cfg0.N) (j : Fin 1024) (l : Fin 5632) :
    (show FVec Ideal S1024x5632 .bf16 from iblk m c 9 t) (ix2 j l) = (show FVec Ideal S1024x5632 .f32 from m ((c : Thread nD τ).loc main_arg6)) (ix2 j l) := by
  blk_simp [iblk]
  entry_read
  pointwise
  blk_ext [idx t]

/-- The taps. -/
theorem blk10 (c : Dev nD) (t : Fin cfg0.N) (j : Fin 3) (l : Fin 5632) :
    (show FVec Ideal S3x5632 .f32 from iblk m c 10 t) (ix2 j l) = (show FVec Ideal S3x5632 .f32 from m ((c : Thread nD τ).loc main_arg7)) (ix2 j l) := by
  blk_simp [iblk]
  entry_read
  pointwise
  blk_ext [idx t]

/-- The taps' bias. -/
theorem blk11 (c : Dev nD) (t : Fin cfg0.N) (l : Fin 5632) :
    (show FVec Ideal S1x5632 .f32 from iblk m c 11 t) (ix2 0 l) = (show FVec Ideal S5632 .f32 from m ((c : Thread nD τ).loc main_arg8)) (ix1 l) := by
  blk_simp [iblk]
  rw [V_v5]
  pointwise
  blk_ext [idx t]

/-- The down-projection's block. -/
theorem blk12 (c : Dev nD) (t : Fin cfg0.N) (j : Fin 2816) (d : Fin 1024) :
    (show FVec Ideal S2816x1024 .bf16 from iblk m c 12 t) (ix2 j d) = (show FVec Ideal S2816x1024 .f32 from m ((c : Thread nD τ).loc main_arg9)) (ix2 j d) := by
  blk_simp [iblk]
  entry_read
  pointwise
  blk_ext [idx t]

/-- The last normalisation's scales. -/
theorem blk13 (c : Dev nD) (t : Fin cfg0.N) (d : Fin 1024) :
    (show FVec Ideal S1x1024 .f32 from iblk m c 13 t) (ix2 0 d) = (show FVec Ideal S1024 .f32 from m ((c : Thread nD τ).loc main_arg10)) (ix1 d) := by
  blk_simp [iblk]
  rw [V_v7]
  pointwise
  blk_ext [idx t]

/-- The rows before a batch's first are zeros. -/
theorem blk14 (c : Dev nD) (t : Fin cfg0.N) (q : Fin 2) (l : Fin 5632) :
    (show FVec Ideal S1x2x5632 .f32 from iblk m c 14 t) (ix3 0 q l) = 0 := by
  blk_simp [iblk]
  rw [V_v13]
  pointwise
  blk_ext [idx t]

/-- Where an entry of the first result's block lies in it. -/
theorem emb15 (t : Fin cfg0.N) (r : Fin 512) (d : Fin 1024) :
    ((cfg0.win 15).blk t).view.emb (ix2 r d) = (ix2 (⟨t.val * 512 + r.val, by have := idx t; omega⟩ : Fin 16384) d : (⟨2, ![16384, 1024]⟩ : Shape).Idx) := by
  blk_ext [idx t]

/-- Where an entry of the second result's block lies in it. -/
theorem emb16 (t : Fin cfg0.N) (q : Fin 2) (l : Fin 5632) :
    ((cfg0.win 16).blk t).view.emb (ix3 0 q l) = (ix3 (⟨t.val / 16, by have := idx t; omega⟩ : Fin 2) q l : (⟨3, ![2, 2, 5632]⟩ : Shape).Idx) := by
  blk_ext [idx t]

end Cert.Kernel2Ideal.Ffn
end
-- ==== Proof.FfnFinal.lean ====
/- The feed-forward kernel's result arrays are the reference's. -/
module

public import proofs.«01_k».proof.Proof.FfnPoint
public import proofs.«01_k».proof.Proof.FfnBlocks

@[expose] public section

set_option maxRecDepth 16384

noncomputable section

namespace Cert.Kernel2Ideal.Ffn

open Cert.Kernel2Ideal Cert.Kernel2Ideal.Gen Cert.FfnMath
open Cert.Reference2Ideal.Ffn (WF WN WF_zero REFY REFC REFY_at REFC_at)
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev a0 : FVec Ideal S2x8192x1024 .f32 := m ((c : Thread nD τ).loc main_arg0)
@[inherit_doc a0] abbrev a1 : FVec Ideal S2x8192x512 .f32 := m ((c : Thread nD τ).loc main_arg1)
@[inherit_doc a0] abbrev a2 : FVec Ideal S2x8192x512 .f32 := m ((c : Thread nD τ).loc main_arg2)
@[inherit_doc a0] abbrev a3 : FVec Ideal S2x6144 .f32 := m ((c : Thread nD τ).loc main_arg3)
@[inherit_doc a0] abbrev a4 : FVec Ideal S1024x1024 .f32 := m ((c : Thread nD τ).loc main_arg4)
@[inherit_doc a0] abbrev a5 : FVec Ideal S1024 .f32 := m ((c : Thread nD τ).loc main_arg5)
@[inherit_doc a0] abbrev a6 : FVec Ideal S1024x5632 .f32 := m ((c : Thread nD τ).loc main_arg6)
@[inherit_doc a0] abbrev a7 : FVec Ideal S3x5632 .f32 := m ((c : Thread nD τ).loc main_arg7)
@[inherit_doc a0] abbrev a8 : FVec Ideal S5632 .f32 := m ((c : Thread nD τ).loc main_arg8)
@[inherit_doc a0] abbrev a9 : FVec Ideal S2816x1024 .f32 := m ((c : Thread nD τ).loc main_arg9)
@[inherit_doc a0] abbrev a10 : FVec Ideal S1024 .f32 := m ((c : Thread nD τ).loc main_arg10)

/-- A tile's number within its batch. -/
theorem lt_16 (t : Fin cfg0.N) : t.val % 16 < 16 := Nat.mod_lt _ (by decide)

/-- A tile's batch. -/
theorem lt_2 (t : Fin cfg0.N) : t.val / 16 < 2 := by
  obtain ⟨-, -, -, -, -, -, -, -, -, -, -, -, -, -, -, -, -, h⟩ := idx t
  exact h

/-- The blocks of every grid point are the arguments' entries there. -/
theorem tile (t : Fin cfg0.N) : Tile ⟨t.val / 16, lt_2 t⟩ (t.val % 16) (lt_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    (a0 m c) (a1 m c) (a2 m c) (a3 m c) (a4 m c) (a5 m c) (a6 m c) (a7 m c) (a8 m c) (a9 m c) (a10 m c) where
  b0 r d := blk0 m c t r d _ _ rfl rfl
  b1 r d := blk1 m c t r d _ _ rfl rfl
  b2 r d := blk2 m c t r d _ _ rfl rfl
  b3 d := blk3 m c t d _ rfl
  b4 d := blk4 m c t d _ rfl
  b5 d := blk5 m c t d _ rfl
  b6 d := blk6 m c t d _ rfl
  b7 j d := blk7 m c t j d
  b8 d := blk8 m c t d
  b9 j l := blk9 m c t j l
  b10 j l := blk10 m c t j l
  b11 l := blk11 m c t l
  b12 j d := blk12 m c t j d
  b13 d := blk13 m c t d

/-- The rows a grid point carries on. -/
theorem carryT_at (t : Fin cfg0.N) (n : Fin 2) (en : n.val = t.val / 16) (q : Fin 2) (l : Fin 5632) (t' : Fin 8194) (e : t'.val = t.val % 16 * 512 + 512 + q.val) :
    carryT (F := Ideal) m c t (ix2 q l) = WF (a0 m c) (a1 m c) (a2 m c) (a3 m c) (a4 m c) (a5 m c) (a6 m c) (ix3 n t' l) := by
  rw [show n = ⟨t.val / 16, lt_2 t⟩ from Fin.ext en]
  exact tile_carry _ _ _ _ _ _ _ _ _ _ _ _ _ _ _ _ _ _ _ _ _ _ _ _ _ _ _ _ (tile m c t) q l t' e

/-- The rows a grid point starts from. -/
theorem prevT_at (t : Fin cfg0.N) (q : Fin 2) (l : Fin 5632) (t' : Fin 8194) (e : t'.val = t.val % 16 * 512 + q.val) :
    prevT (F := Ideal) m c t (ix2 q l) = WF (a0 m c) (a1 m c) (a2 m c) (a3 m c) (a4 m c) (a5 m c) (a6 m c) (ix3 (⟨t.val / 16, lt_2 t⟩ : Fin 2) t' l) := by
  unfold prevT
  split
  · rename_i h
    rw [WF_zero _ _ _ _ _ _ _ _ _ _ (by omega)]
    exact (firstRows_at _ q l).trans (blk14 m c t q l)
  · rename_i h
    exact carryT_at m c _ _ (by simp only; omega) q l t' (by simp only; omega)

/-- An entry of the first result's tile. -/
theorem yT_at (t : Fin cfg0.N) (r : Fin 512) (d : Fin 1024) :
    yT (F := Ideal) m c t (ix2 r d) = WN (a0 m c) (a1 m c) (a2 m c) (a3 m c) (a4 m c) (a5 m c) (a6 m c) (a7 m c) (a8 m c) (a9 m c) (a10 m c) (ix3 (⟨t.val / 16, lt_2 t⟩ : Fin 2) (rowP (t.val % 16) (lt_16 t) r) d) :=
  tile_Y _ _ _ _ _ _ _ _ _ _ _ _ _ _ _ _ _ _ _ _ _ _ _ _ _ _ _ _ (tile m c t) (prevT m c t) (fun q l t' e => prevT_at m c t q l t' e) r d

/-- THE FIRST RESULT ARRAY after the run. -/
theorem finalY : (dats m 0 c).arrAt 15 (cfgs 0).N = REFY (a0 m c) (a1 m c) (a2 m c) (a3 m c) (a4 m c) (a5 m c) (a6 m c) (a7 m c) (a8 m c) (a9 m c) (a10 m c) := by
  refine (dats m 0 c).arrAt_eq_of_covers 15 _ (by decide +kernel) fun t _ y => ?_
  blk_simp
  rw [after0_15]
  obtain ⟨r, d, rfl⟩ : ∃ (r : Fin 512) (d : Fin 1024), y = ix2 r d := ⟨y 0, y 1, by blk_ext⟩
  rw [emb15]
  exact (yT_at m c t r d).trans (REFY_at _ _ _ _ _ _ _ _ _ _ _ _ _ _ d (by
    show t.val * 512 + r.val = t.val / 16 * 8192 + (t.val % 16 * 512 + r.val)
    omega)).symm

/-- THE SECOND RESULT ARRAY after the run. -/
theorem finalC : (dats m 0 c).arrAt 16 (cfgs 0).N = REFC (a0 m c) (a1 m c) (a2 m c) (a3 m c) (a4 m c) (a5 m c) (a6 m c) := by
  refine (dats m 0 c).arrAt_eq_of_covers 16 _ (by decide +kernel) fun t hf y => ?_
  have h15 : t.val % 16 = 15 := (flush0_16 t).mp hf
  blk_simp
  rw [after0_16]
  obtain ⟨q, l, rfl⟩ : ∃ (q : Fin 2) (l : Fin 5632), y = ix3 0 q l := ⟨y 1, y 2, by blk_ext⟩
  rw [emb16]
  exact (pay2_at _ q l).trans ((carryT_at m c t _ rfl q l _ (by simp only; omega)).trans (REFC_at _ _ _ _ _ _ _ _ q l).symm)

end Cert.Kernel2Ideal.Ffn
end
-- ==== Proof.FfnRefRun.lean ====
/- The feed-forward reference's run, its two results named. -/
module

public import proofs.«01_k».proof.Proof.FfnRef

@[expose] public section

set_option maxRecDepth 16384

noncomputable section

namespace Cert.Reference2Ideal.Ffn

open Cert.Reference2Ideal Cert.Reference2Ideal.Gen Cert.Reference2Ideal.Value
open Idealize.ShloMosaic Idealize.ShloMosaic.TcCoe Idealize.SL.Sem Idealize.ShloMosaic.StableHlo

/-- The rows before the last normalisation. -/
theorem rows_eq (m : (ℓ : Loc nD τ sig) → Buf (Elt Ideal) ℓ) (c : Dev nD) :
    res_main_v71 (launchContents m c) = WY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

/-- The padded rows of the up-projection. -/
theorem padded_eq (m : (ℓ : Loc nD τ sig) → Buf (Elt Ideal) ℓ) (c : Dev nD) :
    res_main_v38 (launchContents m c) = WF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

/-- The reference's run: its two results, its arguments as they were. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v85) = REFY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v86) = REFC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ⟨(h c).1.trans ?_, (h c).2.1.trans ?_, (h c).2.2⟩) (run (F := Ideal) m ρ)
  · rw [rows_eq]
    rfl
  · rw [padded_eq]
    rfl

end Cert.Reference2Ideal.Ffn

end
-- ==== Proof.InMath.lean ====
/- The input projection's row formulas over the extended reals. -/
module

public import proofs.«01_k».proof.Proof.FfnMath
public import Idealize.ShloMosaic.Lib.Pointwise

@[expose] public section

noncomputable section

namespace Cert.InMath

open Cert.FfnMath
open Idealize.ShloMosaic

/-- One entry of a projection: the normalised and modulated row against a column of weights. -/
def proj (X g sc sh w : Fin 1024 → EReal) : EReal := ∑ d, modn X g sc sh d * w d

/-- Minus the softplus of minus `u`. -/
def lsg (u : EReal) : EReal := -(max (-u) 0 + Ideal.log1p (Ideal.exp (-(FloatOps.absf (F := Ideal) (φ := .f32) (-u)))))

end Cert.InMath
end
-- ==== Proof.InPay.lean ====
/- The input projection kernel's payloads at an index. -/
module

public import proofs.«01_k».proof.Proof.Gen.Kernel3Ideal.Value
public import proofs.«01_k».proof.Proof.InMath

@[expose] public section

set_option maxRecDepth 16384

noncomputable section

namespace Cert.Kernel3Ideal.Inp

open Cert.Kernel3Ideal Cert.Kernel3Ideal.Gen Cert.FfnMath Cert.InMath
open Idealize.ShloMosaic Idealize.ShloMosaic.TcCoe

/-- The normalised and modulated rows at an index. -/
theorem pay7_at (v0 v2 : FVec Ideal S1x1x1024 .f32) (v4 : FVec Ideal S256x1024 .f32) (v6 : FVec Ideal S1x1024 .f32) (r : Fin 256) (d : Fin 1024) :
    k0_pay7 (F := Ideal) v0 v2 v4 v6 (ix2 r d) = modn (fun d => v4 (ix2 r d)) (fun d => v6 (ix2 0 d)) (fun d => v2 (ix3 0 0 d)) (fun d => v0 (ix3 0 0 d)) d := by
  pointwise [k0_pay7]
  rfl

/-- The recurrence's inputs at an index. -/
theorem pay8_at (v0 v2 : FVec Ideal S1x1x1024 .f32) (v4 : FVec Ideal S256x1024 .f32) (v6 : FVec Ideal S1x1024 .f32) (w : FVec Ideal S1024x1792 .bf16) (r : Fin 256) (l : Fin 1792) :
    k0_pay8 (F := Ideal) v0 v2 v4 v6 w (ix2 r l) = ∑ d, k0_pay7 (F := Ideal) v0 v2 v4 v6 (ix2 r d) * w (ix2 d l) := by
  pointwise [k0_pay8]

/-- The keys at an index. -/
theorem pay10_at (h : FVec Ideal S256x1024 .bf16) (w : FVec Ideal S1024x512 .bf16) (r : Fin 256) (l : Fin 512) :
    k0_pay10 (F := Ideal) h w (ix2 r l) = ∑ d, h (ix2 r d) * w (ix2 d l) := by
  pointwise [k0_pay10]

/-- The values at an index. -/
theorem pay11_at (h : FVec Ideal S256x1024 .bf16) (w : FVec Ideal S1024x512 .bf16) (r : Fin 256) (l : Fin 512) :
    k0_pay11 (F := Ideal) h w (ix2 r l) = ∑ d, h (ix2 r d) * w (ix2 d l) := by
  pointwise [k0_pay11]

/-- The keys' stored rows at an index. -/
theorem pay14_at (h : FVec Ideal S256x1024 .bf16) (w : FVec Ideal S1024x512 .bf16) (r : Fin 256) (l : Fin 512) :
    k0_pay14 (F := Ideal) h w (ix2 r l) = k0_pay10 (F := Ideal) h w (ix2 r l) := by
  pointwise [k0_pay14]

/-- The values' stored rows at an index. -/
theorem pay1_at (v : FVec Ideal S256x512 .f32) (r : Fin 256) (l : Fin 512) : k0_pay1 (F := Ideal) v (ix2 r l) = v (ix2 r l) := by
  pointwise [k0_pay1]

/-- The keys' transpose at an index. -/
theorem pay42_at (v : FVec Ideal S256x512 .f32) (r : Fin 256) (l : Fin 512) : k0_pay4 (F := Ideal) (k0_pay2 v) (ix3 0 l r) = v (ix2 r l) := by
  pointwise [k0_pay4, k0_pay2]

/-- The values' transpose at an index. -/
theorem pay53_at (v : FVec Ideal S256x512 .f32) (r : Fin 256) (l : Fin 512) : k0_pay5 (F := Ideal) (k0_pay3 v) (ix3 0 l r) = v (ix2 r l) := by
  pointwise [k0_pay5, k0_pay3]

/-- The forget gates' transpose at an index. -/
theorem pay6_at (v : FVec Ideal S256x128 .f32) (r : Fin 256) (l : Fin 8) : k0_pay6 (F := Ideal) v (ix3 0 l r) = v (ix2 r (⟨l.val, by omega⟩ : Fin 128)) := by
  pointwise [k0_pay6]

/-- The forget gates at an index. -/
theorem pay12_at (h : FVec Ideal S256x1024 .bf16) (w : FVec Ideal S1024x128 .bf16) (b : FVec Ideal S1x128 .f32) (r : Fin 256) (l : Fin 128) :
    k0_pay12 (F := Ideal) h w b (ix2 r l) = lsg (∑ d, h (ix2 r d) * w (ix2 d l) + b (ix2 0 l)) := by
  pointwise [k0_pay12]
  simp only [zero_sub]
  rw [if_neg (not_not.mpr rfl)]
  rfl

end Cert.Kernel3Ideal.Inp
end
-- ==== Proof.InOut.lean ====
/- What a grid point of the input projection leaves in each result's block. -/
module

public import proofs.«01_k».proof.Proof.InPay
public import Idealize.ShloMosaic.Lib.Pipeline.ValueKit

@[expose] public section

set_option maxRecDepth 16384

noncomputable section

namespace Cert.Kernel3Ideal.Inp

open Cert.Kernel3Ideal Cert.Kernel3Ideal.Gen
open Idealize.ShloMosaic Idealize.ShloMosaic.TcCoe Idealize.SL.Sem

variable {F : FTy → Type} [FloatOps F]

variable (c : Dev nD) (i : grid0.Coords) (arg1 : Memref sig .tc .vmem S256x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x3456 .bf16) (harg5 : arg5.IsWhole) (arg6 : Memref sig .tc .vmem S1x128 .f32) (harg6 : arg6.IsWhole) (arg7 : Memref sig .tc .vmem S256x1792 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S1x512x256 .f32) (harg11 : arg11.IsWhole) (arg12 : Memref sig .tc .vmem S1x512x256 .f32) (harg12 : arg12.IsWhole) (arg13 : Memref sig .tc .vmem S1x8x256 .f32) (harg13 : arg13.IsWhole) (arg14 : Memref sig .tc .vmem S256x512 .f32) (harg14 : arg14.IsWhole) (arg15 : Memref sig .tc .vmem S256x512 .f32) (harg15 : arg15.IsWhole) (x0 : Vec F S256x1024 .f32) (x1 : Vec F S1x1x1024 .f32) (x2 : Vec F S1x1x1024 .f32) (x3 : Vec F S1x1024 .f32) (x4 : Vec F S1024x3456 .bf16) (x5 : Vec F S1x128 .f32)

/-- Some columns of the weights' block. -/
def wz (x4 : Vec F S1024x3456 .bf16) : Vec F S1024x1792 .bf16 := View.ld x4 (Rect.unit (s := S1024x3456) ![0, 0] S1024x1792.size inb_S1024x3456_S1024x1792_0_0)
@[inherit_doc wz] def wk (x4 : Vec F S1024x3456 .bf16) : Vec F S1024x512 .bf16 := View.ld x4 (Rect.unit (s := S1024x3456) ![0, 2304] S1024x512.size inb_S1024x3456_S1024x512_0_2304)
@[inherit_doc wz] def wv (x4 : Vec F S1024x3456 .bf16) : Vec F S1024x512 .bf16 := View.ld x4 (Rect.unit (s := S1024x3456) ![0, 2816] S1024x512.size inb_S1024x3456_S1024x512_0_2816)
@[inherit_doc wz] def wf (x4 : Vec F S1024x3456 .bf16) : Vec F S1024x128 .bf16 := View.ld x4 (Rect.unit (s := S1024x3456) ![0, 3328] S1024x128.size inb_S1024x3456_S1024x128_0_3328)

/-- The recurrence's inputs' block. -/
theorem out6 : out0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = k0_pay8 x1 x2 x0 x3 (wz x4) := by
  unfold wz
  frame_out

/-- The keys' block. -/
theorem out8 : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = k0_pay14 (k0_pay7 x1 x2 x0 x3) (wk x4) := by
  unfold wk
  frame_out

/-- The values' block. -/
theorem out9 : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = k0_pay1 (k0_pay11 (k0_pay7 x1 x2 x0 x3) (wv x4)) := by
  unfold wv
  frame_out

/-- The transposed keys' block. -/
theorem out10 : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = k0_pay4 (k0_pay2 (k0_pay10 (k0_pay7 x1 x2 x0 x3) (wk x4))) := by
  unfold wk
  frame_out

/-- The transposed values' block. -/
theorem out11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = k0_pay5 (k0_pay3 (k0_pay11 (k0_pay7 x1 x2 x0 x3) (wv x4))) := by
  unfold wv
  frame_out

/-- The forget gates' block. -/
theorem out12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = k0_pay6 (k0_pay12 (k0_pay7 x1 x2 x0 x3) (wf x4) x5) := by
  unfold wf
  frame_out

end Cert.Kernel3Ideal.Inp
end
-- ==== Proof.InBlocks.lean ====
/- The input projection's blocks, read off the argument arrays. -/
module

public import proofs.«01_k».proof.Proof.InOut
public import Idealize.ShloMosaic.Lib.Pipeline.ValueKit

@[expose] public section

set_option maxRecDepth 16384

noncomputable section

namespace Cert.Kernel3Ideal.Inp

open Cert.Kernel3Ideal Cert.Kernel3Ideal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- Every window's block index at a grid point. -/
theorem idx : ∀ t : Fin cfg0.N, win0_0.index t = ![t.val, 0] ∧ win0_1.index t = ![t.val / 32, 0, 0] ∧ win0_2.index t = ![t.val / 32, 0, 1]
    ∧ win0_3.index t = ![0, 0] ∧ win0_4.index t = ![0, 0] ∧ win0_5.index t = ![0, 0]
    ∧ win0_6.index t = ![t.val, 0] ∧ win0_8.index t = ![t.val, 0] ∧ win0_9.index t = ![t.val, 0]
    ∧ win0_10.index t = ![t.val / 32, 0, t.val % 32] ∧ win0_11.index t = ![t.val / 32, 0, t.val % 32] ∧ win0_12.index t = ![t.val / 32, 0, t.val % 32] ∧ t.val / 32 < 2 :=
  (by decide +kernel : ∀ t : Fin grid0.N, _)

/-- The modulation with zero rows below. -/
theorem V_v1 (c : Dev nD) : V m c main_v1 = (show FVec Ideal S8x1x6144 .f32 from shapeCast S8x1x6144 (pad S8x6144 ![0, 0] ![6, 0] ![0, 0] (show FVec Ideal S2x6144 .f32 from m ((c : Thread nD τ).loc main_arg1)) (sitofp .f32 (constantI S_ 32 0#32) : FVec Ideal S_ .f32) pads_S2x6144_S8x6144_060_000 h_S_) shapeCasts_S8x6144_S8x1x6144) := by
  unfold V
  simp only [hostOps0, hostOps0_1, hostOps0_2, List.flatten_cons, List.flatten_nil, List.append_nil, List.cons_append, List.nil_append]
  entry_read
  rfl

/-- The weights' array from its three parts. -/
theorem cat6 (G : Valuation τ sig (Elt Ideal)) : after (hostOps0_6 (F := Ideal)) G (Proc.devRef .tc main_v8)
    = (show FVec Ideal S1024x3456 .bf16 from truncf .bf16 (concatenate S1024x3456 1 [⟨S1024x1792, (show FVec Ideal S1024x1792 .f32 from G (Proc.devRef .tc main_v3))⟩, ⟨S1024x1536, (show FVec Ideal S1024x1536 .f32 from G (Proc.devRef .tc main_v4))⟩, ⟨S1024x128, (show FVec Ideal S1024x128 .f32 from G (Proc.devRef .tc main_v6))⟩] concatenates_S1024x1792_S1024x1536_S1024x128_S1024x3456_d1) bitsLt_bf16_f32) := by
  simp only [hostOps0_6, after_cons, after_nil]
  rw [nullary_result_ne]; rotate_left; decide
  rw [unary_result_ne]; rotate_left; decide
  rw [unary_result, nary_result]
  rfl

/-- The arrays before the three parts are put together. -/
def pre (c : Dev nD) : Valuation τ sig (Elt Ideal) := after (hostOps0_5 (F := Ideal)) (after hostOps0_4 (after hostOps0_3 (after hostOps0_2 (after hostOps0_1 (after hostOps0 fun b => m (c, b))))))

/-- The first part. -/
theorem pre3 (c : Dev nD) : pre m c (Proc.devRef .tc main_v3) = (show FVec Ideal S1024x1792 .f32 from pad S1024x1792 ![0, 0] ![0, 96] ![0, 0] (extractStridedSlice S1024x1696 ![0, 0] (show FVec Ideal S1024x3240 .f32 from m ((c : Thread nD τ).loc main_arg3)) slices_S1024x3240_S1024x1696_0_0) (sitofp .f32 (constantI S_ 32 0#32) : FVec Ideal S_ .f32) pads_S1024x1696_S1024x1792_000_0960 h_S_) := by
  unfold pre
  simp only [hostOps0, hostOps0_1, hostOps0_2, hostOps0_3, hostOps0_4, hostOps0_5]
  entry_read
  rfl

/-- The second part. -/
theorem pre4 (c : Dev nD) : pre m c (Proc.devRef .tc main_v4) = (show FVec Ideal S1024x1536 .f32 from extractStridedSlice S1024x1536 ![0, 1696] (show FVec Ideal S1024x3240 .f32 from m ((c : Thread nD τ).loc main_arg3)) slices_S1024x3240_S1024x1536_0_1696) := by
  unfold pre
  simp only [hostOps0, hostOps0_1, hostOps0_2, hostOps0_3, hostOps0_4, hostOps0_5]
  entry_read
  rfl

/-- The third part. -/
theorem pre6 (c : Dev nD) : pre m c (Proc.devRef .tc main_v6) = (show FVec Ideal S1024x128 .f32 from pad S1024x128 ![0, 0] ![0, 120] ![0, 0] (extractStridedSlice S1024x8 ![0, 3232] (show FVec Ideal S1024x3240 .f32 from m ((c : Thread nD τ).loc main_arg3)) slices_S1024x3240_S1024x8_0_3232) (sitofp .f32 (constantI S_ 32 0#32) : FVec Ideal S_ .f32) pads_S1024x8_S1024x128_000_01200 h_S_) := by
  unfold pre
  simp only [hostOps0, hostOps0_1, hostOps0_2, hostOps0_3, hostOps0_4, hostOps0_5]
  entry_read
  rfl

/-- Nothing after the three parts are put together changes them. -/
theorem past8 (G : Valuation τ sig (Elt Ideal)) : after (hostOps0_8 (F := Ideal)) (after hostOps0_7 G) (Proc.devRef .tc main_v8) = G (Proc.devRef .tc main_v8) := by
  simp only [hostOps0_7, hostOps0_8]
  entry_read
  rfl

/-- The weights with zero columns after the recurrence's and after the forget gates'. -/
theorem V_v8 (c : Dev nD) : V m c main_v8 = (show FVec Ideal S1024x3456 .bf16 from truncf .bf16 (concatenate S1024x3456 1 [⟨S1024x1792, pad S1024x1792 ![0, 0] ![0, 96] ![0, 0] (extractStridedSlice S1024x1696 ![0, 0] (show FVec Ideal S1024x3240 .f32 from m ((c : Thread nD τ).loc main_arg3)) slices_S1024x3240_S1024x1696_0_0) (sitofp .f32 (constantI S_ 32 0#32) : FVec Ideal S_ .f32) pads_S1024x1696_S1024x1792_000_0960 h_S_⟩,
    ⟨S1024x1536, extractStridedSlice S1024x1536 ![0, 1696] (show FVec Ideal S1024x3240 .f32 from m ((c : Thread nD τ).loc main_arg3)) slices_S1024x3240_S1024x1536_0_1696⟩,
    ⟨S1024x128, pad S1024x128 ![0, 0] ![0, 120] ![0, 0] (extractStridedSlice S1024x8 ![0, 3232] (show FVec Ideal S1024x3240 .f32 from m ((c : Thread nD τ).loc main_arg3)) slices_S1024x3240_S1024x8_0_3232) (sitofp .f32 (constantI S_ 32 0#32) : FVec Ideal S_ .f32) pads_S1024x8_S1024x128_000_01200 h_S_⟩] concatenates_S1024x1792_S1024x1536_S1024x128_S1024x3456_d1) bitsLt_bf16_f32) := by
  unfold V
  simp only [List.flatten_cons, List.flatten_nil, List.append_nil, after_append]
  refine (past8 _).trans ((cat6 (pre m c)).trans ?_)
  rw [pre3, pre4, pre6]

/-- The forget gates' bias with zero columns after it. -/
theorem V_v10 (c : Dev nD) : V m c main_v10 = (show FVec Ideal S1x128 .f32 from pad S1x128 ![0, 0] ![0, 120] ![0, 0] (broadcastInDim S1x8 ![1] bcast_S8_S1x8_1 (show FVec Ideal S8 .f32 from m ((c : Thread nD τ).loc main_arg4))) (sitofp .f32 (constantI S_ 32 0#32) : FVec Ideal S_ .f32) pads_S1x8_S1x128_000_01200 h_S_) := by
  unfold V
  simp only [hostOps0, hostOps0_1, hostOps0_2, List.flatten_cons, List.flatten_nil, List.append_nil, List.cons_append, List.nil_append]
  entry_read
  rfl

/-- The rows in one list. -/
theorem V_v11 (c : Dev nD) : V m c main_v11 = (show FVec Ideal S16384x1024 .f32 from shapeCast S16384x1024 (show FVec Ideal S2x8192x1024 .f32 from m ((c : Thread nD τ).loc main_arg0)) shapeCasts_S2x8192x1024_S16384x1024) := by
  unfold V
  simp only [hostOps0, hostOps0_1, hostOps0_2, List.flatten_cons, List.flatten_nil, List.append_nil, List.cons_append, List.nil_append]
  entry_read
  rfl

/-- The normalisation's scales as a row. -/
theorem V_v12 (c : Dev nD) : V m c main_v12 = (show FVec Ideal S1x1024 .f32 from broadcastInDim S1x1024 ![1] bcast_S1024_S1x1024_1 (show FVec Ideal S1024 .f32 from m ((c : Thread nD τ).loc main_arg2))) := by
  unfold V
  simp only [hostOps0, hostOps0_1, hostOps0_2, List.flatten_cons, List.flatten_nil, List.append_nil, List.cons_append, List.nil_append]
  entry_read
  rfl

/-- The rows' block. -/
theorem blk0 (c : Dev nD) (t : Fin cfg0.N) (r : Fin 256) (d : Fin 1024) (b : Fin 2) (p : Fin 8192)
    (eb : b.val = t.val / 32) (ep : p.val = t.val % 32 * 256 + r.val) :
    (show FVec Ideal S256x1024 .f32 from iblk m c 0 t) (ix2 r d) = (show FVec Ideal S2x8192x1024 .f32 from m ((c : Thread nD τ).loc main_arg0)) (ix3 b p d) := by
  blk_simp [iblk]
  rw [V_v11]
  pointwise
  blk_ext [idx t]

/-- The shift's block. -/
theorem blk1 (c : Dev nD) (t : Fin cfg0.N) (d : Fin 1024) (b : Fin 2)
    (eb : b.val = t.val / 32) :
    (show FVec Ideal S1x1x1024 .f32 from iblk m c 1 t) (ix3 0 0 d) = (show FVec Ideal S2x6144 .f32 from m ((c : Thread nD τ).loc main_arg1)) (ix2 b (⟨d.val, by omega⟩ : Fin 6144)) := by
  blk_simp [iblk]
  rw [V_v1]
  pointwise
  have hb := b.isLt
  split
  · blk_ext [idx t]
  · rename_i h; refine absurd (lt_of_eq_of_lt (b := b.val) ?_ hb) h; blk_simp [idx t]; exact eb.symm

/-- The scale's block. -/
theorem blk2 (c : Dev nD) (t : Fin cfg0.N) (d : Fin 1024) (b : Fin 2)
    (eb : b.val = t.val / 32) :
    (show FVec Ideal S1x1x1024 .f32 from iblk m c 2 t) (ix3 0 0 d) = (show FVec Ideal S2x6144 .f32 from m ((c : Thread nD τ).loc main_arg1)) (ix2 b (⟨1024 + d.val, by omega⟩ : Fin 6144)) := by
  blk_simp [iblk]
  rw [V_v1]
  pointwise
  have hb := b.isLt
  split
  · blk_ext [idx t]
  · rename_i h; refine absurd (lt_of_eq_of_lt (b := b.val) ?_ hb) h; blk_simp [idx t]; exact eb.symm

/-- The normalisation's scales. -/
theorem blk3 (c : Dev nD) (t : Fin cfg0.N) (d : Fin 1024) :
    (show FVec Ideal S1x1024 .f32 from iblk m c 3 t) (ix2 0 d) = (show FVec Ideal S1024 .f32 from m ((c : Thread nD τ).loc main_arg2)) (ix1 d) := by
  blk_simp [iblk]
  rw [V_v12]
  pointwise
  blk_ext [idx t]

/-- The whole weights' block is the weights' array. -/
theorem blk4 (c : Dev nD) (t : Fin cfg0.N) (d : Fin 1024) (l : Fin 3456) :
    (show FVec Ideal S1024x3456 .bf16 from iblk m c 4 t) (ix2 d l) = (show FVec Ideal S1024x3456 .bf16 from V m c main_v8) (ix2 d l) := by
  blk_simp [iblk]
  blk_ext [idx t]

/-- The forget gates' bias. -/
theorem blk5 (c : Dev nD) (t : Fin cfg0.N) (l : Fin 8) (l' : Fin 128) (el : l'.val = l.val) :
    (show FVec Ideal S1x128 .f32 from iblk m c 5 t) (ix2 0 l') = (show FVec Ideal S8 .f32 from m ((c : Thread nD τ).loc main_arg4)) (ix1 l) := by
  have hl := l.isLt
  have e : (show FVec Ideal S1x128 .f32 from iblk m c 5 t) (ix2 0 l') = (show FVec Ideal S1x128 .f32 from V m c main_v10) (ix2 0 l') := by
    blk_simp [iblk]
    blk_ext [idx t]
  rw [e, V_v10]
  pointwise
  split
  · exact congrArg (show FVec Ideal S8 .f32 from m ((c : Thread nD τ).loc main_arg4)) (congrArg ix1 (Fin.ext el))
  · rename_i h; exact absurd (by omega) h

/-- The weights' array at an index. -/
theorem W_at (c : Dev nD) (d : Fin 1024) (l : Fin 3456) (l' : Fin 3240) (h : (l.val < 1696 ∧ l'.val = l.val) ∨ (1792 ≤ l.val ∧ l'.val + 96 = l.val)) :
    (show FVec Ideal S1024x3456 .bf16 from V m c main_v8) (ix2 d l) = (show FVec Ideal S1024x3240 .f32 from m ((c : Thread nD τ).loc main_arg3)) (ix2 d l') := by
  rw [V_v8]
  pointwise
  have key : ∀ z : Fin 3240, z.val = l'.val → m (((c : Thread nD τ)).loc main_arg3) (ix2 d z) = m (((c : Thread nD τ)).loc main_arg3) (ix2 d l') :=
    fun z hz => by rw [show z = l' from Fin.ext hz]
  have := l.isLt
  have := l'.isLt
  split
  · split
    · exact key _ (by simp only; omega)
    · exfalso; omega
  · split
    · exact key _ (by simp only; omega)
    · split
      · exact key _ (by simp only; omega)
      · exfalso; omega

/-- The padding's value. -/
theorem sit0 : (FloatOps.sitofp .f32 (0#32) : Ideal .f32) = 0 := by
  show ((((0#32 : BitVec 32).toInt : ℤ) : ℝ) : EReal) = 0
  simp

/-- The weights' array in the columns after the recurrence's. -/
theorem W_zero (c : Dev nD) (d : Fin 1024) (l : Fin 3456) (h1 : 1696 ≤ l.val) (h2 : l.val < 1792) :
    (show FVec Ideal S1024x3456 .bf16 from V m c main_v8) (ix2 d l) = (0 : EReal) := by
  rw [V_v8]
  pointwise
  split
  · split
    · exfalso; omega
    · exact sit0
  · exfalso; omega

/-- The recurrence's columns at an index. -/
theorem wz_at (x : FVec Ideal S1024x3456 .bf16) (d : Fin 1024) (l : Fin 1792) : wz (F := Ideal) x (ix2 d l) = x (ix2 d (⟨l.val, by omega⟩ : Fin 3456)) := by
  unfold wz
  refine congrArg x (funext fun q => Fin.ext ?_)
  match q with
  | ⟨0, _⟩ => exact (Rect.idx_unit_val _ _ _ _ _).trans (Nat.zero_add _)
  | ⟨1, _⟩ => exact (Rect.idx_unit_val _ _ _ _ _).trans (Nat.zero_add _)

/-- The keys' columns at an index. -/
theorem wk_at (x : FVec Ideal S1024x3456 .bf16) (d : Fin 1024) (l : Fin 512) : wk (F := Ideal) x (ix2 d l) = x (ix2 d (⟨2304 + l.val, by omega⟩ : Fin 3456)) := by
  unfold wk
  refine congrArg x (funext fun q => Fin.ext ?_)
  match q with
  | ⟨0, _⟩ => exact (Rect.idx_unit_val _ _ _ _ _).trans (Nat.zero_add _)
  | ⟨1, _⟩ => exact (Rect.idx_unit_val _ _ _ _ _)

/-- The values' columns at an index. -/
theorem wv_at (x : FVec Ideal S1024x3456 .bf16) (d : Fin 1024) (l : Fin 512) : wv (F := Ideal) x (ix2 d l) = x (ix2 d (⟨2816 + l.val, by omega⟩ : Fin 3456)) := by
  unfold wv
  refine congrArg x (funext fun q => Fin.ext ?_)
  match q with
  | ⟨0, _⟩ => exact (Rect.idx_unit_val _ _ _ _ _).trans (Nat.zero_add _)
  | ⟨1, _⟩ => exact (Rect.idx_unit_val _ _ _ _ _)

/-- The forget gates' columns at an index. -/
theorem wf_at (x : FVec Ideal S1024x3456 .bf16) (d : Fin 1024) (l : Fin 128) : wf (F := Ideal) x (ix2 d l) = x (ix2 d (⟨3328 + l.val, by omega⟩ : Fin 3456)) := by
  unfold wf
  refine congrArg x (funext fun q => Fin.ext ?_)
  match q with
  | ⟨0, _⟩ => exact (Rect.idx_unit_val _ _ _ _ _).trans (Nat.zero_add _)
  | ⟨1, _⟩ => exact (Rect.idx_unit_val _ _ _ _ _)

/-- Where an entry of each result's block lies in it. -/
theorem emb6 (t : Fin cfg0.N) (r : Fin 256) (l : Fin 1792) :
    ((cfg0.win 6).blk t).view.emb (ix2 r l) = (ix2 (⟨t.val * 256 + r.val, by have := idx t; omega⟩ : Fin 16384) l : (⟨2, ![16384, 1792]⟩ : Shape).Idx) := by
  blk_ext [idx t]

@[inherit_doc emb6] theorem emb8 (t : Fin cfg0.N) (r : Fin 256) (l : Fin 512) :
    ((cfg0.win 8).blk t).view.emb (ix2 r l) = (ix2 (⟨t.val * 256 + r.val, by have := idx t; omega⟩ : Fin 16384) l : (⟨2, ![16384, 512]⟩ : Shape).Idx) := by
  blk_ext [idx t]

@[inherit_doc emb6] theorem emb9 (t : Fin cfg0.N) (r : Fin 256) (l : Fin 512) :
    ((cfg0.win 9).blk t).view.emb (ix2 r l) = (ix2 (⟨t.val * 256 + r.val, by have := idx t; omega⟩ : Fin 16384) l : (⟨2, ![16384, 512]⟩ : Shape).Idx) := by
  blk_ext [idx t]

@[inherit_doc emb6] theorem emb10 (t : Fin cfg0.N) (l : Fin 512) (r : Fin 256) :
    ((cfg0.win 10).blk t).view.emb (ix3 0 l r) = (ix3 (⟨t.val / 32, by have := idx t; omega⟩ : Fin 2) l (⟨t.val % 32 * 256 + r.val, by omega⟩ : Fin 8192) : (⟨3, ![2, 512, 8192]⟩ : Shape).Idx) := by
  blk_ext [idx t]

@[inherit_doc emb6] theorem emb11 (t : Fin cfg0.N) (l : Fin 512) (r : Fin 256) :
    ((cfg0.win 11).blk t).view.emb (ix3 0 l r) = (ix3 (⟨t.val / 32, by have := idx t; omega⟩ : Fin 2) l (⟨t.val % 32 * 256 + r.val, by omega⟩ : Fin 8192) : (⟨3, ![2, 512, 8192]⟩ : Shape).Idx) := by
  blk_ext [idx t]

@[inherit_doc emb6] theorem emb12 (t : Fin cfg0.N) (l : Fin 8) (r : Fin 256) :
    ((cfg0.win 12).blk t).view.emb (ix3 0 l r) = (ix3 (⟨t.val / 32, by have := idx t; omega⟩ : Fin 2) l (⟨t.val % 32 * 256 + r.val, by omega⟩ : Fin 8192) : (⟨3, ![2, 8, 8192]⟩ : Shape).Idx) := by
  blk_ext [idx t]

end Cert.Kernel3Ideal.Inp
end
-- ==== Proof.InRef.lean ====
/- The input projection's reference at an index. -/
module

public import proofs.«01_k».proof.Proof.Gen.Reference3Ideal.Run
public import proofs.«01_k».proof.Proof.InMath
public import proofs.«01_k».proof.Proof.Gen.Reference3Ideal

@[expose] public section

set_option maxRecDepth 16384

noncomputable section

namespace Cert.Reference3Ideal.Inp

open Cert.Reference3Ideal Cert.Reference3Ideal.Gen Cert.FfnMath Cert.InMath
open Idealize.ShloMosaic Idealize.ShloMosaic.TcCoe

/-- Each row's sum of squares. -/
def SQ (X : FVec Ideal S2x8192x1024 .f32) : FVec Ideal S2x8192 .f32 := Host.reduceAdd (mulf X X) (constant S_ .f32 0x00000000#32) reducesTo_S2x8192x1024_S2x8192_d2 h_S_

/-- The rows normalised and scaled, the sums of squares a variable. -/
def RN (X : FVec Ideal S2x8192x1024 .f32) (sq : FVec Ideal S2x8192 .f32) (g : FVec Ideal S1024 .f32) : FVec Ideal S2x8192x1024 .f32 :=
  mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 sq) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- The projection of the modulated rows. -/
def RZ (N : FVec Ideal S2x8192x1024 .f32) (md : FVec Ideal S2x6144 .f32) (w : FVec Ideal S1024x3240 .f32) : FVec Ideal S2x8192x3240 .f32 :=
  Host.dotGeneral dot_S2x8192x1024_S1024x3240_S2x8192x3240_2_0_01_1_n_n none (addf (mulf N (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 1024] md slices_S2x6144_S2x1024_0_1024))))) (broadcastInDim S2x8192x1024 ![0, 1, 2] bcast_S2x1x1024_S2x8192x1024_0_1_2 (broadcastInDim S2x1x1024 ![0, 2] bcast_S2x1024_S2x1x1024_0_2 (extractStridedSlice S2x1024 ![0, 0] md slices_S2x6144_S2x1024_0_0)))) w

/-- The recurrence's inputs, padded on the right with zero columns, as rows. -/
def OZ (Z : FVec Ideal S2x8192x3240 .f32) : FVec Ideal S16384x1792 .f32 :=
  shapeCast S16384x1792 (pad S2x8192x1792 ![0, 0, 0] ![0, 0, 96] ![0, 0, 0] (extractStridedSlice S2x8192x1696 ![0, 0, 0] Z slices_S2x8192x3240_S2x8192x1696_0_0_0) (sitofp .f32 (constantI S_ 32 0#32) : FVec Ideal S_ .f32) pads_S2x8192x1696_S2x8192x1792_000_000_0960 h_S_) shapeCasts_S2x8192x1792_S16384x1792

/-- The keys. -/
def KX (Z : FVec Ideal S2x8192x3240 .f32) : FVec Ideal S2x8192x512 .f32 :=
  extractStridedSlice S2x8192x512 ![0, 0, 512] (extractStridedSlice S2x8192x1544 ![0, 0, 1696] Z slices_S2x8192x3240_S2x8192x1544_0_0_1696) slices_S2x8192x1544_S2x8192x512_0_0_512

/-- The values. -/
def VX (Z : FVec Ideal S2x8192x3240 .f32) : FVec Ideal S2x8192x512 .f32 :=
  extractStridedSlice S2x8192x512 ![0, 0, 1024] (extractStridedSlice S2x8192x1544 ![0, 0, 1696] Z slices_S2x8192x3240_S2x8192x1544_0_0_1696) slices_S2x8192x1544_S2x8192x512_0_0_1024

/-- An array's rows in one list. -/
def OB (X : FVec Ideal S2x8192x512 .f32) : FVec Ideal S16384x512 .bf16 := truncf .bf16 (shapeCast S16384x512 X shapeCasts_S2x8192x512_S16384x512) bitsLt_bf16_f32

/-- An array with positions last. -/
def OT (X : FVec Ideal S2x8192x512 .f32) : FVec Ideal S2x512x8192 .f32 := transpose S2x512x8192 [0, 2, 1] X transposes_S2x8192x512_S2x512x8192_0_2_1

/-- The forget gates' arguments, negated. -/
def FX (Z : FVec Ideal S2x8192x3240 .f32) (b : FVec Ideal S8 .f32) : FVec Ideal S2x8192x8 .f32 :=
  Host.negf (addf (extractStridedSlice S2x8192x8 ![0, 0, 1536] (extractStridedSlice S2x8192x1544 ![0, 0, 1696] Z slices_S2x8192x3240_S2x8192x1544_0_0_1696) slices_S2x8192x1544_S2x8192x8_0_0_1536) (broadcastInDim S2x8192x8 ![0, 1, 2] bcast_S1x1x8_S2x8192x8_0_1_2 (broadcastInDim S1x1x8 ![2] bcast_S8_S1x1x8_2 b)))

/-- A zero everywhere. -/
def Z0 : FVec Ideal S2x8192x8 .f32 := broadcastInDim S2x8192x8 ![] bcast_S_S2x8192x8 (constant S_ .f32 0x00000000#32)

/-- The forget gates' logarithms, positions last. -/
def OF (X : FVec Ideal S2x8192x8 .f32) : FVec Ideal S2x8x8192 .f32 :=
  transpose S2x8x8192 [0, 2, 1] (Host.negf (select (cmpf .une (subf X Z0) (subf X Z0)) (addf X Z0) (addf (maximumf X Z0) (Host.log1p (Host.exp (Host.negf (Host.absf (subf X Z0)))))))) transposes_S2x8192x8_S2x8x8192_0_2_1

/-- A sum along the last of three axes, at an index. -/
theorem red_at {n0 n1 n2 : ℕ} {u : Shape} (h : (⟨3, ![n0, n1, n2]⟩ : Shape).ReducesTo [2] ⟨2, ![n0, n1]⟩) (hu : 0 < u.numel)
    (X : FVec Ideal ⟨3, ![n0, n1, n2]⟩ .f32) (init : FVec Ideal u .f32) (a : Fin n0) (b : Fin n1) :
    Host.reduceAdd X init h hu (ix2 a b) = init (Shape.Idx.first hu) + ∑ s, X (ix3 a b s) := by
  pointwise

/-- A row's sum of squares. -/
theorem SQ_at (X : FVec Ideal S2x8192x1024 .f32) (b : Fin 2) (t : Fin 8192) : SQ X (ix2 b t) = ∑ s, X (ix3 b t s) * X (ix3 b t s) := by
  refine (red_at reducesTo_S2x8192x1024_S2x8192_d2 h_S_ (mulf X X) (constant S_ .f32 0x00000000#32) b t).trans ?_
  pointwise

/-- The normalised rows at an index. -/
theorem RN_at (X : FVec Ideal S2x8192x1024 .f32) (g : FVec Ideal S1024 .f32) (n : Fin 2) (t : Fin 8192) (d : Fin 1024) :
    RN X (SQ X) g (ix3 n t d) = rms (fun d => X (ix3 n t d)) (fun d => g (ix1 d)) d := by
  pointwise [RN]
  rw [SQ_at]
  rfl

/-- The projection at an index, of any rows. -/
theorem RZ_at (N : FVec Ideal S2x8192x1024 .f32) (md : FVec Ideal S2x6144 .f32) (w : FVec Ideal S1024x3240 .f32) (n : Fin 2) (t : Fin 8192) (l : Fin 3240) :
    RZ N md w (ix3 n t l) = ∑ d, (N (ix3 n t d) * (1 + md (ix2 n (⟨1024 + d.val, by omega⟩ : Fin 6144))) + md (ix2 n (⟨d.val, by omega⟩ : Fin 6144))) * w (ix2 d l) := by
  pointwise [RZ]

section Whole

variable (x : FVec Ideal S2x8192x1024 .f32) (md : FVec Ideal S2x6144 .f32) (g : FVec Ideal S1024 .f32) (w : FVec Ideal S1024x3240 .f32) (b : FVec Ideal S8 .f32)

/-- The projection of the arguments. -/
def WZ : FVec Ideal S2x8192x3240 .f32 := RZ (RN x (SQ x) g) md w

/-- The projection of the arguments at an index. -/
theorem WZ_at (n : Fin 2) (t : Fin 8192) (l : Fin 3240) :
    WZ x md g w (ix3 n t l) = proj (fun d => x (ix3 n t d)) (fun d => g (ix1 d)) (fun d => md (ix2 n (⟨1024 + d.val, by omega⟩ : Fin 6144))) (fun d => md (ix2 n (⟨d.val, by omega⟩ : Fin 6144))) (fun d => w (ix2 d l)) := by
  unfold WZ
  rw [RZ_at]
  simp only [RN_at, modn, proj]

end Whole

/-- The padding's value. -/
theorem sit0 : (FloatOps.sitofp .f32 (0#32) : Ideal .f32) = 0 := by
  show ((((0#32 : BitVec 32).toInt : ℤ) : ℝ) : EReal) = 0
  simp

/-- A row of the padded inputs: a column of the projection. -/
theorem OZ_in (Z : FVec Ideal S2x8192x3240 .f32) (n : Fin 2) (t : Fin 8192) (R : Fin 16384) (l : Fin 1792) (e : R.val = n.val * 8192 + t.val) (l' : Fin 3240) (hl : l.val < 1696) (el : l'.val = l.val) :
    OZ Z (ix2 R l) = Z (ix3 n t l') := by
  unfold OZ
  pointwise
  split
  · exact congrArg Z (congr (congr (congrArg ix3 (Fin.ext (by simp only; omega))) (Fin.ext (by simp only; omega))) (Fin.ext (by simp only; omega)))
  · rename_i h
    exact absurd ⟨by omega, by omega, hl⟩ h

/-- A row of the padded inputs: zero in the last columns. -/
theorem OZ_out (Z : FVec Ideal S2x8192x3240 .f32) (R : Fin 16384) (l : Fin 1792) (hl : ¬ l.val < 1696) :
    OZ Z (ix2 R l) = 0 := by
  unfold OZ
  pointwise
  split
  · rename_i h
    exact absurd h.2.2 hl
  · exact sit0

/-- The keys at an index. -/
theorem KX_at (Z : FVec Ideal S2x8192x3240 .f32) (n : Fin 2) (t : Fin 8192) (l : Fin 512) :
    KX Z (ix3 n t l) = Z (ix3 n t (⟨2208 + l.val, by omega⟩ : Fin 3240)) := by
  pointwise [KX]
  congr 2; exact Fin.ext (by first | omega | (simp only; omega))

/-- The values at an index. -/
theorem VX_at (Z : FVec Ideal S2x8192x3240 .f32) (n : Fin 2) (t : Fin 8192) (l : Fin 512) :
    VX Z (ix3 n t l) = Z (ix3 n t (⟨2720 + l.val, by omega⟩ : Fin 3240)) := by
  pointwise [VX]
  congr 2; exact Fin.ext (by first | omega | (simp only; omega))

/-- The rows in one list at an index. -/
theorem OB_at (X : FVec Ideal S2x8192x512 .f32) (n : Fin 2) (t : Fin 8192) (R : Fin 16384) (l : Fin 512) (e : R.val = n.val * 8192 + t.val) :
    OB X (ix2 R l) = X (ix3 n t l) := by
  unfold OB
  pointwise
  congr 2 <;> exact Fin.ext (by first | omega | (simp only; omega))

/-- The transposed array at an index. -/
theorem OT_at (X : FVec Ideal S2x8192x512 .f32) (n : Fin 2) (t : Fin 8192) (l : Fin 512) : OT X (ix3 n l t) = X (ix3 n t l) := by
  pointwise [OT]

/-- The negated arguments of the forget gates at an index. -/
theorem FX_at (Z : FVec Ideal S2x8192x3240 .f32) (b : FVec Ideal S8 .f32) (n : Fin 2) (t : Fin 8192) (l : Fin 8) :
    FX Z b (ix3 n t l) = -(Z (ix3 n t (⟨3232 + l.val, by omega⟩ : Fin 3240)) + b (ix1 l)) := by
  pointwise [FX]
  refine congrArg Neg.neg (congrArg (· + b (ix1 l)) (congrArg (fun z => Z (ix3 n t z)) (Fin.ext ?_)))
  show 1696 + (1536 + l.val) = 3232 + l.val
  omega

/-- The forget gates at an index. -/
theorem OF_at (X : FVec Ideal S2x8192x8 .f32) (n : Fin 2) (t : Fin 8192) (l : Fin 8) (u : EReal) (hu : X (ix3 n t l) = -u) : OF X (ix3 n l t) = lsg u := by
  pointwise [OF, Z0]
  rw [hu, if_neg (not_not.mpr rfl)]
  rfl

end Cert.Reference3Ideal.Inp
end
-- ==== Proof.InFinal.lean ====
/- The input projection kernel's result arrays are the reference's. -/
module

public import proofs.«01_k».proof.Proof.InBlocks
public import proofs.«01_k».proof.Proof.InRef

@[expose] public section

set_option maxRecDepth 16384

noncomputable section

namespace Cert.Kernel3Ideal.Inp

open Cert.Kernel3Ideal Cert.Kernel3Ideal.Gen Cert.FfnMath Cert.InMath
open Cert.Reference3Ideal.Inp (WZ WZ_at OZ OZ_in OZ_out KX KX_at VX VX_at OB OB_at OT OT_at FX FX_at OF OF_at)
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev a0 : FVec Ideal S2x8192x1024 .f32 := m ((c : Thread nD τ).loc main_arg0)
@[inherit_doc a0] abbrev a1 : FVec Ideal S2x6144 .f32 := m ((c : Thread nD τ).loc main_arg1)
@[inherit_doc a0] abbrev a2 : FVec Ideal S1024 .f32 := m ((c : Thread nD τ).loc main_arg2)
@[inherit_doc a0] abbrev a3 : FVec Ideal S1024x3240 .f32 := m ((c : Thread nD τ).loc main_arg3)
@[inherit_doc a0] abbrev a4 : FVec Ideal S8 .f32 := m ((c : Thread nD τ).loc main_arg4)

/-- The projection of the arguments. -/
abbrev aZ : FVec Ideal Cert.Reference3Ideal.S2x8192x3240 .f32 := WZ (a0 m c) (a1 m c) (a2 m c) (a3 m c)

/-- A tile's normalised and modulated rows. -/
def HH (t : Fin cfg0.N) : FVec Ideal S256x1024 .bf16 := k0_pay7 (F := Ideal) (iblk m c 1 t) (iblk m c 2 t) (iblk m c 0 t) (iblk m c 3 t)

/-- A tile's batch. -/
theorem lt_2 (t : Fin cfg0.N) : t.val / 32 < 2 := by have := idx t; omega

/-- A tile's batch, as an index. -/
abbrev nb (t : Fin cfg0.N) : Fin 2 := ⟨t.val / 32, lt_2 t⟩

/-- A tile's row's position. -/
abbrev ps (t : Fin cfg0.N) (r : Fin 256) : Fin 8192 := ⟨t.val % 32 * 256 + r.val, by omega⟩

/-- A tile's rows at an index. -/
theorem HH_at (t : Fin cfg0.N) (r : Fin 256) (d : Fin 1024) :
    HH m c t (ix2 r d) = modn (fun d => a0 m c (ix3 (nb t) (ps t r) d)) (fun d => a2 m c (ix1 d)) (fun d => a1 m c (ix2 (nb t) (⟨1024 + d.val, by omega⟩ : Fin 6144))) (fun d => a1 m c (ix2 (nb t) (⟨d.val, by omega⟩ : Fin 6144))) d :=
  (pay7_at _ _ _ _ r d).trans (congrFun (congr (congr (congr (congrArg modn
    (funext fun d => blk0 m c t r d (nb t) (ps t r) rfl rfl)) (funext fun d => blk3 m c t d)) (funext fun d => blk2 m c t d (nb t) rfl)) (funext fun d => blk1 m c t d (nb t) rfl)) d)

/-- A tile's row against a column of the weights' array: the projection's entry. -/
theorem sum_at (t : Fin cfg0.N) (r : Fin 256) (w : Fin 1024 → EReal) (l' : Fin 3240) (hw : ∀ d, w d = a3 m c (ix2 d l')) :
    ∑ d, HH m c t (ix2 r d) * w d = aZ m c (ix3 (nb t) (ps t r) l') := by
  refine Eq.trans ?_ (WZ_at _ _ _ _ _ _ _).symm
  unfold proj
  exact Finset.sum_congr rfl fun d _ => by rw [HH_at, hw]

/-- The recurrence's inputs' tile at an index. -/
theorem z_at (t : Fin cfg0.N) (r : Fin 256) (l : Fin 1792) (R : Fin 16384) (e : R.val = t.val * 256 + r.val) :
    k0_pay8 (F := Ideal) (iblk m c 1 t) (iblk m c 2 t) (iblk m c 0 t) (iblk m c 3 t) (wz (iblk m c 4 t)) (ix2 r l) = OZ (aZ m c) (ix2 R l) := by
  refine (pay8_at _ _ _ _ _ r l).trans ?_
  by_cases hl : l.val < 1696
  · refine (sum_at m c t r _ (⟨l.val, by omega⟩ : Fin 3240) fun d => (wz_at _ d l).trans ((blk4 m c t d _).trans (W_at m c d _ _ (Or.inl ⟨hl, rfl⟩)))).trans ?_
    exact (OZ_in _ (nb t) (ps t r) R l (by simp only; omega) _ hl rfl).symm
  · rw [OZ_out _ R l hl]
    refine Finset.sum_eq_zero fun d _ => ?_
    have h0 : wz (F := Ideal) (iblk m c 4 t) (ix2 d l) = (0 : EReal) :=
      (wz_at _ d l).trans ((blk4 m c t d _).trans (W_zero m c d _ (by simp only; omega) l.isLt))
    rw [h0]
    exact mul_zero _

/-- The keys' tile at an index. -/
theorem k_at (t : Fin cfg0.N) (r : Fin 256) (l : Fin 512) : k0_pay10 (F := Ideal) (HH m c t) (wk (iblk m c 4 t)) (ix2 r l) = KX (aZ m c) (ix3 (nb t) (ps t r) l) := by
  rw [KX_at]
  refine (pay10_at _ _ r l).trans (sum_at m c t r _ _ fun d => (wk_at _ d l).trans ((blk4 m c t d _).trans (W_at m c d _ _ (Or.inr ⟨?_, ?_⟩)))) <;> simp only <;> omega

/-- The values' tile at an index. -/
theorem v_at (t : Fin cfg0.N) (r : Fin 256) (l : Fin 512) : k0_pay11 (F := Ideal) (HH m c t) (wv (iblk m c 4 t)) (ix2 r l) = VX (aZ m c) (ix3 (nb t) (ps t r) l) := by
  rw [VX_at]
  refine (pay11_at _ _ r l).trans (sum_at m c t r _ _ fun d => (wv_at _ d l).trans ((blk4 m c t d _).trans (W_at m c d _ _ (Or.inr ⟨?_, ?_⟩)))) <;> simp only <;> omega

/-- The forget gates' tile at an index. -/
theorem f_at (t : Fin cfg0.N) (r : Fin 256) (l : Fin 8) : k0_pay12 (F := Ideal) (HH m c t) (wf (iblk m c 4 t)) (iblk m c 5 t) (ix2 r (⟨l.val, by omega⟩ : Fin 128)) = OF (FX (aZ m c) (a4 m c)) (ix3 (nb t) l (ps t r)) := by
  rw [OF_at _ _ _ _ _ (FX_at _ _ _ _ _)]
  refine (pay12_at _ _ _ r _).trans (congrArg lsg (congr (congrArg HAdd.hAdd ?_) (blk5 m c t l _ rfl)))
  refine sum_at m c t r _ _ fun d => (wf_at _ d _).trans ((blk4 m c t d _).trans (W_at m c d _ _ (Or.inr ⟨?_, ?_⟩))) <;> simp only <;> omega

/-- THE RECURRENCE'S INPUTS after the run. -/
theorem final6 : (dats m 0 c).arrAt 6 (cfgs 0).N = OZ (aZ m c) := by
  refine (dats m 0 c).arrAt_eq_of_covers 6 _ (by decide +kernel) fun t _ y => ?_
  blk_simp
  rw [after0_6]
  obtain ⟨r, l, rfl⟩ : ∃ (r : Fin 256) (l : Fin 1792), y = ix2 r l := ⟨y 0, y 1, by blk_ext⟩
  rw [emb6]
  unfold outsAt0
  rw [out6]
  exact z_at m c t r l _ rfl

/-- THE KEYS after the run. -/
theorem final8 : (dats m 0 c).arrAt 8 (cfgs 0).N = OB (KX (aZ m c)) := by
  refine (dats m 0 c).arrAt_eq_of_covers 8 _ (by decide +kernel) fun t _ y => ?_
  blk_simp
  rw [after0_8]
  obtain ⟨r, l, rfl⟩ : ∃ (r : Fin 256) (l : Fin 512), y = ix2 r l := ⟨y 0, y 1, by blk_ext⟩
  rw [emb8]
  unfold outsAt0
  rw [out8]
  exact (pay14_at _ _ r l).trans ((k_at m c t r l).trans (OB_at _ (nb t) (ps t r) _ l (by simp only; omega)).symm)

/-- THE VALUES after the run. -/
theorem final9 : (dats m 0 c).arrAt 9 (cfgs 0).N = OB (VX (aZ m c)) := by
  refine (dats m 0 c).arrAt_eq_of_covers 9 _ (by decide +kernel) fun t _ y => ?_
  blk_simp
  rw [after0_9]
  obtain ⟨r, l, rfl⟩ : ∃ (r : Fin 256) (l : Fin 512), y = ix2 r l := ⟨y 0, y 1, by blk_ext⟩
  rw [emb9]
  unfold outsAt0
  rw [out9]
  exact (pay1_at _ r l).trans ((v_at m c t r l).trans (OB_at _ (nb t) (ps t r) _ l (by simp only; omega)).symm)

/-- THE TRANSPOSED KEYS after the run. -/
theorem final10 : (dats m 0 c).arrAt 10 (cfgs 0).N = OT (KX (aZ m c)) := by
  refine (dats m 0 c).arrAt_eq_of_covers 10 _ (by decide +kernel) fun t _ y => ?_
  blk_simp
  rw [after0_10]
  obtain ⟨l, r, rfl⟩ : ∃ (l : Fin 512) (r : Fin 256), y = ix3 0 l r := ⟨y 1, y 2, by blk_ext⟩
  rw [emb10]
  unfold outsAt0
  rw [out10]
  exact (pay42_at _ r l).trans ((k_at m c t r l).trans (OT_at _ (nb t) (ps t r) l).symm)

/-- THE TRANSPOSED VALUES after the run. -/
theorem final11 : (dats m 0 c).arrAt 11 (cfgs 0).N = OT (VX (aZ m c)) := by
  refine (dats m 0 c).arrAt_eq_of_covers 11 _ (by decide +kernel) fun t _ y => ?_
  blk_simp
  rw [after0_11]
  obtain ⟨l, r, rfl⟩ : ∃ (l : Fin 512) (r : Fin 256), y = ix3 0 l r := ⟨y 1, y 2, by blk_ext⟩
  rw [emb11]
  unfold outsAt0
  rw [out11]
  exact (pay53_at _ r l).trans ((v_at m c t r l).trans (OT_at _ (nb t) (ps t r) l).symm)

/-- THE FORGET GATES after the run. -/
theorem final12 : (dats m 0 c).arrAt 12 (cfgs 0).N = OF (FX (aZ m c) (a4 m c)) := by
  refine (dats m 0 c).arrAt_eq_of_covers 12 _ (by decide +kernel) fun t _ y => ?_
  blk_simp
  rw [after0_12]
  obtain ⟨l, r, rfl⟩ : ∃ (l : Fin 8) (r : Fin 256), y = ix3 0 l r := ⟨y 1, y 2, by blk_ext⟩
  rw [emb12]
  unfold outsAt0
  rw [out12]
  exact (pay6_at _ r l).trans (f_at m c t r l)

end Cert.Kernel3Ideal.Inp
end
-- ==== Proof.InRefRun.lean ====
/- The input projection's reference's run, its six results named. -/
module

public import proofs.«01_k».proof.Proof.InRef

@[expose] public section

set_option maxRecDepth 16384

noncomputable section

namespace Cert.Reference3Ideal.Inp

open Cert.Reference3Ideal Cert.Reference3Ideal.Gen Cert.Reference3Ideal.Value
open Idealize.ShloMosaic Idealize.ShloMosaic.TcCoe Idealize.SL.Sem Idealize.ShloMosaic.StableHlo

variable (m : (ℓ : Loc nD τ sig) → Buf (Elt Ideal) ℓ) (c : Dev nD)

/-- The projection of a memory's arguments. -/
def MZ : FVec Ideal S2x8192x3240 .f32 := WZ (m ((c.tc : Thread nD τ).loc main_arg0)) (m ((c.tc : Thread nD τ).loc main_arg1)) (m ((c.tc : Thread nD τ).loc main_arg2)) (m ((c.tc : Thread nD τ).loc main_arg3))

/-- The reference's run: its six results, its arguments as they were. -/
theorem run_ref (ρ : Dev nD → PrngReg) :
    θ_run defs (onTc (τ := τ) (main (F := Ideal))) ⟨m, fun _ => 0, ρ⟩ fun r => ∀ c : Dev nD,
      r.2.mem ((c.tc : Thread nD τ).loc main_v43) = OZ (MZ m c)
      ∧ r.2.mem ((c.tc : Thread nD τ).loc main_v45) = OB (KX (MZ m c))
      ∧ r.2.mem ((c.tc : Thread nD τ).loc main_v47) = OB (VX (MZ m c))
      ∧ r.2.mem ((c.tc : Thread nD τ).loc main_v48) = OT (KX (MZ m c))
      ∧ r.2.mem ((c.tc : Thread nD τ).loc main_v49) = OT (VX (MZ m c))
      ∧ r.2.mem ((c.tc : Thread nD τ).loc main_v50) = OF (FX (MZ m c) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans rfl, (h c).2.1.trans rfl, (h c).2.2.1.trans rfl, (h c).2.2.2.1.trans rfl, (h c).2.2.2.2.1.trans rfl, (h c).2.2.2.2.2.1.trans rfl, (h c).2.2.2.2.2.2⟩) (run (F := Ideal) m ρ)

end Cert.Reference3Ideal.Inp

end
-- ==== Proof.SinPay.lean ====
/- The sample's input projection kernel's payloads at an index. -/
module

public import proofs.«01_k».proof.Proof.Gen.Kernel4Ideal.Value
public import proofs.«01_k».proof.Proof.InMath

@[expose] public section

set_option maxRecDepth 16384

noncomputable section

namespace Cert.Kernel4Ideal.Inp

open Cert.Kernel4Ideal Cert.Kernel4Ideal.Gen Cert.FfnMath Cert.InMath
open Idealize.ShloMosaic Idealize.ShloMosaic.TcCoe

/-- The normalised and modulated rows at an index. -/
theorem pay4_at (v0 v1 v2 : FVec Ideal S128x1024 .f32) (v4 : FVec Ideal S1x1024 .f32) (r : Fin 128) (d : Fin 1024) :
    k0_pay4 (F := Ideal) v0 v1 v2 v4 (ix2 r d) = modn (fun d => v2 (ix2 r d)) (fun d => v4 (ix2 0 d)) (fun d => v1 (ix2 r d)) (fun d => v0 (ix2 r d)) d := by
  pointwise [k0_pay4]
  rfl

/-- The recurrence's inputs at an index. -/
theorem pay5_at (v0 v1 v2 : FVec Ideal S128x1024 .f32) (v4 : FVec Ideal S1x1024 .f32) (w : FVec Ideal S1024x1792 .bf16) (r : Fin 128) (l : Fin 1792) :
    k0_pay5 (F := Ideal) v0 v1 v2 v4 w (ix2 r l) = ∑ d, k0_pay4 (F := Ideal) v0 v1 v2 v4 (ix2 r d) * w (ix2 d l) := by
  pointwise [k0_pay5]

/-- The recurrence's inputs as stored, transposed, at an index. -/
theorem pay12_at (v : FVec Ideal S128x1792 .f32) (r : Fin 128) (l : Fin 1792) : k0_pay12 (F := Ideal) (k0_pay11 v) (ix2 l r) = v (ix2 r l) := by
  pointwise [k0_pay12, k0_pay11]

/-- The keys at an index. -/
theorem pay7_at (v0 v1 v2 : FVec Ideal S128x1024 .f32) (v4 : FVec Ideal S1x1024 .f32) (w : FVec Ideal S1024x512 .bf16) (r : Fin 128) (l : Fin 512) :
    k0_pay7 (F := Ideal) v0 v1 v2 v4 w (ix2 r l) = ∑ d, k0_pay4 (F := Ideal) v0 v1 v2 v4 (ix2 r d) * w (ix2 d l) := by
  pointwise [k0_pay7]

/-- The values at an index. -/
theorem pay8_at (h : FVec Ideal S128x1024 .bf16) (w : FVec Ideal S1024x512 .bf16) (r : Fin 128) (l : Fin 512) :
    k0_pay8 (F := Ideal) h w (ix2 r l) = ∑ d, h (ix2 r d) * w (ix2 d l) := by
  pointwise [k0_pay8]

/-- The keys' transpose at an index. -/
theorem pay1_at (v : FVec Ideal S128x512 .f32) (r : Fin 128) (l : Fin 512) : k0_pay1 (F := Ideal) v (ix2 l r) = v (ix2 r l) := by
  pointwise [k0_pay1]

/-- The values' transpose at an index. -/
theorem pay2_at (v : FVec Ideal S128x512 .f32) (r : Fin 128) (l : Fin 512) : k0_pay2 (F := Ideal) v (ix2 l r) = v (ix2 r l) := by
  pointwise [k0_pay2]

/-- The forget gates' transpose at an index. -/
theorem pay3_at (v : FVec Ideal S128x128 .f32) (r : Fin 128) (l : Fin 8) : k0_pay3 (F := Ideal) v (ix2 l r) = v (ix2 r (⟨l.val, by omega⟩ : Fin 128)) := by
  pointwise [k0_pay3]

/-- The forget gates at an index. -/
theorem pay9_at (h : FVec Ideal S128x1024 .bf16) (w : FVec Ideal S1024x128 .bf16) (b : FVec Ideal S1x128 .f32) (r : Fin 128) (l : Fin 128) :
    k0_pay9 (F := Ideal) h w b (ix2 r l) = lsg (∑ d, h (ix2 r d) * w (ix2 d l) + b (ix2 0 l)) := by
  pointwise [k0_pay9]
  simp only [zero_sub]
  rw [if_neg (not_not.mpr rfl)]
  rfl

end Cert.Kernel4Ideal.Inp
end
-- ==== Proof.SinOut.lean ====
/- What the sample's input projection leaves in each result's block. -/
module

public import proofs.«01_k».proof.Proof.SinPay
public import Idealize.ShloMosaic.Lib.Pipeline.ValueKit

@[expose] public section

set_option maxRecDepth 16384

noncomputable section

namespace Cert.Kernel4Ideal.Inp

open Cert.Kernel4Ideal Cert.Kernel4Ideal.Gen
open Idealize.ShloMosaic Idealize.ShloMosaic.TcCoe Idealize.SL.Sem

variable {F : FTy → Type} [FloatOps F]

variable (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1x1024 .f32) (harg4 : arg4.IsWhole) (arg5 : Memref sig .tc .vmem S1024x3456 .bf16) (harg5 : arg5.IsWhole) (arg6 : Memref sig .tc .vmem S1x128 .f32) (harg6 : arg6.IsWhole) (arg7 : Memref sig .tc .vmem S1792x128 .f32) (harg7 : arg7.IsWhole) (arg8 : Memref sig .tc .vmem S128x512 .bf16) (harg8 : arg8.IsWhole) (arg9 : Memref sig .tc .vmem S128x512 .f32) (harg9 : arg9.IsWhole) (arg10 : Memref sig .tc .vmem S128x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S8x128 .f32) (harg13 : arg13.IsWhole) (arg14 : Memref sig .tc .vmem S128x1792 .f32) (harg14 : arg14.IsWhole) (x0 : Vec F S128x1024 .f32) (x1 : Vec F S128x1024 .f32) (x2 : Vec F S128x1024 .f32) (x3 : Vec F S1x1024 .f32) (x4 : Vec F S1024x3456 .bf16) (x5 : Vec F S1x128 .f32)

/-- Some columns of the weights' block. -/
def wz (x4 : Vec F S1024x3456 .bf16) : Vec F S1024x1792 .bf16 := View.ld x4 (Rect.unit (s := S1024x3456) ![0, 0] S1024x1792.size inb_S1024x3456_S1024x1792_0_0)
@[inherit_doc wz] def wk (x4 : Vec F S1024x3456 .bf16) : Vec F S1024x512 .bf16 := View.ld x4 (Rect.unit (s := S1024x3456) ![0, 2304] S1024x512.size inb_S1024x3456_S1024x512_0_2304)
@[inherit_doc wz] def wv (x4 : Vec F S1024x3456 .bf16) : Vec F S1024x512 .bf16 := View.ld x4 (Rect.unit (s := S1024x3456) ![0, 2816] S1024x512.size inb_S1024x3456_S1024x512_0_2816)
@[inherit_doc wz] def wf (x4 : Vec F S1024x3456 .bf16) : Vec F S1024x128 .bf16 := View.ld x4 (Rect.unit (s := S1024x3456) ![0, 3328] S1024x128.size inb_S1024x3456_S1024x128_0_3328)

/-- The recurrence's inputs' block. -/
theorem out6 : out0_A_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 = k0_pay12 (k0_pay11 (k0_pay5 x1 x2 x0 x3 (wz x4))) := by
  unfold wz
  frame_out

/-- The keys' block. -/
theorem out8 : out0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 = k0_pay7 x1 x2 x0 x3 (wk x4) := by
  unfold wk
  frame_out

/-- The values' block. -/
theorem out9 : out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 = k0_pay8 (k0_pay4 x1 x2 x0 x3) (wv x4) := by
  unfold wv
  frame_out

/-- The transposed keys' block. -/
theorem out10 : out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 = k0_pay1 (k0_pay7 x1 x2 x0 x3 (wk x4)) := by
  unfold wk
  frame_out

/-- The transposed values' block. -/
theorem out11 : out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 = k0_pay2 (k0_pay8 (k0_pay4 x1 x2 x0 x3) (wv x4)) := by
  unfold wv
  frame_out

/-- The forget gates' block. -/
theorem out12 : out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 = k0_pay3 (k0_pay9 (k0_pay4 x1 x2 x0 x3) (wf x4) x5) := by
  unfold wf
  frame_out

end Cert.Kernel4Ideal.Inp
end
-- ==== Proof.SinBlocks.lean ====
/- The sample's input projection's blocks, read off the argument arrays. -/
module

public import proofs.«01_k».proof.Proof.SinOut
public import Idealize.ShloMosaic.Lib.Pipeline.ValueKit

@[expose] public section

set_option maxRecDepth 16384

noncomputable section

namespace Cert.Kernel4Ideal.Inp

open Cert.Kernel4Ideal Cert.Kernel4Ideal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- Every window's block index at a grid point. -/
theorem idx : ∀ t : Fin cfg0.N, win0_0.index t = ![0, 0] ∧ win0_1.index t = ![0, 0] ∧ win0_2.index t = ![0, 1]
    ∧ win0_3.index t = ![0, 0] ∧ win0_4.index t = ![0, 0] ∧ win0_5.index t = ![0, 0]
    ∧ win0_6.index t = ![0, 0] ∧ win0_8.index t = ![0, 0] ∧ win0_9.index t = ![0, 0]
    ∧ win0_10.index t = ![0, 0] ∧ win0_11.index t = ![0, 0] ∧ win0_12.index t = ![0, 0] :=
  (by decide +kernel : ∀ t : Fin grid0.N, _)

/-- The modulation's array is as it was. -/
theorem V_a1 (c : Dev nD) : V m c main_arg1 = (show FVec Ideal S128x6144 .f32 from m ((c : Thread nD τ).loc main_arg1)) := by
  unfold V
  simp only [hostOps0, hostOps0_1, hostOps0_2, List.flatten_cons, List.flatten_nil, List.append_nil, List.cons_append, List.nil_append]
  entry_read
  rfl

/-- The weights' array from its three parts. -/
theorem cat4 (G : Valuation τ sig (Elt Ideal)) : after (hostOps0_4 (F := Ideal)) G (Proc.devRef .tc main_v6)
    = (show FVec Ideal S1024x3456 .bf16 from truncf .bf16 (concatenate S1024x3456 1 [⟨S1024x1792, (show FVec Ideal S1024x1792 .f32 from G (Proc.devRef .tc main_v1))⟩, ⟨S1024x1536, (show FVec Ideal S1024x1536 .f32 from G (Proc.devRef .tc main_v2))⟩, ⟨S1024x128, (show FVec Ideal S1024x128 .f32 from G (Proc.devRef .tc main_v4))⟩] concatenates_S1024x1792_S1024x1536_S1024x128_S1024x3456_d1) bitsLt_bf16_f32) := by
  simp only [hostOps0_4, after_cons, after_nil]
  rw [nullary_result_ne]; rotate_left; decide
  rw [unary_result_ne]; rotate_left; decide
  rw [unary_result, nary_result]
  rfl

/-- The arrays before the three parts are put together. -/
def pre (c : Dev nD) : Valuation τ sig (Elt Ideal) := after (hostOps0_3 (F := Ideal)) (after hostOps0_2 (after hostOps0_1 (after hostOps0 fun b => m (c, b))))

/-- The first part. -/
theorem pre1 (c : Dev nD) : pre m c (Proc.devRef .tc main_v1) = (show FVec Ideal S1024x1792 .f32 from pad S1024x1792 ![0, 0] ![0, 96] ![0, 0] (extractStridedSlice S1024x1696 ![0, 0] (show FVec Ideal S1024x3240 .f32 from m ((c : Thread nD τ).loc main_arg3)) slices_S1024x3240_S1024x1696_0_0) (sitofp .f32 (constantI S_ 32 0#32) : FVec Ideal S_ .f32) pads_S1024x1696_S1024x1792_000_0960 h_S_) := by
  unfold pre
  simp only [hostOps0, hostOps0_1, hostOps0_2, hostOps0_3]
  entry_read
  rfl

/-- The second part. -/
theorem pre2 (c : Dev nD) : pre m c (Proc.devRef .tc main_v2) = (show FVec Ideal S1024x1536 .f32 from extractStridedSlice S1024x1536 ![0, 1696] (show FVec Ideal S1024x3240 .f32 from m ((c : Thread nD τ).loc main_arg3)) slices_S1024x3240_S1024x1536_0_1696) := by
  unfold pre
  simp only [hostOps0, hostOps0_1, hostOps0_2, hostOps0_3]
  entry_read
  rfl

/-- The third part. -/
theorem pre4 (c : Dev nD) : pre m c (Proc.devRef .tc main_v4) = (show FVec Ideal S1024x128 .f32 from pad S1024x128 ![0, 0] ![0, 120] ![0, 0] (extractStridedSlice S1024x8 ![0, 3232] (show FVec Ideal S1024x3240 .f32 from m ((c : Thread nD τ).loc main_arg3)) slices_S1024x3240_S1024x8_0_3232) (sitofp .f32 (constantI S_ 32 0#32) : FVec Ideal S_ .f32) pads_S1024x8_S1024x128_000_01200 h_S_) := by
  unfold pre
  simp only [hostOps0, hostOps0_1, hostOps0_2, hostOps0_3]
  entry_read
  rfl

/-- Nothing after the three parts are put together changes them. -/
theorem past6 (G : Valuation τ sig (Elt Ideal)) : after (hostOps0_6 (F := Ideal)) (after hostOps0_5 G) (Proc.devRef .tc main_v6) = G (Proc.devRef .tc main_v6) := by
  simp only [hostOps0_5, hostOps0_6]
  entry_read
  rfl

/-- The weights with zero columns after the recurrence's and after the forget gates'. -/
theorem V_v6 (c : Dev nD) : V m c main_v6 = (show FVec Ideal S1024x3456 .bf16 from truncf .bf16 (concatenate S1024x3456 1 [⟨S1024x1792, pad S1024x1792 ![0, 0] ![0, 96] ![0, 0] (extractStridedSlice S1024x1696 ![0, 0] (show FVec Ideal S1024x3240 .f32 from m ((c : Thread nD τ).loc main_arg3)) slices_S1024x3240_S1024x1696_0_0) (sitofp .f32 (constantI S_ 32 0#32) : FVec Ideal S_ .f32) pads_S1024x1696_S1024x1792_000_0960 h_S_⟩,
    ⟨S1024x1536, extractStridedSlice S1024x1536 ![0, 1696] (show FVec Ideal S1024x3240 .f32 from m ((c : Thread nD τ).loc main_arg3)) slices_S1024x3240_S1024x1536_0_1696⟩,
    ⟨S1024x128, pad S1024x128 ![0, 0] ![0, 120] ![0, 0] (extractStridedSlice S1024x8 ![0, 3232] (show FVec Ideal S1024x3240 .f32 from m ((c : Thread nD τ).loc main_arg3)) slices_S1024x3240_S1024x8_0_3232) (sitofp .f32 (constantI S_ 32 0#32) : FVec Ideal S_ .f32) pads_S1024x8_S1024x128_000_01200 h_S_⟩] concatenates_S1024x1792_S1024x1536_S1024x128_S1024x3456_d1) bitsLt_bf16_f32) := by
  unfold V
  simp only [List.flatten_cons, List.flatten_nil, List.append_nil, after_append]
  refine (past6 _).trans ((cat4 (pre m c)).trans ?_)
  rw [pre1, pre2, pre4]

/-- The forget gates' bias with zero columns after it. -/
theorem V_v8 (c : Dev nD) : V m c main_v8 = (show FVec Ideal S1x128 .f32 from pad S1x128 ![0, 0] ![0, 120] ![0, 0] (broadcastInDim S1x8 ![1] bcast_S8_S1x8_1 (show FVec Ideal S8 .f32 from m ((c : Thread nD τ).loc main_arg4))) (sitofp .f32 (constantI S_ 32 0#32) : FVec Ideal S_ .f32) pads_S1x8_S1x128_000_01200 h_S_) := by
  unfold V
  simp only [hostOps0, hostOps0_1, hostOps0_2, List.flatten_cons, List.flatten_nil, List.append_nil, List.cons_append, List.nil_append]
  entry_read
  rfl

/-- The rows in one list. -/
theorem V_v9 (c : Dev nD) : V m c main_v9 = (show FVec Ideal S128x1024 .f32 from shapeCast S128x1024 (show FVec Ideal S128x1x1024 .f32 from m ((c : Thread nD τ).loc main_arg0)) shapeCasts_S128x1x1024_S128x1024) := by
  unfold V
  simp only [hostOps0, hostOps0_1, hostOps0_2, List.flatten_cons, List.flatten_nil, List.append_nil, List.cons_append, List.nil_append]
  entry_read
  rfl

/-- The normalisation's scales as a row. -/
theorem V_v10 (c : Dev nD) : V m c main_v10 = (show FVec Ideal S1x1024 .f32 from broadcastInDim S1x1024 ![1] bcast_S1024_S1x1024_1 (show FVec Ideal S1024 .f32 from m ((c : Thread nD τ).loc main_arg2))) := by
  unfold V
  simp only [hostOps0, hostOps0_1, hostOps0_2, List.flatten_cons, List.flatten_nil, List.append_nil, List.cons_append, List.nil_append]
  entry_read
  rfl

/-- The rows' block. -/
theorem blk0 (c : Dev nD) (t : Fin cfg0.N) (r : Fin 128) (d : Fin 1024) :
    (show FVec Ideal S128x1024 .f32 from iblk m c 0 t) (ix2 r d) = (show FVec Ideal S128x1x1024 .f32 from m ((c : Thread nD τ).loc main_arg0)) (ix3 r 0 d) := by
  blk_simp [iblk]
  rw [V_v9]
  pointwise
  blk_ext [idx t]

/-- The shift's block. -/
theorem blk1 (c : Dev nD) (t : Fin cfg0.N) (r : Fin 128) (d : Fin 1024) :
    (show FVec Ideal S128x1024 .f32 from iblk m c 1 t) (ix2 r d) = (show FVec Ideal S128x6144 .f32 from m ((c : Thread nD τ).loc main_arg1)) (ix2 r (⟨d.val, by omega⟩ : Fin 6144)) := by
  blk_simp [iblk]
  rw [V_a1]
  blk_ext [idx t]

/-- The scale's block. -/
theorem blk2 (c : Dev nD) (t : Fin cfg0.N) (r : Fin 128) (d : Fin 1024) :
    (show FVec Ideal S128x1024 .f32 from iblk m c 2 t) (ix2 r d) = (show FVec Ideal S128x6144 .f32 from m ((c : Thread nD τ).loc main_arg1)) (ix2 r (⟨1024 + d.val, by omega⟩ : Fin 6144)) := by
  blk_simp [iblk]
  rw [V_a1]
  blk_ext [idx t]

/-- The normalisation's scales. -/
theorem blk3 (c : Dev nD) (t : Fin cfg0.N) (d : Fin 1024) :
    (show FVec Ideal S1x1024 .f32 from iblk m c 3 t) (ix2 0 d) = (show FVec Ideal S1024 .f32 from m ((c : Thread nD τ).loc main_arg2)) (ix1 d) := by
  blk_simp [iblk]
  rw [V_v10]
  pointwise
  blk_ext [idx t]

/-- The whole weights' block is the weights' array. -/
theorem blk4 (c : Dev nD) (t : Fin cfg0.N) (d : Fin 1024) (l : Fin 3456) :
    (show FVec Ideal S1024x3456 .bf16 from iblk m c 4 t) (ix2 d l) = (show FVec Ideal S1024x3456 .bf16 from V m c main_v6) (ix2 d l) := by
  blk_simp [iblk]
  blk_ext [idx t]

/-- The forget gates' bias. -/
theorem blk5 (c : Dev nD) (t : Fin cfg0.N) (l : Fin 8) (l' : Fin 128) (el : l'.val = l.val) :
    (show FVec Ideal S1x128 .f32 from iblk m c 5 t) (ix2 0 l') = (show FVec Ideal S8 .f32 from m ((c : Thread nD τ).loc main_arg4)) (ix1 l) := by
  have hl := l.isLt
  have e : (show FVec Ideal S1x128 .f32 from iblk m c 5 t) (ix2 0 l') = (show FVec Ideal S1x128 .f32 from V m c main_v8) (ix2 0 l') := by
    blk_simp [iblk]
    blk_ext [idx t]
  rw [e, V_v8]
  pointwise
  split
  · exact congrArg (show FVec Ideal S8 .f32 from m ((c : Thread nD τ).loc main_arg4)) (congrArg ix1 (Fin.ext el))
  · rename_i h; exact absurd (by omega) h

/-- The weights' array at an index. -/
theorem W_at (c : Dev nD) (d : Fin 1024) (l : Fin 3456) (l' : Fin 3240) (h : (l.val < 1696 ∧ l'.val = l.val) ∨ (1792 ≤ l.val ∧ l'.val + 96 = l.val)) :
    (show FVec Ideal S1024x3456 .bf16 from V m c main_v6) (ix2 d l) = (show FVec Ideal S1024x3240 .f32 from m ((c : Thread nD τ).loc main_arg3)) (ix2 d l') := by
  rw [V_v6]
  pointwise
  have key : ∀ z : Fin 3240, z.val = l'.val → m (((c : Thread nD τ)).loc main_arg3) (ix2 d z) = m (((c : Thread nD τ)).loc main_arg3) (ix2 d l') :=
    fun z hz => by rw [show z = l' from Fin.ext hz]
  have := l.isLt
  have := l'.isLt
  split
  · split
    · exact key _ (by simp only; omega)
    · exfalso; omega
  · split
    · exact key _ (by simp only; omega)
    · split
      · exact key _ (by simp only; omega)
      · exfalso; omega

/-- The padding's value. -/
theorem sit0 : (FloatOps.sitofp .f32 (0#32) : Ideal .f32) = 0 := by
  show ((((0#32 : BitVec 32).toInt : ℤ) : ℝ) : EReal) = 0
  simp

/-- The weights' array in the columns after the recurrence's. -/
theorem W_zero (c : Dev nD) (d : Fin 1024) (l : Fin 3456) (h1 : 1696 ≤ l.val) (h2 : l.val < 1792) :
    (show FVec Ideal S1024x3456 .bf16 from V m c main_v6) (ix2 d l) = (0 : EReal) := by
  rw [V_v6]
  pointwise
  split
  · split
    · exfalso; omega
    · exact sit0
  · exfalso; omega

/-- The recurrence's columns at an index. -/
theorem wz_at (x : FVec Ideal S1024x3456 .bf16) (d : Fin 1024) (l : Fin 1792) : wz (F := Ideal) x (ix2 d l) = x (ix2 d (⟨l.val, by omega⟩ : Fin 3456)) := by
  unfold wz
  refine congrArg x (funext fun q => Fin.ext ?_)
  match q with
  | ⟨0, _⟩ => exact (Rect.idx_unit_val _ _ _ _ _).trans (Nat.zero_add _)
  | ⟨1, _⟩ => exact (Rect.idx_unit_val _ _ _ _ _).trans (Nat.zero_add _)

/-- The keys' columns at an index. -/
theorem wk_at (x : FVec Ideal S1024x3456 .bf16) (d : Fin 1024) (l : Fin 512) : wk (F := Ideal) x (ix2 d l) = x (ix2 d (⟨2304 + l.val, by omega⟩ : Fin 3456)) := by
  unfold wk
  refine congrArg x (funext fun q => Fin.ext ?_)
  match q with
  | ⟨0, _⟩ => exact (Rect.idx_unit_val _ _ _ _ _).trans (Nat.zero_add _)
  | ⟨1, _⟩ => exact (Rect.idx_unit_val _ _ _ _ _)

/-- The values' columns at an index. -/
theorem wv_at (x : FVec Ideal S1024x3456 .bf16) (d : Fin 1024) (l : Fin 512) : wv (F := Ideal) x (ix2 d l) = x (ix2 d (⟨2816 + l.val, by omega⟩ : Fin 3456)) := by
  unfold wv
  refine congrArg x (funext fun q => Fin.ext ?_)
  match q with
  | ⟨0, _⟩ => exact (Rect.idx_unit_val _ _ _ _ _).trans (Nat.zero_add _)
  | ⟨1, _⟩ => exact (Rect.idx_unit_val _ _ _ _ _)

/-- The forget gates' columns at an index. -/
theorem wf_at (x : FVec Ideal S1024x3456 .bf16) (d : Fin 1024) (l : Fin 128) : wf (F := Ideal) x (ix2 d l) = x (ix2 d (⟨3328 + l.val, by omega⟩ : Fin 3456)) := by
  unfold wf
  refine congrArg x (funext fun q => Fin.ext ?_)
  match q with
  | ⟨0, _⟩ => exact (Rect.idx_unit_val _ _ _ _ _).trans (Nat.zero_add _)
  | ⟨1, _⟩ => exact (Rect.idx_unit_val _ _ _ _ _)

/-- Where an entry of each result's block lies in it. -/
theorem emb6 (t : Fin cfg0.N) (l : Fin 1792) (r : Fin 128) :
    ((cfg0.win 6).blk t).view.emb (ix2 l r) = (ix2 l r : (⟨2, ![1792, 128]⟩ : Shape).Idx) := by
  blk_ext [idx t]

@[inherit_doc emb6] theorem emb8 (t : Fin cfg0.N) (r : Fin 128) (l : Fin 512) :
    ((cfg0.win 8).blk t).view.emb (ix2 r l) = (ix2 r l : (⟨2, ![128, 512]⟩ : Shape).Idx) := by
  blk_ext [idx t]

@[inherit_doc emb6] theorem emb9 (t : Fin cfg0.N) (r : Fin 128) (l : Fin 512) :
    ((cfg0.win 9).blk t).view.emb (ix2 r l) = (ix2 r l : (⟨2, ![128, 512]⟩ : Shape).Idx) := by
  blk_ext [idx t]

@[inherit_doc emb6] theorem emb10 (t : Fin cfg0.N) (l : Fin 512) (r : Fin 128) :
    ((cfg0.win 10).blk t).view.emb (ix2 l r) = (ix2 l r : (⟨2, ![512, 128]⟩ : Shape).Idx) := by
  blk_ext [idx t]

@[inherit_doc emb6] theorem emb11 (t : Fin cfg0.N) (l : Fin 512) (r : Fin 128) :
    ((cfg0.win 11).blk t).view.emb (ix2 l r) = (ix2 l r : (⟨2, ![512, 128]⟩ : Shape).Idx) := by
  blk_ext [idx t]

@[inherit_doc emb6] theorem emb12 (t : Fin cfg0.N) (l : Fin 8) (r : Fin 128) :
    ((cfg0.win 12).blk t).view.emb (ix2 l r) = (ix2 l r : (⟨2, ![8, 128]⟩ : Shape).Idx) := by
  blk_ext [idx t]

end Cert.Kernel4Ideal.Inp
end
-- ==== Proof.SinRef.lean ====
/- The sample's input projection's reference at an index. -/
module

public import proofs.«01_k».proof.Proof.Gen.Reference4Ideal.Run
public import proofs.«01_k».proof.Proof.InMath
public import proofs.«01_k».proof.Proof.Gen.Reference4Ideal

@[expose] public section

set_option maxRecDepth 16384

noncomputable section

namespace Cert.Reference4Ideal.Inp

open Cert.Reference4Ideal Cert.Reference4Ideal.Gen Cert.FfnMath Cert.InMath
open Idealize.ShloMosaic Idealize.ShloMosaic.TcCoe

/-- Each row's sum of squares. -/
def SQ (X : FVec Ideal S128x1x1024 .f32) : FVec Ideal S128x1 .f32 := Host.reduceAdd (mulf X X) (constant S_ .f32 0x00000000#32) reducesTo_S128x1x1024_S128x1_d2 h_S_

/-- The rows normalised and scaled, the sums of squares a variable. -/
def RN (X : FVec Ideal S128x1x1024 .f32) (sq : FVec Ideal S128x1 .f32) (g : FVec Ideal S1024 .f32) : FVec Ideal S128x1x1024 .f32 :=
  mulf (mulf X (broadcastInDim S128x1x1024 ![0, 1, 2] bcast_S128x1x1_S128x1x1024_0_1_2 (Host.rsqrt (addf (Host.divf (broadcastInDim S128x1x1 ![0, 1] bcast_S128x1_S128x1x1_0_1 sq) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 g))

/-- The projection of the modulated rows. -/
def RZ (N : FVec Ideal S128x1x1024 .f32) (md : FVec Ideal S128x6144 .f32) (w : FVec Ideal S1024x3240 .f32) : FVec Ideal S128x1x3240 .f32 :=
  Host.dotGeneral dot_S128x1x1024_S1024x3240_S128x1x3240_2_0_01_1_n_n none (addf (mulf N (addf (broadcastInDim S128x1x1024 ![] bcast_S_S128x1x1024 (constant S_ .f32 0x3F800000#32)) (broadcastInDim S128x1x1024 ![0, 2] bcast_S128x1024_S128x1x1024_0_2 (extractStridedSlice S128x1024 ![0, 1024] md slices_S128x6144_S128x1024_0_1024)))) (broadcastInDim S128x1x1024 ![0, 2] bcast_S128x1024_S128x1x1024_0_2 (extractStridedSlice S128x1024 ![0, 0] md slices_S128x6144_S128x1024_0_0))) w

/-- The recurrence's inputs, padded on the right with zero columns, the batch last. -/
def OZ (Z : FVec Ideal S128x1x3240 .f32) : FVec Ideal S1792x128 .f32 :=
  transpose S1792x128 [1, 0] (shapeCast S128x1792 (pad S128x1x1792 ![0, 0, 0] ![0, 0, 96] ![0, 0, 0] (extractStridedSlice S128x1x1696 ![0, 0, 0] Z slices_S128x1x3240_S128x1x1696_0_0_0) (sitofp .f32 (constantI S_ 32 0#32) : FVec Ideal S_ .f32) pads_S128x1x1696_S128x1x1792_000_000_0960 h_S_) shapeCasts_S128x1x1792_S128x1792) transposes_S128x1792_S1792x128_1_0

/-- The keys. -/
def KX (Z : FVec Ideal S128x1x3240 .f32) : FVec Ideal S128x1x512 .f32 :=
  extractStridedSlice S128x1x512 ![0, 0, 512] (extractStridedSlice S128x1x1544 ![0, 0, 1696] Z slices_S128x1x3240_S128x1x1544_0_0_1696) slices_S128x1x1544_S128x1x512_0_0_512

/-- The values. -/
def VX (Z : FVec Ideal S128x1x3240 .f32) : FVec Ideal S128x1x512 .f32 :=
  extractStridedSlice S128x1x512 ![0, 0, 1024] (extractStridedSlice S128x1x1544 ![0, 0, 1696] Z slices_S128x1x3240_S128x1x1544_0_0_1696) slices_S128x1x1544_S128x1x512_0_0_1024

/-- An array's rows in one list. -/
def OB (X : FVec Ideal S128x1x512 .f32) : FVec Ideal S128x512 .f32 := shapeCast S128x512 X shapeCasts_S128x1x512_S128x512

/-- An array with the batch last. -/
def OT (X : FVec Ideal S128x1x512 .f32) : FVec Ideal S512x128 .f32 := transpose S512x128 [1, 0] (OB X) transposes_S128x512_S512x128_1_0

/-- The forget gates' arguments, negated. -/
def FX (Z : FVec Ideal S128x1x3240 .f32) (b : FVec Ideal S8 .f32) : FVec Ideal S128x1x8 .f32 :=
  Host.negf (addf (extractStridedSlice S128x1x8 ![0, 0, 1536] (extractStridedSlice S128x1x1544 ![0, 0, 1696] Z slices_S128x1x3240_S128x1x1544_0_0_1696) slices_S128x1x1544_S128x1x8_0_0_1536) (broadcastInDim S128x1x8 ![0, 1, 2] bcast_S1x1x8_S128x1x8_0_1_2 (broadcastInDim S1x1x8 ![2] bcast_S8_S1x1x8_2 b)))

/-- A zero everywhere. -/
def Z0 : FVec Ideal S128x1x8 .f32 := broadcastInDim S128x1x8 ![] bcast_S_S128x1x8 (constant S_ .f32 0x00000000#32)

/-- The forget gates' logarithms, the batch last. -/
def OF (X : FVec Ideal S128x1x8 .f32) : FVec Ideal S8x128 .f32 :=
  transpose S8x128 [1, 0] (shapeCast S128x8 (Host.negf (select (cmpf .une (subf X Z0) (subf X Z0)) (addf X Z0) (addf (maximumf X Z0) (Host.log1p (Host.exp (Host.negf (Host.absf (subf X Z0)))))))) shapeCasts_S128x1x8_S128x8) transposes_S128x8_S8x128_1_0

/-- A sum along the last of three axes, at an index. -/
theorem red_at {n0 n1 n2 : ℕ} {u : Shape} (h : (⟨3, ![n0, n1, n2]⟩ : Shape).ReducesTo [2] ⟨2, ![n0, n1]⟩) (hu : 0 < u.numel)
    (X : FVec Ideal ⟨3, ![n0, n1, n2]⟩ .f32) (init : FVec Ideal u .f32) (a : Fin n0) (b : Fin n1) :
    Host.reduceAdd X init h hu (ix2 a b) = init (Shape.Idx.first hu) + ∑ s, X (ix3 a b s) := by
  pointwise

/-- A row's sum of squares. -/
theorem SQ_at (X : FVec Ideal S128x1x1024 .f32) (b : Fin 128) : SQ X (ix2 b 0) = ∑ s, X (ix3 b 0 s) * X (ix3 b 0 s) := by
  refine (red_at reducesTo_S128x1x1024_S128x1_d2 h_S_ (mulf X X) (constant S_ .f32 0x00000000#32) b 0).trans ?_
  pointwise

/-- The normalised rows at an index. -/
theorem RN_at (X : FVec Ideal S128x1x1024 .f32) (g : FVec Ideal S1024 .f32) (n : Fin 128) (d : Fin 1024) :
    RN X (SQ X) g (ix3 n 0 d) = rms (fun d => X (ix3 n 0 d)) (fun d => g (ix1 d)) d := by
  pointwise [RN]
  rw [SQ_at]
  rfl

/-- The projection at an index, of any rows. -/
theorem RZ_at (N : FVec Ideal S128x1x1024 .f32) (md : FVec Ideal S128x6144 .f32) (w : FVec Ideal S1024x3240 .f32) (n : Fin 128) (l : Fin 3240) :
    RZ N md w (ix3 n 0 l) = ∑ d, (N (ix3 n 0 d) * (1 + md (ix2 n (⟨1024 + d.val, by omega⟩ : Fin 6144))) + md (ix2 n (⟨d.val, by omega⟩ : Fin 6144))) * w (ix2 d l) := by
  pointwise [RZ]

section Whole

variable (x : FVec Ideal S128x1x1024 .f32) (md : FVec Ideal S128x6144 .f32) (g : FVec Ideal S1024 .f32) (w : FVec Ideal S1024x3240 .f32) (b : FVec Ideal S8 .f32)

/-- The projection of the arguments. -/
def WZ : FVec Ideal S128x1x3240 .f32 := RZ (RN x (SQ x) g) md w

/-- The projection of the arguments at an index. -/
theorem WZ_at (n : Fin 128) (l : Fin 3240) :
    WZ x md g w (ix3 n 0 l) = proj (fun d => x (ix3 n 0 d)) (fun d => g (ix1 d)) (fun d => md (ix2 n (⟨1024 + d.val, by omega⟩ : Fin 6144))) (fun d => md (ix2 n (⟨d.val, by omega⟩ : Fin 6144))) (fun d => w (ix2 d l)) := by
  unfold WZ
  rw [RZ_at]
  simp only [RN_at, modn, proj]

end Whole

/-- The padding's value. -/
theorem sit0 : (FloatOps.sitofp .f32 (0#32) : Ideal .f32) = 0 := by
  show ((((0#32 : BitVec 32).toInt : ℤ) : ℝ) : EReal) = 0
  simp

/-- A row of the padded inputs: a column of the projection. -/
theorem OZ_in (Z : FVec Ideal S128x1x3240 .f32) (n : Fin 128) (l : Fin 1792) (l' : Fin 3240) (hl : l.val < 1696) (el : l'.val = l.val) :
    OZ Z (ix2 l n) = Z (ix3 n 0 l') := by
  unfold OZ
  pointwise
  split
  · exact congrArg Z (congr (congr (congrArg ix3 (Fin.ext (by first | omega | (simp only; omega)))) (Fin.ext (by first | omega | (simp only; omega)))) (Fin.ext (by first | omega | (simp only; omega))))
  · rename_i h
    exact absurd hl h

/-- A row of the padded inputs: zero in the last rows. -/
theorem OZ_out (Z : FVec Ideal S128x1x3240 .f32) (n : Fin 128) (l : Fin 1792) (hl : ¬ l.val < 1696) :
    OZ Z (ix2 l n) = 0 := by
  unfold OZ
  pointwise
  split
  · rename_i h
    exact absurd h hl
  · exact sit0

/-- The keys at an index. -/
theorem KX_at (Z : FVec Ideal S128x1x3240 .f32) (n : Fin 128) (l : Fin 512) :
    KX Z (ix3 n 0 l) = Z (ix3 n 0 (⟨2208 + l.val, by omega⟩ : Fin 3240)) := by
  pointwise [KX]
  exact congrArg (fun z => Z (ix3 n 0 z)) (Fin.ext (by first | omega | (simp only; omega)))

/-- The values at an index. -/
theorem VX_at (Z : FVec Ideal S128x1x3240 .f32) (n : Fin 128) (l : Fin 512) :
    VX Z (ix3 n 0 l) = Z (ix3 n 0 (⟨2720 + l.val, by omega⟩ : Fin 3240)) := by
  pointwise [VX]
  exact congrArg (fun z => Z (ix3 n 0 z)) (Fin.ext (by first | omega | (simp only; omega)))

/-- The rows in one list at an index. -/
theorem OB_at (X : FVec Ideal S128x1x512 .f32) (n : Fin 128) (l : Fin 512) : OB X (ix2 n l) = X (ix3 n 0 l) := by
  unfold OB
  pointwise

/-- The transposed array at an index. -/
theorem OT_at (X : FVec Ideal S128x1x512 .f32) (n : Fin 128) (l : Fin 512) : OT X (ix2 l n) = X (ix3 n 0 l) := by
  refine Eq.trans ?_ (OB_at X n l)
  pointwise [OT]

/-- The negated arguments of the forget gates at an index. -/
theorem FX_at (Z : FVec Ideal S128x1x3240 .f32) (b : FVec Ideal S8 .f32) (n : Fin 128) (l : Fin 8) :
    FX Z b (ix3 n 0 l) = -(Z (ix3 n 0 (⟨3232 + l.val, by omega⟩ : Fin 3240)) + b (ix1 l)) := by
  pointwise [FX]
  refine congrArg Neg.neg (congrArg (· + b (ix1 l)) (congrArg (fun z => Z (ix3 n 0 z)) (Fin.ext ?_)))
  show 1696 + (1536 + l.val) = 3232 + l.val
  omega

/-- The forget gates at an index. -/
theorem OF_at (X : FVec Ideal S128x1x8 .f32) (n : Fin 128) (l : Fin 8) (u : EReal) (hu : X (ix3 n 0 l) = -u) : OF X (ix2 l n) = lsg u := by
  pointwise [OF, Z0]
  rw [hu, if_neg (not_not.mpr rfl)]
  rfl

end Cert.Reference4Ideal.Inp
end
-- ==== Proof.SinFinal.lean ====
/- The sample's input projection kernel's result arrays are the reference's. -/
module

public import proofs.«01_k».proof.Proof.SinBlocks
public import proofs.«01_k».proof.Proof.SinRef

@[expose] public section

set_option maxRecDepth 16384

noncomputable section

namespace Cert.Kernel4Ideal.Inp

open Cert.Kernel4Ideal Cert.Kernel4Ideal.Gen Cert.FfnMath Cert.InMath
open Cert.Reference4Ideal.Inp (WZ WZ_at OZ OZ_in OZ_out KX KX_at VX VX_at OB OB_at OT OT_at FX FX_at OF OF_at)
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev a0 : FVec Ideal S128x1x1024 .f32 := m ((c : Thread nD τ).loc main_arg0)
@[inherit_doc a0] abbrev a1 : FVec Ideal S128x6144 .f32 := m ((c : Thread nD τ).loc main_arg1)
@[inherit_doc a0] abbrev a2 : FVec Ideal S1024 .f32 := m ((c : Thread nD τ).loc main_arg2)
@[inherit_doc a0] abbrev a3 : FVec Ideal S1024x3240 .f32 := m ((c : Thread nD τ).loc main_arg3)
@[inherit_doc a0] abbrev a4 : FVec Ideal S8 .f32 := m ((c : Thread nD τ).loc main_arg4)

/-- The projection of the arguments. -/
abbrev aZ : FVec Ideal Cert.Reference4Ideal.S128x1x3240 .f32 := WZ (a0 m c) (a1 m c) (a2 m c) (a3 m c)

/-- A tile's normalised and modulated rows. -/
def HH (t : Fin cfg0.N) : FVec Ideal S128x1024 .bf16 := k0_pay4 (F := Ideal) (iblk m c 1 t) (iblk m c 2 t) (iblk m c 0 t) (iblk m c 3 t)

/-- A tile's rows at an index. -/
theorem HH_at (t : Fin cfg0.N) (r : Fin 128) (d : Fin 1024) :
    HH m c t (ix2 r d) = modn (fun d => a0 m c (ix3 r 0 d)) (fun d => a2 m c (ix1 d)) (fun d => a1 m c (ix2 r (⟨1024 + d.val, by omega⟩ : Fin 6144))) (fun d => a1 m c (ix2 r (⟨d.val, by omega⟩ : Fin 6144))) d :=
  (pay4_at _ _ _ _ r d).trans (congrFun (congr (congr (congr (congrArg modn
    (funext fun d => blk0 m c t r d)) (funext fun d => blk3 m c t d)) (funext fun d => blk2 m c t r d)) (funext fun d => blk1 m c t r d)) d)

/-- A tile's row against a column of the weights' array: the projection's entry. -/
theorem sum_at (t : Fin cfg0.N) (r : Fin 128) (w : Fin 1024 → EReal) (l' : Fin 3240) (hw : ∀ d, w d = a3 m c (ix2 d l')) :
    ∑ d, HH m c t (ix2 r d) * w d = aZ m c (ix3 r 0 l') := by
  refine Eq.trans ?_ (WZ_at _ _ _ _ _ _).symm
  unfold proj
  exact Finset.sum_congr rfl fun d _ => by rw [HH_at, hw]

/-- The recurrence's inputs' tile at an index. -/
theorem z_at (t : Fin cfg0.N) (r : Fin 128) (l : Fin 1792) :
    k0_pay5 (F := Ideal) (iblk m c 1 t) (iblk m c 2 t) (iblk m c 0 t) (iblk m c 3 t) (wz (iblk m c 4 t)) (ix2 r l) = OZ (aZ m c) (ix2 l r) := by
  refine (pay5_at _ _ _ _ _ r l).trans ?_
  by_cases hl : l.val < 1696
  · refine (sum_at m c t r _ (⟨l.val, by omega⟩ : Fin 3240) fun d => (wz_at _ d l).trans ((blk4 m c t d _).trans (W_at m c d _ _ (Or.inl ⟨hl, rfl⟩)))).trans ?_
    exact (OZ_in _ r l _ hl rfl).symm
  · rw [OZ_out _ r l hl]
    refine Finset.sum_eq_zero fun d _ => ?_
    have h0 : wz (F := Ideal) (iblk m c 4 t) (ix2 d l) = (0 : EReal) :=
      (wz_at _ d l).trans ((blk4 m c t d _).trans (W_zero m c d _ (by simp only; omega) l.isLt))
    rw [h0]
    exact mul_zero _

/-- The keys' tile at an index. -/
theorem k_at (t : Fin cfg0.N) (r : Fin 128) (l : Fin 512) : k0_pay7 (F := Ideal) (iblk m c 1 t) (iblk m c 2 t) (iblk m c 0 t) (iblk m c 3 t) (wk (iblk m c 4 t)) (ix2 r l) = KX (aZ m c) (ix3 r 0 l) := by
  rw [KX_at]
  refine (pay7_at _ _ _ _ _ r l).trans (sum_at m c t r _ _ fun d => (wk_at _ d l).trans ((blk4 m c t d _).trans (W_at m c d _ _ (Or.inr ⟨?_, ?_⟩)))) <;> simp only <;> omega

/-- The values' tile at an index. -/
theorem v_at (t : Fin cfg0.N) (r : Fin 128) (l : Fin 512) : k0_pay8 (F := Ideal) (HH m c t) (wv (iblk m c 4 t)) (ix2 r l) = VX (aZ m c) (ix3 r 0 l) := by
  rw [VX_at]
  refine (pay8_at _ _ r l).trans (sum_at m c t r _ _ fun d => (wv_at _ d l).trans ((blk4 m c t d _).trans (W_at m c d _ _ (Or.inr ⟨?_, ?_⟩)))) <;> simp only <;> omega

/-- The forget gates' tile at an index. -/
theorem f_at (t : Fin cfg0.N) (r : Fin 128) (l : Fin 8) : k0_pay9 (F := Ideal) (HH m c t) (wf (iblk m c 4 t)) (iblk m c 5 t) (ix2 r (⟨l.val, by omega⟩ : Fin 128)) = OF (FX (aZ m c) (a4 m c)) (ix2 l r) := by
  rw [OF_at _ _ _ _ (FX_at _ _ _ _)]
  refine (pay9_at _ _ _ r _).trans (congrArg lsg (congr (congrArg HAdd.hAdd ?_) (blk5 m c t l _ rfl)))
  refine sum_at m c t r _ _ fun d => (wf_at _ d _).trans ((blk4 m c t d _).trans (W_at m c d _ _ (Or.inr ⟨?_, ?_⟩))) <;> simp only <;> omega

/-- THE RECURRENCE'S INPUTS after the run. -/
theorem final6 : (dats m 0 c).arrAt 6 (cfgs 0).N = OZ (aZ m c) := by
  refine (dats m 0 c).arrAt_eq_of_covers 6 _ (by decide +kernel) fun t _ y => ?_
  blk_simp
  rw [after0_6]
  obtain ⟨l, r, rfl⟩ : ∃ (l : Fin 1792) (r : Fin 128), y = ix2 l r := ⟨y 0, y 1, by blk_ext⟩
  rw [emb6]
  unfold outsAt0
  rw [out6]
  exact (pay12_at _ r l).trans (z_at m c t r l)

/-- THE KEYS after the run. -/
theorem final8 : (dats m 0 c).arrAt 8 (cfgs 0).N = OB (KX (aZ m c)) := by
  refine (dats m 0 c).arrAt_eq_of_covers 8 _ (by decide +kernel) fun t _ y => ?_
  blk_simp
  rw [after0_8]
  obtain ⟨r, l, rfl⟩ : ∃ (r : Fin 128) (l : Fin 512), y = ix2 r l := ⟨y 0, y 1, by blk_ext⟩
  rw [emb8]
  unfold outsAt0
  rw [out8]
  exact (k_at m c t r l).trans (OB_at _ r l).symm

/-- THE VALUES after the run. -/
theorem final9 : (dats m 0 c).arrAt 9 (cfgs 0).N = OB (VX (aZ m c)) := by
  refine (dats m 0 c).arrAt_eq_of_covers 9 _ (by decide +kernel) fun t _ y => ?_
  blk_simp
  rw [after0_9]
  obtain ⟨r, l, rfl⟩ : ∃ (r : Fin 128) (l : Fin 512), y = ix2 r l := ⟨y 0, y 1, by blk_ext⟩
  rw [emb9]
  unfold outsAt0
  rw [out9]
  exact (v_at m c t r l).trans (OB_at _ r l).symm

/-- THE TRANSPOSED KEYS after the run. -/
theorem final10 : (dats m 0 c).arrAt 10 (cfgs 0).N = OT (KX (aZ m c)) := by
  refine (dats m 0 c).arrAt_eq_of_covers 10 _ (by decide +kernel) fun t _ y => ?_
  blk_simp
  rw [after0_10]
  obtain ⟨l, r, rfl⟩ : ∃ (l : Fin 512) (r : Fin 128), y = ix2 l r := ⟨y 0, y 1, by blk_ext⟩
  rw [emb10]
  unfold outsAt0
  rw [out10]
  exact (pay1_at _ r l).trans ((k_at m c t r l).trans (OT_at _ r l).symm)

/-- THE TRANSPOSED VALUES after the run. -/
theorem final11 : (dats m 0 c).arrAt 11 (cfgs 0).N = OT (VX (aZ m c)) := by
  refine (dats m 0 c).arrAt_eq_of_covers 11 _ (by decide +kernel) fun t _ y => ?_
  blk_simp
  rw [after0_11]
  obtain ⟨l, r, rfl⟩ : ∃ (l : Fin 512) (r : Fin 128), y = ix2 l r := ⟨y 0, y 1, by blk_ext⟩
  rw [emb11]
  unfold outsAt0
  rw [out11]
  exact (pay2_at _ r l).trans ((v_at m c t r l).trans (OT_at _ r l).symm)

/-- THE FORGET GATES after the run. -/
theorem final12 : (dats m 0 c).arrAt 12 (cfgs 0).N = OF (FX (aZ m c) (a4 m c)) := by
  refine (dats m 0 c).arrAt_eq_of_covers 12 _ (by decide +kernel) fun t _ y => ?_
  blk_simp
  rw [after0_12]
  obtain ⟨l, r, rfl⟩ : ∃ (l : Fin 8) (r : Fin 128), y = ix2 l r := ⟨y 0, y 1, by blk_ext⟩
  rw [emb12]
  unfold outsAt0
  rw [out12]
  exact (pay3_at _ r l).trans (f_at m c t r l)

end Cert.Kernel4Ideal.Inp
end
-- ==== Proof.SinRefRun.lean ====
/- The sample's input projection's reference's run, its six results named. -/
module

public import proofs.«01_k».proof.Proof.SinRef

@[expose] public section

set_option maxRecDepth 16384

noncomputable section

namespace Cert.Reference4Ideal.Inp

open Cert.Reference4Ideal Cert.Reference4Ideal.Gen Cert.Reference4Ideal.Value
open Idealize.ShloMosaic Idealize.ShloMosaic.TcCoe Idealize.SL.Sem Idealize.ShloMosaic.StableHlo

variable (m : (ℓ : Loc nD τ sig) → Buf (Elt Ideal) ℓ) (c : Dev nD)

/-- The projection of a memory's arguments. -/
def MZ : FVec Ideal S128x1x3240 .f32 := WZ (m ((c.tc : Thread nD τ).loc main_arg0)) (m ((c.tc : Thread nD τ).loc main_arg1)) (m ((c.tc : Thread nD τ).loc main_arg2)) (m ((c.tc : Thread nD τ).loc main_arg3))

/-- The reference's run: its six results, its arguments as they were. -/
theorem run_ref (ρ : Dev nD → PrngReg) :
    θ_run defs (onTc (τ := τ) (main (F := Ideal))) ⟨m, fun _ => 0, ρ⟩ fun r => ∀ c : Dev nD,
      r.2.mem ((c.tc : Thread nD τ).loc main_v42) = OZ (MZ m c)
      ∧ r.2.mem ((c.tc : Thread nD τ).loc main_v43) = OB (KX (MZ m c))
      ∧ r.2.mem ((c.tc : Thread nD τ).loc main_v44) = OB (VX (MZ m c))
      ∧ r.2.mem ((c.tc : Thread nD τ).loc main_v46) = OT (KX (MZ m c))
      ∧ r.2.mem ((c.tc : Thread nD τ).loc main_v48) = OT (VX (MZ m c))
      ∧ r.2.mem ((c.tc : Thread nD τ).loc main_v50) = OF (FX (MZ m c) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans rfl, (h c).2.1.trans rfl, (h c).2.2.1.trans rfl, (h c).2.2.2.1.trans rfl, (h c).2.2.2.2.1.trans rfl, (h c).2.2.2.2.2.1.trans rfl, (h c).2.2.2.2.2.2⟩) (run (F := Ideal) m ρ)

end Cert.Reference4Ideal.Inp

end
-- ==== Proof.ModRef.lean ====
/- The adaptive-norm vectors' reference at an index. -/
module

public import proofs.«01_k».proof.Proof.Gen.Reference6Ideal.Run
public import proofs.«01_k».proof.Proof.Gen.Reference6Ideal
public import Idealize.ShloMosaic.Lib.Pointwise

@[expose] public section

set_option maxRecDepth 16384

noncomputable section

namespace Cert.Reference6Ideal.Mod

open Cert.Reference6Ideal Cert.Reference6Ideal.Gen Cert.Reference6Ideal.Value
open Idealize.ShloMosaic Idealize.ShloMosaic.TcCoe Idealize.SL.Sem Idealize.ShloMosaic.StableHlo

/-- The reference's result of its arguments. -/
def REF (x : FVec Ideal S128x1024 .f32) (w : FVec Ideal S1024x6144 .f32) (b : FVec Ideal S6144 .f32) : FVec Ideal S128x6144 .f32 :=
  addf (Host.dotGeneral dot_S128x1024_S1024x6144_S128x6144_1_0_0_1_n_n none (mulf x (Host.divf (broadcastInDim S128x1024 ![] bcast_S_S128x1024 (constant S_ .f32 0x3F800000#32)) (addf (broadcastInDim S128x1024 ![] bcast_S_S128x1024 (constant S_ .f32 0x3F800000#32)) (Host.exp (Host.negf x))))) w) (broadcastInDim S128x6144 ![0, 1] bcast_S1x6144_S128x6144_0_1 (broadcastInDim S1x6144 ![1] bcast_S6144_S1x6144_1 b))

/-- One entry: a conditioning row, each component times its logistic, against a column of the weights, plus its bias. -/
def entry (x w : Fin 1024 → EReal) (b : EReal) : EReal := ∑ d, x d * Ideal.logistic (x d) * w d + b

/-- The reference at an index. -/
theorem REF_at (x : FVec Ideal S128x1024 .f32) (w : FVec Ideal S1024x6144 .f32) (b : FVec Ideal S6144 .f32) (r : Fin 128) (l : Fin 6144) :
    REF x w b (ix2 r l) = entry (fun d => x (ix2 r d)) (fun d => w (ix2 d l)) (b (ix1 l)) := by
  pointwise [REF]
  rfl

variable (m : (ℓ : Loc nD τ sig) → Buf (Elt Ideal) ℓ)

/-- The reference's run: its result named, its arguments as they were. -/
theorem run_ref (ρ : Dev nD → PrngReg) :
    θ_run defs (onTc (τ := τ) (main (F := Ideal))) ⟨m, fun _ => 0, ρ⟩ fun r => ∀ c : Dev nD,
      r.2.mem ((c.tc : Thread nD τ).loc main_v4) = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans rfl, (h c).2⟩) (run (F := Ideal) m ρ)

end Cert.Reference6Ideal.Mod
end
-- ==== Proof.ModFinal.lean ====
/- The adaptive-norm kernel's result array is the reference's. -/
module

public import proofs.«01_k».proof.Proof.Gen.Kernel6Ideal.Value
public import proofs.«01_k».proof.Proof.ModRef
public import Idealize.ShloMosaic.Lib.Pipeline.ValueKit

@[expose] public section

set_option maxRecDepth 16384

noncomputable section

namespace Cert.Kernel6Ideal.Mod

open Cert.Kernel6Ideal Cert.Kernel6Ideal.Gen
open Cert.Reference6Ideal.Mod (REF REF_at entry)
open Idealize.ShloMosaic Idealize.ShloMosaic.TcCoe Idealize.SL.Sem Idealize.ShloMosaic.StableHlo
open Idealize.ShloMosaic.Pipeline (Dat)

/-- The body's value at an index. -/
theorem pay1_at (x : FVec Ideal S128x1024 .f32) (w : FVec Ideal S1024x1536 .bf16) (b : FVec Ideal S1x1536 .f32) (r : Fin 128) (l : Fin 1536) :
    k0_pay1 (F := Ideal) x w b (ix2 r l) = entry (fun d => x (ix2 r d)) (fun d => w (ix2 d l)) (b (ix2 0 l)) := by
  pointwise [k0_pay1]
  rfl

/-- The result's block, as the frame gives it, at an index. -/
theorem out_at (x : FVec Ideal S128x1024 .f32) (w : FVec Ideal S1024x1536 .bf16) (b : FVec Ideal S1x1536 .f32) (r : Fin 128) (l : Fin 1536) :
    out0_3 (F := Ideal) x w b (ix2 r l) = entry (fun d => x (ix2 r d)) (fun d => w (ix2 d l)) (b (ix2 0 l)) := by
  have e : out0_3 (F := Ideal) x w b = k0_pay1 (F := Ideal) x w b := by
    unfold out0_3
    frame_out
  rw [e]
  exact pay1_at x w b r l

variable (m : (ℓ : Loc nD τ sig) → Buf (Elt Ideal) ℓ) (c : Dev nD)

/-- The arguments. -/
abbrev a0 : FVec Ideal S128x1024 .f32 := m ((c : Thread nD τ).loc main_arg0)
@[inherit_doc a0] abbrev a1 : FVec Ideal S1024x6144 .f32 := m ((c : Thread nD τ).loc main_arg1)
@[inherit_doc a0] abbrev a2 : FVec Ideal S6144 .f32 := m ((c : Thread nD τ).loc main_arg2)

/-- Every window's block index at a grid point. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- The conditioning rows are as they were. -/
theorem V_a0 : V m c main_arg0 = (show FVec Ideal S128x1024 .f32 from a0 m c) := V_main_arg0 m c

/-- The weights in the narrow format. -/
theorem V_v0 : V m c main_v0 = (show FVec Ideal S1024x6144 .bf16 from truncf .bf16 (a1 m c) bitsLt_bf16_f32) := by
  unfold V
  simp only [hostOps0, List.flatten_cons, List.flatten_nil, List.append_nil, List.cons_append, List.nil_append]
  entry_read
  rfl

/-- The bias as a row. -/
theorem V_v1 : V m c main_v1 = (show FVec Ideal S1x6144 .f32 from broadcastInDim S1x6144 ![1] bcast_S6144_S1x6144_1 (a2 m c)) := by
  unfold V
  simp only [hostOps0, List.flatten_cons, List.flatten_nil, List.append_nil, List.cons_append, List.nil_append]
  entry_read
  rfl

/-- The conditioning rows' block. -/
theorem blk0 (t : Fin cfg0.N) (r : Fin 128) (d : Fin 1024) :
    (show FVec Ideal S128x1024 .f32 from iblk m c 0 t) (ix2 r d) = a0 m c (ix2 r d) := by
  blk_simp [iblk]
  rw [V_a0]
  blk_ext [idx t]

/-- The weights' block. -/
theorem blk1 (t : Fin cfg0.N) (d : Fin 1024) (l : Fin 1536) (l' : Fin 6144) (el : l'.val = t.val * 1536 + l.val) :
    (show FVec Ideal S1024x1536 .bf16 from iblk m c 1 t) (ix2 d l) = a1 m c (ix2 d l') := by
  blk_simp [iblk]
  rw [V_v0]
  pointwise
  blk_ext [idx t]

/-- The bias's block. -/
theorem blk2 (t : Fin cfg0.N) (l : Fin 1536) (l' : Fin 6144) (el : l'.val = t.val * 1536 + l.val) :
    (show FVec Ideal S1x1536 .f32 from iblk m c 2 t) (ix2 0 l) = a2 m c (ix1 l') := by
  blk_simp [iblk]
  rw [V_v1]
  pointwise
  blk_ext [idx t]

/-- Where an entry of the result's block lies in it. -/
theorem emb3 (t : Fin cfg0.N) (r : Fin 128) (l : Fin 1536) (l' : Fin 6144) (el : l'.val = t.val * 1536 + l.val) :
    ((cfg0.win 3).blk t).view.emb (ix2 r l) = (ix2 r l' : (⟨2, ![128, 6144]⟩ : Shape).Idx) := by
  blk_ext [idx t]

/-- THE RESULT ARRAY after the run. -/
theorem final3 : (dats m 0 c).arrAt 3 (cfgs 0).N = REF (a0 m c) (a1 m c) (a2 m c) := by
  refine (dats m 0 c).arrAt_eq_of_covers 3 _ (by decide +kernel) fun t _ y => ?_
  blk_simp
  rw [after0_3]
  obtain ⟨r, l, rfl⟩ : ∃ (r : Fin 128) (l : Fin 1536), y = ix2 r l := ⟨y 0, y 1, by blk_ext⟩
  have ht : t.val < 4 := t.isLt
  have hl : t.val * 1536 + l.val < 6144 := by have := l.isLt; omega
  rw [emb3 t r l ⟨t.val * 1536 + l.val, hl⟩ rfl]
  refine (out_at _ _ _ r l).trans (Eq.trans ?_ (REF_at _ _ _ r _).symm)
  exact congr (congr (congrArg entry (funext fun d => blk0 m c t r d)) (funext fun d => blk1 m c t d l _ rfl)) (blk2 m c t l _ rfl)

end Cert.Kernel6Ideal.Mod
end
-- ==== Proof.PmodRef.lean ====
/- The prompt's adaptive-norm vectors' reference at an index. -/
module

public import proofs.«01_k».proof.Proof.Gen.Reference7Ideal.Run
public import proofs.«01_k».proof.Proof.Gen.Reference7Ideal
public import Idealize.ShloMosaic.Lib.Pointwise

@[expose] public section

set_option maxRecDepth 16384

noncomputable section

namespace Cert.Reference7Ideal.Mod

open Cert.Reference7Ideal Cert.Reference7Ideal.Gen Cert.Reference7Ideal.Value
open Idealize.ShloMosaic Idealize.ShloMosaic.TcCoe Idealize.SL.Sem Idealize.ShloMosaic.StableHlo

/-- The reference's result of its arguments. -/
def REF (x : FVec Ideal S8x1024 .f32) (w : FVec Ideal S1024x6144 .f32) (b : FVec Ideal S6144 .f32) : FVec Ideal S8x6144 .f32 :=
  addf (Host.dotGeneral dot_S8x1024_S1024x6144_S8x6144_1_0_0_1_n_n none (mulf x (Host.divf (broadcastInDim S8x1024 ![] bcast_S_S8x1024 (constant S_ .f32 0x3F800000#32)) (addf (broadcastInDim S8x1024 ![] bcast_S_S8x1024 (constant S_ .f32 0x3F800000#32)) (Host.exp (Host.negf x))))) w) (broadcastInDim S8x6144 ![0, 1] bcast_S1x6144_S8x6144_0_1 (broadcastInDim S1x6144 ![1] bcast_S6144_S1x6144_1 b))

/-- One entry: a conditioning row, each component times its logistic, against a column of the weights, plus its bias. -/
def entry (x w : Fin 1024 → EReal) (b : EReal) : EReal := ∑ d, x d * Ideal.logistic (x d) * w d + b

/-- The reference at an index. -/
theorem REF_at (x : FVec Ideal S8x1024 .f32) (w : FVec Ideal S1024x6144 .f32) (b : FVec Ideal S6144 .f32) (r : Fin 8) (l : Fin 6144) :
    REF x w b (ix2 r l) = entry (fun d => x (ix2 r d)) (fun d => w (ix2 d l)) (b (ix1 l)) := by
  pointwise [REF]
  rfl

variable (m : (ℓ : Loc nD τ sig) → Buf (Elt Ideal) ℓ)

/-- The reference's run: its result named, its arguments as they were. -/
theorem run_ref (ρ : Dev nD → PrngReg) :
    θ_run defs (onTc (τ := τ) (main (F := Ideal))) ⟨m, fun _ => 0, ρ⟩ fun r => ∀ c : Dev nD,
      r.2.mem ((c.tc : Thread nD τ).loc main_v4) = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans rfl, (h c).2⟩) (run (F := Ideal) m ρ)

end Cert.Reference7Ideal.Mod
end
-- ==== Proof.PmodFinal.lean ====
/- The prompt's adaptive-norm kernel's result array is the reference's. -/
module

public import proofs.«01_k».proof.Proof.Gen.Kernel7Ideal.Value
public import proofs.«01_k».proof.Proof.PmodRef
public import Idealize.ShloMosaic.Lib.Pipeline.ValueKit

@[expose] public section

set_option maxRecDepth 16384

noncomputable section

namespace Cert.Kernel7Ideal.Mod

open Cert.Kernel7Ideal Cert.Kernel7Ideal.Gen
open Cert.Reference7Ideal.Mod (REF REF_at entry)
open Idealize.ShloMosaic Idealize.ShloMosaic.TcCoe Idealize.SL.Sem Idealize.ShloMosaic.StableHlo
open Idealize.ShloMosaic.Pipeline (Dat)

/-- The body's value at an index. -/
theorem pay1_at (x : FVec Ideal S8x1024 .f32) (w : FVec Ideal S1024x1536 .bf16) (b : FVec Ideal S1x1536 .f32) (r : Fin 8) (l : Fin 1536) :
    k0_pay1 (F := Ideal) x w b (ix2 r l) = entry (fun d => x (ix2 r d)) (fun d => w (ix2 d l)) (b (ix2 0 l)) := by
  pointwise [k0_pay1]
  rfl

/-- The result's block, as the frame gives it, at an index. -/
theorem out_at (x : FVec Ideal S8x1024 .f32) (w : FVec Ideal S1024x1536 .bf16) (b : FVec Ideal S1x1536 .f32) (r : Fin 8) (l : Fin 1536) :
    out0_3 (F := Ideal) x w b (ix2 r l) = entry (fun d => x (ix2 r d)) (fun d => w (ix2 d l)) (b (ix2 0 l)) := by
  have e : out0_3 (F := Ideal) x w b = k0_pay1 (F := Ideal) x w b := by
    unfold out0_3
    frame_out
  rw [e]
  exact pay1_at x w b r l

variable (m : (ℓ : Loc nD τ sig) → Buf (Elt Ideal) ℓ) (c : Dev nD)

/-- The arguments. -/
abbrev a0 : FVec Ideal S8x1024 .f32 := m ((c : Thread nD τ).loc main_arg0)
@[inherit_doc a0] abbrev a1 : FVec Ideal S1024x6144 .f32 := m ((c : Thread nD τ).loc main_arg1)
@[inherit_doc a0] abbrev a2 : FVec Ideal S6144 .f32 := m ((c : Thread nD τ).loc main_arg2)

/-- Every window's block index at a grid point. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- The conditioning rows are as they were. -/
theorem V_a0 : V m c main_arg0 = (show FVec Ideal S8x1024 .f32 from a0 m c) := V_main_arg0 m c

/-- The weights in the narrow format. -/
theorem V_v0 : V m c main_v0 = (show FVec Ideal S1024x6144 .bf16 from truncf .bf16 (a1 m c) bitsLt_bf16_f32) := by
  unfold V
  simp only [hostOps0, List.flatten_cons, List.flatten_nil, List.append_nil, List.cons_append, List.nil_append]
  entry_read
  rfl

/-- The bias as a row. -/
theorem V_v1 : V m c main_v1 = (show FVec Ideal S1x6144 .f32 from broadcastInDim S1x6144 ![1] bcast_S6144_S1x6144_1 (a2 m c)) := by
  unfold V
  simp only [hostOps0, List.flatten_cons, List.flatten_nil, List.append_nil, List.cons_append, List.nil_append]
  entry_read
  rfl

/-- The conditioning rows' block. -/
theorem blk0 (t : Fin cfg0.N) (r : Fin 8) (d : Fin 1024) :
    (show FVec Ideal S8x1024 .f32 from iblk m c 0 t) (ix2 r d) = a0 m c (ix2 r d) := by
  blk_simp [iblk]
  rw [V_a0]
  blk_ext [idx t]

/-- The weights' block. -/
theorem blk1 (t : Fin cfg0.N) (d : Fin 1024) (l : Fin 1536) (l' : Fin 6144) (el : l'.val = t.val * 1536 + l.val) :
    (show FVec Ideal S1024x1536 .bf16 from iblk m c 1 t) (ix2 d l) = a1 m c (ix2 d l') := by
  blk_simp [iblk]
  rw [V_v0]
  pointwise
  blk_ext [idx t]

/-- The bias's block. -/
theorem blk2 (t : Fin cfg0.N) (l : Fin 1536) (l' : Fin 6144) (el : l'.val = t.val * 1536 + l.val) :
    (show FVec Ideal S1x1536 .f32 from iblk m c 2 t) (ix2 0 l) = a2 m c (ix1 l') := by
  blk_simp [iblk]
  rw [V_v1]
  pointwise
  blk_ext [idx t]

/-- Where an entry of the result's block lies in it. -/
theorem emb3 (t : Fin cfg0.N) (r : Fin 8) (l : Fin 1536) (l' : Fin 6144) (el : l'.val = t.val * 1536 + l.val) :
    ((cfg0.win 3).blk t).view.emb (ix2 r l) = (ix2 r l' : (⟨2, ![8, 6144]⟩ : Shape).Idx) := by
  blk_ext [idx t]

/-- THE RESULT ARRAY after the run. -/
theorem final3 : (dats m 0 c).arrAt 3 (cfgs 0).N = REF (a0 m c) (a1 m c) (a2 m c) := by
  refine (dats m 0 c).arrAt_eq_of_covers 3 _ (by decide +kernel) fun t _ y => ?_
  blk_simp
  rw [after0_3]
  obtain ⟨r, l, rfl⟩ : ∃ (r : Fin 8) (l : Fin 1536), y = ix2 r l := ⟨y 0, y 1, by blk_ext⟩
  have ht : t.val < 4 := t.isLt
  have hl : t.val * 1536 + l.val < 6144 := by have := l.isLt; omega
  rw [emb3 t r l ⟨t.val * 1536 + l.val, hl⟩ rfl]
  refine (out_at _ _ _ r l).trans (Eq.trans ?_ (REF_at _ _ _ r _).symm)
  exact congr (congr (congrArg entry (funext fun d => blk0 m c t r d)) (funext fun d => blk1 m c t d l _ rfl)) (blk2 m c t l _ rfl)

end Cert.Kernel7Ideal.Mod
end
-- ==== Proof.SffPay.lean ====
/- The sample's feed-forward kernel's payloads at an index. -/
module

public import proofs.«01_k».proof.Proof.Gen.Kernel5Ideal.Value
public import proofs.«01_k».proof.Proof.FfnMath
public import Idealize.ShloMosaic.Lib.Pointwise
public import Idealize.ShloMosaic.Lib.Pipeline.ValueKit

@[expose] public section

set_option maxRecDepth 16384

noncomputable section

namespace Cert.Kernel5Ideal.Ffn

open Cert.Kernel5Ideal Cert.Kernel5Ideal.Gen Cert.FfnMath
open Idealize.ShloMosaic Idealize.ShloMosaic.TcCoe

/-- The rows after the gated residual at an index. -/
theorem pay2_at (v0 : FVec Ideal S512x128 .f32) (v4 : FVec Ideal S512x1024 .bf16) (v7 : FVec Ideal S128x512 .f32) (v10 : FVec Ideal S512x1024 .bf16) (v14 v16 : FVec Ideal S128x1024 .f32) (r : Fin 128) (d : Fin 1024) :
    k0_pay2 (F := Ideal) v0 v4 v7 v10 v14 v16 (ix2 r d) = v14 (ix2 r d) + v16 (ix2 r d) * (∑ j, v0 (ix2 j r) * v4 (ix2 j d) + ∑ j, v7 (ix2 r j) * v10 (ix2 j d)) := by
  pointwise [k0_pay2]

/-- The normalised rows, scaled, at an index. -/
theorem pay3_at (v0 : FVec Ideal S512x128 .f32) (v4 : FVec Ideal S512x1024 .bf16) (v7 : FVec Ideal S128x512 .f32) (v10 : FVec Ideal S512x1024 .bf16) (v14 v16 : FVec Ideal S128x1024 .f32) (v19 : FVec Ideal S1x1024 .f32) (v33 : FVec Ideal S128x1024 .f32) (r : Fin 128) (d : Fin 1024) :
    k0_pay3 (F := Ideal) v0 v4 v7 v10 v14 v16 v19 v33 (ix2 r d)
      = rms (fun d => k0_pay2 (F := Ideal) v0 v4 v7 v10 v14 v16 (ix2 r d)) (fun d => v19 (ix2 0 d)) d * (1 + v33 (ix2 r d)) := by
  pointwise [k0_pay3]
  rfl

/-- The modulated rows at an index. -/
theorem pay4_at (v36 v37 : FVec Ideal S128x1024 .f32) (r : Fin 128) (d : Fin 1024) : k0_pay4 (F := Ideal) v36 v37 (ix2 r d) = v36 (ix2 r d) + v37 (ix2 r d) := by
  pointwise [k0_pay4]

/-- The gate half of the up-projection at an index. -/
theorem pay6_at (v36 v37 : FVec Ideal S128x1024 .f32) (w : FVec Ideal S1024x2816 .bf16) (r : Fin 128) (l : Fin 2816) :
    k0_pay6 (F := Ideal) v36 v37 w (ix2 r l) = ∑ d, k0_pay4 (F := Ideal) v36 v37 (ix2 r d) * w (ix2 d l) := by
  pointwise [k0_pay6]

/-- The value half of the up-projection at an index. -/
theorem pay8_at (v36 v37 : FVec Ideal S128x1024 .f32) (w : FVec Ideal S1024x2816 .bf16) (r : Fin 128) (l : Fin 2816) :
    k0_pay8 (F := Ideal) v36 v37 w (ix2 r l) = ∑ d, k0_pay4 (F := Ideal) v36 v37 (ix2 r d) * w (ix2 d l) := by
  pointwise [k0_pay8]

/-- The gate half's convolution at an index. -/
theorem pay7_at (v36 v37 : FVec Ideal S128x1024 .f32) (w : FVec Ideal S1024x2816 .bf16) (cb c0 : FVec Ideal S1x2816 .f32) (p0 : FVec Ideal S128x2816 .f32) (c1 : FVec Ideal S1x2816 .f32) (p1 : FVec Ideal S128x2816 .f32) (c2 : FVec Ideal S1x2816 .f32) (r : Fin 128) (l : Fin 2816) :
    k0_pay7 (F := Ideal) v36 v37 w cb c0 p0 c1 p1 c2 (ix2 r l)
      = tap (cb (ix2 0 l)) (c0 (ix2 0 l)) (c1 (ix2 0 l)) (c2 (ix2 0 l)) (p0 (ix2 r l)) (p1 (ix2 r l)) (k0_pay6 (F := Ideal) v36 v37 w (ix2 r l)) := by
  pointwise [k0_pay7]
  rfl

/-- The rows after the second gated residual at an index. -/
theorem pay9_at (v18 : FVec Ideal S128x1024 .f32) (v63 v66 : FVec Ideal S128x2816 .f32) (cb c0 : FVec Ideal S1x2816 .f32) (p0 : FVec Ideal S128x2816 .f32) (c1 : FVec Ideal S1x2816 .f32) (p1 : FVec Ideal S128x2816 .f32) (c2 : FVec Ideal S1x2816 .f32) (w : FVec Ideal S2816x1024 .bf16) (gt : FVec Ideal S128x1024 .f32) (r : Fin 128) (d : Fin 1024) :
    k0_pay9 (F := Ideal) v18 k0_pay5 v63 v66 cb c0 p0 c1 p1 c2 w gt (ix2 r d)
      = res2 (fun d => v18 (ix2 r d)) (fun d => gt (ix2 r d)) (fun l => gate (v63 (ix2 r l)) (tap (cb (ix2 0 l)) (c0 (ix2 0 l)) (c1 (ix2 0 l)) (c2 (ix2 0 l)) (p0 (ix2 r l)) (p1 (ix2 r l)) (v66 (ix2 r l)))) (fun l d => w (ix2 l d)) d := by
  pointwise [k0_pay9, k0_pay5]
  rfl

/-- The last normalisation at an index. -/
theorem pay1_at (v18 v40 : FVec Ideal S128x1024 .f32) (v63 v66 : FVec Ideal S128x2816 .f32) (cb c0 : FVec Ideal S1x2816 .f32) (p0 : FVec Ideal S128x2816 .f32) (c1 : FVec Ideal S1x2816 .f32) (p1 : FVec Ideal S128x2816 .f32) (c2 : FVec Ideal S1x2816 .f32) (w : FVec Ideal S2816x1024 .bf16) (gt : FVec Ideal S128x1024 .f32) (g : FVec Ideal S1x1024 .f32) (r : Fin 128) (d : Fin 1024) :
    k0_pay1 (F := Ideal) (k0_pay9 v18 v40 v63 v66 cb c0 p0 c1 p1 c2 w gt) (k0_pay10 g) (k0_pay11 v18 v40 v63 v66 cb c0 p0 c1 p1 c2 w gt) (ix2 r d)
      = rms (fun d => k0_pay9 (F := Ideal) v18 v40 v63 v66 cb c0 p0 c1 p1 c2 w gt (ix2 r d)) (fun d => g (ix2 0 d)) d := by
  pointwise [k0_pay1, k0_pay10, k0_pay11]
  rfl

section Blocks

variable (x0 : Vec Ideal S128x1024 .f32) (x1 : Vec Ideal S512x128 .f32) (x2 : Vec Ideal S128x512 .f32) (x3 : Vec Ideal S128x1024 .f32) (x4 : Vec Ideal S128x1024 .f32) (x5 : Vec Ideal S128x1024 .f32) (x6 : Vec Ideal S128x1024 .f32) (x7 : Vec Ideal S1024x1024 .bf16) (x8 : Vec Ideal S1x1024 .f32) (x9 : Vec Ideal S1024x5632 .bf16) (x10 : Vec Ideal S3x5632 .f32) (x11 : Vec Ideal S1x5632 .f32) (x12 : Vec Ideal S2816x1024 .bf16) (x13 : Vec Ideal S1x1024 .f32) (x14 : Vec Ideal S128x5632 .f32) (x15 : Vec Ideal S128x5632 .f32)

/-- The rows after the first residual from the blocks. -/
theorem p12_at (r : Fin 128) (d : Fin 1024) :
    k0_pay12 (F := Ideal) x0 x1 x2 x3 x4 x5 x6 x7 x8 x9 x10 x11 x12 x13 x14 x15 (ix2 r d) = res1 (fun d => x0 (ix2 r d)) (fun d => x3 (ix2 r d)) (fun j => x1 (ix2 j r)) (fun j => x2 (ix2 r j))
      (fun j d => x7 (ix2 (⟨j.val, by omega⟩ : Fin 1024) d)) (fun j d => x7 (ix2 (⟨512 + j.val, by omega⟩ : Fin 1024) d)) d := by
  unfold k0_pay12
  rw [pay2_at]
  pointwise [View.ld]
  rfl

/-- The modulated rows from the blocks. -/
def HB : FVec Ideal S128x1024 .bf16 := k0_pay4 (F := Ideal) (k0_pay13 x0 x1 x2 x3 x4 x5 x6 x7 x8 x9 x10 x11 x12 x13 x14 x15) (View.ld x4 r0_4)

/-- The modulated rows from the blocks, at an index. -/
theorem HB_at (r : Fin 128) (d : Fin 1024) :
    HB x0 x1 x2 x3 x4 x5 x6 x7 x8 x9 x10 x11 x12 x13 x14 x15 (ix2 r d) = modn (fun d => k0_pay12 (F := Ideal) x0 x1 x2 x3 x4 x5 x6 x7 x8 x9 x10 x11 x12 x13 x14 x15 (ix2 r d)) (fun d => x8 (ix2 0 d)) (fun d => x5 (ix2 r d)) (fun d => x4 (ix2 r d)) d := by
  unfold HB k0_pay13
  rw [pay4_at, pay3_at]
  change rms (fun d => k0_pay12 (F := Ideal) x0 x1 x2 x3 x4 x5 x6 x7 x8 x9 x10 x11 x12 x13 x14 x15 (ix2 r d)) _ d * _ + _ = _
  pointwise [View.ld]
  rfl

/-- A column of the up-projection from the blocks. -/
def UB (r : Fin 128) (l : Fin 5632) : EReal := ∑ d, HB x0 x1 x2 x3 x4 x5 x6 x7 x8 x9 x10 x11 x12 x13 x14 x15 (ix2 r d) * x9 (ix2 d l)

/-- The gate half's weights. -/
theorem w6_at (d : Fin 1024) (l : Fin 2816) : (View.ld x9 r0_6 : FVec Ideal S1024x2816 .bf16) (ix2 d l) = x9 (ix2 d (⟨l.val, by omega⟩ : Fin 5632)) := by
  pointwise [View.ld]

/-- The value half's weights. -/
theorem w12_at (d : Fin 1024) (l : Fin 2816) : (View.ld x9 r0_12 : FVec Ideal S1024x2816 .bf16) (ix2 d l) = x9 (ix2 d (⟨2816 + l.val, by omega⟩ : Fin 5632)) := by
  pointwise [View.ld]

/-- The gate half of the up-projection from the blocks. -/
theorem uG_at (r : Fin 128) (l : Fin 2816) :
    k0_pay6 (F := Ideal) (k0_pay13 x0 x1 x2 x3 x4 x5 x6 x7 x8 x9 x10 x11 x12 x13 x14 x15) (View.ld x4 r0_4) (View.ld x9 r0_6) (ix2 r l) = UB x0 x1 x2 x3 x4 x5 x6 x7 x8 x9 x10 x11 x12 x13 x14 x15 r (⟨l.val, by omega⟩ : Fin 5632) :=
  (pay6_at _ _ _ r l).trans (Finset.sum_congr rfl fun d _ => congrArg (HB x0 x1 x2 x3 x4 x5 x6 x7 x8 x9 x10 x11 x12 x13 x14 x15 (ix2 r d) * ·) (w6_at x9 d l))

/-- The value half of the up-projection from the blocks. -/
theorem uV_at (r : Fin 128) (l : Fin 2816) :
    k0_pay8 (F := Ideal) (k0_pay13 x0 x1 x2 x3 x4 x5 x6 x7 x8 x9 x10 x11 x12 x13 x14 x15) (View.ld x4 r0_4) (View.ld x9 r0_12) (ix2 r l) = UB x0 x1 x2 x3 x4 x5 x6 x7 x8 x9 x10 x11 x12 x13 x14 x15 r (⟨2816 + l.val, by omega⟩ : Fin 5632) :=
  (pay8_at _ _ _ r l).trans (Finset.sum_congr rfl fun d _ => congrArg (HB x0 x1 x2 x3 x4 x5 x6 x7 x8 x9 x10 x11 x12 x13 x14 x15 (ix2 r d) * ·) (w12_at x9 d l))

/-- A column of the convolution from the blocks. -/
def CB (r : Fin 128) (l : Fin 5632) : EReal :=
  tap (x11 (ix2 0 l)) (x10 (ix2 0 l)) (x10 (ix2 1 l)) (x10 (ix2 2 l)) (x14 (ix2 r l)) (x15 (ix2 r l)) (UB x0 x1 x2 x3 x4 x5 x6 x7 x8 x9 x10 x11 x12 x13 x14 x15 r l)

/-- The gate half of the convolution from the blocks. -/
theorem cG_at (r : Fin 128) (l : Fin 2816) : k0_pay15 (F := Ideal) x0 x1 x2 x3 x4 x5 x6 x7 x8 x9 x10 x11 x12 x13 x14 x15 (ix2 r l) = CB x0 x1 x2 x3 x4 x5 x6 x7 x8 x9 x10 x11 x12 x13 x14 x15 r (⟨l.val, by omega⟩ : Fin 5632) := by
  unfold k0_pay15 CB
  rw [pay7_at, uG_at]
  pointwise [View.ld]

/-- The rows after the second residual from the blocks. -/
theorem rows_at (r : Fin 128) (d : Fin 1024) :
    k0_pay9 (F := Ideal) (k0_pay12 x0 x1 x2 x3 x4 x5 x6 x7 x8 x9 x10 x11 x12 x13 x14 x15) (k0_pay14 x0 x1 x2 x3 x4 x5 x6 x7 x8 x9 x10 x11 x12 x13 x14 x15) (k0_pay15 x0 x1 x2 x3 x4 x5 x6 x7 x8 x9 x10 x11 x12 x13 x14 x15) (k0_pay16 x0 x1 x2 x3 x4 x5 x6 x7 x8 x9 x10 x11 x12 x13 x14 x15) (View.ld x11 r0_14) (View.ld x10 r0_15) (View.ld x14 r0_13) (View.ld x10 r0_16) (View.ld x15 r0_13) (View.ld x10 r0_17) (View.ld x12 r0_18) (View.ld x6 r0_4) (ix2 r d)
      = res2 (fun d => k0_pay12 (F := Ideal) x0 x1 x2 x3 x4 x5 x6 x7 x8 x9 x10 x11 x12 x13 x14 x15 (ix2 r d)) (fun d => x6 (ix2 r d)) (fun l => gate (CB x0 x1 x2 x3 x4 x5 x6 x7 x8 x9 x10 x11 x12 x13 x14 x15 r (⟨l.val, by omega⟩ : Fin 5632)) (CB x0 x1 x2 x3 x4 x5 x6 x7 x8 x9 x10 x11 x12 x13 x14 x15 r (⟨2816 + l.val, by omega⟩ : Fin 5632))) (fun l d => x12 (ix2 l d)) d := by
  refine (pay9_at _ _ _ _ _ _ _ _ _ _ _ r d).trans ?_
  have e : ∀ l : Fin 2816, k0_pay16 (F := Ideal) x0 x1 x2 x3 x4 x5 x6 x7 x8 x9 x10 x11 x12 x13 x14 x15 (ix2 r l) = UB x0 x1 x2 x3 x4 x5 x6 x7 x8 x9 x10 x11 x12 x13 x14 x15 r (⟨2816 + l.val, by omega⟩ : Fin 5632) := fun l => uV_at x0 x1 x2 x3 x4 x5 x6 x7 x8 x9 x10 x11 x12 x13 x14 x15 r l
  simp only [e, cG_at]
  generalize k0_pay12 (F := Ideal) x0 x1 x2 x3 x4 x5 x6 x7 x8 x9 x10 x11 x12 x13 x14 x15 = Y
  unfold CB
  generalize UB x0 x1 x2 x3 x4 x5 x6 x7 x8 x9 x10 x11 x12 x13 x14 x15 = U
  pointwise [View.ld]

/-- The first result's block at an index. -/
def YB (r : Fin 128) (d : Fin 1024) : EReal :=
  rms (res2 (fun d => k0_pay12 (F := Ideal) x0 x1 x2 x3 x4 x5 x6 x7 x8 x9 x10 x11 x12 x13 x14 x15 (ix2 r d)) (fun d => x6 (ix2 r d)) (fun l => gate (CB x0 x1 x2 x3 x4 x5 x6 x7 x8 x9 x10 x11 x12 x13 x14 x15 r (⟨l.val, by omega⟩ : Fin 5632)) (CB x0 x1 x2 x3 x4 x5 x6 x7 x8 x9 x10 x11 x12 x13 x14 x15 r (⟨2816 + l.val, by omega⟩ : Fin 5632))) (fun l d => x12 (ix2 l d))) (fun d => x13 (ix2 0 d)) d

/-- The first result's block, as the frame gives it, at an index. -/
theorem out16_at (r : Fin 128) (d : Fin 1024) : out0_16 (F := Ideal) x0 x1 x2 x3 x4 x5 x6 x7 x8 x9 x10 x11 x12 x13 x14 x15 (ix2 r d) = YB x0 x1 x2 x3 x4 x5 x6 x7 x8 x9 x10 x11 x12 x13 x14 x15 r d := by
  have key : ∀ y : S128x1024.Idx, out0_16 (F := Ideal) x0 x1 x2 x3 x4 x5 x6 x7 x8 x9 x10 x11 x12 x13 x14 x15 y = YB x0 x1 x2 x3 x4 x5 x6 x7 x8 x9 x10 x11 x12 x13 x14 x15 (y 0) (y 1) := by
    intro y
    unfold out0_16
    refine View.canon_apply_of_pieces (show Vec Ideal S128x1024 .f32 from fun y => YB x0 x1 x2 x3 x4 x5 x6 x7 x8 x9 x10 x11 x12 x13 x14 x15 (y 0) (y 1)) _ ?_ y (cover0_16 _ y)
    intro pc hpc
    rcases List.mem_cons.mp hpc with rfl | hpc
    · intro x
      obtain ⟨a, b, rfl⟩ : ∃ (a : Fin 128) (b : Fin 1024), x = ix2 a b := ⟨x 0, x 1, by blk_ext⟩
      refine (pay1_at _ _ _ _ _ _ _ _ _ _ _ _ _ a b).trans ?_
      simp only [rows_at]
      have e : r0_4.idx (ix2 a b) = (ix2 a b : S128x1024.Idx) := by
        refine funext fun q => Fin.ext ?_
        match q with
        | ⟨0, _⟩ => exact (Rect.idx_unit_val _ _ _ _ _).trans (Nat.zero_add _)
        | ⟨1, _⟩ => exact (Rect.idx_unit_val _ _ _ _ _).trans (Nat.zero_add _)
      show _ = YB x0 x1 x2 x3 x4 x5 x6 x7 x8 x9 x10 x11 x12 x13 x14 x15 ((r0_4.idx (ix2 a b)) 0) ((r0_4.idx (ix2 a b)) 1)
      rw [e]
      show _ = YB x0 x1 x2 x3 x4 x5 x6 x7 x8 x9 x10 x11 x12 x13 x14 x15 a b
      unfold YB
      have g : ∀ d : Fin 1024, (View.ld x13 r0_5 : FVec Ideal S1x1024 .f32) (ix2 0 d) = x13 (ix2 0 d) := fun d => by pointwise [View.ld]
      exact congrArg (fun G => rms _ G b) (funext g)
    nomatch hpc
  exact key (ix2 r d)

/-- The second result's block, as the frame gives it, at an index. -/
theorem out17_at (r : Fin 128) (l : Fin 5632) : out0_17 (F := Ideal) x0 x1 x2 x3 x4 x5 x6 x7 x8 x9 x10 x11 x12 x13 x14 x15 (ix2 r l) = UB x0 x1 x2 x3 x4 x5 x6 x7 x8 x9 x10 x11 x12 x13 x14 x15 r l := by
  have key : ∀ y : S128x5632.Idx, out0_17 (F := Ideal) x0 x1 x2 x3 x4 x5 x6 x7 x8 x9 x10 x11 x12 x13 x14 x15 y = UB x0 x1 x2 x3 x4 x5 x6 x7 x8 x9 x10 x11 x12 x13 x14 x15 (y 0) (y 1) := by
    intro y
    unfold out0_17
    refine View.canon_apply_of_pieces (show Vec Ideal S128x5632 .f32 from fun y => UB x0 x1 x2 x3 x4 x5 x6 x7 x8 x9 x10 x11 x12 x13 x14 x15 (y 0) (y 1)) _ ?_ y (cover0_17 _ _ y)
    intro pc hpc
    rcases List.mem_cons.mp hpc with rfl | hpc
    · intro x
      obtain ⟨a, b, rfl⟩ : ∃ (a : Fin 128) (b : Fin 2816), x = ix2 a b := ⟨x 0, x 1, by blk_ext⟩
      refine (uV_at x0 x1 x2 x3 x4 x5 x6 x7 x8 x9 x10 x11 x12 x13 x14 x15 a b).trans ?_
      have e : r0_13.idx (ix2 a b) = (ix2 a (⟨2816 + b.val, by omega⟩ : Fin 5632) : S128x5632.Idx) := by
        refine funext fun q => Fin.ext ?_
        match q with
        | ⟨0, _⟩ => exact (Rect.idx_unit_val _ _ _ _ _).trans (Nat.zero_add _)
        | ⟨1, _⟩ => exact (Rect.idx_unit_val _ _ _ _ _)
      show _ = UB x0 x1 x2 x3 x4 x5 x6 x7 x8 x9 x10 x11 x12 x13 x14 x15 ((r0_13.idx (ix2 a b)) 0) ((r0_13.idx (ix2 a b)) 1)
      rw [e]
      rfl
    rcases List.mem_cons.mp hpc with rfl | hpc
    · intro x
      obtain ⟨a, b, rfl⟩ : ∃ (a : Fin 128) (b : Fin 2816), x = ix2 a b := ⟨x 0, x 1, by blk_ext⟩
      refine (uG_at x0 x1 x2 x3 x4 x5 x6 x7 x8 x9 x10 x11 x12 x13 x14 x15 a b).trans ?_
      have e : r0_7.idx (ix2 a b) = (ix2 a (⟨b.val, by omega⟩ : Fin 5632) : S128x5632.Idx) := by
        refine funext fun q => Fin.ext ?_
        match q with
        | ⟨0, _⟩ => exact (Rect.idx_unit_val _ _ _ _ _).trans (Nat.zero_add _)
        | ⟨1, _⟩ => exact (Rect.idx_unit_val _ _ _ _ _).trans (Nat.zero_add _)
      show _ = UB x0 x1 x2 x3 x4 x5 x6 x7 x8 x9 x10 x11 x12 x13 x14 x15 ((r0_7.idx (ix2 a b)) 0) ((r0_7.idx (ix2 a b)) 1)
      rw [e]
      rfl
    nomatch hpc
  exact key (ix2 r l)

end Blocks

end Cert.Kernel5Ideal.Ffn
end
-- ==== Proof.SffBlocks.lean ====
/- The sample's feed-forward kernel's blocks, read off the argument arrays. -/
module

public import proofs.«01_k».proof.Proof.SffPay

@[expose] public section

set_option maxRecDepth 16384

noncomputable section

namespace Cert.Kernel5Ideal.Ffn

open Cert.Kernel5Ideal Cert.Kernel5Ideal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- Every window's block index at a grid point. -/
theorem idx : ∀ t : Fin cfg0.N, win0_0.index t = ![0, 0] ∧ win0_1.index t = ![0, 0] ∧ win0_2.index t = ![0, 0]
    ∧ win0_3.index t = ![0, 2] ∧ win0_4.index t = ![0, 3] ∧ win0_5.index t = ![0, 4] ∧ win0_6.index t = ![0, 5]
    ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] ∧ win0_17.index t = ![0, 0] :=
  (by decide +kernel : ∀ t : Fin grid0.N, _)

/-- The modulation is as it was. -/
theorem V_arg3 (c : Dev nD) : V m c main_arg3 = (show FVec Ideal S128x6144 .f32 from m ((c : Thread nD τ).loc main_arg3)) := by
  unfold V
  simp only [hostOps0, List.flatten_cons, List.flatten_nil, List.append_nil, List.cons_append, List.nil_append]
  entry_read
  rfl

/-- The taps are as they were. -/
theorem V_arg8 (c : Dev nD) : V m c main_arg8 = (show FVec Ideal S3x5632 .f32 from m ((c : Thread nD τ).loc main_arg8)) := by
  unfold V
  simp only [hostOps0, List.flatten_cons, List.flatten_nil, List.append_nil, List.cons_append, List.nil_append]
  entry_read
  rfl

/-- The output projection, narrowed. -/
theorem V_v0 (c : Dev nD) : V m c main_v0 = (show FVec Ideal S1024x1024 .bf16 from truncf .bf16 (show FVec Ideal S1024x1024 .f32 from m ((c : Thread nD τ).loc main_arg5)) bitsLt_bf16_f32) := by
  unfold V
  simp only [hostOps0, List.flatten_cons, List.flatten_nil, List.append_nil, List.cons_append, List.nil_append]
  entry_read
  rfl

/-- The first scales as a row. -/
theorem V_v1 (c : Dev nD) : V m c main_v1 = (show FVec Ideal S1x1024 .f32 from broadcastInDim S1x1024 ![1] bcast_S1024_S1x1024_1 (show FVec Ideal S1024 .f32 from m ((c : Thread nD τ).loc main_arg6))) := by
  unfold V
  simp only [hostOps0, List.flatten_cons, List.flatten_nil, List.append_nil, List.cons_append, List.nil_append]
  entry_read
  rfl

/-- The up-projection, narrowed. -/
theorem V_v2 (c : Dev nD) : V m c main_v2 = (show FVec Ideal S1024x5632 .bf16 from truncf .bf16 (show FVec Ideal S1024x5632 .f32 from m ((c : Thread nD τ).loc main_arg7)) bitsLt_bf16_f32) := by
  unfold V
  simp only [hostOps0, List.flatten_cons, List.flatten_nil, List.append_nil, List.cons_append, List.nil_append]
  entry_read
  rfl

/-- The convolution's bias as a row. -/
theorem V_v3 (c : Dev nD) : V m c main_v3 = (show FVec Ideal S1x5632 .f32 from broadcastInDim S1x5632 ![1] bcast_S5632_S1x5632_1 (show FVec Ideal S5632 .f32 from m ((c : Thread nD τ).loc main_arg9))) := by
  unfold V
  simp only [hostOps0, List.flatten_cons, List.flatten_nil, List.append_nil, List.cons_append, List.nil_append]
  entry_read
  rfl

/-- The down-projection, narrowed. -/
theorem V_v4 (c : Dev nD) : V m c main_v4 = (show FVec Ideal S2816x1024 .bf16 from truncf .bf16 (show FVec Ideal S2816x1024 .f32 from m ((c : Thread nD τ).loc main_arg10)) bitsLt_bf16_f32) := by
  unfold V
  simp only [hostOps0, List.flatten_cons, List.flatten_nil, List.append_nil, List.cons_append, List.nil_append]
  entry_read
  rfl

/-- The last scales as a row. -/
theorem V_v5 (c : Dev nD) : V m c main_v5 = (show FVec Ideal S1x1024 .f32 from broadcastInDim S1x1024 ![1] bcast_S1024_S1x1024_1 (show FVec Ideal S1024 .f32 from m ((c : Thread nD τ).loc main_arg11))) := by
  unfold V
  simp only [hostOps0, List.flatten_cons, List.flatten_nil, List.append_nil, List.cons_append, List.nil_append]
  entry_read
  rfl

/-- The rows in one list. -/
theorem V_v7 (c : Dev nD) : V m c main_v7 = (show FVec Ideal S128x1024 .f32 from shapeCast S128x1024 (show FVec Ideal S128x1x1024 .f32 from m ((c : Thread nD τ).loc main_arg0)) shapeCasts_S128x1x1024_S128x1024) := by
  unfold V
  simp only [hostOps0, List.flatten_cons, List.flatten_nil, List.append_nil, List.cons_append, List.nil_append]
  entry_read
  rfl

/-- The first heads, transposed. -/
theorem V_v9 (c : Dev nD) : V m c main_v9 = (show FVec Ideal S512x128 .f32 from transpose S512x128 [1, 0] (shapeCast S128x512 (show FVec Ideal S128x1x512 .f32 from m ((c : Thread nD τ).loc main_arg1)) shapeCasts_S128x1x512_S128x512) transposes_S128x512_S512x128_1_0) := by
  unfold V
  simp only [hostOps0, List.flatten_cons, List.flatten_nil, List.append_nil, List.cons_append, List.nil_append]
  entry_read
  rfl

/-- The second heads in one list. -/
theorem V_v10 (c : Dev nD) : V m c main_v10 = (show FVec Ideal S128x512 .f32 from shapeCast S128x512 (show FVec Ideal S128x1x512 .f32 from m ((c : Thread nD τ).loc main_arg2)) shapeCasts_S128x1x512_S128x512) := by
  unfold V
  simp only [hostOps0, List.flatten_cons, List.flatten_nil, List.append_nil, List.cons_append, List.nil_append]
  entry_read
  rfl

/-- The older row of the state. -/
theorem V_v12 (c : Dev nD) : V m c main_v12 = (show FVec Ideal S128x5632 .f32 from shapeCast S128x5632 (extractStridedSlice S128x1x5632 ![0, 0, 0] (shapeCast S128x2x5632 (show FVec Ideal S1x128x2x5632 .f32 from m ((c : Thread nD τ).loc main_arg4)) shapeCasts_S1x128x2x5632_S128x2x5632) slices_S128x2x5632_S128x1x5632_0_0_0) shapeCasts_S128x1x5632_S128x5632) := by
  unfold V
  simp only [hostOps0, List.flatten_cons, List.flatten_nil, List.append_nil, List.cons_append, List.nil_append]
  entry_read
  rfl

/-- The newer row of the state. -/
theorem V_v14 (c : Dev nD) : V m c main_v14 = (show FVec Ideal S128x5632 .f32 from shapeCast S128x5632 (extractStridedSlice S128x1x5632 ![0, 1, 0] (shapeCast S128x2x5632 (show FVec Ideal S1x128x2x5632 .f32 from m ((c : Thread nD τ).loc main_arg4)) shapeCasts_S1x128x2x5632_S128x2x5632) slices_S128x2x5632_S128x1x5632_0_1_0) shapeCasts_S128x1x5632_S128x5632) := by
  unfold V
  simp only [hostOps0, List.flatten_cons, List.flatten_nil, List.append_nil, List.cons_append, List.nil_append]
  entry_read
  rfl

/-- The rows' block. -/
theorem blk0 (c : Dev nD) (t : Fin cfg0.N) (r : Fin 128) (d : Fin 1024) :
    (show FVec Ideal S128x1024 .f32 from iblk m c 0 t) (ix2 r d) = (show FVec Ideal S128x1x1024 .f32 from m ((c : Thread nD τ).loc main_arg0)) (ix3 r 0 d) := by
  blk_simp [iblk]
  rw [V_v7]
  pointwise
  blk_ext [idx t]

/-- The first heads' block. -/
theorem blk1 (c : Dev nD) (t : Fin cfg0.N) (j : Fin 512) (r : Fin 128) :
    (show FVec Ideal S512x128 .f32 from iblk m c 1 t) (ix2 j r) = (show FVec Ideal S128x1x512 .f32 from m ((c : Thread nD τ).loc main_arg1)) (ix3 r 0 j) := by
  blk_simp [iblk]
  rw [V_v9]
  pointwise
  blk_ext [idx t]

/-- The second heads' block. -/
theorem blk2 (c : Dev nD) (t : Fin cfg0.N) (r : Fin 128) (j : Fin 512) :
    (show FVec Ideal S128x512 .f32 from iblk m c 2 t) (ix2 r j) = (show FVec Ideal S128x1x512 .f32 from m ((c : Thread nD τ).loc main_arg2)) (ix3 r 0 j) := by
  blk_simp [iblk]
  rw [V_v10]
  pointwise
  blk_ext [idx t]

/-- A part of the modulation's block. -/
theorem blk3 (c : Dev nD) (t : Fin cfg0.N) (r : Fin 128) (d : Fin 1024) :
    (show FVec Ideal S128x1024 .f32 from iblk m c 3 t) (ix2 r d) = (show FVec Ideal S128x6144 .f32 from m ((c : Thread nD τ).loc main_arg3)) (ix2 r (⟨2048 + d.val, by omega⟩ : Fin 6144)) := by
  blk_simp [iblk]
  rw [V_arg3]
  blk_ext [idx t]

/-- A part of the modulation's block. -/
theorem blk4 (c : Dev nD) (t : Fin cfg0.N) (r : Fin 128) (d : Fin 1024) :
    (show FVec Ideal S128x1024 .f32 from iblk m c 4 t) (ix2 r d) = (show FVec Ideal S128x6144 .f32 from m ((c : Thread nD τ).loc main_arg3)) (ix2 r (⟨3072 + d.val, by omega⟩ : Fin 6144)) := by
  blk_simp [iblk]
  rw [V_arg3]
  blk_ext [idx t]

/-- A part of the modulation's block. -/
theorem blk5 (c : Dev nD) (t : Fin cfg0.N) (r : Fin 128) (d : Fin 1024) :
    (show FVec Ideal S128x1024 .f32 from iblk m c 5 t) (ix2 r d) = (show FVec Ideal S128x6144 .f32 from m ((c : Thread nD τ).loc main_arg3)) (ix2 r (⟨4096 + d.val, by omega⟩ : Fin 6144)) := by
  blk_simp [iblk]
  rw [V_arg3]
  blk_ext [idx t]

/-- A part of the modulation's block. -/
theorem blk6 (c : Dev nD) (t : Fin cfg0.N) (r : Fin 128) (d : Fin 1024) :
    (show FVec Ideal S128x1024 .f32 from iblk m c 6 t) (ix2 r d) = (show FVec Ideal S128x6144 .f32 from m ((c : Thread nD τ).loc main_arg3)) (ix2 r (⟨5120 + d.val, by omega⟩ : Fin 6144)) := by
  blk_simp [iblk]
  rw [V_arg3]
  blk_ext [idx t]

/-- The output projection's block. -/
theorem blk7 (c : Dev nD) (t : Fin cfg0.N) (j d : Fin 1024) :
    (show FVec Ideal S1024x1024 .bf16 from iblk m c 7 t) (ix2 j d) = (show FVec Ideal S1024x1024 .f32 from m ((c : Thread nD τ).loc main_arg5)) (ix2 j d) := by
  blk_simp [iblk]
  rw [V_v0]
  pointwise
  blk_ext [idx t]

/-- The first scales' block. -/
theorem blk8 (c : Dev nD) (t : Fin cfg0.N) (d : Fin 1024) :
    (show FVec Ideal S1x1024 .f32 from iblk m c 8 t) (ix2 0 d) = (show FVec Ideal S1024 .f32 from m ((c : Thread nD τ).loc main_arg6)) (ix1 d) := by
  blk_simp [iblk]
  rw [V_v1]
  pointwise
  blk_ext [idx t]

/-- The up-projection's block. -/
theorem blk9 (c : Dev nD) (t : Fin cfg0.N) (j : Fin 1024) (l : Fin 5632) :
    (show FVec Ideal S1024x5632 .bf16 from iblk m c 9 t) (ix2 j l) = (show FVec Ideal S1024x5632 .f32 from m ((c : Thread nD τ).loc main_arg7)) (ix2 j l) := by
  blk_simp [iblk]
  rw [V_v2]
  pointwise
  blk_ext [idx t]

/-- The taps' block. -/
theorem blk10 (c : Dev nD) (t : Fin cfg0.N) (j : Fin 3) (l : Fin 5632) :
    (show FVec Ideal S3x5632 .f32 from iblk m c 10 t) (ix2 j l) = (show FVec Ideal S3x5632 .f32 from m ((c : Thread nD τ).loc main_arg8)) (ix2 j l) := by
  blk_simp [iblk]
  rw [V_arg8]
  blk_ext [idx t]

/-- The bias's block. -/
theorem blk11 (c : Dev nD) (t : Fin cfg0.N) (l : Fin 5632) :
    (show FVec Ideal S1x5632 .f32 from iblk m c 11 t) (ix2 0 l) = (show FVec Ideal S5632 .f32 from m ((c : Thread nD τ).loc main_arg9)) (ix1 l) := by
  blk_simp [iblk]
  rw [V_v3]
  pointwise
  blk_ext [idx t]

/-- The down-projection's block. -/
theorem blk12 (c : Dev nD) (t : Fin cfg0.N) (l : Fin 2816) (d : Fin 1024) :
    (show FVec Ideal S2816x1024 .bf16 from iblk m c 12 t) (ix2 l d) = (show FVec Ideal S2816x1024 .f32 from m ((c : Thread nD τ).loc main_arg10)) (ix2 l d) := by
  blk_simp [iblk]
  rw [V_v4]
  pointwise
  blk_ext [idx t]

/-- The last scales' block. -/
theorem blk13 (c : Dev nD) (t : Fin cfg0.N) (d : Fin 1024) :
    (show FVec Ideal S1x1024 .f32 from iblk m c 13 t) (ix2 0 d) = (show FVec Ideal S1024 .f32 from m ((c : Thread nD τ).loc main_arg11)) (ix1 d) := by
  blk_simp [iblk]
  rw [V_v5]
  pointwise
  blk_ext [idx t]

/-- The older state's block. -/
theorem blk14 (c : Dev nD) (t : Fin cfg0.N) (r : Fin 128) (l : Fin 5632) :
    (show FVec Ideal S128x5632 .f32 from iblk m c 14 t) (ix2 r l) = (show FVec Ideal S1x128x2x5632 .f32 from m ((c : Thread nD τ).loc main_arg4)) (ix4 0 r 0 l) := by
  blk_simp [iblk]
  rw [V_v12]
  pointwise
  blk_ext [idx t]

/-- The newer state's block. -/
theorem blk15 (c : Dev nD) (t : Fin cfg0.N) (r : Fin 128) (l : Fin 5632) :
    (show FVec Ideal S128x5632 .f32 from iblk m c 15 t) (ix2 r l) = (show FVec Ideal S1x128x2x5632 .f32 from m ((c : Thread nD τ).loc main_arg4)) (ix4 0 r 1 l) := by
  blk_simp [iblk]
  rw [V_v14]
  pointwise
  blk_ext [idx t]

/-- Where an entry of the first result's block lies in it. -/
theorem emb16 (t : Fin cfg0.N) (r : Fin 128) (d : Fin 1024) :
    ((cfg0.win 16).blk t).view.emb (ix2 r d) = (ix2 r d : (⟨2, ![128, 1024]⟩ : Shape).Idx) := by
  blk_ext [idx t]

/-- Where an entry of the second result's block lies in it. -/
theorem emb17 (t : Fin cfg0.N) (r : Fin 128) (l : Fin 5632) :
    ((cfg0.win 17).blk t).view.emb (ix2 r l) = (ix2 r l : (⟨2, ![128, 5632]⟩ : Shape).Idx) := by
  blk_ext [idx t]

end Cert.Kernel5Ideal.Ffn
end
-- ==== Proof.SffRef.lean ====
/- The sample's feed-forward reference at an index. -/
module

public import proofs.«01_k».proof.Proof.Gen.Reference5Ideal.Run
public import proofs.«01_k».proof.Proof.FfnMath
public import proofs.«01_k».proof.Proof.Gen.Reference5Ideal

@[expose] public section

set_option maxRecDepth 16384

noncomputable section

namespace Cert.Reference5Ideal.Ffn

open Cert.Reference5Ideal Cert.Reference5Ideal.Gen Cert.FfnMath
open Idealize.ShloMosaic Idealize.ShloMosaic.TcCoe

/-- The modulation with a unit axis. -/
def MB (md : FVec Ideal S128x6144 .f32) : FVec Ideal S128x1x6144 .f32 :=
  broadcastInDim S128x1x6144 ![0, 2] bcast_S128x6144_S128x1x6144_0_2 md

/-- The rows after the attention's output projection and its gated residual. -/
def RX (x : FVec Ideal S128x1x1024 .f32) (a b : FVec Ideal S128x1x512 .f32) (md : FVec Ideal S128x6144 .f32) (wo : FVec Ideal S1024x1024 .f32) : FVec Ideal S128x1x1024 .f32 :=
  addf x (mulf (extractStridedSlice S128x1x1024 ![0, 0, 2048] (MB md) slices_S128x1x6144_S128x1x1024_0_0_2048) (Host.dotGeneral dot_S128x1x1024_S1024x1024_S128x1x1024_2_0_01_1_n_n none (concatenate S128x1x1024 2 [⟨S128x1x512, a⟩, ⟨S128x1x512, b⟩] concatenates_S128x1x512_S128x1x512_S128x1x1024_d2) wo))

/-- Each row's sum of squares. -/
def SQ (X : FVec Ideal S128x1x1024 .f32) : FVec Ideal S128x1 .f32 :=
  Host.reduceAdd (mulf X X) (constant S_ .f32 0x00000000#32) reducesTo_S128x1x1024_S128x1_d2 h_S_

/-- The rows normalised and scaled, the sums of squares a variable. -/
def RN (X : FVec Ideal S128x1x1024 .f32) (sq : FVec Ideal S128x1 .f32) (g : FVec Ideal S1024 .f32) : FVec Ideal S128x1x1024 .f32 :=
  mulf (mulf X (broadcastInDim S128x1x1024 ![0, 1, 2] bcast_S128x1x1_S128x1x1024_0_1_2 (Host.rsqrt (addf (Host.divf (broadcastInDim S128x1x1 ![0, 1] bcast_S128x1_S128x1x1_0_1 sq) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 g))

/-- The up-projection. -/
def RU (N : FVec Ideal S128x1x1024 .f32) (md : FVec Ideal S128x6144 .f32) (wu : FVec Ideal S1024x5632 .f32) : FVec Ideal S128x1x5632 .f32 :=
  Host.dotGeneral dot_S128x1x1024_S1024x5632_S128x1x5632_2_0_01_1_n_n none (addf (mulf N (addf (broadcastInDim S128x1x1024 ![] bcast_S_S128x1x1024 (constant S_ .f32 0x3F800000#32)) (extractStridedSlice S128x1x1024 ![0, 0, 4096] (MB md) slices_S128x1x6144_S128x1x1024_0_0_4096))) (extractStridedSlice S128x1x1024 ![0, 0, 3072] (MB md) slices_S128x1x6144_S128x1x1024_0_0_3072)) wu

/-- The two rows of the state before the up-projection's. -/
def RF (cv : FVec Ideal S1x128x2x5632 .f32) (U : FVec Ideal S128x1x5632 .f32) : FVec Ideal S128x3x5632 .f32 :=
  concatenate S128x3x5632 1 [⟨S128x2x5632, (shapeCast _ cv shapeCasts_S1x128x2x5632_S128x2x5632)⟩, ⟨S128x1x5632, U⟩] concatenates_S128x2x5632_S128x1x5632_S128x3x5632_d1

/-- The convolution's three taps with their bias. -/
def RC (V : FVec Ideal S128x3x5632 .f32) (cw : FVec Ideal S3x5632 .f32) (cb : FVec Ideal S5632 .f32) : FVec Ideal S128x1x5632 .f32 :=
  addf (broadcastInDim S128x1x5632 ![0, 1, 2] bcast_S1x1x5632_S128x1x5632_0_1_2 (broadcastInDim S1x1x5632 ![2] bcast_S5632_S1x1x5632_2 cb)) (addf (addf (addf (broadcastInDim S128x1x5632 ![] bcast_S_S128x1x5632 (constant S_ .f32 0x00000000#32)) (mulf (extractStridedSlice S128x1x5632 ![0, 0, 0] V slices_S128x3x5632_S128x1x5632_0_0_0) (broadcastInDim S128x1x5632 ![0, 1, 2] bcast_S1x1x5632_S128x1x5632_0_1_2 (broadcastInDim S1x1x5632 ![2] bcast_S5632_S1x1x5632_2 (shapeCast _ (extractStridedSlice S1x5632 ![0, 0] cw slices_S3x5632_S1x5632_0_0) shapeCasts_S1x5632_S5632))))) (mulf (extractStridedSlice S128x1x5632 ![0, 1, 0] V slices_S128x3x5632_S128x1x5632_0_1_0) (broadcastInDim S128x1x5632 ![0, 1, 2] bcast_S1x1x5632_S128x1x5632_0_1_2 (broadcastInDim S1x1x5632 ![2] bcast_S5632_S1x1x5632_2 (shapeCast _ (extractStridedSlice S1x5632 ![1, 0] cw slices_S3x5632_S1x5632_1_0) shapeCasts_S1x5632_S5632))))) (mulf (extractStridedSlice S128x1x5632 ![0, 2, 0] V slices_S128x3x5632_S128x1x5632_0_2_0) (broadcastInDim S128x1x5632 ![0, 1, 2] bcast_S1x1x5632_S128x1x5632_0_1_2 (broadcastInDim S1x1x5632 ![2] bcast_S5632_S1x1x5632_2 (shapeCast _ (extractStridedSlice S1x5632 ![2, 0] cw slices_S3x5632_S1x5632_2_0) shapeCasts_S1x5632_S5632)))))

/-- The gate half of the convolved rows. -/
def RG (C : FVec Ideal S128x1x5632 .f32) : FVec Ideal S128x1x2816 .f32 :=
  extractStridedSlice S128x1x2816 ![0, 0, 0] C slices_S128x1x5632_S128x1x2816_0_0_0

/-- The rows after the second residual. -/
def RY (X : FVec Ideal S128x1x1024 .f32) (C : FVec Ideal S128x1x5632 .f32) (md : FVec Ideal S128x6144 .f32) (wd : FVec Ideal S2816x1024 .f32) : FVec Ideal S128x1x1024 .f32 :=
  addf X (mulf (extractStridedSlice S128x1x1024 ![0, 0, 5120] (MB md) slices_S128x1x6144_S128x1x1024_0_0_5120) (Host.dotGeneral dot_S128x1x2816_S2816x1024_S128x1x1024_2_0_01_1_n_n none (mulf (mulf (RG C) (Host.divf (broadcastInDim S128x1x2816 ![] bcast_S_S128x1x2816 (constant S_ .f32 0x3F800000#32)) (addf (broadcastInDim S128x1x2816 ![] bcast_S_S128x1x2816 (constant S_ .f32 0x3F800000#32)) (Host.exp (Host.negf (RG C)))))) (extractStridedSlice S128x1x2816 ![0, 0, 2816] C slices_S128x1x5632_S128x1x2816_0_0_2816)) wd))

/-- The modulation's columns from a place on. -/
theorem MB_at (md : FVec Ideal S128x6144 .f32) (n : Fin 128) (l : Fin 6144) : MB md (ix3 n 0 l) = md (ix2 n l) := by
  pointwise [MB]

/-- A sum along the last of three axes, at an index. -/
theorem red_at {n0 n1 n2 : ℕ} {u : Shape} (h : (⟨3, ![n0, n1, n2]⟩ : Shape).ReducesTo [2] ⟨2, ![n0, n1]⟩) (hu : 0 < u.numel)
    (X : FVec Ideal ⟨3, ![n0, n1, n2]⟩ .f32) (init : FVec Ideal u .f32) (a : Fin n0) (b : Fin n1) :
    Host.reduceAdd X init h hu (ix2 a b) = init (Shape.Idx.first hu) + ∑ s, X (ix3 a b s) := by
  pointwise

/-- A row's sum of squares. -/
theorem SQ_at (X : FVec Ideal S128x1x1024 .f32) (n : Fin 128) : SQ X (ix2 n 0) = ∑ s, X (ix3 n 0 s) * X (ix3 n 0 s) := by
  refine (red_at reducesTo_S128x1x1024_S128x1_d2 h_S_ (mulf X X) (constant S_ .f32 0x00000000#32) n 0).trans ?_
  pointwise

/-- The rows after the gated residual at an index: both halves of the projection's sum. -/
theorem RX_at (x : FVec Ideal S128x1x1024 .f32) (a b : FVec Ideal S128x1x512 .f32) (md : FVec Ideal S128x6144 .f32) (wo : FVec Ideal S1024x1024 .f32) (n : Fin 128) (d : Fin 1024) :
    RX x a b md wo (ix3 n 0 d) = res1 (fun d => x (ix3 n 0 d)) (fun d => md (ix2 n (⟨2048 + d.val, by omega⟩ : Fin 6144))) (fun j => a (ix3 n 0 j)) (fun j => b (ix3 n 0 j))
      (fun j d => wo (ix2 (⟨j.val, by omega⟩ : Fin 1024) d)) (fun j d => wo (ix2 (⟨512 + j.val, by omega⟩ : Fin 1024) d)) d := by
  pointwise [RX, MB]
  rfl

/-- The normalised rows at an index. -/
theorem RN_at (X : FVec Ideal S128x1x1024 .f32) (g : FVec Ideal S1024 .f32) (n : Fin 128) (d : Fin 1024) :
    RN X (SQ X) g (ix3 n 0 d) = rms (fun d => X (ix3 n 0 d)) (fun d => g (ix1 d)) d := by
  pointwise [RN]
  rw [SQ_at]
  rfl

/-- The up-projection at an index. -/
theorem RU_at (N : FVec Ideal S128x1x1024 .f32) (md : FVec Ideal S128x6144 .f32) (wu : FVec Ideal S1024x5632 .f32) (n : Fin 128) (l : Fin 5632) :
    RU N md wu (ix3 n 0 l) = ∑ d, (N (ix3 n 0 d) * (1 + md (ix2 n (⟨4096 + d.val, by omega⟩ : Fin 6144))) + md (ix2 n (⟨3072 + d.val, by omega⟩ : Fin 6144))) * wu (ix2 d l) := by
  pointwise [RU, MB]

/-- The first of a row's three positions: the older row of the state. -/
theorem RF_0 (cv : FVec Ideal S1x128x2x5632 .f32) (U : FVec Ideal S128x1x5632 .f32) (n : Fin 128) (l : Fin 5632) : RF cv U (ix3 n 0 l) = cv (ix4 0 n 0 l) := by
  pointwise [RF]

/-- The second: the newer row of the state. -/
theorem RF_1 (cv : FVec Ideal S1x128x2x5632 .f32) (U : FVec Ideal S128x1x5632 .f32) (n : Fin 128) (l : Fin 5632) : RF cv U (ix3 n 1 l) = cv (ix4 0 n 1 l) := by
  pointwise [RF]

/-- The third: the up-projection. -/
theorem RF_2 (cv : FVec Ideal S1x128x2x5632 .f32) (U : FVec Ideal S128x1x5632 .f32) (n : Fin 128) (l : Fin 5632) : RF cv U (ix3 n 2 l) = U (ix3 n 0 l) := by
  pointwise [RF]

/-- The taps summed first, the bias added last. -/
theorem tap_of (cb c0 c1 c2 u0 u1 u2 : EReal) : cb + (u0 * c0 + u1 * c1 + u2 * c2) = tap cb c0 c1 c2 u0 u1 u2 := by
  unfold tap
  rw [← add_assoc, ← add_assoc, mul_comm u0, mul_comm u1, mul_comm u2]

/-- The logistic function is one over one plus an exponential. -/
theorem gate_of (u v : EReal) : u * Ideal.div 1 (1 + Ideal.exp (-u)) * v = gate u v := rfl

/-- The convolution at an index: three taps and the bias. -/
theorem RC_at (V : FVec Ideal S128x3x5632 .f32) (cw : FVec Ideal S3x5632 .f32) (cb : FVec Ideal S5632 .f32) (n : Fin 128) (l : Fin 5632) :
    RC V cw cb (ix3 n 0 l) = tap (cb (ix1 l)) (cw (ix2 0 l)) (cw (ix2 1 l)) (cw (ix2 2 l)) (V (ix3 n 0 l)) (V (ix3 n 1 l)) (V (ix3 n 2 l)) := by
  pointwise [RC]
  exact tap_of _ _ _ _ _ _ _

/-- The rows after the second gated residual at an index. -/
theorem RY_at (X : FVec Ideal S128x1x1024 .f32) (C : FVec Ideal S128x1x5632 .f32) (md : FVec Ideal S128x6144 .f32) (wd : FVec Ideal S2816x1024 .f32) (n : Fin 128) (d : Fin 1024) :
    RY X C md wd (ix3 n 0 d) = res2 (fun d => X (ix3 n 0 d)) (fun d => md (ix2 n (⟨5120 + d.val, by omega⟩ : Fin 6144)))
      (fun l => gate (C (ix3 n 0 (⟨l.val, by omega⟩ : Fin 5632))) (C (ix3 n 0 (⟨2816 + l.val, by omega⟩ : Fin 5632)))) (fun l d => wd (ix2 l d)) d := by
  pointwise [RY, RG, MB]
  exact congrArg (fun s => X (ix3 n 0 d) + md (ix2 n (⟨5120 + d.val, by omega⟩ : Fin 6144)) * s) (Finset.sum_congr rfl fun l _ => congrArg (· * wd (ix2 l d)) (gate_of _ _))

section Whole

variable (x : FVec Ideal S128x1x1024 .f32) (a b : FVec Ideal S128x1x512 .f32) (md : FVec Ideal S128x6144 .f32) (wo : FVec Ideal S1024x1024 .f32) (g1 : FVec Ideal S1024 .f32) (wu : FVec Ideal S1024x5632 .f32) (cv : FVec Ideal S1x128x2x5632 .f32) (cw : FVec Ideal S3x5632 .f32) (cb : FVec Ideal S5632 .f32) (wd : FVec Ideal S2816x1024 .f32) (g2 : FVec Ideal S1024 .f32)

/-- The up-projection of the arguments. -/
def WU : FVec Ideal S128x1x5632 .f32 := RU (RN (RX x a b md wo) (SQ (RX x a b md wo)) g1) md wu

/-- The up-projection after the state's two rows. -/
def WF : FVec Ideal S128x3x5632 .f32 := RF cv (WU x a b md wo g1 wu)

/-- The convolved rows of the arguments. -/
def WC : FVec Ideal S128x1x5632 .f32 := RC (WF x a b md wo g1 wu cv) cw cb

/-- The rows after the second residual, of the arguments. -/
def WY : FVec Ideal S128x1x1024 .f32 := RY (RX x a b md wo) (WC x a b md wo g1 wu cv cw cb) md wd

/-- The rows of the first result. -/
def WN : FVec Ideal S128x1x1024 .f32 := RN (WY x a b md wo g1 wu cv cw cb wd) (SQ (WY x a b md wo g1 wu cv cw cb wd)) g2

/-- The first result. -/
def REFY : FVec Ideal S128x1024 .f32 := shapeCast S128x1024 (WN x a b md wo g1 wu cv cw cb wd g2) shapeCasts_S128x1x1024_S128x1024

/-- The second result. -/
def REFC : FVec Ideal S128x5632 .f32 := shapeCast S128x5632 (extractStridedSlice S128x1x5632 ![0, 2, 0] (WF x a b md wo g1 wu cv) slices_S128x3x5632_S128x1x5632_0_2_0) shapeCasts_S128x1x5632_S128x5632

/-- The up-projection of the arguments at an index. -/
theorem WU_at (n : Fin 128) (l : Fin 5632) :
    WU x a b md wo g1 wu (ix3 n 0 l) = ∑ d, modn (fun d => RX x a b md wo (ix3 n 0 d)) (fun d => g1 (ix1 d)) (fun d => md (ix2 n (⟨4096 + d.val, by omega⟩ : Fin 6144))) (fun d => md (ix2 n (⟨3072 + d.val, by omega⟩ : Fin 6144))) d * wu (ix2 d l) := by
  unfold WU
  rw [RU_at]
  simp only [RN_at, modn]

/-- The convolution of the arguments at an index. -/
theorem WC_at (n : Fin 128) (l : Fin 5632) :
    WC x a b md wo g1 wu cv cw cb (ix3 n 0 l) = tap (cb (ix1 l)) (cw (ix2 0 l)) (cw (ix2 1 l)) (cw (ix2 2 l)) (cv (ix4 0 n 0 l)) (cv (ix4 0 n 1 l)) (WU x a b md wo g1 wu (ix3 n 0 l)) := by
  unfold WC
  rw [RC_at]
  unfold WF
  rw [RF_0, RF_1, RF_2]

/-- The first result's rows at an index. -/
theorem WN_at (n : Fin 128) (d : Fin 1024) :
    WN x a b md wo g1 wu cv cw cb wd g2 (ix3 n 0 d) = rms (res2 (fun d => RX x a b md wo (ix3 n 0 d)) (fun d => md (ix2 n (⟨5120 + d.val, by omega⟩ : Fin 6144)))
      (fun l => gate (WC x a b md wo g1 wu cv cw cb (ix3 n 0 (⟨l.val, by omega⟩ : Fin 5632))) (WC x a b md wo g1 wu cv cw cb (ix3 n 0 (⟨2816 + l.val, by omega⟩ : Fin 5632)))) (fun l d => wd (ix2 l d)))
      (fun d => g2 (ix1 d)) d := by
  unfold WN
  rw [RN_at]
  unfold WY
  simp only [RY_at]

/-- The first result at an index. -/
theorem REFY_at (n : Fin 128) (d : Fin 1024) : REFY x a b md wo g1 wu cv cw cb wd g2 (ix2 n d) = WN x a b md wo g1 wu cv cw cb wd g2 (ix3 n 0 d) := by
  unfold REFY
  pointwise

/-- The second result at an index: the up-projection. -/
theorem REFC_at (n : Fin 128) (l : Fin 5632) : REFC x a b md wo g1 wu cv (ix2 n l) = WU x a b md wo g1 wu (ix3 n 0 l) := by
  refine Eq.trans ?_ (RF_2 cv (WU x a b md wo g1 wu) n l)
  unfold REFC
  pointwise
  rfl

end Whole

end Cert.Reference5Ideal.Ffn
end
-- ==== Proof.SffFinal.lean ====
/- The sample's feed-forward kernel's result arrays are the reference's. -/
module

public import proofs.«01_k».proof.Proof.SffBlocks
public import proofs.«01_k».proof.Proof.SffRef

@[expose] public section

set_option maxRecDepth 16384

noncomputable section

namespace Cert.Kernel5Ideal.Ffn

open Cert.Kernel5Ideal Cert.Kernel5Ideal.Gen Cert.FfnMath
open Cert.Reference5Ideal.Ffn (RX RX_at WU WU_at WF WC WC_at WN WN_at REFY REFC REFY_at REFC_at)
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev a0 : FVec Ideal S128x1x1024 .f32 := m ((c : Thread nD τ).loc main_arg0)
@[inherit_doc a0] abbrev a1 : FVec Ideal S128x1x512 .f32 := m ((c : Thread nD τ).loc main_arg1)
@[inherit_doc a0] abbrev a2 : FVec Ideal S128x1x512 .f32 := m ((c : Thread nD τ).loc main_arg2)
@[inherit_doc a0] abbrev a3 : FVec Ideal S128x6144 .f32 := m ((c : Thread nD τ).loc main_arg3)
@[inherit_doc a0] abbrev a4 : FVec Ideal S1x128x2x5632 .f32 := m ((c : Thread nD τ).loc main_arg4)
@[inherit_doc a0] abbrev a5 : FVec Ideal S1024x1024 .f32 := m ((c : Thread nD τ).loc main_arg5)
@[inherit_doc a0] abbrev a6 : FVec Ideal S1024 .f32 := m ((c : Thread nD τ).loc main_arg6)
@[inherit_doc a0] abbrev a7 : FVec Ideal S1024x5632 .f32 := m ((c : Thread nD τ).loc main_arg7)
@[inherit_doc a0] abbrev a8 : FVec Ideal S3x5632 .f32 := m ((c : Thread nD τ).loc main_arg8)
@[inherit_doc a0] abbrev a9 : FVec Ideal S5632 .f32 := m ((c : Thread nD τ).loc main_arg9)
@[inherit_doc a0] abbrev a10 : FVec Ideal S2816x1024 .f32 := m ((c : Thread nD τ).loc main_arg10)
@[inherit_doc a0] abbrev a11 : FVec Ideal S1024 .f32 := m ((c : Thread nD τ).loc main_arg11)

/-- The rows after the first residual are the reference's. -/
theorem x_at (t : Fin cfg0.N) (r : Fin 128) (d : Fin 1024) :
    k0_pay12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r d) = RX (a0 m c) (a1 m c) (a2 m c) (a3 m c) (a5 m c) (ix3 r 0 d) := by
  refine (p12_at _ _ _ _ _ _ _ _ _ _ _ _ _ _ _ _ r d).trans (Eq.trans ?_ (RX_at _ _ _ _ _ r d).symm)
  exact congrFun (congr (congr (congr (congr (congr (congrArg res1 (funext fun d => blk0 m c t r d)) (funext fun d => blk3 m c t r d)) (funext fun j => blk1 m c t j r)) (funext fun j => blk2 m c t r j))
    (funext fun j => funext fun d => blk7 m c t _ d)) (funext fun j => funext fun d => blk7 m c t _ d)) d

/-- The modulated rows are the reference's. -/
theorem h_at (t : Fin cfg0.N) (r : Fin 128) (d : Fin 1024) :
    HB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r d) = modn (fun d => RX (a0 m c) (a1 m c) (a2 m c) (a3 m c) (a5 m c) (ix3 r 0 d)) (fun d => a6 m c (ix1 d)) (fun d => a3 m c (ix2 r (⟨4096 + d.val, by omega⟩ : Fin 6144))) (fun d => a3 m c (ix2 r (⟨3072 + d.val, by omega⟩ : Fin 6144))) d := by
  refine (HB_at _ _ _ _ _ _ _ _ _ _ _ _ _ _ _ _ r d).trans ?_
  exact congrFun (congr (congr (congr (congrArg modn (funext fun d => x_at m c t r d)) (funext fun d => blk8 m c t d)) (funext fun d => blk5 m c t r d)) (funext fun d => blk4 m c t r d)) d

/-- The up-projection is the reference's. -/
theorem u_at (t : Fin cfg0.N) (r : Fin 128) (l : Fin 5632) : UB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r l = WU (a0 m c) (a1 m c) (a2 m c) (a3 m c) (a5 m c) (a6 m c) (a7 m c) (ix3 r 0 l) := by
  refine Eq.trans ?_ (WU_at _ _ _ _ _ _ _ r l).symm
  unfold UB
  exact Finset.sum_congr rfl fun d _ => congr (congrArg HMul.hMul (h_at m c t r d)) (blk9 m c t d l)

/-- The convolution is the reference's. -/
theorem c_at (t : Fin cfg0.N) (r : Fin 128) (l : Fin 5632) : CB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r l = WC (a0 m c) (a1 m c) (a2 m c) (a3 m c) (a5 m c) (a6 m c) (a7 m c) (a4 m c) (a8 m c) (a9 m c) (ix3 r 0 l) := by
  refine Eq.trans ?_ (WC_at _ _ _ _ _ _ _ _ _ _ r l).symm
  unfold CB
  exact congr (congr (congr (congr (congr (congr (congrArg tap (blk11 m c t l)) (blk10 m c t 0 l)) (blk10 m c t 1 l)) (blk10 m c t 2 l)) (blk14 m c t r l)) (blk15 m c t r l)) (u_at m c t r l)

/-- The first result's block is the reference's. -/
theorem y_at (t : Fin cfg0.N) (r : Fin 128) (d : Fin 1024) : YB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r d = WN (a0 m c) (a1 m c) (a2 m c) (a3 m c) (a5 m c) (a6 m c) (a7 m c) (a4 m c) (a8 m c) (a9 m c) (a10 m c) (a11 m c) (ix3 r 0 d) := by
  refine Eq.trans ?_ (WN_at _ _ _ _ _ _ _ _ _ _ _ _ r d).symm
  unfold YB
  exact congrFun (congr (congrArg rms (congr (congr (congr (congrArg res2 (funext fun d => x_at m c t r d)) (funext fun d => blk6 m c t r d))
    (funext fun l => congr (congrArg gate (c_at m c t r _)) (c_at m c t r _))) (funext fun l => funext fun d => blk12 m c t l d))) (funext fun d => blk13 m c t d)) d

/-- THE FIRST RESULT ARRAY after the run. -/
theorem finalY : (dats m 0 c).arrAt 16 (cfgs 0).N = REFY (a0 m c) (a1 m c) (a2 m c) (a3 m c) (a5 m c) (a6 m c) (a7 m c) (a4 m c) (a8 m c) (a9 m c) (a10 m c) (a11 m c) := by
  refine (dats m 0 c).arrAt_eq_of_covers 16 _ (by decide +kernel) fun t _ y => ?_
  blk_simp
  rw [after0_16]
  obtain ⟨r, d, rfl⟩ : ∃ (r : Fin 128) (d : Fin 1024), y = ix2 r d := ⟨y 0, y 1, by blk_ext⟩
  rw [emb16]
  exact (out16_at _ _ _ _ _ _ _ _ _ _ _ _ _ _ _ _ r d).trans ((y_at m c t r d).trans (REFY_at _ _ _ _ _ _ _ _ _ _ _ _ r d).symm)

/-- THE SECOND RESULT ARRAY after the run. -/
theorem finalC : (dats m 0 c).arrAt 17 (cfgs 0).N = REFC (a0 m c) (a1 m c) (a2 m c) (a3 m c) (a5 m c) (a6 m c) (a7 m c) (a4 m c) := by
  refine (dats m 0 c).arrAt_eq_of_covers 17 _ (by decide +kernel) fun t _ y => ?_
  blk_simp
  rw [after0_17]
  obtain ⟨r, l, rfl⟩ : ∃ (r : Fin 128) (l : Fin 5632), y = ix2 r l := ⟨y 0, y 1, by blk_ext⟩
  rw [emb17]
  exact (out17_at _ _ _ _ _ _ _ _ _ _ _ _ _ _ _ _ r l).trans ((u_at m c t r l).trans (REFC_at _ _ _ _ _ _ _ _ r l).symm)

end Cert.Kernel5Ideal.Ffn
end
-- ==== Proof.SffRefRun.lean ====
/- The sample's feed-forward reference's run, its two results named. -/
module

public import proofs.«01_k».proof.Proof.SffRef

@[expose] public section

set_option maxRecDepth 16384

noncomputable section

namespace Cert.Reference5Ideal.Ffn

open Cert.Reference5Ideal Cert.Reference5Ideal.Gen Cert.Reference5Ideal.Value
open Idealize.ShloMosaic Idealize.ShloMosaic.TcCoe Idealize.SL.Sem Idealize.ShloMosaic.StableHlo

/-- The rows before the last normalisation. -/
theorem rows_eq (m : (ℓ : Loc nD τ sig) → Buf (Elt Ideal) ℓ) (c : Dev nD) :
    res_main_v62 (launchContents m c) = WY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg4)) (m ((c.tc : Thread nD τ).loc main_arg8)) (m ((c.tc : Thread nD τ).loc main_arg9)) (m ((c.tc : Thread nD τ).loc main_arg10)) := rfl

/-- The up-projection after the state's rows. -/
theorem padded_eq (m : (ℓ : Loc nD τ sig) → Buf (Elt Ideal) ℓ) (c : Dev nD) :
    res_main_v30 (launchContents m c) = WF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg4)) := rfl

/-- The reference's run: its two results, its arguments as they were. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v76) = REFY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v78) = REFC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ⟨(h c).1.trans ?_, (h c).2.1.trans ?_, (h c).2.2⟩) (run (F := Ideal) m ρ)
  · rw [rows_eq]
    rfl
  · rw [padded_eq]
    rfl

end Cert.Reference5Ideal.Ffn

end
-- ==== Proof.StepRef.lean ====
/- The step of the recurrence: the reference's two results at an index. -/
module

public import proofs.«01_k».proof.Proof.Gen.Reference8Ideal.Run
public import proofs.«01_k».proof.Proof.Gen.Reference8Ideal
public import proofs.«01_k».proof.Proof.FfnMath
public import Idealize.ShloMosaic.Lib.Pointwise

@[expose] public section

set_option maxRecDepth 16384

noncomputable section

namespace Cert.Reference8Ideal.Step

open Cert.Reference8Ideal Cert.Reference8Ideal.Gen Cert.Reference8Ideal.Value
open Idealize.ShloMosaic Idealize.ShloMosaic.TcCoe Idealize.SL.Sem Idealize.ShloMosaic.StableHlo

/-- The removal key over its norm. -/
def KN (q : FVec Ideal S128x8x64 .f32) : FVec Ideal S128x8x64 .f32 :=
  Host.divf q (broadcastInDim S128x8x64 ![0, 1, 2] bcast_S128x8x1_S128x8x64_0_1_2 (maximumf (Host.sqrt (broadcastInDim S128x8x1 ![0, 1] bcast_S128x8_S128x8x1_0_1 (Host.reduceAdd (mulf q q) (constant S_ .f32 0x00000000#32) reducesTo_S128x8x64_S128x8_d2 h_S_))) (broadcastInDim S128x8x1 ![] bcast_S_S128x8x1 (constant S_ .f32 0x2B8CBCCC#32))))

/-- The new state. -/
def NS (k v d q a : FVec Ideal S128x8x64 .f32) (S : FVec Ideal S1x128x8x64x64 .f32) : FVec Ideal S128x8x64x64 .f32 :=
  addf (addf (mulf (shapeCast S128x8x64x64 S shapeCasts_S1x128x8x64x64_S128x8x64x64) (broadcastInDim S128x8x64x64 ![0, 1, 2, 3] bcast_S128x8x1x64_S128x8x64x64_0_1_2_3 (broadcastInDim S128x8x1x64 ![0, 1, 3] bcast_S128x8x64_S128x8x1x64_0_1_3 d))) (mulf (broadcastInDim S128x8x64x64 ![0, 1, 2, 3] bcast_S128x8x64x1_S128x8x64x64_0_1_2_3 (broadcastInDim S128x8x64x1 ![0, 1, 2] bcast_S128x8x64_S128x8x64x1_0_1_2 (Host.negf (Host.dotGeneral dot_S128x8x64x64_S128x8x64_S128x8x64_3_2_2_n_01_01 none (shapeCast S128x8x64x64 S shapeCasts_S1x128x8x64x64_S128x8x64x64) (KN q))))) (broadcastInDim S128x8x64x64 ![0, 1, 2, 3] bcast_S128x8x1x64_S128x8x64x64_0_1_2_3 (broadcastInDim S128x8x1x64 ![0, 1, 3] bcast_S128x8x64_S128x8x1x64_0_1_3 (mulf (KN q) a))))) (mulf (broadcastInDim S128x8x64x64 ![0, 1, 2, 3] bcast_S128x8x64x1_S128x8x64x64_0_1_2_3 (broadcastInDim S128x8x64x1 ![0, 1, 2] bcast_S128x8x64_S128x8x64x1_0_1_2 v)) (broadcastInDim S128x8x64x64 ![0, 1, 2, 3] bcast_S128x8x1x64_S128x8x64x64_0_1_2_3 (broadcastInDim S128x8x1x64 ![0, 1, 3] bcast_S128x8x64_S128x8x1x64_0_1_3 k)))

/-- The new state against the receptance. -/
def Y (r k v d q a : FVec Ideal S128x8x64 .f32) (S : FVec Ideal S1x128x8x64x64 .f32) : FVec Ideal S128x8x64 .f32 :=
  Host.dotGeneral dot_S128x8x64x64_S128x8x64_S128x8x64_3_2_2_n_01_01 none (NS k v d q a S) r

/-- The group norm, the bonus and the gate. -/
def OUT (Yv r k v g : FVec Ideal S128x8x64 .f32) (p : FVec Ideal S8x64 .f32) (w b : FVec Ideal S512 .f32) : FVec Ideal S8x64x128 .f32 :=
  transpose S8x64x128 [1, 2, 0] (mulf (addf (addf (mulf (mulf (subf Yv (broadcastInDim S128x8x64 ![0, 1, 2] bcast_S128x8x1_S128x8x64_0_1_2 (Host.divf (broadcastInDim S128x8x1 ![0, 1] bcast_S128x8_S128x8x1_0_1 (Host.reduceAdd Yv (constant S_ .f32 0x00000000#32) reducesTo_S128x8x64_S128x8_d2 h_S_)) (broadcastInDim S128x8x1 ![] bcast_S_S128x8x1 (constant S_ .f32 0x42800000#32))))) (broadcastInDim S128x8x64 ![0, 1, 2] bcast_S128x8x1_S128x8x64_0_1_2 (Host.rsqrt (addf (Host.divf (broadcastInDim S128x8x1 ![0, 1] bcast_S128x8_S128x8x1_0_1 (Host.reduceAdd (mulf (subf Yv (broadcastInDim S128x8x64 ![0, 1, 2] bcast_S128x8x1_S128x8x64_0_1_2 (Host.divf (broadcastInDim S128x8x1 ![0, 1] bcast_S128x8_S128x8x1_0_1 (Host.reduceAdd Yv (constant S_ .f32 0x00000000#32) reducesTo_S128x8x64_S128x8_d2 h_S_)) (broadcastInDim S128x8x1 ![] bcast_S_S128x8x1 (constant S_ .f32 0x42800000#32))))) (subf Yv (broadcastInDim S128x8x64 ![0, 1, 2] bcast_S128x8x1_S128x8x64_0_1_2 (Host.divf (broadcastInDim S128x8x1 ![0, 1] bcast_S128x8_S128x8x1_0_1 (Host.reduceAdd Yv (constant S_ .f32 0x00000000#32) reducesTo_S128x8x64_S128x8_d2 h_S_)) (broadcastInDim S128x8x1 ![] bcast_S_S128x8x1 (constant S_ .f32 0x42800000#32)))))) (constant S_ .f32 0x00000000#32) reducesTo_S128x8x64_S128x8_d2 h_S_)) (broadcastInDim S128x8x1 ![] bcast_S_S128x8x1 (constant S_ .f32 0x42800000#32))) (broadcastInDim S128x8x1 ![] bcast_S_S128x8x1 (constant S_ .f32 0x3A27C5AC#32)))))) (broadcastInDim S128x8x64 ![0, 1, 2] bcast_S1x8x64_S128x8x64_0_1_2 (broadcastInDim S1x8x64 ![1, 2] bcast_S8x64_S1x8x64_1_2 (shapeCast S8x64 w shapeCasts_S512_S8x64)))) (broadcastInDim S128x8x64 ![0, 1, 2] bcast_S1x8x64_S128x8x64_0_1_2 (broadcastInDim S1x8x64 ![1, 2] bcast_S8x64_S1x8x64_1_2 (shapeCast S8x64 b shapeCasts_S512_S8x64)))) (mulf (broadcastInDim S128x8x64 ![0, 1, 2] bcast_S128x8x1_S128x8x64_0_1_2 (broadcastInDim S128x8x1 ![0, 1] bcast_S128x8_S128x8x1_0_1 (Host.reduceAdd (mulf (mulf r k) (broadcastInDim S128x8x64 ![0, 1, 2] bcast_S1x8x64_S128x8x64_0_1_2 (broadcastInDim S1x8x64 ![1, 2] bcast_S8x64_S1x8x64_1_2 p))) (constant S_ .f32 0x00000000#32) reducesTo_S128x8x64_S128x8_d2 h_S_))) v)) g) transposes_S128x8x64_S8x64x128_1_2_0

/-- The first result. -/
def REFO (r k v d q a g : FVec Ideal S128x8x64 .f32) (p : FVec Ideal S8x64 .f32) (w b : FVec Ideal S512 .f32) (S : FVec Ideal S1x128x8x64x64 .f32) : FVec Ideal S8x64x128 .f32 :=
  OUT (Y r k v d q a S) r k v g p w b

/-- The second result. -/
def REFS (k v d q a : FVec Ideal S128x8x64 .f32) (S : FVec Ideal S1x128x8x64x64 .f32) : FVec Ideal S8x64x64x128 .f32 :=
  transpose S8x64x64x128 [1, 2, 3, 0] (NS k v d q a S) transposes_S128x8x64x64_S8x64x64x128_1_2_3_0

/-- One component of a vector over its norm. -/
def kn (q : Fin 64 → EReal) (j : Fin 64) : EReal := Ideal.div (q j) (max (Ideal.sqrt (∑ i, q i * q i)) (Ideal.ofBits .f32 0x2B8CBCCC#32))

/-- One entry of the new state, of the old state's row. -/
def ns (s k d q a : Fin 64 → EReal) (v : EReal) (j : Fin 64) : EReal := s j * d j + -(∑ i, s i * kn q i) * (kn q j * a j) + v * k j

/-- The mean of 64 entries. -/
def mean (y : Fin 64 → EReal) : EReal := Ideal.div (∑ i, y i) (Ideal.ofBits .f32 0x42800000#32)

/-- One entry of the step's vector. -/
def out (y r k v g p w b : Fin 64 → EReal) (j : Fin 64) : EReal :=
  ((y j - mean y) * Ideal.rsqrt (mean (fun i => (y i - mean y) * (y i - mean y)) + Ideal.ofBits .f32 0x3A27C5AC#32) * w j + b j + (∑ i, r i * k i * p i) * v j) * g j

/-- The removal key over its norm at an index. -/
theorem KN_at (q : FVec Ideal S128x8x64 .f32) (n : Fin 128) (h : Fin 8) (j : Fin 64) : KN q (ix3 n h j) = kn (fun j => q (ix3 n h j)) j := by
  pointwise [KN]
  rfl

/-- The new state at an index. -/
theorem NS_at (k v d q a : FVec Ideal S128x8x64 .f32) (S : FVec Ideal S1x128x8x64x64 .f32) (n : Fin 128) (h : Fin 8) (i j : Fin 64) :
    NS k v d q a S (ix4 n h i j) = ns (fun j => S (ix5 0 n h i j)) (fun j => k (ix3 n h j)) (fun j => d (ix3 n h j)) (fun j => q (ix3 n h j)) (fun j => a (ix3 n h j)) (v (ix3 n h i)) j := by
  pointwise [NS, KN_at]
  rfl

/-- The new state against the receptance at an index. -/
theorem Y_at (r k v d q a : FVec Ideal S128x8x64 .f32) (S : FVec Ideal S1x128x8x64x64 .f32) (n : Fin 128) (h : Fin 8) (i : Fin 64) :
    Y r k v d q a S (ix3 n h i) = ∑ j, ns (fun j => S (ix5 0 n h i j)) (fun j => k (ix3 n h j)) (fun j => d (ix3 n h j)) (fun j => q (ix3 n h j)) (fun j => a (ix3 n h j)) (v (ix3 n h i)) j * r (ix3 n h j) := by
  pointwise [Y, NS_at]

/-- The step's vector at an index. -/
theorem OUT_at (Yv r k v g : FVec Ideal S128x8x64 .f32) (p : FVec Ideal S8x64 .f32) (w b : FVec Ideal S512 .f32) (n : Fin 128) (h : Fin 8) (j : Fin 64) :
    OUT Yv r k v g p w b (ix3 h j n) = out (fun j => Yv (ix3 n h j)) (fun j => r (ix3 n h j)) (fun j => k (ix3 n h j)) (fun j => v (ix3 n h j)) (fun j => g (ix3 n h j)) (fun j => p (ix2 h j))
      (fun j => w (ix1 ⟨h.val * 64 + j.val, by have := h.isLt; have := j.isLt; omega⟩)) (fun j => b (ix1 ⟨h.val * 64 + j.val, by have := h.isLt; have := j.isLt; omega⟩)) j := by
  pointwise [OUT]
  rfl

/-- The second result at an index. -/
theorem REFS_at (k v d q a : FVec Ideal S128x8x64 .f32) (S : FVec Ideal S1x128x8x64x64 .f32) (n : Fin 128) (h : Fin 8) (i j : Fin 64) :
    REFS k v d q a S (ix4 h i j n) = ns (fun j => S (ix5 0 n h i j)) (fun j => k (ix3 n h j)) (fun j => d (ix3 n h j)) (fun j => q (ix3 n h j)) (fun j => a (ix3 n h j)) (v (ix3 n h i)) j := by
  pointwise [REFS, NS_at]

/-- The first result at an index. -/
theorem REFO_at (r k v d q a g : FVec Ideal S128x8x64 .f32) (p : FVec Ideal S8x64 .f32) (w b : FVec Ideal S512 .f32) (S : FVec Ideal S1x128x8x64x64 .f32) (n : Fin 128) (h : Fin 8) (j : Fin 64) :
    REFO r k v d q a g p w b S (ix3 h j n) = out (fun i => ∑ j, ns (fun j => S (ix5 0 n h i j)) (fun j => k (ix3 n h j)) (fun j => d (ix3 n h j)) (fun j => q (ix3 n h j)) (fun j => a (ix3 n h j)) (v (ix3 n h i)) j * r (ix3 n h j))
      (fun j => r (ix3 n h j)) (fun j => k (ix3 n h j)) (fun j => v (ix3 n h j)) (fun j => g (ix3 n h j)) (fun j => p (ix2 h j))
      (fun j => w (ix1 ⟨h.val * 64 + j.val, by have := h.isLt; have := j.isLt; omega⟩)) (fun j => b (ix1 ⟨h.val * 64 + j.val, by have := h.isLt; have := j.isLt; omega⟩)) j := by
  unfold REFO
  rw [OUT_at]
  simp only [Y_at]

variable (m : (ℓ : Loc nD τ sig) → Buf (Elt Ideal) ℓ)

/-- The first result is what the run leaves. -/
theorem res_eq (c : Dev nD) : res_main_v61 m c = REFO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := rfl

/-- The reference's run: its two results, its arguments as they were. -/
theorem run_ref (ρ : Dev nD → PrngReg) :
    θ_run defs (onTc (τ := τ) (main (F := Ideal))) ⟨m, fun _ => 0, ρ⟩ fun r => ∀ c : Dev nD,
      r.2.mem ((c.tc : Thread nD τ).loc main_v61) = REFO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v62) = REFS (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1.trans (res_eq m c), (h c).2.1.trans rfl, (h c).2.2⟩) (run (F := Ideal) m ρ)

end Cert.Reference8Ideal.Step
end
-- ==== Proof.StepPay.lean ====
/- The step of the recurrence: what a trip of its loop stores, and what the run leaves in the two results. -/
module

public import proofs.«01_k».proof.Proof.Gen.Kernel8Ideal.Value
public import proofs.«01_k».proof.Proof.StepRef
public import Idealize.ShloMosaic.Lib.Pipeline.ValueKit

@[expose] public section

set_option maxRecDepth 16384

noncomputable section

namespace Cert.Kernel8Ideal.Step

open Cert.Kernel8Ideal Cert.Kernel8Ideal.Gen
open Cert.Reference8Ideal.Step (kn ns mean out)
open Idealize.ShloMosaic Idealize.ShloMosaic.TcCoe Idealize.SL.Sem Idealize.ShloMosaic.StableHlo

/-- A row of the new state at an index. -/
theorem pay4_at (v2 v4 v6 v8 : Vec Ideal S1x64x128 .f32) (s : Vec Ideal S1x1x64x128 .f32) (v : Vec Ideal S1x1x128 .f32) (j : Fin 64) (n : Fin 128) :
    k0_pay4 (F := Ideal) v2 v4 v6 v8 s v (ix2 j n) = ns (fun j => s (ix4 0 0 j n)) (fun j => v2 (ix3 0 j n)) (fun j => v4 (ix3 0 j n)) (fun j => v6 (ix3 0 j n)) (fun j => v8 (ix3 0 j n)) (v (ix3 0 0 n)) j := by
  pointwise [k0_pay4, k0_pay3]
  rw [sub_eq_add_neg, zero_add]
  rfl

/-- A stored row of the new state at an index. -/
theorem pay5_at (v2 v4 v6 v8 : Vec Ideal S1x64x128 .f32) (s : Vec Ideal S1x1x64x128 .f32) (v : Vec Ideal S1x1x128 .f32) (j : Fin 64) (n : Fin 128) :
    k0_pay5 (F := Ideal) v2 v4 v6 v8 s v (ix4 0 0 j n) = ns (fun j => s (ix4 0 0 j n)) (fun j => v2 (ix3 0 j n)) (fun j => v4 (ix3 0 j n)) (fun j => v6 (ix3 0 j n)) (fun j => v8 (ix3 0 j n)) (v (ix3 0 0 n)) j := by
  pointwise [k0_pay5, pay4_at]

/-- A stored row of the scratch at an index. -/
theorem pay6_at (v0 v2 v4 v6 v8 : Vec Ideal S1x64x128 .f32) (s : Vec Ideal S1x1x64x128 .f32) (v : Vec Ideal S1x1x128 .f32) (n : Fin 128) :
    k0_pay6 (F := Ideal) v0 v2 v4 v6 v8 s v (ix2 0 n) = ∑ j, ns (fun j => s (ix4 0 0 j n)) (fun j => v2 (ix3 0 j n)) (fun j => v4 (ix3 0 j n)) (fun j => v6 (ix3 0 j n)) (fun j => v8 (ix3 0 j n)) (v (ix3 0 0 n)) j * v0 (ix3 0 j n) := by
  pointwise [k0_pay6, k0_pay2, pay4_at]

/-- The step's vector at an index. -/
theorem pay1_at (v0 v2 : Vec Ideal S1x64x128 .f32) (y : Vec Ideal S64x128 .f32) (p w b : Vec Ideal S1x64x1 .f32) (v g : Vec Ideal S1x64x128 .f32) (j : Fin 64) (n : Fin 128) :
    k0_pay1 (F := Ideal) (k0_pay2 v0) (k0_pay3 v2) y (k0_pay7 y) (k0_pay8 y) k0_pay9 p v w b g (ix3 0 j n)
      = out (fun i => y (ix2 i n)) (fun i => v0 (ix3 0 i n)) (fun i => v2 (ix3 0 i n)) (fun i => v (ix3 0 i n)) (fun i => g (ix3 0 i n)) (fun i => p (ix3 0 i 0)) (fun i => w (ix3 0 i 0)) (fun i => b (ix3 0 i 0)) j := by
  pointwise [k0_pay1, k0_pay2, k0_pay3, k0_pay7, k0_pay8, k0_pay9]
  rfl

/-- What a trip stores: one row of the new state and one row of the scratch. -/
theorem trip_eq (c : Dev nD) (i : grid0.Coords) (arg1 : Memref sig .tc .vmem S1x64x128 .f32) (harg1 : arg1.IsWhole) (arg2 : Memref sig .tc .vmem S1x64x128 .f32) (harg2 : arg2.IsWhole) (arg3 : Memref sig .tc .vmem S1x64x128 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x1 .f32) (harg8 : arg8.IsWhole) (arg9 : Memref sig .tc .vmem S1x64x1 .f32) (harg9 : arg9.IsWhole) (arg10 : Memref sig .tc .vmem S1x64x1 .f32) (harg10 : arg10.IsWhole) (arg11 : Memref sig .tc .vmem S1x64x64x128 .f32) (harg11 : arg11.IsWhole) (arg12 : Memref sig .tc .vmem S1x64x128 .f32) (harg12 : arg12.IsWhole) (arg13 : Memref sig .tc .vmem S1x64x64x128 .f32) (harg13 : arg13.IsWhole) (arg14 : Memref sig .tc .vmem S64x128 .f32) (harg14 : arg14.IsWhole) (v0 v2 v4 v6 v8 : Vec Ideal S1x64x128 .f32) (X3 : BufTy.Contents (Elt Ideal) arg3.view.ty) (X11 : BufTy.Contents (Elt Ideal) arg11.view.ty) (k : Fin k0_t1_loop.trips) :
    tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 v0 v2 v4 v6 v8 X3 X11 k = ([(⟨Rect.unit (s := S1x64x64x128) (k0_off1 k) S1x1x64x128.size (k0_off1_inb k), k0_pay5 v2 v4 v6 v8 (arg11.view.readAt (Elt Ideal) (Rect.unit (s := S1x64x64x128) (k0_off1 k) S1x1x64x128.size (k0_off1_inb k)).toLoadRect X11) (arg3.view.readAt (Elt Ideal) (Rect.unit (s := S1x64x128) (k0_off2 k) S1x1x128.size (k0_off2_inb k)).toLoadRect X3)⟩ : View.Piece (Elt Ideal) S1x64x64x128 .f32)], [(⟨Rect.unit (s := S64x128) (k0_off3 k) S1x128.size (k0_off3_inb k), k0_pay6 v0 v2 v4 v6 v8 (arg11.view.readAt (Elt Ideal) (Rect.unit (s := S1x64x64x128) (k0_off1 k) S1x1x64x128.size (k0_off1_inb k)).toLoadRect X11) (arg3.view.readAt (Elt Ideal) (Rect.unit (s := S1x64x128) (k0_off2 k) S1x1x128.size (k0_off2_inb k)).toLoadRect X3)⟩ : View.Piece (Elt Ideal) S64x128 .f32)]) := by
  unfold tripL_k0_t1 trip_k0_t1
  rfl

/-- Every piece the trips leave is one trip's, and every trip's row of the scratch is among them. -/
theorem pieces (c : Dev nD) (i : grid0.Coords) (arg1 : Memref sig .tc .vmem S1x64x128 .f32) (harg1 : arg1.IsWhole) (arg2 : Memref sig .tc .vmem S1x64x128 .f32) (harg2 : arg2.IsWhole) (arg3 : Memref sig .tc .vmem S1x64x128 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x1 .f32) (harg8 : arg8.IsWhole) (arg9 : Memref sig .tc .vmem S1x64x1 .f32) (harg9 : arg9.IsWhole) (arg10 : Memref sig .tc .vmem S1x64x1 .f32) (harg10 : arg10.IsWhole) (arg11 : Memref sig .tc .vmem S1x64x64x128 .f32) (harg11 : arg11.IsWhole) (arg12 : Memref sig .tc .vmem S1x64x128 .f32) (harg12 : arg12.IsWhole) (arg13 : Memref sig .tc .vmem S1x64x64x128 .f32) (harg13 : arg13.IsWhole) (arg14 : Memref sig .tc .vmem S64x128 .f32) (harg14 : arg14.IsWhole) (v0 v2 v4 v6 v8 : Vec Ideal S1x64x128 .f32) (X3 : BufTy.Contents (Elt Ideal) arg3.view.ty) (X11 : BufTy.Contents (Elt Ideal) arg11.view.ty) : ∀ n : ℕ, n ≤ k0_t1_loop.trips →
    (∀ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 v0 v2 v4 v6 v8 X3 X11 n).1, ∃ k : Fin k0_t1_loop.trips, p = (⟨Rect.unit (s := S1x64x64x128) (k0_off1 k) S1x1x64x128.size (k0_off1_inb k), k0_pay5 v2 v4 v6 v8 (arg11.view.readAt (Elt Ideal) (Rect.unit (s := S1x64x64x128) (k0_off1 k) S1x1x64x128.size (k0_off1_inb k)).toLoadRect X11) (arg3.view.readAt (Elt Ideal) (Rect.unit (s := S1x64x128) (k0_off2 k) S1x1x128.size (k0_off2_inb k)).toLoadRect X3)⟩ : View.Piece (Elt Ideal) S1x64x64x128 .f32)) ∧ (∀ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 v0 v2 v4 v6 v8 X3 X11 n).2, ∃ k : Fin k0_t1_loop.trips, p = (⟨Rect.unit (s := S64x128) (k0_off3 k) S1x128.size (k0_off3_inb k), k0_pay6 v0 v2 v4 v6 v8 (arg11.view.readAt (Elt Ideal) (Rect.unit (s := S1x64x64x128) (k0_off1 k) S1x1x64x128.size (k0_off1_inb k)).toLoadRect X11) (arg3.view.readAt (Elt Ideal) (Rect.unit (s := S1x64x128) (k0_off2 k) S1x1x128.size (k0_off2_inb k)).toLoadRect X3)⟩ : View.Piece (Elt Ideal) S64x128 .f32))
      ∧ (∀ k : Fin k0_t1_loop.trips, k.val < n → (⟨Rect.unit (s := S64x128) (k0_off3 k) S1x128.size (k0_off3_inb k), k0_pay6 v0 v2 v4 v6 v8 (arg11.view.readAt (Elt Ideal) (Rect.unit (s := S1x64x64x128) (k0_off1 k) S1x1x64x128.size (k0_off1_inb k)).toLoadRect X11) (arg3.view.readAt (Elt Ideal) (Rect.unit (s := S1x64x128) (k0_off2 k) S1x1x128.size (k0_off2_inb k)).toLoadRect X3)⟩ : View.Piece (Elt Ideal) S64x128 .f32) ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 v0 v2 v4 v6 v8 X3 X11 n).2)
  | 0, _ => ⟨fun p hp => absurd hp (by simp [pb_k0_t1]), fun p hp => absurd hp (by simp [pb_k0_t1]), fun k hk => absurd hk (Nat.not_lt_zero _)⟩
  | n + 1, hn => by
    obtain ⟨h1, h2, h3⟩ := pieces c i arg1 harg1 arg2 harg2 arg3 harg3 arg4 harg4 arg5 harg5 arg6 harg6 arg7 harg7 arg8 harg8 arg9 harg9 arg10 harg10 arg11 harg11 arg12 harg12 arg13 harg13 arg14 harg14 v0 v2 v4 v6 v8 X3 X11 n (Nat.le_of_succ_le hn)
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 v0 v2 v4 v6 v8 X3 X11 ⟨n, hn⟩
    rw [trip_eq] at e
    dsimp only at e
    rw [e]
    refine ⟨fun p hp => ?_, fun p hp => ?_, fun k hk => ?_⟩
    · rcases List.mem_append.1 hp with hp | hp
      · exact ⟨⟨n, hn⟩, List.mem_singleton.1 hp⟩
      · exact h1 p hp
    · rcases List.mem_append.1 hp with hp | hp
      · exact ⟨⟨n, hn⟩, List.mem_singleton.1 hp⟩
      · exact h2 p hp
    · rcases Nat.lt_succ_iff_lt_or_eq.1 hk with hk | hk
      · exact List.mem_append.2 (Or.inr (h3 k hk))
      · obtain rfl : k = ⟨n, hn⟩ := Fin.ext hk
        exact List.mem_append.2 (Or.inl (List.mem_singleton.2 rfl))

/-- The new state's block of the inputs' blocks. -/
def GS (x1 x2 x3 x4 x5 : Vec Ideal S1x64x128 .f32) (x10 : Vec Ideal S1x64x64x128 .f32) : Vec Ideal S1x64x64x128 .f32 := fun y =>
  let l : Fin 64 := y 1
  let j : Fin 64 := y 2
  let n : Fin 128 := y 3
  ns (fun j => x10 (ix4 0 l j n)) (fun j => x1 (ix3 0 j n)) (fun j => x3 (ix3 0 j n)) (fun j => x4 (ix3 0 j n)) (fun j => x5 (ix3 0 j n)) (x2 (ix3 0 l n)) j

/-- The scratch of the inputs' blocks. -/
def GY (x0 x1 x2 x3 x4 x5 : Vec Ideal S1x64x128 .f32) (x10 : Vec Ideal S1x64x64x128 .f32) : Vec Ideal S64x128 .f32 := fun y =>
  let l : Fin 64 := y 0
  let n : Fin 128 := y 1
  ∑ j, ns (fun j => x10 (ix4 0 l j n)) (fun j => x1 (ix3 0 j n)) (fun j => x3 (ix3 0 j n)) (fun j => x4 (ix3 0 j n)) (fun j => x5 (ix3 0 j n)) (x2 (ix3 0 l n)) j * x0 (ix3 0 j n)

/-- A whole block read back. -/
theorem rd3 (a : Memref sig .tc .vmem S1x64x128 .f32) (h : a.IsWhole) (x : Vec Ideal S1x64x128 .f32) :
    View.readAt (Elt Ideal) a.view (Rect.unit (s := S1x64x128) ![0, 0, 0] ![1, 64, 128] inb_S1x64x128_S1x64x128_0_0_0).toLoadRect (h.unread x) = x := by
  rw [View.readAt_eq_ld, h.read_unread]
  exact View.ld_unit_lit _ _ (by decide)

/-- A whole column read back. -/
theorem rd1 (a : Memref sig .tc .vmem S1x64x1 .f32) (h : a.IsWhole) (x : Vec Ideal S1x64x1 .f32) :
    View.readAt (Elt Ideal) a.view (Rect.unit (s := S1x64x1) ![0, 0, 0] ![1, 64, 1] inb_S1x64x1_S1x64x1_0_0_0).toLoadRect (h.unread x) = x := by
  rw [View.readAt_eq_ld, h.read_unread]
  exact View.ld_unit_lit _ _ (by decide)

/-- A trip's row of the state. -/
theorem rds (a : Memref sig .tc .vmem S1x64x64x128 .f32) (h : a.IsWhole) (x : Vec Ideal S1x64x64x128 .f32) (k : Fin k0_t1_loop.trips) (i : Fin 64) (e : i.val = k.val) (j : Fin 64) (n : Fin 128) :
    (show Vec Ideal S1x1x64x128 .f32 from a.view.readAt (Elt Ideal) (Rect.unit (s := S1x64x64x128) (k0_off1 k) S1x1x64x128.size (k0_off1_inb k)).toLoadRect (h.unread x)) (ix4 0 0 j n) = x (ix4 0 i j n) := by
  rw [View.readAt_eq_ld, h.read_unread]
  refine View.ld_unit_apply_of _ _ _ _ _ _ fun q => ?_
  refine Eq.trans ?_ (congrArg (fun z => z + _) (congrFun (k0_off1_eq k) q)).symm
  fin_cases q <;> simp [e, ix4]

/-- A trip's row of the values. -/
theorem rdv (a : Memref sig .tc .vmem S1x64x128 .f32) (h : a.IsWhole) (x : Vec Ideal S1x64x128 .f32) (k : Fin k0_t1_loop.trips) (i : Fin 64) (e : i.val = k.val) (n : Fin 128) :
    (show Vec Ideal S1x1x128 .f32 from a.view.readAt (Elt Ideal) (Rect.unit (s := S1x64x128) (k0_off2 k) S1x1x128.size (k0_off2_inb k)).toLoadRect (h.unread x)) (ix3 0 0 n) = x (ix3 0 i n) := by
  rw [View.readAt_eq_ld, h.read_unread]
  refine View.ld_unit_apply_of _ _ _ _ _ _ fun q => ?_
  refine Eq.trans ?_ (congrArg (fun z => z + _) (congrFun (k0_off2_eq k) q)).symm
  fin_cases q <;> simp [e, ix3]

/-- The run's pieces of the new state. -/
theorem run12 (c : Dev nD) (i : grid0.Coords) (arg1 : Memref sig .tc .vmem S1x64x128 .f32) (harg1 : arg1.IsWhole) (arg2 : Memref sig .tc .vmem S1x64x128 .f32) (harg2 : arg2.IsWhole) (arg3 : Memref sig .tc .vmem S1x64x128 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x1 .f32) (harg8 : arg8.IsWhole) (arg9 : Memref sig .tc .vmem S1x64x1 .f32) (harg9 : arg9.IsWhole) (arg10 : Memref sig .tc .vmem S1x64x1 .f32) (harg10 : arg10.IsWhole) (arg11 : Memref sig .tc .vmem S1x64x64x128 .f32) (harg11 : arg11.IsWhole) (arg12 : Memref sig .tc .vmem S1x64x128 .f32) (harg12 : arg12.IsWhole) (arg13 : Memref sig .tc .vmem S1x64x64x128 .f32) (harg13 : arg13.IsWhole) (arg14 : Memref sig .tc .vmem S64x128 .f32) (harg14 : arg14.IsWhole) (x0 x1 x2 x3 x4 x5 x6 : Vec Ideal S1x64x128 .f32) (x7 x8 x9 : Vec Ideal S1x64x1 .f32) (x10 : Vec Ideal S1x64x64x128 .f32) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10).2.1 = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 x0 x1 x3 x4 x5 (harg3.unread x2) (harg11.unread x10) k0_t1_loop.trips).1 := by
  unfold kernelRun0_A
  dsimp only
  simp only [rd3]

/-- The trips' rows of the scratch read back. -/
abbrev YS (c : Dev nD) (i : grid0.Coords) (arg1 : Memref sig .tc .vmem S1x64x128 .f32) (harg1 : arg1.IsWhole) (arg2 : Memref sig .tc .vmem S1x64x128 .f32) (harg2 : arg2.IsWhole) (arg3 : Memref sig .tc .vmem S1x64x128 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x1 .f32) (harg8 : arg8.IsWhole) (arg9 : Memref sig .tc .vmem S1x64x1 .f32) (harg9 : arg9.IsWhole) (arg10 : Memref sig .tc .vmem S1x64x1 .f32) (harg10 : arg10.IsWhole) (arg11 : Memref sig .tc .vmem S1x64x64x128 .f32) (harg11 : arg11.IsWhole) (arg12 : Memref sig .tc .vmem S1x64x128 .f32) (harg12 : arg12.IsWhole) (arg13 : Memref sig .tc .vmem S1x64x64x128 .f32) (harg13 : arg13.IsWhole) (arg14 : Memref sig .tc .vmem S64x128 .f32) (harg14 : arg14.IsWhole) (x0 x1 x2 x3 x4 x5 x6 : Vec Ideal S1x64x128 .f32) (x7 x8 x9 : Vec Ideal S1x64x1 .f32) (x10 : Vec Ideal S1x64x64x128 .f32) : Vec Ideal S64x128 .f32 :=
  arg14.view.readCov (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 x0 x1 x3 x4 x5 (harg3.unread x2) (harg11.unread x10) k0_t1_loop.trips).2 (Rect.unit (s := S64x128) ![0, 0] S64x128.size inb_S64x128_S64x128_0_0).toLoadRect

/-- The run's piece of the step's vector. -/
theorem run11 (c : Dev nD) (i : grid0.Coords) (arg1 : Memref sig .tc .vmem S1x64x128 .f32) (harg1 : arg1.IsWhole) (arg2 : Memref sig .tc .vmem S1x64x128 .f32) (harg2 : arg2.IsWhole) (arg3 : Memref sig .tc .vmem S1x64x128 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x1 .f32) (harg8 : arg8.IsWhole) (arg9 : Memref sig .tc .vmem S1x64x1 .f32) (harg9 : arg9.IsWhole) (arg10 : Memref sig .tc .vmem S1x64x1 .f32) (harg10 : arg10.IsWhole) (arg11 : Memref sig .tc .vmem S1x64x64x128 .f32) (harg11 : arg11.IsWhole) (arg12 : Memref sig .tc .vmem S1x64x128 .f32) (harg12 : arg12.IsWhole) (arg13 : Memref sig .tc .vmem S1x64x64x128 .f32) (harg13 : arg13.IsWhole) (arg14 : Memref sig .tc .vmem S64x128 .f32) (harg14 : arg14.IsWhole) (x0 x1 x2 x3 x4 x5 x6 : Vec Ideal S1x64x128 .f32) (x7 x8 x9 : Vec Ideal S1x64x1 .f32) (x10 : Vec Ideal S1x64x64x128 .f32) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10).1
    = [⟨Rect.unit (s := S1x64x128) ![0, 0, 0] S1x64x128.size inb_S1x64x128_S1x64x128_0_0_0, k0_pay1 (k0_pay2 x0) (k0_pay3 x1) (YS c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10) (k0_pay7 (YS c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)) (k0_pay8 (YS c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)) k0_pay9 x7 x2 x8 x9 x6⟩] := by
  unfold kernelRun0_A kernelRun0_A.sl.r kernelRun0_A.sl.r_1 kernelRun0_A.sl.r_2 kernelRun0_A.sl.r_3 kernelRun0_A.sl.r_4
  dsimp only
  simp only [rd3, rd1]

/-- The scratch at an index. -/
theorem YS_at (c : Dev nD) (i : grid0.Coords) (arg1 : Memref sig .tc .vmem S1x64x128 .f32) (harg1 : arg1.IsWhole) (arg2 : Memref sig .tc .vmem S1x64x128 .f32) (harg2 : arg2.IsWhole) (arg3 : Memref sig .tc .vmem S1x64x128 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x1 .f32) (harg8 : arg8.IsWhole) (arg9 : Memref sig .tc .vmem S1x64x1 .f32) (harg9 : arg9.IsWhole) (arg10 : Memref sig .tc .vmem S1x64x1 .f32) (harg10 : arg10.IsWhole) (arg11 : Memref sig .tc .vmem S1x64x64x128 .f32) (harg11 : arg11.IsWhole) (arg12 : Memref sig .tc .vmem S1x64x128 .f32) (harg12 : arg12.IsWhole) (arg13 : Memref sig .tc .vmem S1x64x64x128 .f32) (harg13 : arg13.IsWhole) (arg14 : Memref sig .tc .vmem S64x128 .f32) (harg14 : arg14.IsWhole) (x0 x1 x2 x3 x4 x5 x6 : Vec Ideal S1x64x128 .f32) (x7 x8 x9 : Vec Ideal S1x64x1 .f32) (x10 : Vec Ideal S1x64x64x128 .f32) (l : Fin 64) (n : Fin 128) :
    YS c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 (ix2 l n) = ∑ j, ns (fun j => x10 (ix4 0 l j n)) (fun j => x1 (ix3 0 j n)) (fun j => x3 (ix3 0 j n)) (fun j => x4 (ix3 0 j n)) (fun j => x5 (ix3 0 j n)) (x2 (ix3 0 l n)) j * x0 (ix3 0 j n) := by
  have hp := pieces c i arg1 harg1 arg2 harg2 arg3 harg3 arg4 harg4 arg5 harg5 arg6 harg6 arg7 harg7 arg8 harg8 arg9 harg9 arg10 harg10 arg11 harg11 arg12 harg12 arg13 harg13 arg14 harg14 x0 x1 x3 x4 x5 (harg3.unread x2) (harg11.unread x10) k0_t1_loop.trips le_rfl
  have ht : k0_t1_loop.trips = 64 := by decide +kernel
  unfold YS
  rw [View.readCov_eq_canon']
  have e : (Rect.unit (s := S64x128) ![0, 0] S64x128.size inb_S64x128_S64x128_0_0).toLoadRect.idx (ix2 l n) = (ix2 l n : S64x128.Idx) := by
    refine funext fun q => Fin.ext ?_
    match q with
    | ⟨0, _⟩ => exact (Rect.idx_unit_val _ _ _ _ _).trans (Nat.zero_add _)
    | ⟨1, _⟩ => exact (Rect.idx_unit_val _ _ _ _ _).trans (Nat.zero_add _)
  dsimp only
  rw [e]
  refine View.canon_apply_of_pieces (GY x0 x1 x2 x3 x4 x5 x10) _ ?_ (ix2 l n) ?_
  · intro p hpm
    obtain ⟨k, rfl⟩ := hp.2.1 p hpm
    intro x
    obtain ⟨z, b, rfl⟩ : ∃ (z : Fin 1) (b : Fin 128), x = ix2 z b := ⟨x 0, x 1, by blk_ext⟩
    obtain rfl : z = 0 := Subsingleton.elim _ _
    refine (pay6_at _ _ _ _ _ _ _ b).trans ?_
    have hk : k.val < 64 := by have := k.isLt; omega
    have e : (Rect.unit (s := S64x128) (k0_off3 k) S1x128.size (k0_off3_inb k)).idx (ix2 0 b) = (ix2 ⟨k.val, hk⟩ b : S64x128.Idx) := by
      refine funext fun q => Fin.ext ?_
      refine (Rect.idx_unit_val _ _ _ _ _).trans ?_
      refine (congrArg (fun z => z + _) (congrFun (k0_off3_eq k) q)).trans ?_
      fin_cases q <;> simp [ix2]
    refine Eq.trans ?_ (congrArg (GY x0 x1 x2 x3 x4 x5 x10) e).symm
    refine Finset.sum_congr rfl fun j _ => ?_
    have h1 := rdv arg3 harg3 x2 k ⟨k.val, hk⟩ rfl b
    have h2 := fun j => rds arg11 harg11 x10 k ⟨k.val, hk⟩ rfl j b
    dsimp only at h1 h2 ⊢
    rw [h1]
    simp only [h2]
    rfl
  · have hl : l.val < k0_t1_loop.trips := Nat.lt_of_lt_of_eq l.isLt ht.symm
    refine ⟨_, hp.2.2 ⟨l.val, hl⟩ hl, ?_⟩
    apply (Rect.mem_set_unit (inb := k0_off3_inb ⟨l.val, hl⟩)).2
    intro q
    have hq := congrFun (k0_off3_eq ⟨l.val, hl⟩) q
    refine ⟨(Nat.le_of_eq hq).trans ?_, Nat.lt_of_lt_of_eq ?_ (congrArg (fun z => z + _) hq).symm⟩
    · fin_cases q <;> simp [ix2]
    · fin_cases q <;> simp [ix2]

/-- The new state's block, as the frame gives it, at an index. -/
theorem out12_at (c : Dev nD) (i : grid0.Coords) (arg1 : Memref sig .tc .vmem S1x64x128 .f32) (harg1 : arg1.IsWhole) (arg2 : Memref sig .tc .vmem S1x64x128 .f32) (harg2 : arg2.IsWhole) (arg3 : Memref sig .tc .vmem S1x64x128 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x1 .f32) (harg8 : arg8.IsWhole) (arg9 : Memref sig .tc .vmem S1x64x1 .f32) (harg9 : arg9.IsWhole) (arg10 : Memref sig .tc .vmem S1x64x1 .f32) (harg10 : arg10.IsWhole) (arg11 : Memref sig .tc .vmem S1x64x64x128 .f32) (harg11 : arg11.IsWhole) (arg12 : Memref sig .tc .vmem S1x64x128 .f32) (harg12 : arg12.IsWhole) (arg13 : Memref sig .tc .vmem S1x64x64x128 .f32) (harg13 : arg13.IsWhole) (arg14 : Memref sig .tc .vmem S64x128 .f32) (harg14 : arg14.IsWhole) (x0 x1 x2 x3 x4 x5 x6 : Vec Ideal S1x64x128 .f32) (x7 x8 x9 : Vec Ideal S1x64x1 .f32) (x10 : Vec Ideal S1x64x64x128 .f32) (l j : Fin 64) (n : Fin 128) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 (ix4 0 l j n) = ns (fun j => x10 (ix4 0 l j n)) (fun j => x1 (ix3 0 j n)) (fun j => x3 (ix3 0 j n)) (fun j => x4 (ix3 0 j n)) (fun j => x5 (ix3 0 j n)) (x2 (ix3 0 l n)) j := by
  have hp := pieces c i arg1 harg1 arg2 harg2 arg3 harg3 arg4 harg4 arg5 harg5 arg6 harg6 arg7 harg7 arg8 harg8 arg9 harg9 arg10 harg10 arg11 harg11 arg12 harg12 arg13 harg13 arg14 harg14 x0 x1 x3 x4 x5 (harg3.unread x2) (harg11.unread x10) k0_t1_loop.trips le_rfl
  have ht : k0_t1_loop.trips = 64 := by decide +kernel
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  refine View.canon_apply_of_pieces (GS x1 x2 x3 x4 x5 x10) _ ?_ (ix4 0 l j n) (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 _)
  intro p hpm
  rw [run12] at hpm
  obtain ⟨k, rfl⟩ := hp.1 p hpm
  intro x
  obtain ⟨z, z', a, b, rfl⟩ : ∃ (z z' : Fin 1) (a : Fin 64) (b : Fin 128), x = ix4 z z' a b := ⟨x 0, x 1, x 2, x 3, by blk_ext⟩
  obtain rfl : z = 0 := Subsingleton.elim _ _
  obtain rfl : z' = 0 := Subsingleton.elim _ _
  refine (pay5_at _ _ _ _ _ _ a b).trans ?_
  have hk : k.val < 64 := by have := k.isLt; omega
  have e : (Rect.unit (s := S1x64x64x128) (k0_off1 k) S1x1x64x128.size (k0_off1_inb k)).idx (ix4 0 0 a b) = (ix4 0 ⟨k.val, hk⟩ a b : S1x64x64x128.Idx) := by
    refine funext fun q => Fin.ext ?_
    refine (Rect.idx_unit_val _ _ _ _ _).trans ?_
    refine (congrArg (fun z => z + _) (congrFun (k0_off1_eq k) q)).trans ?_
    fin_cases q <;> simp [ix4]
  refine Eq.trans ?_ (congrArg (GS x1 x2 x3 x4 x5 x10) e).symm
  have h1 := rdv arg3 harg3 x2 k ⟨k.val, hk⟩ rfl b
  have h2 := fun j => rds arg11 harg11 x10 k ⟨k.val, hk⟩ rfl j b
  dsimp only at h1 h2 ⊢
  rw [h1]
  simp only [h2]
  rfl

/-- The step's vector's block, as the frame gives it, at an index. -/
theorem out11_at (c : Dev nD) (i : grid0.Coords) (arg1 : Memref sig .tc .vmem S1x64x128 .f32) (harg1 : arg1.IsWhole) (arg2 : Memref sig .tc .vmem S1x64x128 .f32) (harg2 : arg2.IsWhole) (arg3 : Memref sig .tc .vmem S1x64x128 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x1 .f32) (harg8 : arg8.IsWhole) (arg9 : Memref sig .tc .vmem S1x64x1 .f32) (harg9 : arg9.IsWhole) (arg10 : Memref sig .tc .vmem S1x64x1 .f32) (harg10 : arg10.IsWhole) (arg11 : Memref sig .tc .vmem S1x64x64x128 .f32) (harg11 : arg11.IsWhole) (arg12 : Memref sig .tc .vmem S1x64x128 .f32) (harg12 : arg12.IsWhole) (arg13 : Memref sig .tc .vmem S1x64x64x128 .f32) (harg13 : arg13.IsWhole) (arg14 : Memref sig .tc .vmem S64x128 .f32) (harg14 : arg14.IsWhole) (x0 x1 x2 x3 x4 x5 x6 : Vec Ideal S1x64x128 .f32) (x7 x8 x9 : Vec Ideal S1x64x1 .f32) (x10 : Vec Ideal S1x64x64x128 .f32) (j : Fin 64) (n : Fin 128) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 (ix3 0 j n)
      = out (fun l => ∑ j, ns (fun j => x10 (ix4 0 l j n)) (fun j => x1 (ix3 0 j n)) (fun j => x3 (ix3 0 j n)) (fun j => x4 (ix3 0 j n)) (fun j => x5 (ix3 0 j n)) (x2 (ix3 0 l n)) j * x0 (ix3 0 j n)) (fun i => x0 (ix3 0 i n)) (fun i => x1 (ix3 0 i n)) (fun i => x2 (ix3 0 i n)) (fun i => x6 (ix3 0 i n)) (fun i => x7 (ix3 0 i 0)) (fun i => x8 (ix3 0 i 0)) (fun i => x9 (ix3 0 i 0)) j := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10), run11]
  rw [View.canon_cons_unit_lit _ _ _ (by decide)]
  rw [pay1_at]
  simp only [YS_at]

end Cert.Kernel8Ideal.Step
end
-- ==== Proof.StepFinal.lean ====
/- The step of the recurrence: the kernel's two result arrays are the reference's. -/
module

public import proofs.«01_k».proof.Proof.StepPay
public import Idealize.ShloMosaic.Lib.Pipeline.ValueKit

@[expose] public section

set_option maxRecDepth 16384

noncomputable section

namespace Cert.Kernel8Ideal.Step

open Cert.Kernel8Ideal Cert.Kernel8Ideal.Gen
open Cert.Reference8Ideal.Step (REFO REFS REFO_at REFS_at kn ns mean out)
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The arguments. -/
abbrev a0 : FVec Ideal S128x8x64 .f32 := m ((c : Thread nD τ).loc main_arg0)
@[inherit_doc a0] abbrev a1 : FVec Ideal S128x8x64 .f32 := m ((c : Thread nD τ).loc main_arg1)
@[inherit_doc a0] abbrev a2 : FVec Ideal S128x8x64 .f32 := m ((c : Thread nD τ).loc main_arg2)
@[inherit_doc a0] abbrev a3 : FVec Ideal S128x8x64 .f32 := m ((c : Thread nD τ).loc main_arg3)
@[inherit_doc a0] abbrev a4 : FVec Ideal S128x8x64 .f32 := m ((c : Thread nD τ).loc main_arg4)
@[inherit_doc a0] abbrev a5 : FVec Ideal S128x8x64 .f32 := m ((c : Thread nD τ).loc main_arg5)
@[inherit_doc a0] abbrev a6 : FVec Ideal S128x8x64 .f32 := m ((c : Thread nD τ).loc main_arg6)
@[inherit_doc a0] abbrev a7 : FVec Ideal S8x64 .f32 := m ((c : Thread nD τ).loc main_arg7)
@[inherit_doc a0] abbrev a8 : FVec Ideal S512 .f32 := m ((c : Thread nD τ).loc main_arg8)
@[inherit_doc a0] abbrev a9 : FVec Ideal S512 .f32 := m ((c : Thread nD τ).loc main_arg9)
@[inherit_doc a0] abbrev a10 : FVec Ideal S1x128x8x64x64 .f32 := m ((c : Thread nD τ).loc main_arg10)

/-- Every window's block index at a grid point. -/
theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0] ∧ win0_9.index t = ![t.val, 0, 0] ∧ win0_10.index t = ![t.val, 0, 0, 0] ∧ win0_11.index t = ![t.val, 0, 0] ∧ win0_12.index t = ![t.val, 0, 0, 0] :=
  (by decide +kernel : ∀ t : Fin grid0.N, _)

/-- Argument 0 with the rows last. -/
theorem V_v5 : V m c main_v5 = (show FVec Ideal S8x64x128 .f32 from transpose S8x64x128 [1, 2, 0] (a0 m c) transposes_S128x8x64_S8x64x128_1_2_0) := by
  unfold V
  simp only [hostOps0, List.flatten_cons, List.flatten_nil, List.append_nil, List.cons_append, List.nil_append]
  entry_read
  rfl

/-- Argument 1 with the rows last. -/
theorem V_v6 : V m c main_v6 = (show FVec Ideal S8x64x128 .f32 from transpose S8x64x128 [1, 2, 0] (a1 m c) transposes_S128x8x64_S8x64x128_1_2_0) := by
  unfold V
  simp only [hostOps0, List.flatten_cons, List.flatten_nil, List.append_nil, List.cons_append, List.nil_append]
  entry_read
  rfl

/-- Argument 2 with the rows last. -/
theorem V_v7 : V m c main_v7 = (show FVec Ideal S8x64x128 .f32 from transpose S8x64x128 [1, 2, 0] (a2 m c) transposes_S128x8x64_S8x64x128_1_2_0) := by
  unfold V
  simp only [hostOps0, List.flatten_cons, List.flatten_nil, List.append_nil, List.cons_append, List.nil_append]
  entry_read
  rfl

/-- Argument 3 with the rows last. -/
theorem V_v8 : V m c main_v8 = (show FVec Ideal S8x64x128 .f32 from transpose S8x64x128 [1, 2, 0] (a3 m c) transposes_S128x8x64_S8x64x128_1_2_0) := by
  unfold V
  simp only [hostOps0, List.flatten_cons, List.flatten_nil, List.append_nil, List.cons_append, List.nil_append]
  entry_read
  rfl

/-- Argument 4 with the rows last. -/
theorem V_v9 : V m c main_v9 = (show FVec Ideal S8x64x128 .f32 from transpose S8x64x128 [1, 2, 0] (a4 m c) transposes_S128x8x64_S8x64x128_1_2_0) := by
  unfold V
  simp only [hostOps0, List.flatten_cons, List.flatten_nil, List.append_nil, List.cons_append, List.nil_append]
  entry_read
  rfl

/-- Argument 5 with the rows last. -/
theorem V_v10 : V m c main_v10 = (show FVec Ideal S8x64x128 .f32 from transpose S8x64x128 [1, 2, 0] (a5 m c) transposes_S128x8x64_S8x64x128_1_2_0) := by
  unfold V
  simp only [hostOps0, List.flatten_cons, List.flatten_nil, List.append_nil, List.cons_append, List.nil_append]
  entry_read
  rfl

/-- Argument 6 with the rows last. -/
theorem V_v11 : V m c main_v11 = (show FVec Ideal S8x64x128 .f32 from transpose S8x64x128 [1, 2, 0] (a6 m c) transposes_S128x8x64_S8x64x128_1_2_0) := by
  unfold V
  simp only [hostOps0, List.flatten_cons, List.flatten_nil, List.append_nil, List.cons_append, List.nil_append]
  entry_read
  rfl

/-- The bonus's weights as columns. -/
theorem V_v0 : V m c main_v0 = (show FVec Ideal S8x64x1 .f32 from broadcastInDim S8x64x1 ![0, 1] bcast_S8x64_S8x64x1_0_1 (a7 m c)) := by
  unfold V
  simp only [hostOps0, List.flatten_cons, List.flatten_nil, List.append_nil, List.cons_append, List.nil_append]
  entry_read
  rfl

/-- The norm's parameter 8 as columns. -/
theorem V_v2 : V m c main_v2 = (show FVec Ideal S8x64x1 .f32 from broadcastInDim S8x64x1 ![0, 1] bcast_S8x64_S8x64x1_0_1 (shapeCast S8x64 (a8 m c) shapeCasts_S512_S8x64)) := by
  unfold V
  simp only [hostOps0, List.flatten_cons, List.flatten_nil, List.append_nil, List.cons_append, List.nil_append]
  entry_read
  rfl

/-- The norm's parameter 9 as columns. -/
theorem V_v4 : V m c main_v4 = (show FVec Ideal S8x64x1 .f32 from broadcastInDim S8x64x1 ![0, 1] bcast_S8x64_S8x64x1_0_1 (shapeCast S8x64 (a9 m c) shapeCasts_S512_S8x64)) := by
  unfold V
  simp only [hostOps0, List.flatten_cons, List.flatten_nil, List.append_nil, List.cons_append, List.nil_append]
  entry_read
  rfl

/-- The state with the rows last. -/
theorem V_v13 : V m c main_v13 = (show FVec Ideal S8x64x64x128 .f32 from transpose S8x64x64x128 [1, 2, 3, 0] (shapeCast S128x8x64x64 (a10 m c) shapeCasts_S1x128x8x64x64_S128x8x64x64) transposes_S128x8x64x64_S8x64x64x128_1_2_3_0) := by
  unfold V
  simp only [hostOps0, List.flatten_cons, List.flatten_nil, List.append_nil, List.cons_append, List.nil_append]
  entry_read
  rfl

/-- Argument 0's block. -/
theorem blk0 (t : Fin cfg0.N) (h : Fin 8) (e : h.val = t.val) (j : Fin 64) (n : Fin 128) :
    (show FVec Ideal S1x64x128 .f32 from iblk m c 0 t) (ix3 0 j n) = a0 m c (ix3 n h j) := by
  blk_simp [iblk]
  rw [V_v5]
  pointwise
  blk_ext [idx t]

/-- Argument 1's block. -/
theorem blk1 (t : Fin cfg0.N) (h : Fin 8) (e : h.val = t.val) (j : Fin 64) (n : Fin 128) :
    (show FVec Ideal S1x64x128 .f32 from iblk m c 1 t) (ix3 0 j n) = a1 m c (ix3 n h j) := by
  blk_simp [iblk]
  rw [V_v6]
  pointwise
  blk_ext [idx t]

/-- Argument 2's block. -/
theorem blk2 (t : Fin cfg0.N) (h : Fin 8) (e : h.val = t.val) (j : Fin 64) (n : Fin 128) :
    (show FVec Ideal S1x64x128 .f32 from iblk m c 2 t) (ix3 0 j n) = a2 m c (ix3 n h j) := by
  blk_simp [iblk]
  rw [V_v7]
  pointwise
  blk_ext [idx t]

/-- Argument 3's block. -/
theorem blk3 (t : Fin cfg0.N) (h : Fin 8) (e : h.val = t.val) (j : Fin 64) (n : Fin 128) :
    (show FVec Ideal S1x64x128 .f32 from iblk m c 3 t) (ix3 0 j n) = a3 m c (ix3 n h j) := by
  blk_simp [iblk]
  rw [V_v8]
  pointwise
  blk_ext [idx t]

/-- Argument 4's block. -/
theorem blk4 (t : Fin cfg0.N) (h : Fin 8) (e : h.val = t.val) (j : Fin 64) (n : Fin 128) :
    (show FVec Ideal S1x64x128 .f32 from iblk m c 4 t) (ix3 0 j n) = a4 m c (ix3 n h j) := by
  blk_simp [iblk]
  rw [V_v9]
  pointwise
  blk_ext [idx t]

/-- Argument 5's block. -/
theorem blk5 (t : Fin cfg0.N) (h : Fin 8) (e : h.val = t.val) (j : Fin 64) (n : Fin 128) :
    (show FVec Ideal S1x64x128 .f32 from iblk m c 5 t) (ix3 0 j n) = a5 m c (ix3 n h j) := by
  blk_simp [iblk]
  rw [V_v10]
  pointwise
  blk_ext [idx t]

/-- Argument 6's block. -/
theorem blk6 (t : Fin cfg0.N) (h : Fin 8) (e : h.val = t.val) (j : Fin 64) (n : Fin 128) :
    (show FVec Ideal S1x64x128 .f32 from iblk m c 6 t) (ix3 0 j n) = a6 m c (ix3 n h j) := by
  blk_simp [iblk]
  rw [V_v11]
  pointwise
  blk_ext [idx t]

/-- The bonus's weights' block. -/
theorem blk7 (t : Fin cfg0.N) (h : Fin 8) (e : h.val = t.val) (j : Fin 64) :
    (show FVec Ideal S1x64x1 .f32 from iblk m c 7 t) (ix3 0 j 0) = a7 m c (ix2 h j) := by
  blk_simp [iblk]
  rw [V_v0]
  pointwise
  blk_ext [idx t]

/-- The norm's parameter 8's block. -/
theorem blk8 (t : Fin cfg0.N) (h : Fin 8) (e : h.val = t.val) (j : Fin 64) :
    (show FVec Ideal S1x64x1 .f32 from iblk m c 8 t) (ix3 0 j 0) = a8 m c (ix1 ⟨h.val * 64 + j.val, by have := h.isLt; have := j.isLt; omega⟩) := by
  blk_simp [iblk]
  rw [V_v2]
  pointwise
  blk_ext [idx t]

/-- The norm's parameter 9's block. -/
theorem blk9 (t : Fin cfg0.N) (h : Fin 8) (e : h.val = t.val) (j : Fin 64) :
    (show FVec Ideal S1x64x1 .f32 from iblk m c 9 t) (ix3 0 j 0) = a9 m c (ix1 ⟨h.val * 64 + j.val, by have := h.isLt; have := j.isLt; omega⟩) := by
  blk_simp [iblk]
  rw [V_v4]
  pointwise
  blk_ext [idx t]

/-- The state's block. -/
theorem blk10 (t : Fin cfg0.N) (h : Fin 8) (e : h.val = t.val) (i j : Fin 64) (n : Fin 128) :
    (show FVec Ideal S1x64x64x128 .f32 from iblk m c 10 t) (ix4 0 i j n) = a10 m c (ix5 0 n h i j) := by
  blk_simp [iblk]
  rw [V_v13]
  pointwise
  blk_ext [idx t]

/-- Where an entry of the step's vector's block lies in it. -/
theorem emb11 (t : Fin cfg0.N) (h : Fin 8) (e : h.val = t.val) (j : Fin 64) (n : Fin 128) :
    ((cfg0.win 11).blk t).view.emb (ix3 0 j n) = (ix3 h j n : S8x64x128.Idx) := by
  blk_ext [idx t]

/-- Where an entry of the new state's block lies in it. -/
theorem emb12 (t : Fin cfg0.N) (h : Fin 8) (e : h.val = t.val) (i j : Fin 64) (n : Fin 128) :
    ((cfg0.win 12).blk t).view.emb (ix4 0 i j n) = (ix4 h i j n : S8x64x64x128.Idx) := by
  blk_ext [idx t]

/-- A row of the new state, of the blocks and of the arguments. -/
theorem row (t : Fin cfg0.N) (h : Fin 8) (e : h.val = t.val) (l : Fin 64) (n : Fin 128) :
    ns (fun j => (show FVec Ideal S1x64x64x128 .f32 from iblk m c 10 t) (ix4 0 l j n)) (fun j => (show FVec Ideal S1x64x128 .f32 from iblk m c 1 t) (ix3 0 j n)) (fun j => (show FVec Ideal S1x64x128 .f32 from iblk m c 3 t) (ix3 0 j n)) (fun j => (show FVec Ideal S1x64x128 .f32 from iblk m c 4 t) (ix3 0 j n)) (fun j => (show FVec Ideal S1x64x128 .f32 from iblk m c 5 t) (ix3 0 j n)) ((show FVec Ideal S1x64x128 .f32 from iblk m c 2 t) (ix3 0 l n))
      = ns (fun j => a10 m c (ix5 0 n h l j)) (fun j => a1 m c (ix3 n h j)) (fun j => a3 m c (ix3 n h j)) (fun j => a4 m c (ix3 n h j)) (fun j => a5 m c (ix3 n h j)) (a2 m c (ix3 n h l)) :=
  congr (congr (congr (congr (congr (congrArg ns (funext fun j => blk10 m c t h e l j n)) (funext fun j => blk1 m c t h e j n)) (funext fun j => blk3 m c t h e j n)) (funext fun j => blk4 m c t h e j n)) (funext fun j => blk5 m c t h e j n)) (blk2 m c t h e l n)

/-- THE NEW STATE after the run. -/
theorem final12 : (dats m 0 c).arrAt 12 (cfgs 0).N = REFS (a1 m c) (a2 m c) (a3 m c) (a4 m c) (a5 m c) (a10 m c) := by
  refine (dats m 0 c).arrAt_eq_of_covers 12 _ (by decide +kernel) fun t _ y => ?_
  blk_simp
  rw [after0_12]
  obtain ⟨z, l, j, n, rfl⟩ : ∃ (z : Fin 1) (l j : Fin 64) (n : Fin 128), y = ix4 z l j n := ⟨y 0, y 1, y 2, y 3, by blk_ext⟩
  obtain rfl : z = 0 := Subsingleton.elim _ _
  have ht : t.val < 8 := t.isLt
  rw [emb12 t ⟨t.val, ht⟩ rfl l j n]
  refine (out12_at _ _ _ _ _ _ _ _ _ _ _ _ _ _ _ _ _ _ _ _ _ _ _ _ _ _ _ _ _ _ _ _ _ _ _ _ _ _ _ _ _ l j n).trans (Eq.trans ?_ (REFS_at _ _ _ _ _ _ n _ l j).symm)
  exact congrFun (row m c t _ rfl l n) j

/-- The state's row read by the step, of the blocks and of the arguments. -/
theorem read (t : Fin cfg0.N) (h : Fin 8) (e : h.val = t.val) (l : Fin 64) (n : Fin 128) :
    (∑ j, ns (fun j => (show FVec Ideal S1x64x64x128 .f32 from iblk m c 10 t) (ix4 0 l j n)) (fun j => (show FVec Ideal S1x64x128 .f32 from iblk m c 1 t) (ix3 0 j n)) (fun j => (show FVec Ideal S1x64x128 .f32 from iblk m c 3 t) (ix3 0 j n)) (fun j => (show FVec Ideal S1x64x128 .f32 from iblk m c 4 t) (ix3 0 j n)) (fun j => (show FVec Ideal S1x64x128 .f32 from iblk m c 5 t) (ix3 0 j n)) ((show FVec Ideal S1x64x128 .f32 from iblk m c 2 t) (ix3 0 l n)) j * (show FVec Ideal S1x64x128 .f32 from iblk m c 0 t) (ix3 0 j n))
      = ∑ j, ns (fun j => a10 m c (ix5 0 n h l j)) (fun j => a1 m c (ix3 n h j)) (fun j => a3 m c (ix3 n h j)) (fun j => a4 m c (ix3 n h j)) (fun j => a5 m c (ix3 n h j)) (a2 m c (ix3 n h l)) j * a0 m c (ix3 n h j) :=
  Finset.sum_congr rfl fun j _ => by rw [row m c t h e l n, blk0 m c t h e j n]

/-- The step's vector, of the blocks and of the arguments. -/
theorem vec (t : Fin cfg0.N) (h : Fin 8) (e : h.val = t.val) (j : Fin 64) (n : Fin 128) :
    out (fun l => ∑ j, ns (fun j => (show FVec Ideal S1x64x64x128 .f32 from iblk m c 10 t) (ix4 0 l j n)) (fun j => (show FVec Ideal S1x64x128 .f32 from iblk m c 1 t) (ix3 0 j n)) (fun j => (show FVec Ideal S1x64x128 .f32 from iblk m c 3 t) (ix3 0 j n)) (fun j => (show FVec Ideal S1x64x128 .f32 from iblk m c 4 t) (ix3 0 j n)) (fun j => (show FVec Ideal S1x64x128 .f32 from iblk m c 5 t) (ix3 0 j n)) ((show FVec Ideal S1x64x128 .f32 from iblk m c 2 t) (ix3 0 l n)) j * (show FVec Ideal S1x64x128 .f32 from iblk m c 0 t) (ix3 0 j n)) (fun j => (show FVec Ideal S1x64x128 .f32 from iblk m c 0 t) (ix3 0 j n)) (fun j => (show FVec Ideal S1x64x128 .f32 from iblk m c 1 t) (ix3 0 j n)) (fun j => (show FVec Ideal S1x64x128 .f32 from iblk m c 2 t) (ix3 0 j n)) (fun j => (show FVec Ideal S1x64x128 .f32 from iblk m c 6 t) (ix3 0 j n)) (fun j => (show FVec Ideal S1x64x1 .f32 from iblk m c 7 t) (ix3 0 j 0)) (fun j => (show FVec Ideal S1x64x1 .f32 from iblk m c 8 t) (ix3 0 j 0)) (fun j => (show FVec Ideal S1x64x1 .f32 from iblk m c 9 t) (ix3 0 j 0)) j
      = out (fun l => ∑ j, ns (fun j => a10 m c (ix5 0 n h l j)) (fun j => a1 m c (ix3 n h j)) (fun j => a3 m c (ix3 n h j)) (fun j => a4 m c (ix3 n h j)) (fun j => a5 m c (ix3 n h j)) (a2 m c (ix3 n h l)) j * a0 m c (ix3 n h j)) (fun j => a0 m c (ix3 n h j)) (fun j => a1 m c (ix3 n h j)) (fun j => a2 m c (ix3 n h j)) (fun j => a6 m c (ix3 n h j)) (fun j => a7 m c (ix2 h j)) (fun j => a8 m c (ix1 ⟨h.val * 64 + j.val, by have := h.isLt; have := j.isLt; omega⟩)) (fun j => a9 m c (ix1 ⟨h.val * 64 + j.val, by have := h.isLt; have := j.isLt; omega⟩)) j :=
  congrFun (congr (congr (congr (congr (congr (congr (congr (congrArg out (funext fun l => read m c t h e l n)) (funext fun j => blk0 m c t h e j n)) (funext fun j => blk1 m c t h e j n)) (funext fun j => blk2 m c t h e j n)) (funext fun j => blk6 m c t h e j n)) (funext fun j => blk7 m c t h e j)) (funext fun j => blk8 m c t h e j)) (funext fun j => blk9 m c t h e j)) j

set_option maxHeartbeats 1000000 in
/-- THE STEP'S VECTOR after the run. -/
theorem final11 : (dats m 0 c).arrAt 11 (cfgs 0).N = REFO (a0 m c) (a1 m c) (a2 m c) (a3 m c) (a4 m c) (a5 m c) (a6 m c) (a7 m c) (a8 m c) (a9 m c) (a10 m c) := by
  refine (dats m 0 c).arrAt_eq_of_covers 11 _ (by decide +kernel) fun t _ y => ?_
  blk_simp
  rw [after0_11]
  obtain ⟨z, j, n, rfl⟩ : ∃ (z : Fin 1) (j : Fin 64) (n : Fin 128), y = ix3 z j n := ⟨y 0, y 1, y 2, by blk_ext⟩
  obtain rfl : z = 0 := Subsingleton.elim _ _
  have ht : t.val < 8 := t.isLt
  rw [emb11 t ⟨t.val, ht⟩ rfl j n]
  refine (out11_at _ _ _ _ _ _ _ _ _ _ _ _ _ _ _ _ _ _ _ _ _ _ _ _ _ _ _ _ _ _ _ _ _ _ _ _ _ _ _ _ _ j n).trans (Eq.trans ?_ (REFO_at _ _ _ _ _ _ _ _ _ _ _ n _ j).symm)
  exact vec m c t ⟨t.val, ht⟩ rfl j n

end Cert.Kernel8Ideal.Step
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Frame
public import proofs.«01_k».proof.Proof.Gen.Reference2Ideal
public import proofs.«01_k».proof.Proof.Gen.Reference2Ideal.Run
public import proofs.«01_k».proof.Proof.AttnFrame
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Kernel6Ideal.Skeleton
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Kernel7Ideal.Skeleton
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Kernel8Ideal.Skeleton
public import proofs.«01_k».proof.Proof.Gen.Reference8Ideal
public import proofs.«01_k».proof.Proof.Gen.Reference8Ideal.Run
public import proofs.«01_k».proof.Proof.AttnFrameOrig
public import proofs.«01_k».proof.Proof.AttnPre
public import proofs.«01_k».proof.Proof.FfnFrame
public import proofs.«01_k».proof.Proof.FfnFinal
public import proofs.«01_k».proof.Proof.FfnRefRun
public import proofs.«01_k».proof.Proof.InFinal
public import proofs.«01_k».proof.Proof.InRefRun
public import proofs.«01_k».proof.Proof.SinFinal
public import proofs.«01_k».proof.Proof.SinRefRun
public import proofs.«01_k».proof.Proof.ModFinal
public import proofs.«01_k».proof.Proof.PmodFinal
public import proofs.«01_k».proof.Proof.SffFinal
public import proofs.«01_k».proof.Proof.SffRefRun
public import proofs.«01_k».proof.Proof.StepFinal
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The attention kernel runs, its arguments end as they were and its counters at zero. -/
theorem frame_attn : Cert.quiescent_Kernel := fun m g _ => Cert.Kernel.Attn.frame m g

/-- The same over the extended reals. -/
theorem frame_attn_ideal : Cert.quiescent_KernelIdeal := fun m g _ => Cert.KernelIdeal.Attn.frame m g

/-- The same under the precondition. -/
theorem frame_attn_ideal_pre : Cert.quiescent_KernelIdeal_pre_finite_scores := fun m g _ => Cert.KernelIdeal.Attn.frame m g

/-- The attention reference runs, its arguments end as they were and its counters at zero. -/
theorem frame_attn_ref : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

/-- The same under the precondition. -/
theorem frame_attn_ref_pre : Cert.quiescent_ReferenceIdeal_pre_finite_scores := fun m g _ =>
  (θ_run Cert.ReferenceIdeal.defs _ _).mono (fun r h => ⟨fun c => (h c).2, sem_eq_zero_of_no_sems (by decide) r.2⟩) (Cert.ReferenceIdeal.Value.run m g)

/-- The named constant is the kernel's word. -/
theorem preserves_attn : Cert.preserves_Kernel_KernelIdeal := IdealRules.named_const.statement Cert.KernelIdeal.κ "log2e" .f32 0x3FB8AA3B#32 _ rfl

/-- The precondition's meaning on a device. -/
theorem real_args (m : (ℓ : Loc Cert.KernelIdeal.nD Cert.KernelIdeal.τ Cert.KernelIdeal.sig) → Buf (Elt Ideal) ℓ) (c : Dev Cert.KernelIdeal.nD) (h : Cert.Pre_KernelIdeal_finite_scores m) :
    Cert.KernelIdeal.Attn.Real' (S := Cert.KernelIdeal.S2x8192x8x64) (φ := .f32) (m ((c.tc : Thread Cert.KernelIdeal.nD Cert.KernelIdeal.τ).loc Cert.KernelIdeal.main_arg0))
      ∧ Cert.KernelIdeal.Attn.Real' (S := Cert.KernelIdeal.S2x8192x8x64) (φ := .f32) (m ((c.tc : Thread Cert.KernelIdeal.nD Cert.KernelIdeal.τ).loc Cert.KernelIdeal.main_arg1))
      ∧ Cert.KernelIdeal.Attn.Real' (S := Cert.KernelIdeal.S2x8x8192) (φ := .f32) (m ((c.tc : Thread Cert.KernelIdeal.nD Cert.KernelIdeal.τ).loc Cert.KernelIdeal.main_arg3)) :=
  Cert.Pre_finite_scores.real_of_fn (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (h c)

/-- The attention kernel and its reference compute the same array. -/
theorem value_attn : Cert.algebraic_KernelIdeal_ReferenceIdeal_pre_finite_scores := by
  intro m g m' g' hpre hagree
  have hr := fun c => real_args m c hpre
  refine ⟨fun c => Cert.ReferenceIdeal.Attn.REF (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · run_from Cert.KernelIdeal.Attn.run_main m g
    exact Cert.KernelIdeal.Attn.final m c (hr c).1 (hr c).2.1 (hr c).2.2
  · refine (θ_run Cert.ReferenceIdeal.defs _ _).mono (fun r h c => ⟨(h c).1.trans ?_, (h c).2⟩) (Cert.ReferenceIdeal.Value.run m' g')
    obtain ⟨e0, e1, e2, e3⟩ := hagree c
    have e : Cert.ReferenceIdeal.Value.res_main_v30 m' c = Cert.ReferenceIdeal.Attn.REF (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) := by
      unfold Cert.ReferenceIdeal.Value.res_main_v30 Cert.ReferenceIdeal.Attn.REF Cert.ReferenceIdeal.Attn.SH Cert.ReferenceIdeal.Attn.MX Cert.ReferenceIdeal.Attn.SC
      rfl
    rw [e, e0, e1, e2, e3]

set_option smartUnfolding false in
set_option maxHeartbeats 1000000 in
/-- The feed-forward kernel's two programs have one table of bodies. -/
theorem body_ffn : Cert.Kernel2.defs₀ (F := Bits) = Cert.Kernel2Ideal.defs₀ (F := Bits) := by
  funext p l a
  match p, l, a with
  | .tc, ⟨0, _⟩, (t, s) => rfl
  | .scScalar _, _, _ => rfl
  | .scVector _ _, _, _ => rfl

set_option smartUnfolding false in
set_option maxHeartbeats 1000000 in
/-- Their launches' tables are one as well. -/
theorem tables_ffn : Cert.Kernel2.defs (F := Bits) = Cert.Kernel2Ideal.defs (F := Bits) :=
  congrArg (Idealize.ShloMosaic.Pipeline.defs Cert.Kernel2Ideal.pcfgs) body_ffn

set_option maxHeartbeats 1000000 in
/-- The feed-forward kernel runs, its arguments end as they were and its counters at zero: its words' run is the run
    over any float values, at the words. -/
theorem frame_ffn : Cert.quiescent_Kernel2 := fun m ρ _ => by
  have h := Cert.Kernel2Ideal.Ffn.frame (F := Bits) m ρ
  rw [← tables_ffn] at h
  exact h

/-- The same over the extended reals. -/
theorem frame_ffn_ideal : Cert.quiescent_Kernel2Ideal := fun m g _ => Cert.Kernel2Ideal.Ffn.frame m g

/-- The feed-forward reference runs, its arguments end as they were and its counters at zero. -/
theorem frame_ffn_ref : Cert.quiescent_Reference2Ideal := fun m g _ =>
  (θ_run Cert.Reference2Ideal.defs _ _).mono (fun r h => ⟨fun c => (h c).2.2, sem_eq_zero_of_no_sems (by decide) r.2⟩) (Cert.Reference2Ideal.Value.run m g)

/-- The feed-forward kernel's two programs have the same text. -/
theorem preserves_ffn : Cert.preserves_Kernel2_Kernel2Ideal := trivial

set_option maxHeartbeats 2000000 in
/-- The feed-forward kernel and its reference compute the same two arrays. -/
theorem value_ffn : Cert.algebraic_Kernel2Ideal_Reference2Ideal := by
  intro m g m' g' hpre hagree
  refine ⟨fun c => Cert.Reference2Ideal.Ffn.REFY (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)), fun c => Cert.Reference2Ideal.Ffn.REFC (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)), ?_, ?_⟩
  · exact (θ_run Cert.Kernel2Ideal.defs _ _).mono
      (fun r h c => ⟨((h.1 c).1 15).trans (Cert.Kernel2Ideal.Ffn.finalY m c), ((h.1 c).1 16).trans (Cert.Kernel2Ideal.Ffn.finalC m c), h.2.1 c⟩)
      (θ_run_and (Cert.Kernel2Ideal.Ffn.run_main m g) (Cert.Kernel2Ideal.Ffn.frame m g))
  · refine (θ_run Cert.Reference2Ideal.defs _ _).mono (fun r h c => ⟨(h c).1.trans ?_, (h c).2.1.trans ?_, (h c).2.2⟩) (Cert.Reference2Ideal.Ffn.run_ref m' g')
    · obtain ⟨e0, e1, e2, e3, e4, e5, e6, e7, e8, e9, e10⟩ := hagree c
      rw [e0, e1, e2, e3, e4, e5, e6, e7, e8, e9, e10]
    · obtain ⟨e0, e1, e2, e3, e4, e5, e6, e7, e8, e9, e10⟩ := hagree c
      rw [e0, e1, e2, e3, e4, e5, e6]

/-- The input projection runs, its arguments end as they were and its counters at zero. -/
theorem frame_in : Cert.quiescent_Kernel3 := fun m g _ => Cert.Kernel3.Gen.frame m g

/-- The same of its ideal twin. -/
theorem frame_in_ideal : Cert.quiescent_Kernel3Ideal := fun m g _ => Cert.Kernel3Ideal.Gen.frame m g

/-- The input projection's reference runs, its arguments end as they were and its counters at zero. -/
theorem frame_in_ref : Cert.quiescent_Reference3Ideal := fun m g _ =>
  (θ_run Cert.Reference3Ideal.defs _ _).mono (fun r h => ⟨fun c => (h c).2.2.2.2.2.2, sem_eq_zero_of_no_sems (by decide) r.2⟩) (Cert.Reference3Ideal.Value.run m g)

/-- The input projection's two programs have the same text. -/
theorem preserves_in : Cert.preserves_Kernel3_Kernel3Ideal := trivial

set_option maxHeartbeats 2000000 in
/-- The input projection and its reference compute the same six arrays. -/
theorem value_in : Cert.algebraic_Kernel3Ideal_Reference3Ideal := by
  intro m g m' g' hpre hagree
  refine ⟨fun c => Cert.Reference3Ideal.Inp.OZ (Cert.Reference3Ideal.Inp.WZ (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))), fun c => Cert.Reference3Ideal.Inp.OB (Cert.Reference3Ideal.Inp.KX (Cert.Reference3Ideal.Inp.WZ (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)))), fun c => Cert.Reference3Ideal.Inp.OB (Cert.Reference3Ideal.Inp.VX (Cert.Reference3Ideal.Inp.WZ (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)))), fun c => Cert.Reference3Ideal.Inp.OT (Cert.Reference3Ideal.Inp.KX (Cert.Reference3Ideal.Inp.WZ (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)))), fun c => Cert.Reference3Ideal.Inp.OT (Cert.Reference3Ideal.Inp.VX (Cert.Reference3Ideal.Inp.WZ (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)))), fun c => Cert.Reference3Ideal.Inp.OF (Cert.Reference3Ideal.Inp.FX (Cert.Reference3Ideal.Inp.WZ (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) (m ((c.tc : Thread Cert.Kernel3Ideal.nD Cert.Kernel3Ideal.τ).loc Cert.Kernel3Ideal.main_arg4))), ?_, ?_⟩
  · exact (θ_run Cert.Kernel3Ideal.defs _ _).mono
      (fun r h c => ⟨((h.1 c).1 6).trans (Cert.Kernel3Ideal.Inp.final6 m c), ((h.1 c).1 8).trans (Cert.Kernel3Ideal.Inp.final8 m c), ((h.1 c).1 9).trans (Cert.Kernel3Ideal.Inp.final9 m c), ((h.1 c).1 10).trans (Cert.Kernel3Ideal.Inp.final10 m c), ((h.1 c).1 11).trans (Cert.Kernel3Ideal.Inp.final11 m c), ((h.1 c).1 12).trans (Cert.Kernel3Ideal.Inp.final12 m c), h.2.1 c⟩)
      (θ_run_and (Cert.Kernel3Ideal.Gen.run_main m g) (Cert.Kernel3Ideal.Gen.frame m g))
  · refine (θ_run Cert.Reference3Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.Reference3Ideal.Inp.run_ref m' g')
    all_goals
      obtain ⟨e0, e1, e2, e3, e4⟩ := hagree c
      unfold Cert.Reference3Ideal.Inp.MZ
      rw [e0, e1, e2, e3]
    rw [e4]

/-- The sample's input projection runs, its arguments end as they were and its counters at zero. -/
theorem frame_sin : Cert.quiescent_Kernel4 := fun m g _ => Cert.Kernel4.Gen.frame m g

/-- The same of its ideal twin. -/
theorem frame_sin_ideal : Cert.quiescent_Kernel4Ideal := fun m g _ => Cert.Kernel4Ideal.Gen.frame m g

/-- The sample's input projection's reference runs, its arguments end as they were and its counters at zero. -/
theorem frame_sin_ref : Cert.quiescent_Reference4Ideal := fun m g _ =>
  (θ_run Cert.Reference4Ideal.defs _ _).mono (fun r h => ⟨fun c => (h c).2.2.2.2.2.2, sem_eq_zero_of_no_sems (by decide) r.2⟩) (Cert.Reference4Ideal.Value.run m g)

/-- The sample's input projection's two programs have the same text. -/
theorem preserves_sin : Cert.preserves_Kernel4_Kernel4Ideal := trivial

set_option maxHeartbeats 2000000 in
/-- The sample's input projection and its reference compute the same six arrays. -/
theorem value_sin : Cert.algebraic_Kernel4Ideal_Reference4Ideal := by
  intro m g m' g' hpre hagree
  refine ⟨fun c => Cert.Reference4Ideal.Inp.OZ (Cert.Reference4Ideal.Inp.WZ (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))), fun c => Cert.Reference4Ideal.Inp.OB (Cert.Reference4Ideal.Inp.KX (Cert.Reference4Ideal.Inp.WZ (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)))), fun c => Cert.Reference4Ideal.Inp.OB (Cert.Reference4Ideal.Inp.VX (Cert.Reference4Ideal.Inp.WZ (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)))), fun c => Cert.Reference4Ideal.Inp.OT (Cert.Reference4Ideal.Inp.KX (Cert.Reference4Ideal.Inp.WZ (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)))), fun c => Cert.Reference4Ideal.Inp.OT (Cert.Reference4Ideal.Inp.VX (Cert.Reference4Ideal.Inp.WZ (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)))), fun c => Cert.Reference4Ideal.Inp.OF (Cert.Reference4Ideal.Inp.FX (Cert.Reference4Ideal.Inp.WZ (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) (m ((c.tc : Thread Cert.Kernel4Ideal.nD Cert.Kernel4Ideal.τ).loc Cert.Kernel4Ideal.main_arg4))), ?_, ?_⟩
  · exact (θ_run Cert.Kernel4Ideal.defs _ _).mono
      (fun r h c => ⟨((h.1 c).1 6).trans (Cert.Kernel4Ideal.Inp.final6 m c), ((h.1 c).1 8).trans (Cert.Kernel4Ideal.Inp.final8 m c), ((h.1 c).1 9).trans (Cert.Kernel4Ideal.Inp.final9 m c), ((h.1 c).1 10).trans (Cert.Kernel4Ideal.Inp.final10 m c), ((h.1 c).1 11).trans (Cert.Kernel4Ideal.Inp.final11 m c), ((h.1 c).1 12).trans (Cert.Kernel4Ideal.Inp.final12 m c), h.2.1 c⟩)
      (θ_run_and (Cert.Kernel4Ideal.Gen.run_main m g) (Cert.Kernel4Ideal.Gen.frame m g))
  · refine (θ_run Cert.Reference4Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.Reference4Ideal.Inp.run_ref m' g')
    all_goals
      obtain ⟨e0, e1, e2, e3, e4⟩ := hagree c
      unfold Cert.Reference4Ideal.Inp.MZ
      rw [e0, e1, e2, e3]
    rw [e4]

/-- The sample's feed-forward block runs to the end and leaves its arguments as they were. -/
theorem frame_sffn : Cert.quiescent_Kernel5 := fun m g _ => Cert.Kernel5.Gen.frame m g

/-- So does its ideal twin. -/
theorem frame_sffn_ideal : Cert.quiescent_Kernel5Ideal := fun m g _ => Cert.Kernel5Ideal.Gen.frame m g

/-- So does its reference. -/
theorem frame_sffn_ref : Cert.quiescent_Reference5Ideal := fun m g _ =>
  (θ_run Cert.Reference5Ideal.defs _ _).mono (fun r h => ⟨fun c => (h c).2.2, sem_eq_zero_of_no_sems (by decide) r.2⟩) (Cert.Reference5Ideal.Value.run m g)

/-- No rule is applied between the sample's feed-forward block and its ideal twin. -/
theorem preserves_sffn : Cert.preserves_Kernel5_Kernel5Ideal := trivial

/-- The sample's feed-forward block's two results are the reference's. -/
theorem value_sffn : Cert.algebraic_Kernel5Ideal_Reference5Ideal := by
  intro m g m' g' hpre hagree
  refine ⟨fun c => Cert.Reference5Ideal.Ffn.REFY (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)), fun c => Cert.Reference5Ideal.Ffn.REFC (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg4)), ?_, ?_⟩
  · exact (θ_run Cert.Kernel5Ideal.defs _ _).mono
      (fun r h c => ⟨((h.1 c).1 16).trans (Cert.Kernel5Ideal.Ffn.finalY m c), ((h.1 c).1 17).trans (Cert.Kernel5Ideal.Ffn.finalC m c), h.2.1 c⟩)
      (θ_run_and (Cert.Kernel5Ideal.Gen.run_main m g) (Cert.Kernel5Ideal.Gen.frame m g))
  · refine (θ_run Cert.Reference5Ideal.defs _ _).mono (fun r h c => ⟨(h c).1.trans ?_, (h c).2.1.trans ?_, (h c).2.2⟩) (Cert.Reference5Ideal.Ffn.run_ref m' g')
    · obtain ⟨e0, e1, e2, e3, e4, e5, e6, e7, e8, e9, e10, e11⟩ := hagree c
      rw [e0, e1, e2, e3, e4, e5, e6, e7, e8, e9, e10, e11]
    · obtain ⟨e0, e1, e2, e3, e4, e5, e6, e7, e8, e9, e10, e11⟩ := hagree c
      rw [e0, e1, e2, e3, e4, e5, e6, e7]

/-- The kernel of the sample's adaptive-norm vectors runs to the end and leaves its arguments as they were. -/
theorem frame_mod : Cert.quiescent_Kernel6 := fun m g _ => Cert.Kernel6.Gen.frame m g

/-- So does its ideal twin. -/
theorem frame_mod_ideal : Cert.quiescent_Kernel6Ideal := fun m g _ => Cert.Kernel6Ideal.Gen.frame m g

/-- So does its reference. -/
theorem frame_mod_ref : Cert.quiescent_Reference6Ideal := fun m g _ =>
  (θ_run Cert.Reference6Ideal.defs _ _).mono (fun r h => ⟨fun c => (h c).2, sem_eq_zero_of_no_sems (by decide) r.2⟩) (Cert.Reference6Ideal.Value.run m g)

/-- No rule is applied between the kernel of the sample's adaptive-norm vectors and its ideal twin. -/
theorem preserves_mod : Cert.preserves_Kernel6_Kernel6Ideal := trivial

/-- The kernel of the sample's adaptive-norm vectors computes the reference's array. -/
theorem value_mod : Cert.algebraic_Kernel6Ideal_Reference6Ideal := by
  intro m g m' g' hpre hagree
  refine ⟨fun c => Cert.Reference6Ideal.Mod.REF (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)), ?_, ?_⟩
  · exact (θ_run Cert.Kernel6Ideal.defs _ _).mono
      (fun r h c => ⟨((h.1 c).1 3).trans (Cert.Kernel6Ideal.Mod.final3 m c), h.2.1 c⟩)
      (θ_run_and (Cert.Kernel6Ideal.Gen.run_main m g) (Cert.Kernel6Ideal.Gen.frame m g))
  · refine (θ_run Cert.Reference6Ideal.defs _ _).mono (fun r h c => ⟨(h c).1.trans ?_, (h c).2⟩) (Cert.Reference6Ideal.Mod.run_ref m' g')
    obtain ⟨e0, e1, e2⟩ := hagree c
    rw [e0, e1, e2]

/-- The kernel of the prompt's adaptive-norm vectors runs to the end and leaves its arguments as they were. -/
theorem frame_pmod : Cert.quiescent_Kernel7 := fun m g _ => Cert.Kernel7.Gen.frame m g

/-- So does its ideal twin. -/
theorem frame_pmod_ideal : Cert.quiescent_Kernel7Ideal := fun m g _ => Cert.Kernel7Ideal.Gen.frame m g

/-- So does its reference. -/
theorem frame_pmod_ref : Cert.quiescent_Reference7Ideal := fun m g _ =>
  (θ_run Cert.Reference7Ideal.defs _ _).mono (fun r h => ⟨fun c => (h c).2, sem_eq_zero_of_no_sems (by decide) r.2⟩) (Cert.Reference7Ideal.Value.run m g)

/-- No rule is applied between the kernel of the prompt's adaptive-norm vectors and its ideal twin. -/
theorem preserves_pmod : Cert.preserves_Kernel7_Kernel7Ideal := trivial

/-- The kernel of the prompt's adaptive-norm vectors computes the reference's array. -/
theorem value_pmod : Cert.algebraic_Kernel7Ideal_Reference7Ideal := by
  intro m g m' g' hpre hagree
  refine ⟨fun c => Cert.Reference7Ideal.Mod.REF (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)), ?_, ?_⟩
  · exact (θ_run Cert.Kernel7Ideal.defs _ _).mono
      (fun r h c => ⟨((h.1 c).1 3).trans (Cert.Kernel7Ideal.Mod.final3 m c), h.2.1 c⟩)
      (θ_run_and (Cert.Kernel7Ideal.Gen.run_main m g) (Cert.Kernel7Ideal.Gen.frame m g))
  · refine (θ_run Cert.Reference7Ideal.defs _ _).mono (fun r h c => ⟨(h c).1.trans ?_, (h c).2⟩) (Cert.Reference7Ideal.Mod.run_ref m' g')
    obtain ⟨e0, e1, e2⟩ := hagree c
    rw [e0, e1, e2]

/-- The step of the recurrence, in words, leaves nothing unsettled. -/
theorem frame_step : Cert.quiescent_Kernel8 := fun m g _ => Cert.Kernel8.Gen.frame m g

/-- So does its ideal twin. -/
theorem frame_step_ideal : Cert.quiescent_Kernel8Ideal := fun m g _ => Cert.Kernel8Ideal.Gen.frame m g

/-- So does its reference. -/
theorem frame_step_ref : Cert.quiescent_Reference8Ideal := fun m g _ =>
  (θ_run Cert.Reference8Ideal.defs _ _).mono (fun r h => ⟨fun c => (h c).2.2, sem_eq_zero_of_no_sems (by decide) r.2⟩) (Cert.Reference8Ideal.Value.run m g)

/-- No rule is applied between the kernel of the recurrence's step and its ideal twin. -/
theorem preserves_step : Cert.preserves_Kernel8_Kernel8Ideal := trivial

/-- The kernel of the recurrence's step computes the reference's two arrays. -/
theorem value_step : Cert.algebraic_Kernel8Ideal_Reference8Ideal := by
  intro m g m' g' hpre hagree
  refine ⟨fun c => Cert.Reference8Ideal.Step.REFO (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)), fun c => Cert.Reference8Ideal.Step.REFS (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg10)), ?_, ?_⟩
  · exact (θ_run Cert.Kernel8Ideal.defs _ _).mono
      (fun r h c => ⟨((h.1 c).1 11).trans (Cert.Kernel8Ideal.Step.final11 m c), ((h.1 c).1 12).trans (Cert.Kernel8Ideal.Step.final12 m c), h.2.1 c⟩)
      (θ_run_and (Cert.Kernel8Ideal.Gen.run_main m g) (Cert.Kernel8Ideal.Gen.frame m g))
  · refine (θ_run Cert.Reference8Ideal.defs _ _).mono (fun r h c => ⟨(h c).1.trans ?_, (h c).2.1.trans ?_, (h c).2.2⟩) (Cert.Reference8Ideal.Step.run_ref m' g')
    · obtain ⟨e0, e1, e2, e3, e4, e5, e6, e7, e8, e9, e10⟩ := hagree c
      rw [e0, e1, e2, e3, e4, e5, e6, e7, e8, e9, e10]
    · obtain ⟨e0, e1, e2, e3, e4, e5, e6, e7, e8, e9, e10⟩ := hagree c
      rw [e1, e2, e3, e4, e5, e10]

/-- The claim. -/
theorem claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    frame_attn, frame_attn_ideal, frame_attn_ideal_pre, frame_attn_ref, frame_attn_ref_pre, frame_ffn, frame_ffn_ideal, frame_ffn_ref, frame_in, frame_in_ideal, frame_in_ref, frame_sin, frame_sin_ideal, frame_sin_ref, frame_sffn, frame_sffn_ideal, frame_sffn_ref, frame_mod, frame_mod_ideal, frame_mod_ref, frame_pmod, frame_pmod_ideal, frame_pmod_ref, frame_step, frame_step_ideal, frame_step_ref,
    preserves_attn, value_attn, preserves_ffn, value_ffn, preserves_in, value_in, preserves_sin, value_sin, preserves_sffn, value_sffn, preserves_mod, value_mod, preserves_pmod, value_pmod, preserves_step, value_step⟩

end Cert.Proof

end
